-- ==== Defs.lean ====
def Pre_NsaIn (m : (ℓ : Loc Cert.NsaIn.nD Cert.NsaIn.τ Cert.NsaIn.sig) → Buf (Elt Bits) ℓ) : Prop :=
  True

def Pre_NsaInIdeal (m : (ℓ : Loc Cert.NsaInIdeal.nD Cert.NsaInIdeal.τ Cert.NsaInIdeal.sig) → Buf (Elt Ideal) ℓ) : Prop :=
  True

def Pre_NsaInRefIdeal (m : (ℓ : Loc Cert.NsaInRefIdeal.nD Cert.NsaInRefIdeal.τ Cert.NsaInRefIdeal.sig) → Buf (Elt Ideal) ℓ) : Prop :=
  True

def Pre_SwaIn (m : (ℓ : Loc Cert.SwaIn.nD Cert.SwaIn.τ Cert.SwaIn.sig) → Buf (Elt Bits) ℓ) : Prop :=
  True

def Pre_SwaInIdeal (m : (ℓ : Loc Cert.SwaInIdeal.nD Cert.SwaInIdeal.τ Cert.SwaInIdeal.sig) → Buf (Elt Ideal) ℓ) : Prop :=
  True

def Pre_SwaInRefIdeal (m : (ℓ : Loc Cert.SwaInRefIdeal.nD Cert.SwaInRefIdeal.τ Cert.SwaInRefIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnRefIdeal (m : (ℓ : Loc Cert.OutLnRefIdeal.nD Cert.OutLnRefIdeal.τ Cert.OutLnRefIdeal.sig) → Buf (Elt Ideal) ℓ) : Prop :=
  True

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal [hPre_experts_in_range : Cert.Pre_experts_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_Compress [hPre_pages_in_range : Cert.Pre_pages_in_range.Facts] (m : (ℓ : Loc Cert.Compress.nD Cert.Compress.τ Cert.Compress.sig) → Buf (Elt Bits) ℓ) : Prop :=
  ∀ c : Dev Cert.Compress.nD,
    (Cert.Pre_pages_in_range.fn (F := Bits) (m ((c.tc : Thread Cert.Compress.nD Cert.Compress.τ).loc Cert.Compress.main_arg0)) (m ((c.tc : Thread Cert.Compress.nD Cert.Compress.τ).loc Cert.Compress.main_arg1)) (m ((c.tc : Thread Cert.Compress.nD Cert.Compress.τ).loc Cert.Compress.main_arg2)) (m ((c.tc : Thread Cert.Compress.nD Cert.Compress.τ).loc Cert.Compress.main_arg3)) (m ((c.tc : Thread Cert.Compress.nD Cert.Compress.τ).loc Cert.Compress.main_arg4))) = (fun _ => 1#1)

def Pre_CompressIdeal [hPre_pages_in_range : Cert.Pre_pages_in_range.Facts] (m : (ℓ : Loc Cert.CompressIdeal.nD Cert.CompressIdeal.τ Cert.CompressIdeal.sig) → Buf (Elt Ideal) ℓ) : Prop :=
  ∀ c : Dev Cert.CompressIdeal.nD,
    (Cert.Pre_pages_in_range.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4))) = (fun _ => 1#1)

def Pre_CompressRefIdeal [hPre_pages_in_range : Cert.Pre_pages_in_range.Facts] (m : (ℓ : Loc Cert.CompressRefIdeal.nD Cert.CompressRefIdeal.τ Cert.CompressRefIdeal.sig) → Buf (Elt Ideal) ℓ) : Prop :=
  ∀ c : Dev Cert.CompressRefIdeal.nD,
    (Cert.Pre_pages_in_range.fn (F := Ideal) (m ((c.tc : Thread Cert.CompressRefIdeal.nD Cert.CompressRefIdeal.τ).loc Cert.CompressRefIdeal.main_arg0)) (m ((c.tc : Thread Cert.CompressRefIdeal.nD Cert.CompressRefIdeal.τ).loc Cert.CompressRefIdeal.main_arg1)) (m ((c.tc : Thread Cert.CompressRefIdeal.nD Cert.CompressRefIdeal.τ).loc Cert.CompressRefIdeal.main_arg2)) (m ((c.tc : Thread Cert.CompressRefIdeal.nD Cert.CompressRefIdeal.τ).loc Cert.CompressRefIdeal.main_arg3)) (m ((c.tc : Thread Cert.CompressRefIdeal.nD Cert.CompressRefIdeal.τ).loc Cert.CompressRefIdeal.main_arg4))) = (fun _ => 1#1)

def quiescent_NsaIn [hNsaIn : Cert.NsaIn.Facts] : Prop :=
  ∀ (m : (ℓ : Loc Cert.NsaIn.nD Cert.NsaIn.τ Cert.NsaIn.sig) → Buf (Elt Bits) ℓ) (g : Dev Cert.NsaIn.nD → PrngReg), Pre_NsaIn m →
    θ_run (Cert.NsaIn.defs (F := Bits)) (onTc (τ := Cert.NsaIn.τ) (Cert.NsaIn.main (F := Bits))) ⟨m, fun _ => 0, g⟩ (fun r => (∀ c : Dev Cert.NsaIn.nD,
      r.2.mem ((c.tc : Thread Cert.NsaIn.nD Cert.NsaIn.τ).loc Cert.NsaIn.main_arg0) = m ((c.tc : Thread Cert.NsaIn.nD Cert.NsaIn.τ).loc Cert.NsaIn.main_arg0)
      ∧ r.2.mem ((c.tc : Thread Cert.NsaIn.nD Cert.NsaIn.τ).loc Cert.NsaIn.main_arg1) = m ((c.tc : Thread Cert.NsaIn.nD Cert.NsaIn.τ).loc Cert.NsaIn.main_arg1)
      ∧ r.2.mem ((c.tc : Thread Cert.NsaIn.nD Cert.NsaIn.τ).loc Cert.NsaIn.main_arg2) = m ((c.tc : Thread Cert.NsaIn.nD Cert.NsaIn.τ).loc Cert.NsaIn.main_arg2)
      ∧ r.2.mem ((c.tc : Thread Cert.NsaIn.nD Cert.NsaIn.τ).loc Cert.NsaIn.main_arg3) = m ((c.tc : Thread Cert.NsaIn.nD Cert.NsaIn.τ).loc Cert.NsaIn.main_arg3)
      ∧ r.2.mem ((c.tc : Thread Cert.NsaIn.nD Cert.NsaIn.τ).loc Cert.NsaIn.main_arg4) = m ((c.tc : Thread Cert.NsaIn.nD Cert.NsaIn.τ).loc Cert.NsaIn.main_arg4))
      ∧ r.2.sem = fun _ => 0)

def quiescent_NsaInIdeal [hNsaInIdeal : Cert.NsaInIdeal.Facts] : Prop :=
  ∀ (m : (ℓ : Loc Cert.NsaInIdeal.nD Cert.NsaInIdeal.τ Cert.NsaInIdeal.sig) → Buf (Elt Ideal) ℓ) (g : Dev Cert.NsaInIdeal.nD → PrngReg), Pre_NsaInIdeal m →
    θ_run (Cert.NsaInIdeal.defs (F := Ideal)) (onTc (τ := Cert.NsaInIdeal.τ) (Cert.NsaInIdeal.main (F := Ideal))) ⟨m, fun _ => 0, g⟩ (fun r => (∀ c : Dev Cert.NsaInIdeal.nD,
      r.2.mem ((c.tc : Thread Cert.NsaInIdeal.nD Cert.NsaInIdeal.τ).loc Cert.NsaInIdeal.main_arg0) = m ((c.tc : Thread Cert.NsaInIdeal.nD Cert.NsaInIdeal.τ).loc Cert.NsaInIdeal.main_arg0)
      ∧ r.2.mem ((c.tc : Thread Cert.NsaInIdeal.nD Cert.NsaInIdeal.τ).loc Cert.NsaInIdeal.main_arg1) = m ((c.tc : Thread Cert.NsaInIdeal.nD Cert.NsaInIdeal.τ).loc Cert.NsaInIdeal.main_arg1)
      ∧ r.2.mem ((c.tc : Thread Cert.NsaInIdeal.nD Cert.NsaInIdeal.τ).loc Cert.NsaInIdeal.main_arg2) = m ((c.tc : Thread Cert.NsaInIdeal.nD Cert.NsaInIdeal.τ).loc Cert.NsaInIdeal.main_arg2)
      ∧ r.2.mem ((c.tc : Thread Cert.NsaInIdeal.nD Cert.NsaInIdeal.τ).loc Cert.NsaInIdeal.main_arg3) = m ((c.tc : Thread Cert.NsaInIdeal.nD Cert.NsaInIdeal.τ).loc Cert.NsaInIdeal.main_arg3)
      ∧ r.2.mem ((c.tc : Thread Cert.NsaInIdeal.nD Cert.NsaInIdeal.τ).loc Cert.NsaInIdeal.main_arg4) = m ((c.tc : Thread Cert.NsaInIdeal.nD Cert.NsaInIdeal.τ).loc Cert.NsaInIdeal.main_arg4))
      ∧ r.2.sem = fun _ => 0)

def quiescent_NsaInRefIdeal [hNsaInRefIdeal : Cert.NsaInRefIdeal.Facts] : Prop :=
  ∀ (m : (ℓ : Loc Cert.NsaInRefIdeal.nD Cert.NsaInRefIdeal.τ Cert.NsaInRefIdeal.sig) → Buf (Elt Ideal) ℓ) (g : Dev Cert.NsaInRefIdeal.nD → PrngReg), Pre_NsaInRefIdeal m →
    θ_run (Cert.NsaInRefIdeal.defs (F := Ideal)) (onTc (τ := Cert.NsaInRefIdeal.τ) (Cert.NsaInRefIdeal.main (F := Ideal))) ⟨m, fun _ => 0, g⟩ (fun r => (∀ c : Dev Cert.NsaInRefIdeal.nD,
      r.2.mem ((c.tc : Thread Cert.NsaInRefIdeal.nD Cert.NsaInRefIdeal.τ).loc Cert.NsaInRefIdeal.main_arg0) = m ((c.tc : Thread Cert.NsaInRefIdeal.nD Cert.NsaInRefIdeal.τ).loc Cert.NsaInRefIdeal.main_arg0)
      ∧ r.2.mem ((c.tc : Thread Cert.NsaInRefIdeal.nD Cert.NsaInRefIdeal.τ).loc Cert.NsaInRefIdeal.main_arg1) = m ((c.tc : Thread Cert.NsaInRefIdeal.nD Cert.NsaInRefIdeal.τ).loc Cert.NsaInRefIdeal.main_arg1)
      ∧ r.2.mem ((c.tc : Thread Cert.NsaInRefIdeal.nD Cert.NsaInRefIdeal.τ).loc Cert.NsaInRefIdeal.main_arg2) = m ((c.tc : Thread Cert.NsaInRefIdeal.nD Cert.NsaInRefIdeal.τ).loc Cert.NsaInRefIdeal.main_arg2)
      ∧ r.2.mem ((c.tc : Thread Cert.NsaInRefIdeal.nD Cert.NsaInRefIdeal.τ).loc Cert.NsaInRefIdeal.main_arg3) = m ((c.tc : Thread Cert.NsaInRefIdeal.nD Cert.NsaInRefIdeal.τ).loc Cert.NsaInRefIdeal.main_arg3)
      ∧ r.2.mem ((c.tc : Thread Cert.NsaInRefIdeal.nD Cert.NsaInRefIdeal.τ).loc Cert.NsaInRefIdeal.main_arg4) = m ((c.tc : Thread Cert.NsaInRefIdeal.nD Cert.NsaInRefIdeal.τ).loc Cert.NsaInRefIdeal.main_arg4))
      ∧ r.2.sem = fun _ => 0)

def quiescent_SwaIn [hSwaIn : Cert.SwaIn.Facts] : Prop :=
  ∀ (m : (ℓ : Loc Cert.SwaIn.nD Cert.SwaIn.τ Cert.SwaIn.sig) → Buf (Elt Bits) ℓ) (g : Dev Cert.SwaIn.nD → PrngReg), Pre_SwaIn m →
    θ_run (Cert.SwaIn.defs (F := Bits)) (onTc (τ := Cert.SwaIn.τ) (Cert.SwaIn.main (F := Bits))) ⟨m, fun _ => 0, g⟩ (fun r => (∀ c : Dev Cert.SwaIn.nD,
      r.2.mem ((c.tc : Thread Cert.SwaIn.nD Cert.SwaIn.τ).loc Cert.SwaIn.main_arg0) = m ((c.tc : Thread Cert.SwaIn.nD Cert.SwaIn.τ).loc Cert.SwaIn.main_arg0)
      ∧ r.2.mem ((c.tc : Thread Cert.SwaIn.nD Cert.SwaIn.τ).loc Cert.SwaIn.main_arg1) = m ((c.tc : Thread Cert.SwaIn.nD Cert.SwaIn.τ).loc Cert.SwaIn.main_arg1)
      ∧ r.2.mem ((c.tc : Thread Cert.SwaIn.nD Cert.SwaIn.τ).loc Cert.SwaIn.main_arg2) = m ((c.tc : Thread Cert.SwaIn.nD Cert.SwaIn.τ).loc Cert.SwaIn.main_arg2)
      ∧ r.2.mem ((c.tc : Thread Cert.SwaIn.nD Cert.SwaIn.τ).loc Cert.SwaIn.main_arg3) = m ((c.tc : Thread Cert.SwaIn.nD Cert.SwaIn.τ).loc Cert.SwaIn.main_arg3))
      ∧ r.2.sem = fun _ => 0)

def quiescent_SwaInIdeal [hSwaInIdeal : Cert.SwaInIdeal.Facts] : Prop :=
  ∀ (m : (ℓ : Loc Cert.SwaInIdeal.nD Cert.SwaInIdeal.τ Cert.SwaInIdeal.sig) → Buf (Elt Ideal) ℓ) (g : Dev Cert.SwaInIdeal.nD → PrngReg), Pre_SwaInIdeal m →
    θ_run (Cert.SwaInIdeal.defs (F := Ideal)) (onTc (τ := Cert.SwaInIdeal.τ) (Cert.SwaInIdeal.main (F := Ideal))) ⟨m, fun _ => 0, g⟩ (fun r => (∀ c : Dev Cert.SwaInIdeal.nD,
      r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
      ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1)
      ∧ r.2.mem ((c.tc : Thread Cert.SwaInIdeal.nD Cert.SwaInIdeal.τ).loc Cert.SwaInIdeal.main_arg2) = m ((c.tc : Thread Cert.SwaInIdeal.nD Cert.SwaInIdeal.τ).loc Cert.SwaInIdeal.main_arg2)
      ∧ r.2.mem ((c.tc : Thread Cert.SwaInIdeal.nD Cert.SwaInIdeal.τ).loc Cert.SwaInIdeal.main_arg3) = m ((c.tc : Thread Cert.SwaInIdeal.nD Cert.SwaInIdeal.τ).loc Cert.SwaInIdeal.main_arg3))
      ∧ r.2.sem = fun _ => 0)

def quiescent_SwaInRefIdeal [hSwaInRefIdeal : Cert.SwaInRefIdeal.Facts] : Prop :=
  ∀ (m : (ℓ : Loc Cert.SwaInRefIdeal.nD Cert.SwaInRefIdeal.τ Cert.SwaInRefIdeal.sig) → Buf (Elt Ideal) ℓ) (g : Dev Cert.SwaInRefIdeal.nD → PrngReg), Pre_SwaInRefIdeal m →
    θ_run (Cert.SwaInRefIdeal.defs (F := Ideal)) (onTc (τ := Cert.SwaInRefIdeal.τ) (Cert.SwaInRefIdeal.main (F := Ideal))) ⟨m, fun _ => 0, g⟩ (fun r => (∀ c : Dev Cert.SwaInRefIdeal.nD,
      r.2.mem ((c.tc : Thread Cert.SwaInRefIdeal.nD Cert.SwaInRefIdeal.τ).loc Cert.SwaInRefIdeal.main_arg0) = m ((c.tc : Thread Cert.SwaInRefIdeal.nD Cert.SwaInRefIdeal.τ).loc Cert.SwaInRefIdeal.main_arg0)
      ∧ r.2.mem ((c.tc : Thread Cert.SwaInRefIdeal.nD Cert.SwaInRefIdeal.τ).loc Cert.SwaInRefIdeal.main_arg1) = m ((c.tc : Thread Cert.SwaInRefIdeal.nD Cert.SwaInRefIdeal.τ).loc Cert.SwaInRefIdeal.main_arg1)
      ∧ r.2.mem ((c.tc : Thread Cert.SwaInRefIdeal.nD Cert.SwaInRefIdeal.τ).loc Cert.SwaInRefIdeal.main_arg2) = m ((c.tc : Thread Cert.SwaInRefIdeal.nD Cert.SwaInRefIdeal.τ).loc Cert.SwaInRefIdeal.main_arg2)
      ∧ r.2.mem ((c.tc : Thread Cert.SwaInRefIdeal.nD Cert.SwaInRefIdeal.τ).loc Cert.SwaInRefIdeal.main_arg3) = m ((c.tc : Thread Cert.SwaInRefIdeal.nD Cert.SwaInRefIdeal.τ).loc Cert.SwaInRefIdeal.main_arg3))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4)
      ∧ r.2.mem ((c.tc : Thread Cert.OutLn.nD Cert.OutLn.τ).loc Cert.OutLn.main_arg5) = m ((c.tc : Thread Cert.OutLn.nD Cert.OutLn.τ).loc Cert.OutLn.main_arg5)
      ∧ r.2.mem ((c.tc : Thread Cert.OutLn.nD Cert.OutLn.τ).loc Cert.OutLn.main_arg6) = m ((c.tc : Thread Cert.OutLn.nD Cert.OutLn.τ).loc Cert.OutLn.main_arg6)
      ∧ r.2.mem ((c.tc : Thread Cert.OutLn.nD Cert.OutLn.τ).loc Cert.OutLn.main_arg7) = m ((c.tc : Thread Cert.OutLn.nD Cert.OutLn.τ).loc Cert.OutLn.main_arg7)
      ∧ r.2.mem ((c.tc : Thread Cert.OutLn.nD Cert.OutLn.τ).loc Cert.OutLn.main_arg8) = m ((c.tc : Thread Cert.OutLn.nD Cert.OutLn.τ).loc Cert.OutLn.main_arg8))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
      ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5)
      ∧ r.2.mem ((c.tc : Thread Cert.OutLnIdeal.nD Cert.OutLnIdeal.τ).loc Cert.OutLnIdeal.main_arg6) = m ((c.tc : Thread Cert.OutLnIdeal.nD Cert.OutLnIdeal.τ).loc Cert.OutLnIdeal.main_arg6)
      ∧ r.2.mem ((c.tc : Thread Cert.OutLnIdeal.nD Cert.OutLnIdeal.τ).loc Cert.OutLnIdeal.main_arg7) = m ((c.tc : Thread Cert.OutLnIdeal.nD Cert.OutLnIdeal.τ).loc Cert.OutLnIdeal.main_arg7)
      ∧ r.2.mem ((c.tc : Thread Cert.OutLnIdeal.nD Cert.OutLnIdeal.τ).loc Cert.OutLnIdeal.main_arg8) = m ((c.tc : Thread Cert.OutLnIdeal.nD Cert.OutLnIdeal.τ).loc Cert.OutLnIdeal.main_arg8))
      ∧ r.2.sem = fun _ => 0)

def quiescent_OutLnRefIdeal [hOutLnRefIdeal : Cert.OutLnRefIdeal.Facts] : Prop :=
  ∀ (m : (ℓ : Loc Cert.OutLnRefIdeal.nD Cert.OutLnRefIdeal.τ Cert.OutLnRefIdeal.sig) → Buf (Elt Ideal) ℓ) (g : Dev Cert.OutLnRefIdeal.nD → PrngReg), Pre_OutLnRefIdeal m →
    θ_run (Cert.OutLnRefIdeal.defs (F := Ideal)) (onTc (τ := Cert.OutLnRefIdeal.τ) (Cert.OutLnRefIdeal.main (F := Ideal))) ⟨m, fun _ => 0, g⟩ (fun r => (∀ c : Dev Cert.OutLnRefIdeal.nD,
      r.2.mem ((c.tc : Thread Cert.OutLnRefIdeal.nD Cert.OutLnRefIdeal.τ).loc Cert.OutLnRefIdeal.main_arg0) = m ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m ((c.tc : Thread Cert.OutLnRefIdeal.nD Cert.OutLnRefIdeal.τ).loc Cert.OutLnRefIdeal.main_arg4)
      ∧ r.2.mem ((c.tc : Thread Cert.OutLnRefIdeal.nD Cert.OutLnRefIdeal.τ).loc Cert.OutLnRefIdeal.main_arg5) = m ((c.tc : Thread Cert.OutLnRefIdeal.nD Cert.OutLnRefIdeal.τ).loc Cert.OutLnRefIdeal.main_arg5)
      ∧ r.2.mem ((c.tc : Thread Cert.OutLnRefIdeal.nD Cert.OutLnRefIdeal.τ).loc Cert.OutLnRefIdeal.main_arg6) = m ((c.tc : Thread Cert.OutLnRefIdeal.nD Cert.OutLnRefIdeal.τ).loc Cert.OutLnRefIdeal.main_arg6)
      ∧ r.2.mem ((c.tc : Thread Cert.OutLnRefIdeal.nD Cert.OutLnRefIdeal.τ).loc Cert.OutLnRefIdeal.main_arg7) = m ((c.tc : Thread Cert.OutLnRefIdeal.nD Cert.OutLnRefIdeal.τ).loc Cert.OutLnRefIdeal.main_arg7)
      ∧ r.2.mem ((c.tc : Thread Cert.OutLnRefIdeal.nD Cert.OutLnRefIdeal.τ).loc Cert.OutLnRefIdeal.main_arg8) = m ((c.tc : Thread Cert.OutLnRefIdeal.nD Cert.OutLnRefIdeal.τ).loc Cert.OutLnRefIdeal.main_arg8))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] [hPre_experts_in_range : Cert.Pre_experts_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Compress [hCompress : Cert.Compress.Facts] [hPre_pages_in_range : Cert.Pre_pages_in_range.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4))
      ∧ r.2.sem = fun _ => 0)

def quiescent_CompressIdeal [hCompressIdeal : Cert.CompressIdeal.Facts] [hPre_pages_in_range : Cert.Pre_pages_in_range.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4))
      ∧ r.2.sem = fun _ => 0)

def quiescent_CompressRefIdeal [hCompressRefIdeal : Cert.CompressRefIdeal.Facts] [hPre_pages_in_range : Cert.Pre_pages_in_range.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4))
      ∧ r.2.sem = fun _ => 0)

def preserves_NsaIn_NsaInIdeal : Prop :=
  True

def algebraic_NsaInIdeal_NsaInRefIdeal [hNsaInIdeal : Cert.NsaInIdeal.Facts] [hNsaInRefIdeal : Cert.NsaInRefIdeal.Facts] : Prop :=
  ∀ (m : (ℓ : Loc Cert.NsaInIdeal.nD Cert.NsaInIdeal.τ Cert.NsaInIdeal.sig) → Buf (Elt Ideal) ℓ) (g : Dev Cert.NsaInIdeal.nD → PrngReg)
    (m' : (ℓ : Loc Cert.NsaInRefIdeal.nD Cert.NsaInRefIdeal.τ Cert.NsaInRefIdeal.sig) → Buf (Elt Ideal) ℓ) (g' : Dev Cert.NsaInRefIdeal.nD → PrngReg), Pre_NsaInIdeal m →
    (∀ c : Dev Cert.NsaInIdeal.nD,
      m' ((c.tc : Thread Cert.NsaInRefIdeal.nD Cert.NsaInRefIdeal.τ).loc Cert.NsaInRefIdeal.main_arg0) = m ((c.tc : Thread Cert.NsaInIdeal.nD Cert.NsaInIdeal.τ).loc Cert.NsaInIdeal.main_arg0)
      ∧ m' ((c.tc : Thread Cert.NsaInRefIdeal.nD Cert.NsaInRefIdeal.τ).loc Cert.NsaInRefIdeal.main_arg1) = m ((c.tc : Thread Cert.NsaInIdeal.nD Cert.NsaInIdeal.τ).loc Cert.NsaInIdeal.main_arg1)
      ∧ m' ((c.tc : Thread Cert.NsaInRefIdeal.nD Cert.NsaInRefIdeal.τ).loc Cert.NsaInRefIdeal.main_arg2) = m ((c.tc : Thread Cert.NsaInIdeal.nD Cert.NsaInIdeal.τ).loc Cert.NsaInIdeal.main_arg2)
      ∧ m' ((c.tc : Thread Cert.NsaInRefIdeal.nD Cert.NsaInRefIdeal.τ).loc Cert.NsaInRefIdeal.main_arg3) = m ((c.tc : Thread Cert.NsaInIdeal.nD Cert.NsaInIdeal.τ).loc Cert.NsaInIdeal.main_arg3)
      ∧ m' ((c.tc : Thread Cert.NsaInRefIdeal.nD Cert.NsaInRefIdeal.τ).loc Cert.NsaInRefIdeal.main_arg4) = m ((c.tc : Thread Cert.NsaInIdeal.nD Cert.NsaInIdeal.τ).loc Cert.NsaInIdeal.main_arg4)) →
    ∃ (v0 : (c : Dev Cert.NsaInIdeal.nD) → Buf (Elt Ideal) ((c.tc : Thread Cert.NsaInIdeal.nD Cert.NsaInIdeal.τ).loc Cert.NsaInIdeal.main_v16)) (v1 : (c : Dev Cert.NsaInIdeal.nD) → Buf (Elt Ideal) ((c.tc : Thread Cert.NsaInIdeal.nD Cert.NsaInIdeal.τ).loc Cert.NsaInIdeal.main_v17)) (v2 : (c : Dev Cert.NsaInIdeal.nD) → Buf (Elt Ideal) ((c.tc : Thread Cert.NsaInIdeal.nD Cert.NsaInIdeal.τ).loc Cert.NsaInIdeal.main_v18)) (v3 : (c : Dev Cert.NsaInIdeal.nD) → Buf (Elt Ideal) ((c.tc : Thread Cert.NsaInIdeal.nD Cert.NsaInIdeal.τ).loc Cert.NsaInIdeal.main_v19)) (v4 : (c : Dev Cert.NsaInIdeal.nD) → Buf (Elt Ideal) ((c.tc : Thread Cert.NsaInIdeal.nD Cert.NsaInIdeal.τ).loc Cert.NsaInIdeal.main_v20)) (v5 : (c : Dev Cert.NsaInIdeal.nD) → Buf (Elt Ideal) ((c.tc : Thread Cert.NsaInIdeal.nD Cert.NsaInIdeal.τ).loc Cert.NsaInIdeal.main_v22)) (v6 : (c : Dev Cert.NsaInIdeal.nD) → Buf (Elt Ideal) ((c.tc : Thread Cert.NsaInIdeal.nD Cert.NsaInIdeal.τ).loc Cert.NsaInIdeal.main_v23)) (v7 : (c : Dev Cert.NsaInIdeal.nD) → Buf (Elt Ideal) ((c.tc : Thread Cert.NsaInIdeal.nD Cert.NsaInIdeal.τ).loc Cert.NsaInIdeal.main_v25)) (v8 : (c : Dev Cert.NsaInIdeal.nD) → Buf (Elt Ideal) ((c.tc : Thread Cert.NsaInIdeal.nD Cert.NsaInIdeal.τ).loc Cert.NsaInIdeal.main_v27)) (v9 : (c : Dev Cert.NsaInIdeal.nD) → Buf (Elt Ideal) ((c.tc : Thread Cert.NsaInIdeal.nD Cert.NsaInIdeal.τ).loc Cert.NsaInIdeal.main_v31)),
      θ_run (Cert.NsaInIdeal.defs (F := Ideal)) (onTc (τ := Cert.NsaInIdeal.τ) (Cert.NsaInIdeal.main (F := Ideal))) ⟨m, fun _ => 0, g⟩ (fun r => ∀ c : Dev Cert.NsaInIdeal.nD,
          r.2.mem ((c.tc : Thread Cert.NsaInIdeal.nD Cert.NsaInIdeal.τ).loc Cert.NsaInIdeal.main_v16) = v0 c
          ∧ r.2.mem ((c.tc : Thread Cert.NsaInIdeal.nD Cert.NsaInIdeal.τ).loc Cert.NsaInIdeal.main_v17) = v1 c
          ∧ r.2.mem ((c.tc : Thread Cert.NsaInIdeal.nD Cert.NsaInIdeal.τ).loc Cert.NsaInIdeal.main_v18) = v2 c
          ∧ r.2.mem ((c.tc : Thread Cert.NsaInIdeal.nD Cert.NsaInIdeal.τ).loc Cert.NsaInIdeal.main_v19) = v3 c
          ∧ r.2.mem ((c.tc : Thread Cert.NsaInIdeal.nD Cert.NsaInIdeal.τ).loc Cert.NsaInIdeal.main_v20) = v4 c
          ∧ r.2.mem ((c.tc : Thread Cert.NsaInIdeal.nD Cert.NsaInIdeal.τ).loc Cert.NsaInIdeal.main_v22) = v5 c
          ∧ r.2.mem ((c.tc : Thread Cert.NsaInIdeal.nD Cert.NsaInIdeal.τ).loc Cert.NsaInIdeal.main_v23) = v6 c
          ∧ r.2.mem ((c.tc : Thread Cert.NsaInIdeal.nD Cert.NsaInIdeal.τ).loc Cert.NsaInIdeal.main_v25) = v7 c
          ∧ r.2.mem ((c.tc : Thread Cert.NsaInIdeal.nD Cert.NsaInIdeal.τ).loc Cert.NsaInIdeal.main_v27) = v8 c
          ∧ r.2.mem ((c.tc : Thread Cert.NsaInIdeal.nD Cert.NsaInIdeal.τ).loc Cert.NsaInIdeal.main_v31) = v9 c
          ∧ r.2.mem ((c.tc : Thread Cert.NsaInIdeal.nD Cert.NsaInIdeal.τ).loc Cert.NsaInIdeal.main_arg0) = m ((c.tc : Thread Cert.NsaInIdeal.nD Cert.NsaInIdeal.τ).loc Cert.NsaInIdeal.main_arg0)
          ∧ r.2.mem ((c.tc : Thread Cert.NsaInIdeal.nD Cert.NsaInIdeal.τ).loc Cert.NsaInIdeal.main_arg1) = m ((c.tc : Thread Cert.NsaInIdeal.nD Cert.NsaInIdeal.τ).loc Cert.NsaInIdeal.main_arg1)
          ∧ r.2.mem ((c.tc : Thread Cert.NsaInIdeal.nD Cert.NsaInIdeal.τ).loc Cert.NsaInIdeal.main_arg2) = m ((c.tc : Thread Cert.NsaInIdeal.nD Cert.NsaInIdeal.τ).loc Cert.NsaInIdeal.main_arg2)
          ∧ r.2.mem ((c.tc : Thread Cert.NsaInIdeal.nD Cert.NsaInIdeal.τ).loc Cert.NsaInIdeal.main_arg3) = m ((c.tc : Thread Cert.NsaInIdeal.nD Cert.NsaInIdeal.τ).loc Cert.NsaInIdeal.main_arg3)
          ∧ r.2.mem ((c.tc : Thread Cert.NsaInIdeal.nD Cert.NsaInIdeal.τ).loc Cert.NsaInIdeal.main_arg4) = m ((c.tc : Thread Cert.NsaInIdeal.nD Cert.NsaInIdeal.τ).loc Cert.NsaInIdeal.main_arg4))
      ∧ θ_run (Cert.NsaInRefIdeal.defs (F := Ideal)) (onTc (τ := Cert.NsaInRefIdeal.τ) (Cert.NsaInRefIdeal.main (F := Ideal))) ⟨m', fun _ => 0, g'⟩ (fun r => ∀ c : Dev Cert.NsaInRefIdeal.nD,
          r.2.mem ((c.tc : Thread Cert.NsaInRefIdeal.nD Cert.NsaInRefIdeal.τ).loc Cert.NsaInRefIdeal.main_v6) = v0 c
          ∧ r.2.mem ((c.tc : Thread Cert.NsaInRefIdeal.nD Cert.NsaInRefIdeal.τ).loc Cert.NsaInRefIdeal.main_v7) = v1 c
          ∧ r.2.mem ((c.tc : Thread Cert.NsaInRefIdeal.nD Cert.NsaInRefIdeal.τ).loc Cert.NsaInRefIdeal.main_v14) = v2 c
          ∧ r.2.mem ((c.tc : Thread Cert.NsaInRefIdeal.nD Cert.NsaInRefIdeal.τ).loc Cert.NsaInRefIdeal.main_v15) = v3 c
          ∧ r.2.mem ((c.tc : Thread Cert.NsaInRefIdeal.nD Cert.NsaInRefIdeal.τ).loc Cert.NsaInRefIdeal.main_v16) = v4 c
          ∧ r.2.mem ((c.tc : Thread Cert.NsaInRefIdeal.nD Cert.NsaInRefIdeal.τ).loc Cert.NsaInRefIdeal.main_v17) = v5 c
          ∧ r.2.mem ((c.tc : Thread Cert.NsaInRefIdeal.nD Cert.NsaInRefIdeal.τ).loc Cert.NsaInRefIdeal.main_v18) = v6 c
          ∧ r.2.mem ((c.tc : Thread Cert.NsaInRefIdeal.nD Cert.NsaInRefIdeal.τ).loc Cert.NsaInRefIdeal.main_v19) = v7 c
          ∧ r.2.mem ((c.tc : Thread Cert.NsaInRefIdeal.nD Cert.NsaInRefIdeal.τ).loc Cert.NsaInRefIdeal.main_v20) = v8 c
          ∧ r.2.mem ((c.tc : Thread Cert.NsaInRefIdeal.nD Cert.NsaInRefIdeal.τ).loc Cert.NsaInRefIdeal.main_v23) = v9 c
          ∧ r.2.mem ((c.tc : Thread Cert.NsaInRefIdeal.nD Cert.NsaInRefIdeal.τ).loc Cert.NsaInRefIdeal.main_arg0) = m' ((c.tc : Thread Cert.NsaInRefIdeal.nD Cert.NsaInRefIdeal.τ).loc Cert.NsaInRefIdeal.main_arg0)
          ∧ r.2.mem ((c.tc : Thread Cert.NsaInRefIdeal.nD Cert.NsaInRefIdeal.τ).loc Cert.NsaInRefIdeal.main_arg1) = m' ((c.tc : Thread Cert.NsaInRefIdeal.nD Cert.NsaInRefIdeal.τ).loc Cert.NsaInRefIdeal.main_arg1)
          ∧ r.2.mem ((c.tc : Thread Cert.NsaInRefIdeal.nD Cert.NsaInRefIdeal.τ).loc Cert.NsaInRefIdeal.main_arg2) = m' ((c.tc : Thread Cert.NsaInRefIdeal.nD Cert.NsaInRefIdeal.τ).loc Cert.NsaInRefIdeal.main_arg2)
          ∧ r.2.mem ((c.tc : Thread Cert.NsaInRefIdeal.nD Cert.NsaInRefIdeal.τ).loc Cert.NsaInRefIdeal.main_arg3) = m' ((c.tc : Thread Cert.NsaInRefIdeal.nD Cert.NsaInRefIdeal.τ).loc Cert.NsaInRefIdeal.main_arg3)
          ∧ r.2.mem ((c.tc : Thread Cert.NsaInRefIdeal.nD Cert.NsaInRefIdeal.τ).loc Cert.NsaInRefIdeal.main_arg4) = m' ((c.tc : Thread Cert.NsaInRefIdeal.nD Cert.NsaInRefIdeal.τ).loc Cert.NsaInRefIdeal.main_arg4))

def preserves_SwaIn_SwaInIdeal : Prop :=
  True

def algebraic_SwaInIdeal_SwaInRefIdeal [hSwaInIdeal : Cert.SwaInIdeal.Facts] [hSwaInRefIdeal : Cert.SwaInRefIdeal.Facts] : Prop :=
  ∀ (m : (ℓ : Loc Cert.SwaInIdeal.nD Cert.SwaInIdeal.τ Cert.SwaInIdeal.sig) → Buf (Elt Ideal) ℓ) (g : Dev Cert.SwaInIdeal.nD → PrngReg)
    (m' : (ℓ : Loc Cert.SwaInRefIdeal.nD Cert.SwaInRefIdeal.τ Cert.SwaInRefIdeal.sig) → Buf (Elt Ideal) ℓ) (g' : Dev Cert.SwaInRefIdeal.nD → PrngReg), Pre_SwaInIdeal m →
    (∀ c : Dev Cert.SwaInIdeal.nD,
      m' ((c.tc : Thread Cert.SwaInRefIdeal.nD Cert.SwaInRefIdeal.τ).loc Cert.SwaInRefIdeal.main_arg0) = m ((c.tc : Thread Cert.SwaInIdeal.nD Cert.SwaInIdeal.τ).loc Cert.SwaInIdeal.main_arg0)
      ∧ m' ((c.tc : Thread Cert.SwaInRefIdeal.nD Cert.SwaInRefIdeal.τ).loc Cert.SwaInRefIdeal.main_arg1) = m ((c.tc : Thread Cert.SwaInIdeal.nD Cert.SwaInIdeal.τ).loc Cert.SwaInIdeal.main_arg1)
      ∧ m' ((c.tc : Thread Cert.SwaInRefIdeal.nD Cert.SwaInRefIdeal.τ).loc Cert.SwaInRefIdeal.main_arg2) = m ((c.tc : Thread Cert.SwaInIdeal.nD Cert.SwaInIdeal.τ).loc Cert.SwaInIdeal.main_arg2)
      ∧ m' ((c.tc : Thread Cert.SwaInRefIdeal.nD Cert.SwaInRefIdeal.τ).loc Cert.SwaInRefIdeal.main_arg3) = m ((c.tc : Thread Cert.SwaInIdeal.nD Cert.SwaInIdeal.τ).loc Cert.SwaInIdeal.main_arg3)) →
    ∃ (v0 : (c : Dev Cert.SwaInIdeal.nD) → Buf (Elt Ideal) ((c.tc : Thread Cert.SwaInIdeal.nD Cert.SwaInIdeal.τ).loc Cert.SwaInIdeal.main_v20)) (v1 : (c : Dev Cert.SwaInIdeal.nD) → Buf (Elt Ideal) ((c.tc : Thread Cert.SwaInIdeal.nD Cert.SwaInIdeal.τ).loc Cert.SwaInIdeal.main_v11)) (v2 : (c : Dev Cert.SwaInIdeal.nD) → Buf (Elt Ideal) ((c.tc : Thread Cert.SwaInIdeal.nD Cert.SwaInIdeal.τ).loc Cert.SwaInIdeal.main_v12)) (v3 : (c : Dev Cert.SwaInIdeal.nD) → Buf (Elt Ideal) ((c.tc : Thread Cert.SwaInIdeal.nD Cert.SwaInIdeal.τ).loc Cert.SwaInIdeal.main_v21)) (v4 : (c : Dev Cert.SwaInIdeal.nD) → Buf (Elt Ideal) ((c.tc : Thread Cert.SwaInIdeal.nD Cert.SwaInIdeal.τ).loc Cert.SwaInIdeal.main_v22)) (v5 : (c : Dev Cert.SwaInIdeal.nD) → Buf (Elt Ideal) ((c.tc : Thread Cert.SwaInIdeal.nD Cert.SwaInIdeal.τ).loc Cert.SwaInIdeal.main_v29)) (v6 : (c : Dev Cert.SwaInIdeal.nD) → Buf (Elt Ideal) ((c.tc : Thread Cert.SwaInIdeal.nD Cert.SwaInIdeal.τ).loc Cert.SwaInIdeal.main_v31)),
      θ_run (Cert.SwaInIdeal.defs (F := Ideal)) (onTc (τ := Cert.SwaInIdeal.τ) (Cert.SwaInIdeal.main (F := Ideal))) ⟨m, fun _ => 0, g⟩ (fun r => ∀ c : Dev Cert.SwaInIdeal.nD,
          r.2.mem ((c.tc : Thread Cert.SwaInIdeal.nD Cert.SwaInIdeal.τ).loc Cert.SwaInIdeal.main_v20) = v0 c
          ∧ r.2.mem ((c.tc : Thread Cert.SwaInIdeal.nD Cert.SwaInIdeal.τ).loc Cert.SwaInIdeal.main_v11) = v1 c
          ∧ r.2.mem ((c.tc : Thread Cert.SwaInIdeal.nD Cert.SwaInIdeal.τ).loc Cert.SwaInIdeal.main_v12) = v2 c
          ∧ r.2.mem ((c.tc : Thread Cert.SwaInIdeal.nD Cert.SwaInIdeal.τ).loc Cert.SwaInIdeal.main_v21) = v3 c
          ∧ r.2.mem ((c.tc : Thread Cert.SwaInIdeal.nD Cert.SwaInIdeal.τ).loc Cert.SwaInIdeal.main_v22) = v4 c
          ∧ r.2.mem ((c.tc : Thread Cert.SwaInIdeal.nD Cert.SwaInIdeal.τ).loc Cert.SwaInIdeal.main_v29) = v5 c
          ∧ r.2.mem ((c.tc : Thread Cert.SwaInIdeal.nD Cert.SwaInIdeal.τ).loc Cert.SwaInIdeal.main_v31) = v6 c
          ∧ r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
          ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1)
          ∧ r.2.mem ((c.tc : Thread Cert.SwaInIdeal.nD Cert.SwaInIdeal.τ).loc Cert.SwaInIdeal.main_arg2) = m ((c.tc : Thread Cert.SwaInIdeal.nD Cert.SwaInIdeal.τ).loc Cert.SwaInIdeal.main_arg2)
          ∧ r.2.mem ((c.tc : Thread Cert.SwaInIdeal.nD Cert.SwaInIdeal.τ).loc Cert.SwaInIdeal.main_arg3) = m ((c.tc : Thread Cert.SwaInIdeal.nD Cert.SwaInIdeal.τ).loc Cert.SwaInIdeal.main_arg3))
      ∧ θ_run (Cert.SwaInRefIdeal.defs (F := Ideal)) (onTc (τ := Cert.SwaInRefIdeal.τ) (Cert.SwaInRefIdeal.main (F := Ideal))) ⟨m', fun _ => 0, g'⟩ (fun r => ∀ c : Dev Cert.SwaInRefIdeal.nD,
          r.2.mem ((c.tc : Thread Cert.SwaInRefIdeal.nD Cert.SwaInRefIdeal.τ).loc Cert.SwaInRefIdeal.main_v1) = v0 c
          ∧ r.2.mem ((c.tc : Thread Cert.SwaInRefIdeal.nD Cert.SwaInRefIdeal.τ).loc Cert.SwaInRefIdeal.main_v2) = v1 c
          ∧ r.2.mem ((c.tc : Thread Cert.SwaInRefIdeal.nD Cert.SwaInRefIdeal.τ).loc Cert.SwaInRefIdeal.main_v3) = v2 c
          ∧ r.2.mem ((c.tc : Thread Cert.SwaInRefIdeal.nD Cert.SwaInRefIdeal.τ).loc Cert.SwaInRefIdeal.main_v6) = v3 c
          ∧ r.2.mem ((c.tc : Thread Cert.SwaInRefIdeal.nD Cert.SwaInRefIdeal.τ).loc Cert.SwaInRefIdeal.main_v9) = v4 c
          ∧ r.2.mem ((c.tc : Thread Cert.SwaInRefIdeal.nD Cert.SwaInRefIdeal.τ).loc Cert.SwaInRefIdeal.main_v22) = v5 c
          ∧ r.2.mem ((c.tc : Thread Cert.SwaInRefIdeal.nD Cert.SwaInRefIdeal.τ).loc Cert.SwaInRefIdeal.main_v23) = v6 c
          ∧ r.2.mem ((c.tc : Thread Cert.SwaInRefIdeal.nD Cert.SwaInRefIdeal.τ).loc Cert.SwaInRefIdeal.main_arg0) = m' ((c.tc : Thread Cert.SwaInRefIdeal.nD Cert.SwaInRefIdeal.τ).loc Cert.SwaInRefIdeal.main_arg0)
          ∧ r.2.mem ((c.tc : Thread Cert.SwaInRefIdeal.nD Cert.SwaInRefIdeal.τ).loc Cert.SwaInRefIdeal.main_arg1) = m' ((c.tc : Thread Cert.SwaInRefIdeal.nD Cert.SwaInRefIdeal.τ).loc Cert.SwaInRefIdeal.main_arg1)
          ∧ r.2.mem ((c.tc : Thread Cert.SwaInRefIdeal.nD Cert.SwaInRefIdeal.τ).loc Cert.SwaInRefIdeal.main_arg2) = m' ((c.tc : Thread Cert.SwaInRefIdeal.nD Cert.SwaInRefIdeal.τ).loc Cert.SwaInRefIdeal.main_arg2)
          ∧ r.2.mem ((c.tc : Thread Cert.SwaInRefIdeal.nD Cert.SwaInRefIdeal.τ).loc Cert.SwaInRefIdeal.main_arg3) = m' ((c.tc : Thread Cert.SwaInRefIdeal.nD Cert.SwaInRefIdeal.τ).loc Cert.SwaInRefIdeal.main_arg3))

def preserves_OutLn_OutLnIdeal : Prop :=
  True

def algebraic_OutLnIdeal_OutLnRefIdeal [hOutLnIdeal : Cert.OutLnIdeal.Facts] [hOutLnRefIdeal : Cert.OutLnRefIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnRefIdeal.nD Cert.OutLnRefIdeal.τ Cert.OutLnRefIdeal.sig) → Buf (Elt Ideal) ℓ) (g' : Dev Cert.OutLnRefIdeal.nD → PrngReg), Pre_OutLnIdeal m →
    (∀ c : Dev Cert.OutLnIdeal.nD,
      m' ((c.tc : Thread Cert.OutLnRefIdeal.nD Cert.OutLnRefIdeal.τ).loc Cert.OutLnRefIdeal.main_arg0) = m ((c.tc : Thread Cert.OutLnIdeal.nD Cert.OutLnIdeal.τ).loc Cert.OutLnIdeal.main_arg0)
      ∧ m' ((c.tc : Thread Cert.OutLnRefIdeal.nD Cert.OutLnRefIdeal.τ).loc Cert.OutLnRefIdeal.main_arg1) = m ((c.tc : Thread Cert.OutLnIdeal.nD Cert.OutLnIdeal.τ).loc Cert.OutLnIdeal.main_arg1)
      ∧ m' ((c.tc : Thread Cert.OutLnRefIdeal.nD Cert.OutLnRefIdeal.τ).loc Cert.OutLnRefIdeal.main_arg2) = m ((c.tc : Thread Cert.OutLnIdeal.nD Cert.OutLnIdeal.τ).loc Cert.OutLnIdeal.main_arg2)
      ∧ m' ((c.tc : Thread Cert.OutLnRefIdeal.nD Cert.OutLnRefIdeal.τ).loc Cert.OutLnRefIdeal.main_arg3) = m ((c.tc : Thread Cert.OutLnIdeal.nD Cert.OutLnIdeal.τ).loc Cert.OutLnIdeal.main_arg3)
      ∧ m' ((c.tc : Thread Cert.OutLnRefIdeal.nD Cert.OutLnRefIdeal.τ).loc Cert.OutLnRefIdeal.main_arg4) = m ((c.tc : Thread Cert.OutLnIdeal.nD Cert.OutLnIdeal.τ).loc Cert.OutLnIdeal.main_arg4)
      ∧ m' ((c.tc : Thread Cert.OutLnRefIdeal.nD Cert.OutLnRefIdeal.τ).loc Cert.OutLnRefIdeal.main_arg5) = m ((c.tc : Thread Cert.OutLnIdeal.nD Cert.OutLnIdeal.τ).loc Cert.OutLnIdeal.main_arg5)
      ∧ m' ((c.tc : Thread Cert.OutLnRefIdeal.nD Cert.OutLnRefIdeal.τ).loc Cert.OutLnRefIdeal.main_arg6) = m ((c.tc : Thread Cert.OutLnIdeal.nD Cert.OutLnIdeal.τ).loc Cert.OutLnIdeal.main_arg6)
      ∧ m' ((c.tc : Thread Cert.OutLnRefIdeal.nD Cert.OutLnRefIdeal.τ).loc Cert.OutLnRefIdeal.main_arg7) = m ((c.tc : Thread Cert.OutLnIdeal.nD Cert.OutLnIdeal.τ).loc Cert.OutLnIdeal.main_arg7)
      ∧ m' ((c.tc : Thread Cert.OutLnRefIdeal.nD Cert.OutLnRefIdeal.τ).loc Cert.OutLnRefIdeal.main_arg8) = m ((c.tc : Thread Cert.OutLnIdeal.nD Cert.OutLnIdeal.τ).loc Cert.OutLnIdeal.main_arg8)) →
    ∃ (v0 : (c : Dev Cert.OutLnIdeal.nD) → Buf (Elt Ideal) ((c.tc : Thread Cert.OutLnIdeal.nD Cert.OutLnIdeal.τ).loc Cert.OutLnIdeal.main_v13_0)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v13_0) = v0 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
          ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5)
          ∧ r.2.mem ((c.tc : Thread Cert.OutLnIdeal.nD Cert.OutLnIdeal.τ).loc Cert.OutLnIdeal.main_arg6) = m ((c.tc : Thread Cert.OutLnIdeal.nD Cert.OutLnIdeal.τ).loc Cert.OutLnIdeal.main_arg6)
          ∧ r.2.mem ((c.tc : Thread Cert.OutLnIdeal.nD Cert.OutLnIdeal.τ).loc Cert.OutLnIdeal.main_arg7) = m ((c.tc : Thread Cert.OutLnIdeal.nD Cert.OutLnIdeal.τ).loc Cert.OutLnIdeal.main_arg7)
          ∧ r.2.mem ((c.tc : Thread Cert.OutLnIdeal.nD Cert.OutLnIdeal.τ).loc Cert.OutLnIdeal.main_arg8) = m ((c.tc : Thread Cert.OutLnIdeal.nD Cert.OutLnIdeal.τ).loc Cert.OutLnIdeal.main_arg8))
      ∧ θ_run (Cert.OutLnRefIdeal.defs (F := Ideal)) (onTc (τ := Cert.OutLnRefIdeal.τ) (Cert.OutLnRefIdeal.main (F := Ideal))) ⟨m', fun _ => 0, g'⟩ (fun r => ∀ c : Dev Cert.OutLnRefIdeal.nD,
          r.2.mem ((c.tc : Thread Cert.OutLnRefIdeal.nD Cert.OutLnRefIdeal.τ).loc Cert.OutLnRefIdeal.main_v27) = v0 c
          ∧ r.2.mem ((c.tc : Thread Cert.OutLnRefIdeal.nD Cert.OutLnRefIdeal.τ).loc Cert.OutLnRefIdeal.main_arg0) = m' ((c.tc : Thread Cert.OutLnRefIdeal.nD Cert.OutLnRefIdeal.τ).loc Cert.OutLnRefIdeal.main_arg0)
          ∧ r.2.mem ((c.tc : Thread Cert.OutLnRefIdeal.nD Cert.OutLnRefIdeal.τ).loc Cert.OutLnRefIdeal.main_arg1) = m' ((c.tc : Thread Cert.OutLnRefIdeal.nD Cert.OutLnRefIdeal.τ).loc Cert.OutLnRefIdeal.main_arg1)
          ∧ r.2.mem ((c.tc : Thread Cert.OutLnRefIdeal.nD Cert.OutLnRefIdeal.τ).loc Cert.OutLnRefIdeal.main_arg2) = m' ((c.tc : Thread Cert.OutLnRefIdeal.nD Cert.OutLnRefIdeal.τ).loc Cert.OutLnRefIdeal.main_arg2)
          ∧ r.2.mem ((c.tc : Thread Cert.OutLnRefIdeal.nD Cert.OutLnRefIdeal.τ).loc Cert.OutLnRefIdeal.main_arg3) = m' ((c.tc : Thread Cert.OutLnRefIdeal.nD Cert.OutLnRefIdeal.τ).loc Cert.OutLnRefIdeal.main_arg3)
          ∧ r.2.mem ((c.tc : Thread Cert.OutLnRefIdeal.nD Cert.OutLnRefIdeal.τ).loc Cert.OutLnRefIdeal.main_arg4) = m' ((c.tc : Thread Cert.OutLnRefIdeal.nD Cert.OutLnRefIdeal.τ).loc Cert.OutLnRefIdeal.main_arg4)
          ∧ r.2.mem ((c.tc : Thread Cert.OutLnRefIdeal.nD Cert.OutLnRefIdeal.τ).loc Cert.OutLnRefIdeal.main_arg5) = m' ((c.tc : Thread Cert.OutLnRefIdeal.nD Cert.OutLnRefIdeal.τ).loc Cert.OutLnRefIdeal.main_arg5)
          ∧ r.2.mem ((c.tc : Thread Cert.OutLnRefIdeal.nD Cert.OutLnRefIdeal.τ).loc Cert.OutLnRefIdeal.main_arg6) = m' ((c.tc : Thread Cert.OutLnRefIdeal.nD Cert.OutLnRefIdeal.τ).loc Cert.OutLnRefIdeal.main_arg6)
          ∧ r.2.mem ((c.tc : Thread Cert.OutLnRefIdeal.nD Cert.OutLnRefIdeal.τ).loc Cert.OutLnRefIdeal.main_arg7) = m' ((c.tc : Thread Cert.OutLnRefIdeal.nD Cert.OutLnRefIdeal.τ).loc Cert.OutLnRefIdeal.main_arg7)
          ∧ r.2.mem ((c.tc : Thread Cert.OutLnRefIdeal.nD Cert.OutLnRefIdeal.τ).loc Cert.OutLnRefIdeal.main_arg8) = m' ((c.tc : Thread Cert.OutLnRefIdeal.nD Cert.OutLnRefIdeal.τ).loc Cert.OutLnRefIdeal.main_arg8))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v38) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Compress_CompressIdeal : Prop :=
  True

def algebraic_CompressIdeal_CompressRefIdeal [hCompressIdeal : Cert.CompressIdeal.Facts] [hCompressRefIdeal : Cert.CompressRefIdeal.Facts] [hPre_pages_in_range : Cert.Pre_pages_in_range.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)) →
    ∃ (v0 : (c : Dev Cert.CompressIdeal.nD) → Buf (Elt Ideal) ((c.tc : Thread Cert.CompressIdeal.nD Cert.CompressIdeal.τ).loc Cert.CompressIdeal.main_v28_0)) (v1 : (c : Dev Cert.CompressIdeal.nD) → Buf (Elt Ideal) ((c.tc : Thread Cert.CompressIdeal.nD Cert.CompressIdeal.τ).loc Cert.CompressIdeal.main_v28_1)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v28_0) = v0 c
          ∧ r.2.mem ((c.tc : Thread Cert.CompressIdeal.nD Cert.CompressIdeal.τ).loc Cert.CompressIdeal.main_v28_1) = v1 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v47) = v0 c
          ∧ r.2.mem ((c.tc : Thread Cert.CompressRefIdeal.nD Cert.CompressRefIdeal.τ).loc Cert.CompressRefIdeal.main_v95) = v1 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4))

def Claim : Prop :=
  ∃ (hNsaIn : Cert.NsaIn.Facts) (hNsaInIdeal : Cert.NsaInIdeal.Facts) (hNsaInRefIdeal : Cert.NsaInRefIdeal.Facts) (hSwaIn : Cert.SwaIn.Facts) (hSwaInIdeal : Cert.SwaInIdeal.Facts) (hSwaInRefIdeal : Cert.SwaInRefIdeal.Facts) (hOutLn : Cert.OutLn.Facts) (hOutLnIdeal : Cert.OutLnIdeal.Facts) (hOutLnRefIdeal : Cert.OutLnRefIdeal.Facts) (hExperts : Cert.Experts.Facts) (hExpertsIdeal : Cert.ExpertsIdeal.Facts) (hExpertsRefIdeal : Cert.ExpertsRefIdeal.Facts) (hCompress : Cert.Compress.Facts) (hCompressIdeal : Cert.CompressIdeal.Facts) (hCompressRefIdeal : Cert.CompressRefIdeal.Facts) (hPre_experts_in_range : Cert.Pre_experts_in_range.Facts) (hPre_pages_in_range : Cert.Pre_pages_in_range.Facts),
    quiescent_NsaIn (hNsaIn := hNsaIn)
    ∧ quiescent_NsaInIdeal (hNsaInIdeal := hNsaInIdeal)
    ∧ quiescent_NsaInRefIdeal (hNsaInRefIdeal := hNsaInRefIdeal)
    ∧ quiescent_SwaIn (hSwaIn := hSwaIn)
    ∧ quiescent_SwaInIdeal (hSwaInIdeal := hSwaInIdeal)
    ∧ quiescent_SwaInRefIdeal (hSwaInRefIdeal := hSwaInRefIdeal)
    ∧ quiescent_OutLn (hOutLn := hOutLn)
    ∧ quiescent_OutLnIdeal (hOutLnIdeal := hOutLnIdeal)
    ∧ quiescent_OutLnRefIdeal (hOutLnRefIdeal := hOutLnRefIdeal)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsRefIdeal (hExpertsRefIdeal := hExpertsRefIdeal) (hPre_experts_in_range := hPre_experts_in_range)
    ∧ quiescent_Compress (hCompress := hCompress) (hPre_pages_in_range := hPre_pages_in_range)
    ∧ quiescent_CompressIdeal (hCompressIdeal := hCompressIdeal) (hPre_pages_in_range := hPre_pages_in_range)
    ∧ quiescent_CompressRefIdeal (hCompressRefIdeal := hCompressRefIdeal) (hPre_pages_in_range := hPre_pages_in_range)
    ∧ preserves_NsaIn_NsaInIdeal
    ∧ algebraic_NsaInIdeal_NsaInRefIdeal (hNsaInIdeal := hNsaInIdeal) (hNsaInRefIdeal := hNsaInRefIdeal)
    ∧ preserves_SwaIn_SwaInIdeal
    ∧ algebraic_SwaInIdeal_SwaInRefIdeal (hSwaInIdeal := hSwaInIdeal) (hSwaInRefIdeal := hSwaInRefIdeal)
    ∧ preserves_OutLn_OutLnIdeal
    ∧ algebraic_OutLnIdeal_OutLnRefIdeal (hOutLnIdeal := hOutLnIdeal) (hOutLnRefIdeal := hOutLnRefIdeal)
    ∧ preserves_Experts_ExpertsIdeal
    ∧ algebraic_ExpertsIdeal_ExpertsRefIdeal (hExpertsIdeal := hExpertsIdeal) (hExpertsRefIdeal := hExpertsRefIdeal) (hPre_experts_in_range := hPre_experts_in_range)
    ∧ preserves_Compress_CompressIdeal
    ∧ algebraic_CompressIdeal_CompressRefIdeal (hCompressIdeal := hCompressIdeal) (hCompressRefIdeal := hCompressRefIdeal) (hPre_pages_in_range := hPre_pages_in_range)
-- ==== Pre_experts_in_range.lean ====
abbrev S41984x1024 : Shape := ⟨2, ![41984, 1024]⟩
abbrev S164 : Shape := ⟨1, ![164]⟩
abbrev S1 : Shape := ⟨1, ![1]⟩
abbrev S4x32x1024x512 : Shape := ⟨4, ![4, 32, 1024, 512]⟩
abbrev S4x32x512x1024 : Shape := ⟨4, ![4, 32, 512, 1024]⟩
abbrev S_ : Shape := ⟨0, ![]⟩

class Facts : Prop where
  bcast_S_S164 : S_.BroadcastsInDim S164 (![] : Fin 0 → Fin S164.rank)

variable [Facts]

def fn {F : FTy → Type} [FloatOps F] (main_arg0 : FVec F S41984x1024 .f32) (main_arg1 : IVec S164 32) (main_arg2 : IVec S1 32) (main_arg3 : FVec F S4x32x1024x512 .f32) (main_arg4 : FVec F S4x32x1024x512 .f32) (main_arg5 : FVec F S4x32x512x1024 .f32) : IVec S164 1 :=
  let main_c : IVec S_ 32 := constantI S_ 32 0#32
  let main_v0 : IVec S164 32 := broadcastInDim S164 ![] bcast_S_S164 main_c
  let main_v1 : IVec S164 1 := cmpi .sge main_arg1 main_v0
  let main_c_0 : IVec S_ 32 := constantI S_ 32 32#32
  let main_v2 : IVec S164 32 := broadcastInDim S164 ![] bcast_S_S164 main_c_0
  let main_v3 : IVec S164 1 := cmpi .slt main_arg1 main_v2
  let main_v4 : IVec S164 1 := andi main_v1 main_v3
  main_v4
-- ==== Pre_pages_in_range.lean ====
abbrev S2x10240x128x2x4x64 : Shape := ⟨6, ![2, 10240, 128, 2, 4, 64]⟩
abbrev S128x64 : Shape := ⟨2, ![128, 64]⟩
abbrev S2x32x64x64 : Shape := ⟨4, ![2, 32, 64, 64]⟩
abbrev S2x64 : Shape := ⟨2, ![2, 64]⟩
abbrev S2x64x64 : Shape := ⟨3, ![2, 64, 64]⟩
abbrev S_ : Shape := ⟨0, ![]⟩

class Facts : Prop where
  bcast_S_S128x64 : S_.BroadcastsInDim S128x64 (![] : Fin 0 → Fin S128x64.rank)

variable [Facts]

def fn {F : FTy → Type} [FloatOps F] (main_arg0 : FVec F S2x10240x128x2x4x64 .f32) (main_arg1 : IVec S128x64 32) (main_arg2 : FVec F S2x32x64x64 .f32) (main_arg3 : FVec F S2x64 .f32) (main_arg4 : FVec F S2x64x64 .f32) : IVec S128x64 1 :=
  let main_c : IVec S_ 32 := constantI S_ 32 0#32
  let main_v0 : IVec S128x64 32 := broadcastInDim S128x64 ![] bcast_S_S128x64 main_c
  let main_v1 : IVec S128x64 1 := cmpi .sge main_arg1 main_v0
  let main_c_0 : IVec S_ 32 := constantI S_ 32 10240#32
  let main_v2 : IVec S128x64 32 := broadcastInDim S128x64 ![] bcast_S_S128x64 main_c_0
  let main_v3 : IVec S128x64 1 := cmpi .slt main_arg1 main_v2
  let main_v4 : IVec S128x64 1 := andi main_v1 main_v3
  main_v4
-- ==== NsaIn.lean ====
abbrev S4x4096x1024 : Shape := ⟨3, ![4, 4096, 1024]⟩
abbrev S128x4x1024 : Shape := ⟨3, ![128, 4, 1024]⟩
abbrev S1024x2608 : Shape := ⟨2, ![1024, 2608]⟩
abbrev S2608 : Shape := ⟨1, ![2608]⟩
abbrev S128x512x2x4x64 : Shape := ⟨5, ![128, 512, 2, 4, 64]⟩
abbrev S16384x1024 : Shape := ⟨2, ![16384, 1024]⟩
abbrev S512x1024 : Shape := ⟨2, ![512, 1024]⟩
abbrev S_ : Shape := ⟨0, ![]⟩
abbrev S0x1024 : Shape := ⟨2, ![0, 1024]⟩
abbrev S16896x1024 : Shape := ⟨2, ![16896, 1024]⟩
abbrev S1024x2688 : Shape := ⟨2, ![1024, 2688]⟩
abbrev S2688 : Shape := ⟨1, ![2688]⟩
abbrev S1x2688 : Shape := ⟨2, ![1, 2688]⟩
abbrev S16896x2688 : Shape := ⟨2, ![16896, 2688]⟩
abbrev S256x1024 : Shape := ⟨2, ![256, 1024]⟩
abbrev S256x2688 : Shape := ⟨2, ![256, 2688]⟩
abbrev S16384x2688 : Shape := ⟨2, ![16384, 2688]⟩
abbrev S4x4096x2688 : Shape := ⟨3, ![4, 4096, 2688]⟩
abbrev S512x2688 : Shape := ⟨2, ![512, 2688]⟩
abbrev S128x4x2688 : Shape := ⟨3, ![128, 4, 2688]⟩
abbrev S4x4096x512 : Shape := ⟨3, ![4, 4096, 512]⟩
abbrev S4x4096x48 : Shape := ⟨3, ![4, 4096, 48]⟩
abbrev S128x4x48 : Shape := ⟨3, ![128, 4, 48]⟩
abbrev S4x4096x2x4x64 : Shape := ⟨5, ![4, 4096, 2, 4, 64]⟩
abbrev S128x4x512 : Shape := ⟨3, ![128, 4, 512]⟩
abbrev S128x4x2x4x64 : Shape := ⟨5, ![128, 4, 2, 4, 64]⟩
abbrev S4x512x512 : Shape := ⟨3, ![4, 512, 512]⟩
abbrev S4x512x2x4x64 : Shape := ⟨5, ![4, 512, 2, 4, 64]⟩
abbrev S128x508x2x4x64 : Shape := ⟨5, ![128, 508, 2, 4, 64]⟩

abbrev nBuf : Space → Nat
  | .hbm => 42
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S128x4x1024, .f32⟩
  | .hbm, ⟨2, _⟩ => ⟨S1024x2608, .f32⟩
  | .hbm, ⟨3, _⟩ => ⟨S2608, .f32⟩
  | .hbm, ⟨4, _⟩ => ⟨S128x512x2x4x64, .f32⟩
  | .hbm, ⟨5, _⟩ => ⟨S16384x1024, .f32⟩
  | .hbm, ⟨6, _⟩ => ⟨S512x1024, .f32⟩
  | .hbm, ⟨7, _⟩ => ⟨S_, .f32⟩
  | .hbm, ⟨8, _⟩ => ⟨S0x1024, .f32⟩
  | .hbm, ⟨9, _⟩ => ⟨S16896x1024, .f32⟩
  | .hbm, ⟨10, _⟩ => ⟨S_, .i32⟩
  | .hbm, ⟨11, _⟩ => ⟨S_, .f32⟩
  | .hbm, ⟨12, _⟩ => ⟨S1024x2688, .f32⟩
  | .hbm, ⟨13, _⟩ => ⟨S1024x2688, .bf16⟩
  | .hbm, ⟨14, _⟩ => ⟨S_, .i32⟩
  | .hbm, ⟨15, _⟩ => ⟨S_, .f32⟩
  | .hbm, ⟨16, _⟩ => ⟨S2688, .f32⟩
  | .hbm, ⟨17, _⟩ => ⟨S1x2688, .f32⟩
  | .hbm, ⟨18, _⟩ => ⟨S16896x2688, .f32⟩
  | .hbm, ⟨19, _⟩ => ⟨S16384x2688, .f32⟩
  | .hbm, ⟨20, _⟩ => ⟨S4x4096x2688, .f32⟩
  | .hbm, ⟨21, _⟩ => ⟨S512x2688, .f32⟩
  | .hbm, ⟨22, _⟩ => ⟨S128x4x2688, .f32⟩
  | .hbm, ⟨23, _⟩ => ⟨S4x4096x512, .f32⟩
  | .hbm, ⟨24, _⟩ => ⟨S4x4096x512, .f32⟩
  | .hbm, ⟨25, _⟩ => ⟨S4x4096x512, .f32⟩
  | .hbm, ⟨26, _⟩ => ⟨S4x4096x1024, .f32⟩
  | .hbm, ⟨27, _⟩ => ⟨S4x4096x48, .f32⟩
  | .hbm, ⟨28, _⟩ => ⟨S128x4x1024, .f32⟩
  | .hbm, ⟨29, _⟩ => ⟨S128x4x48, .f32⟩
  | .hbm, ⟨30, _⟩ => ⟨S4x4096x2x4x64, .f32⟩
  | .hbm, ⟨31, _⟩ => ⟨S128x4x512, .f32⟩
  | .hbm, ⟨32, _⟩ => ⟨S128x4x2x4x64, .f32⟩
  | .hbm, ⟨33, _⟩ => ⟨S4x4096x2x4x64, .f32⟩
  | .hbm, ⟨34, _⟩ => ⟨S128x4x512, .f32⟩
  | .hbm, ⟨35, _⟩ => ⟨S128x4x2x4x64, .f32⟩
  | .hbm, ⟨36, _⟩ => ⟨S4x512x512, .f32⟩
  | .hbm, ⟨37, _⟩ => ⟨S4x512x2x4x64, .f32⟩
  | .hbm, ⟨38, _⟩ => ⟨S128x508x2x4x64, .f32⟩
  | .hbm, ⟨39, _⟩ => ⟨S128x4x512, .f32⟩
  | .hbm, ⟨40, _⟩ => ⟨S128x4x2x4x64, .f32⟩
  | .hbm, ⟨41, _⟩ => ⟨S128x512x2x4x64, .f32⟩
  | .local _ .vmem, ⟨0, _⟩ => ⟨S256x1024, .f32⟩
  | .local _ .vmem, ⟨1, _⟩ => ⟨S256x1024, .f32⟩
  | .local _ .vmem, ⟨2, _⟩ => ⟨S1024x2688, .bf16⟩
  | .local _ .vmem, ⟨3, _⟩ => ⟨S1x2688, .f32⟩
  | .local _ .vmem, ⟨4, _⟩ => ⟨S256x2688, .f32⟩
  | .local _ .vmem, ⟨5, _⟩ => ⟨S256x2688, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2688 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NsaInRefIdeal.lean ====
abbrev S4x4096x1024 : Shape := ⟨3, ![4, 4096, 1024]⟩
abbrev S128x4x1024 : Shape := ⟨3, ![128, 4, 1024]⟩
abbrev S1024x2608 : Shape := ⟨2, ![1024, 2608]⟩
abbrev S2608 : Shape := ⟨1, ![2608]⟩
abbrev S128x512x2x4x64 : Shape := ⟨5, ![128, 512, 2, 4, 64]⟩
abbrev S4x4096x2608 : Shape := ⟨3, ![4, 4096, 2608]⟩
abbrev S1x1x2608 : Shape := ⟨3, ![1, 1, 2608]⟩
abbrev S4x4096x1536 : Shape := ⟨3, ![4, 4096, 1536]⟩
abbrev S4x4096x6x4x64 : Shape := ⟨5, ![4, 4096, 6, 4, 64]⟩
abbrev S4x4096x48 : Shape := ⟨3, ![4, 4096, 48]⟩
abbrev S128x4x2608 : Shape := ⟨3, ![128, 4, 2608]⟩
abbrev S128x4x1536 : Shape := ⟨3, ![128, 4, 1536]⟩
abbrev S128x4x6x4x64 : Shape := ⟨5, ![128, 4, 6, 4, 64]⟩
abbrev S128x4x48 : Shape := ⟨3, ![128, 4, 48]⟩
abbrev S4x4096x2x4x64 : Shape := ⟨5, ![4, 4096, 2, 4, 64]⟩
abbrev S128x4x2x4x64 : Shape := ⟨5, ![128, 4, 2, 4, 64]⟩
abbrev S4x512x2x4x64 : Shape := ⟨5, ![4, 512, 2, 4, 64]⟩
abbrev S128x516x2x4x64 : Shape := ⟨5, ![128, 516, 2, 4, 64]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S128x4x1024, .f32⟩
  | .hbm, ⟨2, _⟩ => ⟨S1024x2608, .f32⟩
  | .hbm, ⟨3, _⟩ => ⟨S2608, .f32⟩
  | .hbm, ⟨4, _⟩ => ⟨S128x512x2x4x64, .f32⟩
  | .hbm, ⟨5, _⟩ => ⟨S4x4096x2608, .f32⟩
  | .hbm, ⟨6, _⟩ => ⟨S1x1x2608, .f32⟩
  | .hbm, ⟨7, _⟩ => ⟨S4x4096x2608, .f32⟩
  | .hbm, ⟨8, _⟩ => ⟨S4x4096x2608, .f32⟩
  | .hbm, ⟨9, _⟩ => ⟨S4x4096x1536, .f32⟩
  | .hbm, ⟨10, _⟩ => ⟨S4x4096x6x4x64, .f32⟩
  | .hbm, ⟨11, _⟩ => ⟨S4x4096x1024, .f32⟩
  | .hbm, ⟨12, _⟩ => ⟨S4x4096x48, .f32⟩
  | .hbm, ⟨13, _⟩ => ⟨S128x4x2608, .f32⟩
  | .hbm, ⟨14, _⟩ => ⟨S1x1x2608, .f32⟩
  | .hbm, ⟨15, _⟩ => ⟨S128x4x2608, .f32⟩
  | .hbm, ⟨16, _⟩ => ⟨S128x4x2608, .f32⟩
  | .hbm, ⟨17, _⟩ => ⟨S128x4x1536, .f32⟩
  | .hbm, ⟨18, _⟩ => ⟨S128x4x6x4x64, .f32⟩
  | .hbm, ⟨19, _⟩ => ⟨S128x4x1024, .f32⟩
  | .hbm, ⟨20, _⟩ => ⟨S128x4x48, .f32⟩
  | .hbm, ⟨21, _⟩ => ⟨S4x4096x2x4x64, .f32⟩
  | .hbm, ⟨22, _⟩ => ⟨S128x4x2x4x64, .f32⟩
  | .hbm, ⟨23, _⟩ => ⟨S4x4096x2x4x64, .f32⟩
  | .hbm, ⟨24, _⟩ => ⟨S128x4x2x4x64, .f32⟩
  | .hbm, ⟨25, _⟩ => ⟨S4x512x2x4x64, .f32⟩
  | .hbm, ⟨26, _⟩ => ⟨S128x4x2x4x64, .f32⟩
  | .hbm, ⟨27, _⟩ => ⟨S128x516x2x4x64, .f32⟩
  | .hbm, ⟨28, _⟩ => ⟨S128x512x2x4x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== SwaIn.lean ====
abbrev S4x4096x1024 : Shape := ⟨3, ![4, 4096, 1024]⟩
abbrev S128x4x1024 : Shape := ⟨3, ![128, 4, 1024]⟩
abbrev S1024x1280 : Shape := ⟨2, ![1024, 1280]⟩
abbrev S128x128x2x2x64 : Shape := ⟨5, ![128, 128, 2, 2, 64]⟩
abbrev S16384x1024 : Shape := ⟨2, ![16384, 1024]⟩
abbrev S512x1024 : Shape := ⟨2, ![512, 1024]⟩
abbrev S_ : Shape := ⟨0, ![]⟩
abbrev S0x1024 : Shape := ⟨2, ![0, 1024]⟩
abbrev S16896x1024 : Shape := ⟨2, ![16896, 1024]⟩
abbrev S1x1280 : Shape := ⟨2, ![1, 1280]⟩
abbrev S16896x1280 : Shape := ⟨2, ![16896, 1280]⟩
abbrev S256x1024 : Shape := ⟨2, ![256, 1024]⟩
abbrev S256x1280 : Shape := ⟨2, ![256, 1280]⟩
abbrev S16384x1280 : Shape := ⟨2, ![16384, 1280]⟩
abbrev S4x4096x1280 : Shape := ⟨3, ![4, 4096, 1280]⟩
abbrev S512x1280 : Shape := ⟨2, ![512, 1280]⟩
abbrev S128x4x1280 : Shape := ⟨3, ![128, 4, 1280]⟩
abbrev S4x4096x128 : Shape := ⟨3, ![4, 4096, 128]⟩
abbrev S128x4x128 : Shape := ⟨3, ![128, 4, 128]⟩
abbrev S128x4x2x64 : Shape := ⟨4, ![128, 4, 2, 64]⟩
abbrev S128x4x1x2x64 : Shape := ⟨5, ![128, 4, 1, 2, 64]⟩
abbrev S128x4x2x2x64 : Shape := ⟨5, ![128, 4, 2, 2, 64]⟩
abbrev S128x4x256 : Shape := ⟨3, ![128, 4, 256]⟩
abbrev S4x128x128 : Shape := ⟨3, ![4, 128, 128]⟩
abbrev S4x128x2x64 : Shape := ⟨4, ![4, 128, 2, 64]⟩
abbrev S4x128x1x2x64 : Shape := ⟨5, ![4, 128, 1, 2, 64]⟩
abbrev S4x128x2x2x64 : Shape := ⟨5, ![4, 128, 2, 2, 64]⟩
abbrev S128x124x2x2x64 : Shape := ⟨5, ![128, 124, 2, 2, 64]⟩

abbrev nBuf : Space → Nat
  | .hbm => 38
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S128x4x1024, .f32⟩
  | .hbm, ⟨2, _⟩ => ⟨S1024x1280, .f32⟩
  | .hbm, ⟨3, _⟩ => ⟨S128x128x2x2x64, .f32⟩
  | .hbm, ⟨4, _⟩ => ⟨S16384x1024, .f32⟩
  | .hbm, ⟨5, _⟩ => ⟨S512x1024, .f32⟩
  | .hbm, ⟨6, _⟩ => ⟨S_, .f32⟩
  | .hbm, ⟨7, _⟩ => ⟨S0x1024, .f32⟩
  | .hbm, ⟨8, _⟩ => ⟨S16896x1024, .f32⟩
  | .hbm, ⟨9, _⟩ => ⟨S1024x1280, .bf16⟩
  | .hbm, ⟨10, _⟩ => ⟨S_, .f32⟩
  | .hbm, ⟨11, _⟩ => ⟨S1x1280, .f32⟩
  | .hbm, ⟨12, _⟩ => ⟨S16896x1280, .f32⟩
  | .hbm, ⟨13, _⟩ => ⟨S16384x1280, .f32⟩
  | .hbm, ⟨14, _⟩ => ⟨S4x4096x1280, .f32⟩
  | .hbm, ⟨15, _⟩ => ⟨S512x1280, .f32⟩
  | .hbm, ⟨16, _⟩ => ⟨S128x4x1280, .f32⟩
  | .hbm, ⟨17, _⟩ => ⟨S4x4096x128, .f32⟩
  | .hbm, ⟨18, _⟩ => ⟨S4x4096x128, .f32⟩
  | .hbm, ⟨19, _⟩ => ⟨S128x4x128, .f32⟩
  | .hbm, ⟨20, _⟩ => ⟨S128x4x2x64, .f32⟩
  | .hbm, ⟨21, _⟩ => ⟨S128x4x128, .f32⟩
  | .hbm, ⟨22, _⟩ => ⟨S128x4x2x64, .f32⟩
  | .hbm, ⟨23, _⟩ => ⟨S128x4x1x2x64, .f32⟩
  | .hbm, ⟨24, _⟩ => ⟨S128x4x1x2x64, .f32⟩
  | .hbm, ⟨25, _⟩ => ⟨S128x4x2x2x64, .f32⟩
  | .hbm, ⟨26, _⟩ => ⟨S4x4096x1024, .f32⟩
  | .hbm, ⟨27, _⟩ => ⟨S128x4x1024, .f32⟩
  | .hbm, ⟨28, _⟩ => ⟨S128x4x256, .f32⟩
  | .hbm, ⟨29, _⟩ => ⟨S4x128x128, .f32⟩
  | .hbm, ⟨30, _⟩ => ⟨S4x128x2x64, .f32⟩
  | .hbm, ⟨31, _⟩ => ⟨S4x128x128, .f32⟩
  | .hbm, ⟨32, _⟩ => ⟨S4x128x2x64, .f32⟩
  | .hbm, ⟨33, _⟩ => ⟨S4x128x1x2x64, .f32⟩
  | .hbm, ⟨34, _⟩ => ⟨S4x128x1x2x64, .f32⟩
  | .hbm, ⟨35, _⟩ => ⟨S4x128x2x2x64, .f32⟩
  | .hbm, ⟨36, _⟩ => ⟨S128x124x2x2x64, .f32⟩
  | .hbm, ⟨37, _⟩ => ⟨S128x128x2x2x64, .f32⟩
  | .local _ .vmem, ⟨0, _⟩ => ⟨S256x1024, .f32⟩
  | .local _ .vmem, ⟨1, _⟩ => ⟨S256x1024, .f32⟩
  | .local _ .vmem, ⟨2, _⟩ => ⟨S1024x1280, .bf16⟩
  | .local _ .vmem, ⟨3, _⟩ => ⟨S1x1280, .f32⟩
  | .local _ .vmem, ⟨4, _⟩ => ⟨S256x1280, .f32⟩
  | .local _ .vmem, ⟨5, _⟩ => ⟨S256x1280, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SwaInRefIdeal.lean ====
abbrev S4x4096x1024 : Shape := ⟨3, ![4, 4096, 1024]⟩
abbrev S128x4x1024 : Shape := ⟨3, ![128, 4, 1024]⟩
abbrev S1024x1280 : Shape := ⟨2, ![1024, 1280]⟩
abbrev S128x128x2x2x64 : Shape := ⟨5, ![128, 128, 2, 2, 64]⟩
abbrev S4x4096x1280 : Shape := ⟨3, ![4, 4096, 1280]⟩
abbrev S4x4096x128 : Shape := ⟨3, ![4, 4096, 128]⟩
abbrev S4x4096x256 : Shape := ⟨3, ![4, 4096, 256]⟩
abbrev S128x4x1280 : Shape := ⟨3, ![128, 4, 1280]⟩
abbrev S128x4x128 : Shape := ⟨3, ![128, 4, 128]⟩
abbrev S128x4x256 : Shape := ⟨3, ![128, 4, 256]⟩
abbrev S128x4x2x64 : Shape := ⟨4, ![128, 4, 2, 64]⟩
abbrev S128x4x1x2x64 : Shape := ⟨5, ![128, 4, 1, 2, 64]⟩
abbrev S128x4x2x2x64 : Shape := ⟨5, ![128, 4, 2, 2, 64]⟩
abbrev S128x132x2x2x64 : Shape := ⟨5, ![128, 132, 2, 2, 64]⟩
abbrev S4x4096x2x64 : Shape := ⟨4, ![4, 4096, 2, 64]⟩
abbrev S4x128x2x64 : Shape := ⟨4, ![4, 128, 2, 64]⟩
abbrev S4x128x1x2x64 : Shape := ⟨5, ![4, 128, 1, 2, 64]⟩
abbrev S4x128x2x2x64 : Shape := ⟨5, ![4, 128, 2, 2, 64]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S128x4x1024, .f32⟩
  | .hbm, ⟨2, _⟩ => ⟨S1024x1280, .f32⟩
  | .hbm, ⟨3, _⟩ => ⟨S128x128x2x2x64, .f32⟩
  | .hbm, ⟨4, _⟩ => ⟨S4x4096x1280, .f32⟩
  | .hbm, ⟨5, _⟩ => ⟨S4x4096x1024, .f32⟩
  | .hbm, ⟨6, _⟩ => ⟨S4x4096x128, .f32⟩
  | .hbm, ⟨7, _⟩ => ⟨S4x4096x128, .f32⟩
  | .hbm, ⟨8, _⟩ => ⟨S4x4096x256, .f32⟩
  | .hbm, ⟨9, _⟩ => ⟨S128x4x1280, .f32⟩
  | .hbm, ⟨10, _⟩ => ⟨S128x4x1024, .f32⟩
  | .hbm, ⟨11, _⟩ => ⟨S128x4x128, .f32⟩
  | .hbm, ⟨12, _⟩ => ⟨S128x4x128, .f32⟩
  | .hbm, ⟨13, _⟩ => ⟨S128x4x256, .f32⟩
  | .hbm, ⟨14, _⟩ => ⟨S128x4x2x64, .f32⟩
  | .hbm, ⟨15, _⟩ => ⟨S128x4x2x64, .f32⟩
  | .hbm, ⟨16, _⟩ => ⟨S128x4x1x2x64, .f32⟩
  | .hbm, ⟨17, _⟩ => ⟨S128x4x1x2x64, .f32⟩
  | .hbm, ⟨18, _⟩ => ⟨S128x4x2x2x64, .f32⟩
  | .hbm, ⟨19, _⟩ => ⟨S128x132x2x2x64, .f32⟩
  | .hbm, ⟨20, _⟩ => ⟨S4x4096x2x64, .f32⟩
  | .hbm, ⟨21, _⟩ => ⟨S4x128x2x64, .f32⟩
  | .hbm, ⟨22, _⟩ => ⟨S4x4096x2x64, .f32⟩
  | .hbm, ⟨23, _⟩ => ⟨S4x128x2x64, .f32⟩
  | .hbm, ⟨24, _⟩ => ⟨S4x128x1x2x64, .f32⟩
  | .hbm, ⟨25, _⟩ => ⟨S4x128x1x2x64, .f32⟩
  | .hbm, ⟨26, _⟩ => ⟨S4x128x2x2x64, .f32⟩
  | .hbm, ⟨27, _⟩ => ⟨S128x128x2x2x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== OutLn.lean ====
abbrev S16896x1024 : Shape := ⟨2, ![16896, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S128 : Shape := ⟨1, ![128]⟩
abbrev S1x128 : Shape := ⟨2, ![1, 128]⟩
abbrev S1x1024 : Shape := ⟨2, ![1, 1024]⟩
abbrev S16896x2 : Shape := ⟨2, ![16896, 2]⟩
abbrev S256x1024 : Shape := ⟨2, ![256, 1024]⟩
abbrev S256x2 : Shape := ⟨2, ![256, 2]⟩
abbrev S256 : Shape := ⟨1, ![256]⟩
abbrev S256x1 : Shape := ⟨2, ![256, 1]⟩
abbrev S256x128 : Shape := ⟨2, ![256, 128]⟩

abbrev nBuf : Space → Nat
  | .hbm => 29
  | .vmem => 16
  | .smem => 0
  | _ => 0

abbrev bufTy : (tb : Table) → Fin (tcTables nBuf tb) → BufTy
  | .hbm, ⟨0, _⟩ => ⟨S16896x1024, .f32⟩
  | .hbm, ⟨1, _⟩ => ⟨S1024x1024, .f32⟩
  | .hbm, ⟨2, _⟩ => ⟨S16896x1024, .f32⟩
  | .hbm, ⟨3, _⟩ => ⟨S1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x32, .f32⟩
  | .hbm, ⟨8, _⟩ => ⟨S32, .f32⟩
  | .hbm, ⟨9, _⟩ => ⟨S1024x36, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S36, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S1024x128, .bf16⟩
  | .hbm, ⟨19, _⟩ => ⟨S1024x128, .f32⟩
  | .hbm, ⟨20, _⟩ => ⟨S1024x128, .f32⟩
  | .hbm, ⟨21, _⟩ => ⟨S1024x128, .bf16⟩
  | .hbm, ⟨22, _⟩ => ⟨S16896x1024, .bf16⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S16896x1024, .f32⟩
  | .hbm, ⟨27, _⟩ => ⟨S16896x2, .i32⟩
  | .hbm, ⟨28, _⟩ => ⟨S16896x2, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S1024x128, .bf16⟩
  | .local _ .vmem, ⟨8, _⟩ => ⟨S1024x128, .bf16⟩
  | .local _ .vmem, ⟨9, _⟩ => ⟨S1x128, .f32⟩
  | .local _ .vmem, ⟨10, _⟩ => ⟨S256x1024, .f32⟩
  | .local _ .vmem, ⟨11, _⟩ => ⟨S256x1024, .f32⟩
  | .local _ .vmem, ⟨12, _⟩ => ⟨S256x2, .i32⟩
  | .local _ .vmem, ⟨13, _⟩ => ⟨S256x2, .i32⟩
  | .local _ .vmem, ⟨14, _⟩ => ⟨S256x2, .f32⟩
  | .local _ .vmem, ⟨15, _⟩ => ⟨S256x2, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutLnRefIdeal.lean ====
abbrev S16896x1024 : Shape := ⟨2, ![16896, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S16896 : Shape := ⟨1, ![16896]⟩
abbrev S16896x1 : Shape := ⟨2, ![16896, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024x1024, .f32⟩
  | .hbm, ⟨2, _⟩ => ⟨S16896x1024, .f32⟩
  | .hbm, ⟨3, _⟩ => ⟨S1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x32, .f32⟩
  | .hbm, ⟨8, _⟩ => ⟨S32, .f32⟩
  | .hbm, ⟨9, _⟩ => ⟨S_, .f32⟩
  | .hbm, ⟨10, _⟩ => ⟨S16896x1024, .f32⟩
  | .hbm, ⟨11, _⟩ => ⟨S16896x1024, .f32⟩
  | .hbm, ⟨12, _⟩ => ⟨S16896x1024, .f32⟩
  | .hbm, ⟨13, _⟩ => ⟨S16896x1024, .f32⟩
  | .hbm, ⟨14, _⟩ => ⟨S_, .f32⟩
  | .hbm, ⟨15, _⟩ => ⟨S16896, .f32⟩
  | .hbm, ⟨16, _⟩ => ⟨S16896x1, .f32⟩
  | .hbm, ⟨17, _⟩ => ⟨S_, .f32⟩
  | .hbm, ⟨18, _⟩ => ⟨S16896x1, .f32⟩
  | .hbm, ⟨19, _⟩ => ⟨S16896x1, .f32⟩
  | .hbm, ⟨20, _⟩ => ⟨S16896x1024, .f32⟩
  | .hbm, ⟨21, _⟩ => ⟨S16896x1024, .f32⟩
  | .hbm, ⟨22, _⟩ => ⟨S16896x1024, .f32⟩
  | .hbm, ⟨23, _⟩ => ⟨S_, .f32⟩
  | .hbm, ⟨24, _⟩ => ⟨S16896, .f32⟩
  | .hbm, ⟨25, _⟩ => ⟨S16896x1, .f32⟩
  | .hbm, ⟨26, _⟩ => ⟨S_, .f32⟩
  | .hbm, ⟨27, _⟩ => ⟨S16896x1, .f32⟩
  | .hbm, ⟨28, _⟩ => ⟨S16896x1, .f32⟩
  | .hbm, ⟨29, _⟩ => ⟨S16896x1024, .f32⟩
  | .hbm, ⟨30, _⟩ => ⟨S16896x1024, .f32⟩
  | .hbm, ⟨31, _⟩ => ⟨S_, .f32⟩
  | .hbm, ⟨32, _⟩ => ⟨S16896x1, .f32⟩
  | .hbm, ⟨33, _⟩ => ⟨S16896x1, .f32⟩
  | .hbm, ⟨34, _⟩ => ⟨S16896x1, .f32⟩
  | .hbm, ⟨35, _⟩ => ⟨S16896x1024, .f32⟩
  | .hbm, ⟨36, _⟩ => ⟨S16896x1024, .f32⟩
  | .hbm, ⟨37, _⟩ => ⟨S1x1024, .f32⟩
  | .hbm, ⟨38, _⟩ => ⟨S16896x1024, .f32⟩
  | .hbm, ⟨39, _⟩ => ⟨S16896x1024, .f32⟩
  | .hbm, ⟨40, _⟩ => ⟨S1x1024, .f32⟩
  | .hbm, ⟨41, _⟩ => ⟨S16896x1024, .f32⟩
  | .hbm, ⟨42, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Experts.lean ====
abbrev S41984x1024 : Shape := ⟨2, ![41984, 1024]⟩
abbrev S164 : Shape := ⟨1, ![164]⟩
abbrev S1 : Shape := ⟨1, ![1]⟩
abbrev S4x32x1024x512 : Shape := ⟨4, ![4, 32, 1024, 512]⟩
abbrev S4x32x512x1024 : Shape := ⟨4, ![4, 32, 512, 1024]⟩
abbrev S256x1024 : Shape := ⟨2, ![256, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S41984x1024, .f32⟩
  | .hbm, ⟨1, _⟩ => ⟨S4x32x1024x512, .f32⟩
  | .hbm, ⟨2, _⟩ => ⟨S4x32x1024x512, .f32⟩
  | .hbm, ⟨3, _⟩ => ⟨S4x32x512x1024, .f32⟩
  | .hbm, ⟨4, _⟩ => ⟨S41984x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S164, .i32⟩
  | .local _ .smem, ⟨1, _⟩ => ⟨S1, .i32⟩
  | _, _ => ⟨S41984x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![164], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S41984x1024 : Shape := ⟨2, ![41984, 1024]⟩
abbrev S164 : Shape := ⟨1, ![164]⟩
abbrev S1 : Shape := ⟨1, ![1]⟩
abbrev S4x32x1024x512 : Shape := ⟨4, ![4, 32, 1024, 512]⟩
abbrev S4x32x512x1024 : Shape := ⟨4, ![4, 32, 512, 1024]⟩
abbrev S164x256x1024 : Shape := ⟨3, ![164, 256, 1024]⟩
abbrev S1x32x1024x512 : Shape := ⟨4, ![1, 32, 1024, 512]⟩
abbrev S32x1024x512 : Shape := ⟨3, ![32, 1024, 512]⟩
abbrev S_ : Shape := ⟨0, ![]⟩
abbrev S164x1 : Shape := ⟨2, ![164, 1]⟩
abbrev S164x1024x512 : Shape := ⟨3, ![164, 1024, 512]⟩
abbrev S1x32x512x1024 : Shape := ⟨4, ![1, 32, 512, 1024]⟩
abbrev S32x512x1024 : Shape := ⟨3, ![32, 512, 1024]⟩
abbrev S164x512x1024 : Shape := ⟨3, ![164, 512, 1024]⟩
abbrev S164x256x512 : Shape := ⟨3, ![164, 256, 512]⟩
abbrev S164x1x1 : Shape := ⟨3, ![164, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S41984x1024, .f32⟩
  | .hbm, ⟨1, _⟩ => ⟨S164, .i32⟩
  | .hbm, ⟨2, _⟩ => ⟨S1, .i32⟩
  | .hbm, ⟨3, _⟩ => ⟨S4x32x1024x512, .f32⟩
  | .hbm, ⟨4, _⟩ => ⟨S4x32x1024x512, .f32⟩
  | .hbm, ⟨5, _⟩ => ⟨S4x32x512x1024, .f32⟩
  | .hbm, ⟨6, _⟩ => ⟨S164x256x1024, .f32⟩
  | .hbm, ⟨7, _⟩ => ⟨S1x32x1024x512, .f32⟩
  | .hbm, ⟨8, _⟩ => ⟨S32x1024x512, .f32⟩
  | .hbm, ⟨9, _⟩ => ⟨S_, .i32⟩
  | .hbm, ⟨10, _⟩ => ⟨S164, .i32⟩
  | .hbm, ⟨11, _⟩ => ⟨S164, .i1⟩
  | .hbm, ⟨12, _⟩ => ⟨S_, .i32⟩
  | .hbm, ⟨13, _⟩ => ⟨S164, .i32⟩
  | .hbm, ⟨14, _⟩ => ⟨S164, .i32⟩
  | .hbm, ⟨15, _⟩ => ⟨S164, .i32⟩
  | .hbm, ⟨16, _⟩ => ⟨S164x1, .i32⟩
  | .hbm, ⟨17, _⟩ => ⟨S164x1024x512, .f32⟩
  | .hbm, ⟨18, _⟩ => ⟨S1x32x1024x512, .f32⟩
  | .hbm, ⟨19, _⟩ => ⟨S32x1024x512, .f32⟩
  | .hbm, ⟨20, _⟩ => ⟨S_, .i32⟩
  | .hbm, ⟨21, _⟩ => ⟨S164, .i32⟩
  | .hbm, ⟨22, _⟩ => ⟨S164, .i1⟩
  | .hbm, ⟨23, _⟩ => ⟨S_, .i32⟩
  | .hbm, ⟨24, _⟩ => ⟨S164, .i32⟩
  | .hbm, ⟨25, _⟩ => ⟨S164, .i32⟩
  | .hbm, ⟨26, _⟩ => ⟨S164, .i32⟩
  | .hbm, ⟨27, _⟩ => ⟨S164x1, .i32⟩
  | .hbm, ⟨28, _⟩ => ⟨S164x1024x512, .f32⟩
  | .hbm, ⟨29, _⟩ => ⟨S1x32x512x1024, .f32⟩
  | .hbm, ⟨30, _⟩ => ⟨S32x512x1024, .f32⟩
  | .hbm, ⟨31, _⟩ => ⟨S_, .i32⟩
  | .hbm, ⟨32, _⟩ => ⟨S164, .i32⟩
  | .hbm, ⟨33, _⟩ => ⟨S164, .i1⟩
  | .hbm, ⟨34, _⟩ => ⟨S_, .i32⟩
  | .hbm, ⟨35, _⟩ => ⟨S164, .i32⟩
  | .hbm, ⟨36, _⟩ => ⟨S164, .i32⟩
  | .hbm, ⟨37, _⟩ => ⟨S164, .i32⟩
  | .hbm, ⟨38, _⟩ => ⟨S164x1, .i32⟩
  | .hbm, ⟨39, _⟩ => ⟨S164x512x1024, .f32⟩
  | .hbm, ⟨40, _⟩ => ⟨S164x256x512, .f32⟩
  | .hbm, ⟨41, _⟩ => ⟨S164x256x512, .f32⟩
  | .hbm, ⟨42, _⟩ => ⟨S164x256x512, .f32⟩
  | .hbm, ⟨43, _⟩ => ⟨S164x256x512, .f32⟩
  | .hbm, ⟨44, _⟩ => ⟨S_, .f32⟩
  | .hbm, ⟨45, _⟩ => ⟨S164x256x512, .f32⟩
  | .hbm, ⟨46, _⟩ => ⟨S164x256x512, .f32⟩
  | .hbm, ⟨47, _⟩ => ⟨S_, .f32⟩
  | .hbm, ⟨48, _⟩ => ⟨S164x256x512, .f32⟩
  | .hbm, ⟨49, _⟩ => ⟨S164x256x512, .f32⟩
  | .hbm, ⟨50, _⟩ => ⟨S164x256x512, .f32⟩
  | .hbm, ⟨51, _⟩ => ⟨S164x256x512, .f32⟩
  | .hbm, ⟨52, _⟩ => ⟨S164x256x1024, .f32⟩
  | .hbm, ⟨53, _⟩ => ⟨S164, .i32⟩
  | .hbm, ⟨54, _⟩ => ⟨S164, .i32⟩
  | .hbm, ⟨55, _⟩ => ⟨S164, .i1⟩
  | .hbm, ⟨56, _⟩ => ⟨S164x1x1, .i1⟩
  | .hbm, ⟨57, _⟩ => ⟨S_, .f32⟩
  | .hbm, ⟨58, _⟩ => ⟨S_, .f32⟩
  | .hbm, ⟨59, _⟩ => ⟨S164x256x1024, .i1⟩
  | .hbm, ⟨60, _⟩ => ⟨S164x256x1024, .f32⟩
  | .hbm, ⟨61, _⟩ => ⟨S164x256x1024, .f32⟩
  | .hbm, ⟨62, _⟩ => ⟨S41984x1024, .f32⟩
  | _, _ => ⟨S41984x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v37 : Ref sig .tc := ⟨.hbm, 61, rfl⟩
abbrev main_v38 : Ref sig .tc := ⟨.hbm, 62, rfl⟩

abbrev nD : Nat := 1
abbrev τ : Topo := Topo.v7x

variable {F : FTy → Type} [FloatOps F]
-- ==== Compress.lean ====
abbrev S2x10240x128x2x4x64 : Shape := ⟨6, ![2, 10240, 128, 2, 4, 64]⟩
abbrev S128x64 : Shape := ⟨2, ![128, 64]⟩
abbrev S2x32x64x64 : Shape := ⟨4, ![2, 32, 64, 64]⟩
abbrev S2x64 : Shape := ⟨2, ![2, 64]⟩
abbrev S2x64x64 : Shape := ⟨3, ![2, 64, 64]⟩
abbrev S2x10240x2x4x64x128 : Shape := ⟨6, ![2, 10240, 2, 4, 64, 128]⟩
abbrev S2x10240x512x128 : Shape := ⟨4, ![2, 10240, 512, 128]⟩
abbrev S2x2x8x2x64x64 : Shape := ⟨6, ![2, 2, 8, 2, 64, 64]⟩
abbrev S2x2 : Shape := ⟨2, ![2, 2]⟩
abbrev S_ : Shape := ⟨0, ![]⟩
abbrev S2x8x2x64x2x64 : Shape := ⟨6, ![2, 8, 2, 64, 2, 64]⟩
abbrev S2x8x2x1x64x2x1x64 : Shape := ⟨8, ![2, 8, 2, 1, 64, 2, 1, 64]⟩
abbrev S1x1x1x2x1x1x2x1 : Shape := ⟨8, ![1, 1, 1, 2, 1, 1, 2, 1]⟩
abbrev S2x8x2x2x64x2x2x64 : Shape := ⟨8, ![2, 8, 2, 2, 64, 2, 2, 64]⟩
abbrev S2x8x256x256 : Shape := ⟨4, ![2, 8, 256, 256]⟩
abbrev S1x2x1x64 : Shape := ⟨4, ![1, 2, 1, 64]⟩
abbrev S1x2x2x64 : Shape := ⟨4, ![1, 2, 2, 64]⟩
abbrev S2x128 : Shape := ⟨2, ![2, 128]⟩
abbrev S2x1x128 : Shape := ⟨3, ![2, 1, 128]⟩
abbrev S2x1x64x1x64 : Shape := ⟨5, ![2, 1, 64, 1, 64]⟩
abbrev S1x2x1x2x1 : Shape := ⟨5, ![1, 2, 1, 2, 1]⟩
abbrev S2x2x64x2x64 : Shape := ⟨5, ![2, 2, 64, 2, 64]⟩
abbrev S2x128x128 : Shape := ⟨3, ![2, 128, 128]⟩
abbrev S128x512x256 : Shape := ⟨3, ![128, 512, 256]⟩
abbrev S1x1x512x128 : Shape := ⟨4, ![1, 1, 512, 128]⟩
abbrev S1x1 : Shape := ⟨2, ![1, 1]⟩
abbrev S1x512x256 : Shape := ⟨3, ![1, 512, 256]⟩
abbrev S16x4x512x128 : Shape := ⟨4, ![16, 4, 512, 128]⟩
abbrev S2x4x128x128 : Shape := ⟨4, ![2, 4, 128, 128]⟩
abbrev S1x1x128x128 : Shape := ⟨4, ![1, 1, 128, 128]⟩
abbrev S128x128 : Shape := ⟨2, ![128, 128]⟩
abbrev S1x1x8x128 : Shape := ⟨4, ![1, 1, 8, 128]⟩
abbrev S8x128 : Shape := ⟨2, ![8, 128]⟩
abbrev S16x128 : Shape := ⟨2, ![16, 128]⟩
abbrev S1x1x16x128 : Shape := ⟨4, ![1, 1, 16, 128]⟩
abbrev S512x1 : Shape := ⟨2, ![512, 1]⟩
abbrev S512x256 : Shape := ⟨2, ![512, 256]⟩
abbrev S512x128 : Shape := ⟨2, ![512, 128]⟩
abbrev S1x1x256x256 : Shape := ⟨4, ![1, 1, 256, 256]⟩
abbrev S256x256 : Shape := ⟨2, ![256, 256]⟩
abbrev S1x1x128 : Shape := ⟨3, ![1, 1, 128]⟩
abbrev S1x128 : Shape := ⟨2, ![1, 128]⟩
abbrev S1x128x128 : Shape := ⟨3, ![1, 128, 128]⟩
abbrev S1x512x128 : Shape := ⟨3, ![1, 512, 128]⟩

abbrev nBuf : Space → Nat
  | .hbm => 35
  | .vmem => 41
  | .smem => 1
  | _ => 0

abbrev bufTy : (tb : Table) → Fin (tcTables nBuf tb) → BufTy
  | .hbm, ⟨0, _⟩ => ⟨S2x10240x128x2x4x64, .f32⟩
  | .hbm, ⟨1, _⟩ => ⟨S2x32x64x64, .f32⟩
  | .hbm, ⟨2, _⟩ => ⟨S2x64, .f32⟩
  | .hbm, ⟨3, _⟩ => ⟨S2x64x64, .f32⟩
  | .hbm, ⟨4, _⟩ => ⟨S2x10240x2x4x64x128, .f32⟩
  | .hbm, ⟨5, _⟩ => ⟨S2x10240x512x128, .f32⟩
  | .hbm, ⟨6, _⟩ => ⟨S2x2x8x2x64x64, .f32⟩
  | .hbm, ⟨7, _⟩ => ⟨S2x2, .i32⟩
  | .hbm, ⟨8, _⟩ => ⟨S2x2, .i32⟩
  | .hbm, ⟨9, _⟩ => ⟨S_, .i32⟩
  | .hbm, ⟨10, _⟩ => ⟨S2x2, .i32⟩
  | .hbm, ⟨11, _⟩ => ⟨S2x2, .i32⟩
  | .hbm, ⟨12, _⟩ => ⟨S2x2, .i1⟩
  | .hbm, ⟨13, _⟩ => ⟨S2x2, .f32⟩
  | .hbm, ⟨14, _⟩ => ⟨S2x8x2x64x2x64, .f32⟩
  | .hbm, ⟨15, _⟩ => ⟨S2x8x2x1x64x2x1x64, .f32⟩
  | .hbm, ⟨16, _⟩ => ⟨S1x1x1x2x1x1x2x1, .f32⟩
  | .hbm, ⟨17, _⟩ => ⟨S2x8x2x2x64x2x2x64, .f32⟩
  | .hbm, ⟨18, _⟩ => ⟨S2x8x2x2x64x2x2x64, .f32⟩
  | .hbm, ⟨19, _⟩ => ⟨S2x8x2x2x64x2x2x64, .f32⟩
  | .hbm, ⟨20, _⟩ => ⟨S2x8x256x256, .f32⟩
  | .hbm, ⟨21, _⟩ => ⟨S1x2x1x64, .f32⟩
  | .hbm, ⟨22, _⟩ => ⟨S1x2x2x64, .f32⟩
  | .hbm, ⟨23, _⟩ => ⟨S2x128, .f32⟩
  | .hbm, ⟨24, _⟩ => ⟨S2x1x128, .f32⟩
  | .hbm, ⟨25, _⟩ => ⟨S2x1x64x1x64, .f32⟩
  | .hbm, ⟨26, _⟩ => ⟨S1x2x1x2x1, .f32⟩
  | .hbm, ⟨27, _⟩ => ⟨S2x2x64x2x64, .f32⟩
  | .hbm, ⟨28, _⟩ => ⟨S2x2x64x2x64, .f32⟩
  | .hbm, ⟨29, _⟩ => ⟨S2x2x64x2x64, .f32⟩
  | .hbm, ⟨30, _⟩ => ⟨S2x128x128, .f32⟩
  | .hbm, ⟨31, _⟩ => ⟨S2x8x256x256, .bf16⟩
  | .hbm, ⟨32, _⟩ => ⟨S2x128x128, .bf16⟩
  | .hbm, ⟨33, _⟩ => ⟨S128x512x256, .bf16⟩
  | .hbm, ⟨34, _⟩ => ⟨S128x512x256, .bf16⟩
  | .local _ .vmem, ⟨0, _⟩ => ⟨S1x1x512x128, .f32⟩
  | .local _ .vmem, ⟨1, _⟩ => ⟨S1x1x512x128, .f32⟩
  | .local _ .vmem, ⟨2, _⟩ => ⟨S1x1x512x128, .f32⟩
  | .local _ .vmem, ⟨3, _⟩ => ⟨S1x1x512x128, .f32⟩
  | .local _ .vmem, ⟨4, _⟩ => ⟨S1x1x512x128, .f32⟩
  | .local _ .vmem, ⟨5, _⟩ => ⟨S1x1x512x128, .f32⟩
  | .local _ .vmem, ⟨6, _⟩ => ⟨S1x1x512x128, .f32⟩
  | .local _ .vmem, ⟨7, _⟩ => ⟨S1x1x512x128, .f32⟩
  | .local _ .vmem, ⟨8, _⟩ => ⟨S1x1x512x128, .f32⟩
  | .local _ .vmem, ⟨9, _⟩ => ⟨S1x1x512x128, .f32⟩
  | .local _ .vmem, ⟨10, _⟩ => ⟨S1x1x512x128, .f32⟩
  | .local _ .vmem, ⟨11, _⟩ => ⟨S1x1x512x128, .f32⟩
  | .local _ .vmem, ⟨12, _⟩ => ⟨S1x1x512x128, .f32⟩
  | .local _ .vmem, ⟨13, _⟩ => ⟨S1x1x512x128, .f32⟩
  | .local _ .vmem, ⟨14, _⟩ => ⟨S1x1x512x128, .f32⟩
  | .local _ .vmem, ⟨15, _⟩ => ⟨S1x1x512x128, .f32⟩
  | .local _ .vmem, ⟨16, _⟩ => ⟨S1x1x512x128, .f32⟩
  | .local _ .vmem, ⟨17, _⟩ => ⟨S1x1x512x128, .f32⟩
  | .local _ .vmem, ⟨18, _⟩ => ⟨S1x1x512x128, .f32⟩
  | .local _ .vmem, ⟨19, _⟩ => ⟨S1x1x512x128, .f32⟩
  | .local _ .vmem, ⟨20, _⟩ => ⟨S1x1x512x128, .f32⟩
  | .local _ .vmem, ⟨21, _⟩ => ⟨S1x1x512x128, .f32⟩
  | .local _ .vmem, ⟨22, _⟩ => ⟨S1x1x512x128, .f32⟩
  | .local _ .vmem, ⟨23, _⟩ => ⟨S1x1x512x128, .f32⟩
  | .local _ .vmem, ⟨24, _⟩ => ⟨S1x1x512x128, .f32⟩
  | .local _ .vmem, ⟨25, _⟩ => ⟨S1x1x512x128, .f32⟩
  | .local _ .vmem, ⟨26, _⟩ => ⟨S1x1x512x128, .f32⟩
  | .local _ .vmem, ⟨27, _⟩ => ⟨S1x1x512x128, .f32⟩
  | .local _ .vmem, ⟨28, _⟩ => ⟨S1x1x512x128, .f32⟩
  | .local _ .vmem, ⟨29, _⟩ => ⟨S1x1x512x128, .f32⟩
  | .local _ .vmem, ⟨30, _⟩ => ⟨S1x1x512x128, .f32⟩
  | .local _ .vmem, ⟨31, _⟩ => ⟨S1x1x512x128, .f32⟩
  | .local _ .vmem, ⟨32, _⟩ => ⟨S2x8x256x256, .bf16⟩
  | .local _ .vmem, ⟨33, _⟩ => ⟨S2x1x128, .f32⟩
  | .local _ .vmem, ⟨34, _⟩ => ⟨S2x128x128, .bf16⟩
  | .local _ .vmem, ⟨35, _⟩ => ⟨S1x512x256, .bf16⟩
  | .local _ .vmem, ⟨36, _⟩ => ⟨S1x512x256, .bf16⟩
  | .local _ .vmem, ⟨37, _⟩ => ⟨S1x512x256, .bf16⟩
  | .local _ .vmem, ⟨38, _⟩ => ⟨S1x512x256, .bf16⟩
  | .local _ .vmem, ⟨39, _⟩ => ⟨S16x4x512x128, .bf16⟩
  | .local _ .vmem, ⟨40, _⟩ => ⟨S2x4x128x128, .f32⟩
  | .local _ .smem, ⟨0, _⟩ => ⟨S128x64, .i32⟩
  | _, _ => ⟨S2x10240x128x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28_0 : Ref sig .tc := ⟨.hbm, 33, rfl⟩
abbrev main_v28_1 : Ref sig .tc := ⟨.hbm, 34, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_scratch0 : Ref sig .tc := ⟨.vmem, 39, rfl⟩
abbrev cc0_scratch1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem19_1 : DmaSem sig := 36
abbrev cc0_sem20_0 : DmaSem sig := 37
abbrev cc0_sem20_1 : DmaSem sig := 38

abbrev nD : Nat := 1
abbrev τ : Topo := Topo.v7x

variable {F : FTy → Type} [FloatOps F]

abbrev grid0 : Pipeline.Grid := ⟨2, ![128, 4], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c16_i32 : BitVec 32 := 16#32
  let v0 : BitVec 32 := Scalar.muli arg1 c16_i32
  let v1 : BitVec 32 := Scalar.addi v0 c0_i32
  let v3 : Index := Scalar.indexCast v1
  ![v2.toNat, v3.toNat]
def k0_mult1 (i : grid0.Coords) : BitVec 32 :=
  let arg1 : BitVec 32 := BitVec.ofNat 32 (i 1).val
  let c16_i32 : BitVec 32 := 16#32
  let v0 : BitVec 32 := Scalar.muli arg1 c16_i32
  let c0_i32 : BitVec 32 := 0#32
  let v1 : BitVec 32 := Scalar.addi v0 c0_i32
  let c8_i32 : BitVec 32 := 8#32
  let v2 : BitVec 32 := Scalar.muli v1 c8_i32
  v2
def k0_off2 (i : grid0.Coords) (c0_i32 : BitVec 32) : Fin 4 → Nat :=
  let c0_65 : Index := 0#32
  let c0_66 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v58 : Index := Scalar.indexCast v3
  let c0_67 : Index := 0#32
  ![0, 0, v58.toNat, 0]
def k0_off3 (i : grid0.Coords) (c0_i32 : BitVec 32) : Fin 4 → Nat :=
  let c0_76 : Index := 0#32
  let c1_77 : Index := 1#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v68 : Index := Scalar.indexCast v3
  let c0_78 : Index := 0#32
  ![0, 1, v68.toNat, 0]
def k0_off4 (i : grid0.Coords) (c0_i32 : BitVec 32) : Fin 4 → Nat :=
  let c0_87 : Index := 0#32
  let c2_88 : Index := 2#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v78 : Index := Scalar.indexCast v3
  let c0_89 : Index := 0#32
  ![0, 2, v78.toNat, 0]
def k0_off5 (i : grid0.Coords) (c0_i32 : BitVec 32) : Fin 4 → Nat :=
  let c0_98 : Index := 0#32
  let c3_99 : Index := 3#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v88 : Index := Scalar.indexCast v3
  let c0_100 : Index := 0#32
  ![0, 3, v88.toNat, 0]
def k0_off6 (i : grid0.Coords) (c0_i32 : BitVec 32) : Fin 4 → Nat :=
  let c1_109 : Index := 1#32
  let c0_110 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v98 : Index := Scalar.indexCast v3
  let c0_111 : Index := 0#32
  ![1, 0, v98.toNat, 0]
def k0_off7 (i : grid0.Coords) (c0_i32 : BitVec 32) : Fin 4 → Nat :=
  let c1_120 : Index := 1#32
  let c1_121 : Index := 1#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v108 : Index := Scalar.indexCast v3
  let c0_122 : Index := 0#32
  ![1, 1, v108.toNat, 0]
def k0_off8 (i : grid0.Coords) (c0_i32 : BitVec 32) : Fin 4 → Nat :=
  let c1_131 : Index := 1#32
  let c2_132 : Index := 2#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v118 : Index := Scalar.indexCast v3
  let c0_133 : Index := 0#32
  ![1, 2, v118.toNat, 0]
def k0_off9 (i : grid0.Coords) (c0_i32 : BitVec 32) : Fin 4 → Nat :=
  let c1_142 : Index := 1#32
  let c3_143 : Index := 3#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v128 : Index := Scalar.indexCast v3
  let c0_144 : Index := 0#32
  ![1, 3, v128.toNat, 0]
def k0_off10 (i : grid0.Coords) (c0_i32 : BitVec 32) : Fin 4 → Nat :=
  let c2_153 : Index := 2#32
  let c0_154 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v138 : Index := Scalar.indexCast v3
  let c0_155 : Index := 0#32
  ![2, 0, v138.toNat, 0]
def k0_off11 (i : grid0.Coords) (c0_i32 : BitVec 32) : Fin 4 → Nat :=
  let c2_164 : Index := 2#32
  let c1_165 : Index := 1#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v148 : Index := Scalar.indexCast v3
  let c0_166 : Index := 0#32
  ![2, 1, v148.toNat, 0]
def k0_off12 (i : grid0.Coords) (c0_i32 : BitVec 32) : Fin 4 → Nat :=
  let c2_175 : Index := 2#32
  let c2_176 : Index := 2#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v158 : Index := Scalar.indexCast v3
  let c0_177 : Index := 0#32
  ![2, 2, v158.toNat, 0]
def k0_off13 (i : grid0.Coords) (c0_i32 : BitVec 32) : Fin 4 → Nat :=
  let c2_186 : Index := 2#32
  let c3_187 : Index := 3#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v168 : Index := Scalar.indexCast v3
  let c0_188 : Index := 0#32
  ![2, 3, v168.toNat, 0]
def k0_off14 (i : grid0.Coords) (c0_i32 : BitVec 32) : Fin 4 → Nat :=
  let c3_197 : Index := 3#32
  let c0_198 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v178 : Index := Scalar.indexCast v3
  let c0_199 : Index := 0#32
  ![3, 0, v178.toNat, 0]
def k0_off15 (i : grid0.Coords) (c0_i32 : BitVec 32) : Fin 4 → Nat :=
  let c3_208 : Index := 3#32
  let c1_209 : Index := 1#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v188 : Index := Scalar.indexCast v3
  let c0_210 : Index := 0#32
  ![3, 1, v188.toNat, 0]
def k0_off16 (i : grid0.Coords) (c0_i32 : BitVec 32) : Fin 4 → Nat :=
  let c3_219 : Index := 3#32
  let c2_220 : Index := 2#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v198 : Index := Scalar.indexCast v3
  let c0_221 : Index := 0#32
  ![3, 2, v198.toNat, 0]
def k0_off17 (i : grid0.Coords) (c0_i32 : BitVec 32) : Fin 4 → Nat :=
  let c3_230 : Index := 3#32
  let c3_231 : Index := 3#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v208 : Index := Scalar.indexCast v3
  let c0_232 : Index := 0#32
  ![3, 3, v208.toNat, 0]
def k0_off18 (i : grid0.Coords) (c0_i32 : BitVec 32) : Fin 4 → Nat :=
  let c4_240 : Index := 4#32
  let c0_241 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v218 : Index := Scalar.indexCast v3
  let c0_242 : Index := 0#32
  ![4, 0, v218.toNat, 0]
def k0_off19 (i : grid0.Coords) (c0_i32 : BitVec 32) : Fin 4 → Nat :=
  let c4_251 : Index := 4#32
  let c1_252 : Index := 1#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v228 : Index := Scalar.indexCast v3
  let c0_253 : Index := 0#32
  ![4, 1, v228.toNat, 0]
def k0_off20 (i : grid0.Coords) (c0_i32 : BitVec 32) : Fin 4 → Nat :=
  let c4_262 : Index := 4#32
  let c2_263 : Index := 2#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v238 : Index := Scalar.indexCast v3
  let c0_264 : Index := 0#32
  ![4, 2, v238.toNat, 0]
def k0_off21 (i : grid0.Coords) (c0_i32 : BitVec 32) : Fin 4 → Nat :=
  let c4_273 : Index := 4#32
  let c3_274 : Index := 3#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v248 : Index := Scalar.indexCast v3
  let c0_275 : Index := 0#32
  ![4, 3, v248.toNat, 0]
def k0_off22 (i : grid0.Coords) (c0_i32 : BitVec 32) : Fin 4 → Nat :=
  let c5_283 : Index := 5#32
  let c0_284 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v258 : Index := Scalar.indexCast v3
  let c0_285 : Index := 0#32
  ![5, 0, v258.toNat, 0]
def k0_off23 (i : grid0.Coords) (c0_i32 : BitVec 32) : Fin 4 → Nat :=
  let c5_294 : Index := 5#32
  let c1_295 : Index := 1#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v268 : Index := Scalar.indexCast v3
  let c0_296 : Index := 0#32
  ![5, 1, v268.toNat, 0]
def k0_off24 (i : grid0.Coords) (c0_i32 : BitVec 32) : Fin 4 → Nat :=
  let c5_305 : Index := 5#32
  let c2_306 : Index := 2#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v278 : Index := Scalar.indexCast v3
  let c0_307 : Index := 0#32
  ![5, 2, v278.toNat, 0]
def k0_off25 (i : grid0.Coords) (c0_i32 : BitVec 32) : Fin 4 → Nat :=
  let c5_316 : Index := 5#32
  let c3_317 : Index := 3#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v288 : Index := Scalar.indexCast v3
  let c0_318 : Index := 0#32
  ![5, 3, v288.toNat, 0]
def k0_off26 (i : grid0.Coords) (c0_i32 : BitVec 32) : Fin 4 → Nat :=
  let c6_326 : Index := 6#32
  let c0_327 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v298 : Index := Scalar.indexCast v3
  let c0_328 : Index := 0#32
  ![6, 0, v298.toNat, 0]
def k0_off27 (i : grid0.Coords) (c0_i32 : BitVec 32) : Fin 4 → Nat :=
  let c6_337 : Index := 6#32
  let c1_338 : Index := 1#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v308 : Index := Scalar.indexCast v3
  let c0_339 : Index := 0#32
  ![6, 1, v308.toNat, 0]
def k0_off28 (i : grid0.Coords) (c0_i32 : BitVec 32) : Fin 4 → Nat :=
  let c6_348 : Index := 6#32
  let c2_349 : Index := 2#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v318 : Index := Scalar.indexCast v3
  let c0_350 : Index := 0#32
  ![6, 2, v318.toNat, 0]
def k0_off29 (i : grid0.Coords) (c0_i32 : BitVec 32) : Fin 4 → Nat :=
  let c6_359 : Index := 6#32
  let c3_360 : Index := 3#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v328 : Index := Scalar.indexCast v3
  let c0_361 : Index := 0#32
  ![6, 3, v328.toNat, 0]
def k0_off30 (i : grid0.Coords) (c0_i32 : BitVec 32) : Fin 4 → Nat :=
  let c7_369 : Index := 7#32
  let c0_370 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v338 : Index := Scalar.indexCast v3
  let c0_371 : Index := 0#32
  ![7, 0, v338.toNat, 0]
def k0_off31 (i : grid0.Coords) (c0_i32 : BitVec 32) : Fin 4 → Nat :=
  let c7_380 : Index := 7#32
  let c1_381 : Index := 1#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v348 : Index := Scalar.indexCast v3
  let c0_382 : Index := 0#32
  ![7, 1, v348.toNat, 0]
def k0_off32 (i : grid0.Coords) (c0_i32 : BitVec 32) : Fin 4 → Nat :=
  let c7_391 : Index := 7#32
  let c2_392 : Index := 2#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v358 : Index := Scalar.indexCast v3
  let c0_393 : Index := 0#32
  ![7, 2, v358.toNat, 0]
def k0_off33 (i : grid0.Coords) (c0_i32 : BitVec 32) : Fin 4 → Nat :=
  let c7_402 : Index := 7#32
  let c3_403 : Index := 3#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v368 : Index := Scalar.indexCast v3
  let c0_404 : Index := 0#32
  ![7, 3, v368.toNat, 0]
def k0_off34 (i : grid0.Coords) (c0_i32 : BitVec 32) : Fin 4 → Nat :=
  let c8_412 : Index := 8#32
  let c0_413 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v378 : Index := Scalar.indexCast v3
  let c0_414 : Index := 0#32
  ![8, 0, v378.toNat, 0]
def k0_off35 (i : grid0.Coords) (c0_i32 : BitVec 32) : Fin 4 → Nat :=
  let c8_423 : Index := 8#32
  let c1_424 : Index := 1#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v388 : Index := Scalar.indexCast v3
  let c0_425 : Index := 0#32
  ![8, 1, v388.toNat, 0]
def k0_off36 (i : grid0.Coords) (c0_i32 : BitVec 32) : Fin 4 → Nat :=
  let c8_434 : Index := 8#32
  let c2_435 : Index := 2#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v398 : Index := Scalar.indexCast v3
  let c0_436 : Index := 0#32
  ![8, 2, v398.toNat, 0]
def k0_off37 (i : grid0.Coords) (c0_i32 : BitVec 32) : Fin 4 → Nat :=
  let c8_445 : Index := 8#32
  let c3_446 : Index := 3#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v408 : Index := Scalar.indexCast v3
  let c0_447 : Index := 0#32
  ![8, 3, v408.toNat, 0]
def k0_off38 (i : grid0.Coords) (c0_i32 : BitVec 32) : Fin 4 → Nat :=
  let c9_455 : Index := 9#32
  let c0_456 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v418 : Index := Scalar.indexCast v3
  let c0_457 : Index := 0#32
  ![9, 0, v418.toNat, 0]
def k0_off39 (i : grid0.Coords) (c0_i32 : BitVec 32) : Fin 4 → Nat :=
  let c9_466 : Index := 9#32
  let c1_467 : Index := 1#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v428 : Index := Scalar.indexCast v3
  let c0_468 : Index := 0#32
  ![9, 1, v428.toNat, 0]
def k0_off40 (i : grid0.Coords) (c0_i32 : BitVec 32) : Fin 4 → Nat :=
  let c9_477 : Index := 9#32
  let c2_478 : Index := 2#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v438 : Index := Scalar.indexCast v3
  let c0_479 : Index := 0#32
  ![9, 2, v438.toNat, 0]
def k0_off41 (i : grid0.Coords) (c0_i32 : BitVec 32) : Fin 4 → Nat :=
  let c9_488 : Index := 9#32
  let c3_489 : Index := 3#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v448 : Index := Scalar.indexCast v3
  let c0_490 : Index := 0#32
  ![9, 3, v448.toNat, 0]
def k0_off42 (i : grid0.Coords) (c0_i32 : BitVec 32) : Fin 4 → Nat :=
  let c10_498 : Index := 10#32
  let c0_499 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v458 : Index := Scalar.indexCast v3
  let c0_500 : Index := 0#32
  ![10, 0, v458.toNat, 0]
def k0_off43 (i : grid0.Coords) (c0_i32 : BitVec 32) : Fin 4 → Nat :=
  let c10_509 : Index := 10#32
  let c1_510 : Index := 1#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v468 : Index := Scalar.indexCast v3
  let c0_511 : Index := 0#32
  ![10, 1, v468.toNat, 0]
def k0_off44 (i : grid0.Coords) (c0_i32 : BitVec 32) : Fin 4 → Nat :=
  let c10_520 : Index := 10#32
  let c2_521 : Index := 2#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v478 : Index := Scalar.indexCast v3
  let c0_522 : Index := 0#32
  ![10, 2, v478.toNat, 0]
def k0_off45 (i : grid0.Coords) (c0_i32 : BitVec 32) : Fin 4 → Nat :=
  let c10_531 : Index := 10#32
  let c3_532 : Index := 3#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v488 : Index := Scalar.indexCast v3
  let c0_533 : Index := 0#32
  ![10, 3, v488.toNat, 0]
def k0_off46 (i : grid0.Coords) (c0_i32 : BitVec 32) : Fin 4 → Nat :=
  let c11_541 : Index := 11#32
  let c0_542 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v498 : Index := Scalar.indexCast v3
  let c0_543 : Index := 0#32
  ![11, 0, v498.toNat, 0]
def k0_off47 (i : grid0.Coords) (c0_i32 : BitVec 32) : Fin 4 → Nat :=
  let c11_552 : Index := 11#32
  let c1_553 : Index := 1#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v508 : Index := Scalar.indexCast v3
  let c0_554 : Index := 0#32
  ![11, 1, v508.toNat, 0]
def k0_off48 (i : grid0.Coords) (c0_i32 : BitVec 32) : Fin 4 → Nat :=
  let c11_563 : Index := 11#32
  let c2_564 : Index := 2#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v518 : Index := Scalar.indexCast v3
  let c0_565 : Index := 0#32
  ![11, 2, v518.toNat, 0]
def k0_off49 (i : grid0.Coords) (c0_i32 : BitVec 32) : Fin 4 → Nat :=
  let c11_574 : Index := 11#32
  let c3_575 : Index := 3#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v528 : Index := Scalar.indexCast v3
  let c0_576 : Index := 0#32
  ![11, 3, v528.toNat, 0]
def k0_off50 (i : grid0.Coords) (c0_i32 : BitVec 32) : Fin 4 → Nat :=
  let c12_584 : Index := 12#32
  let c0_585 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v538 : Index := Scalar.indexCast v3
  let c0_586 : Index := 0#32
  ![12, 0, v538.toNat, 0]
def k0_off51 (i : grid0.Coords) (c0_i32 : BitVec 32) : Fin 4 → Nat :=
  let c12_595 : Index := 12#32
  let c1_596 : Index := 1#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v548 : Index := Scalar.indexCast v3
  let c0_597 : Index := 0#32
  ![12, 1, v548.toNat, 0]
def k0_off52 (i : grid0.Coords) (c0_i32 : BitVec 32) : Fin 4 → Nat :=
  let c12_606 : Index := 12#32
  let c2_607 : Index := 2#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v558 : Index := Scalar.indexCast v3
  let c0_608 : Index := 0#32
  ![12, 2, v558.toNat, 0]
def k0_off53 (i : grid0.Coords) (c0_i32 : BitVec 32) : Fin 4 → Nat :=
  let c12_617 : Index := 12#32
  let c3_618 : Index := 3#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v568 : Index := Scalar.indexCast v3
  let c0_619 : Index := 0#32
  ![12, 3, v568.toNat, 0]
def k0_off54 (i : grid0.Coords) (c0_i32 : BitVec 32) : Fin 4 → Nat :=
  let c13_627 : Index := 13#32
  let c0_628 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v578 : Index := Scalar.indexCast v3
  let c0_629 : Index := 0#32
  ![13, 0, v578.toNat, 0]
def k0_off55 (i : grid0.Coords) (c0_i32 : BitVec 32) : Fin 4 → Nat :=
  let c13_638 : Index := 13#32
  let c1_639 : Index := 1#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v588 : Index := Scalar.indexCast v3
  let c0_640 : Index := 0#32
  ![13, 1, v588.toNat, 0]
def k0_off56 (i : grid0.Coords) (c0_i32 : BitVec 32) : Fin 4 → Nat :=
  let c13_649 : Index := 13#32
  let c2_650 : Index := 2#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v598 : Index := Scalar.indexCast v3
  let c0_651 : Index := 0#32
  ![13, 2, v598.toNat, 0]
def k0_off57 (i : grid0.Coords) (c0_i32 : BitVec 32) : Fin 4 → Nat :=
  let c13_660 : Index := 13#32
  let c3_661 : Index := 3#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v608 : Index := Scalar.indexCast v3
  let c0_662 : Index := 0#32
  ![13, 3, v608.toNat, 0]
def k0_off58 (i : grid0.Coords) (c0_i32 : BitVec 32) : Fin 4 → Nat :=
  let c14_670 : Index := 14#32
  let c0_671 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v618 : Index := Scalar.indexCast v3
  let c0_672 : Index := 0#32
  ![14, 0, v618.toNat, 0]
def k0_off59 (i : grid0.Coords) (c0_i32 : BitVec 32) : Fin 4 → Nat :=
  let c14_681 : Index := 14#32
  let c1_682 : Index := 1#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v628 : Index := Scalar.indexCast v3
  let c0_683 : Index := 0#32
  ![14, 1, v628.toNat, 0]
def k0_off60 (i : grid0.Coords) (c0_i32 : BitVec 32) : Fin 4 → Nat :=
  let c14_692 : Index := 14#32
  let c2_693 : Index := 2#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v638 : Index := Scalar.indexCast v3
  let c0_694 : Index := 0#32
  ![14, 2, v638.toNat, 0]
def k0_off61 (i : grid0.Coords) (c0_i32 : BitVec 32) : Fin 4 → Nat :=
  let c14_703 : Index := 14#32
  let c3_704 : Index := 3#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v648 : Index := Scalar.indexCast v3
  let c0_705 : Index := 0#32
  ![14, 3, v648.toNat, 0]
def k0_off62 (i : grid0.Coords) (c0_i32 : BitVec 32) : Fin 4 → Nat :=
  let c15_713 : Index := 15#32
  let c0_714 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v658 : Index := Scalar.indexCast v3
  let c0_715 : Index := 0#32
  ![15, 0, v658.toNat, 0]
def k0_off63 (i : grid0.Coords) (c0_i32 : BitVec 32) : Fin 4 → Nat :=
  let c15_724 : Index := 15#32
  let c1_725 : Index := 1#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v668 : Index := Scalar.indexCast v3
  let c0_726 : Index := 0#32
  ![15, 1, v668.toNat, 0]
def k0_off64 (i : grid0.Coords) (c0_i32 : BitVec 32) : Fin 4 → Nat :=
  let c15_735 : Index := 15#32
  let c2_736 : Index := 2#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v678 : Index := Scalar.indexCast v3
  let c0_737 : Index := 0#32
  ![15, 2, v678.toNat, 0]
def k0_off65 (i : grid0.Coords) (c0_i32 : BitVec 32) : Fin 4 → Nat :=
  let c15_746 : Index := 15#32
  let c3_747 : Index := 3#32
  let arg1 : BitVec 32 := BitVec.ofNat 32 (i 1).val
  let c16_i32 : BitVec 32 := 16#32
  let v0 : BitVec 32 := Scalar.muli arg1 c16_i32
  let v1 : BitVec 32 := Scalar.addi v0 c0_i32
  let c8_i32 : BitVec 32 := 8#32
  let v2 : BitVec 32 := Scalar.muli v1 c8_i32
  let v3 : BitVec 32 := v2
  let v688 : Index := Scalar.indexCast v3
  let c0_748 : Index := 0#32
  ![15, 3, v688.toNat, 0]
def k0_mult2 (i : grid0.Coords) : BitVec 32 :=
  let arg1 : BitVec 32 := BitVec.ofNat 32 (i 1).val
  let c16_i32_749 : BitVec 32 := 16#32
  let v692 : BitVec 32 := Scalar.muli arg1 c16_i32_749
  let c2_i32 : BitVec 32 := 2#32
  let v693 : BitVec 32 := Scalar.addi v692 c2_i32
  let c8_i32_750 : BitVec 32 := 8#32
  let v694 : BitVec 32 := Scalar.muli v693 c8_i32_750
  v694
def k0_mult3 (i : grid0.Coords) : BitVec 32 :=
  let arg1 : BitVec 32 := BitVec.ofNat 32 (i 1).val
  let c16_i32_1519 : BitVec 32 := 16#32
  let v1384 : BitVec 32 := Scalar.muli arg1 c16_i32_1519
  let c4_i32 : BitVec 32 := 4#32
  let v1385 : BitVec 32 := Scalar.addi v1384 c4_i32
  let c8_i32_1520 : BitVec 32 := 8#32
  let v1386 : BitVec 32 := Scalar.muli v1385 c8_i32_1520
  v1386
def k0_mult4 (i : grid0.Coords) : BitVec 32 :=
  let arg1 : BitVec 32 := BitVec.ofNat 32 (i 1).val
  let c16_i32_2289 : BitVec 32 := 16#32
  let v2076 : BitVec 32 := Scalar.muli arg1 c16_i32_2289
  let c6_i32 : BitVec 32 := 6#32
  let v2077 : BitVec 32 := Scalar.addi v2076 c6_i32
  let c8_i32_2290 : BitVec 32 := 8#32
  let v2078 : BitVec 32 := Scalar.muli v2077 c8_i32_2290
  v2078
def k0_mult5 (i : grid0.Coords) : BitVec 32 :=
  let arg1 : BitVec 32 := BitVec.ofNat 32 (i 1).val
  let c16_i32_3059 : BitVec 32 := 16#32
  let v2768 : BitVec 32 := Scalar.muli arg1 c16_i32_3059
  let c8_i32_3060 : BitVec 32 := 8#32
  let v2769 : BitVec 32 := Scalar.addi v2768 c8_i32_3060
  let c8_i32_3061 : BitVec 32 := 8#32
  let v2770 : BitVec 32 := Scalar.muli v2769 c8_i32_3061
  v2770
def k0_mult6 (i : grid0.Coords) : BitVec 32 :=
  let arg1 : BitVec 32 := BitVec.ofNat 32 (i 1).val
  let c16_i32_3830 : BitVec 32 := 16#32
  let v3460 : BitVec 32 := Scalar.muli arg1 c16_i32_3830
  let c10_i32 : BitVec 32 := 10#32
  let v3461 : BitVec 32 := Scalar.addi v3460 c10_i32
  let c8_i32_3831 : BitVec 32 := 8#32
  let v3462 : BitVec 32 := Scalar.muli v3461 c8_i32_3831
  v3462
def k0_mult7 (i : grid0.Coords) : BitVec 32 :=
  let arg1 : BitVec 32 := BitVec.ofNat 32 (i 1).val
  let c16_i32_4600 : BitVec 32 := 16#32
  let v4152 : BitVec 32 := Scalar.muli arg1 c16_i32_4600
  let c12_i32 : BitVec 32 := 12#32
  let v4153 : BitVec 32 := Scalar.addi v4152 c12_i32
  let c8_i32_4601 : BitVec 32 := 8#32
  let v4154 : BitVec 32 := Scalar.muli v4153 c8_i32_4601
  v4154
def k0_mult8 (i : grid0.Coords) : BitVec 32 :=
  let arg1 : BitVec 32 := BitVec.ofNat 32 (i 1).val
  let c16_i32_5370 : BitVec 32 := 16#32
  let v4844 : BitVec 32 := Scalar.muli arg1 c16_i32_5370
  let c14_i32 : BitVec 32 := 14#32
  let v4845 : BitVec 32 := Scalar.addi v4844 c14_i32
  let c8_i32_5371 : BitVec 32 := 8#32
  let v4846 : BitVec 32 := Scalar.muli v4845 c8_i32_5371
  v4846
def k0_cond1 (i : grid0.Coords) : BitVec 1 :=
  let arg1 : BitVec 32 := BitVec.ofNat 32 (i 1).val
  let c3_i32 : BitVec 32 := 3#32
  let v5536 : BitVec 1 := Scalar.cmpi .eq arg1 c3_i32
  let v5537 : BitVec 32 := Scalar.extui v5536
  let c0_i32_6140 : BitVec 32 := 0#32
  let v5538 : BitVec 1 := Scalar.cmpi .ne v5537 c0_i32_6140
  v5538

def cc0_transform_0 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S128x64) ![v2.toNat, v3.toNat] S1x1.size (k0_off1_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v4.toNat, c0_i32_1.toNat, c0_i32_2.toNat]

def cc0_transform_1 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S128x64) ![v2.toNat, v3.toNat] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_2 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S128x64) ![v2.toNat, v3.toNat] S1x1.size (k0_off1_inb i 2)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_3 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S128x64) ![v2.toNat, v3.toNat] S1x1.size (k0_off1_inb i 3)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_4 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S128x64) ![v2.toNat, v3.toNat] S1x1.size (k0_off1_inb i 4)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_5 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S128x64) ![v2.toNat, v3.toNat] S1x1.size (k0_off1_inb i 5)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_6 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S128x64) ![v2.toNat, v3.toNat] S1x1.size (k0_off1_inb i 6)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_7 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S128x64) ![v2.toNat, v3.toNat] S1x1.size (k0_off1_inb i 7)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_8 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c8_i32 : BitVec 32 := 8#32
  let v1 : BitVec 32 := Scalar.addi v0 c8_i32
  let v2 : Index := Scalar.indexCast arg0
  let v3 : Index := Scalar.indexCast v1
  let v4 : BitVec 32 := pf.at 0 (Rect.unit (s := S128x64) ![v2.toNat, v3.toNat] S1x1.size (k0_off1_inb i 8)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_9 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c9_i32 : BitVec 32 := 9#32
  let v1 : BitVec 32 := Scalar.addi v0 c9_i32
  let v2 : Index := Scalar.indexCast arg0
  let v3 : Index := Scalar.indexCast v1
  let v4 : BitVec 32 := pf.at 0 (Rect.unit (s := S128x64) ![v2.toNat, v3.toNat] S1x1.size (k0_off1_inb i 9)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_10 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c10_i32 : BitVec 32 := 10#32
  let v1 : BitVec 32 := Scalar.addi v0 c10_i32
  let v2 : Index := Scalar.indexCast arg0
  let v3 : Index := Scalar.indexCast v1
  let v4 : BitVec 32 := pf.at 0 (Rect.unit (s := S128x64) ![v2.toNat, v3.toNat] S1x1.size (k0_off1_inb i 10)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_11 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c11_i32 : BitVec 32 := 11#32
  let v1 : BitVec 32 := Scalar.addi v0 c11_i32
  let v2 : Index := Scalar.indexCast arg0
  let v3 : Index := Scalar.indexCast v1
  let v4 : BitVec 32 := pf.at 0 (Rect.unit (s := S128x64) ![v2.toNat, v3.toNat] S1x1.size (k0_off1_inb i 11)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_12 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c12_i32 : BitVec 32 := 12#32
  let v1 : BitVec 32 := Scalar.addi v0 c12_i32
  let v2 : Index := Scalar.indexCast arg0
  let v3 : Index := Scalar.indexCast v1
  let v4 : BitVec 32 := pf.at 0 (Rect.unit (s := S128x64) ![v2.toNat, v3.toNat] S1x1.size (k0_off1_inb i 12)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_13 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c13_i32 : BitVec 32 := 13#32
  let v1 : BitVec 32 := Scalar.addi v0 c13_i32
  let v2 : Index := Scalar.indexCast arg0
  let v3 : Index := Scalar.indexCast v1
  let v4 : BitVec 32 := pf.at 0 (Rect.unit (s := S128x64) ![v2.toNat, v3.toNat] S1x1.size (k0_off1_inb i 13)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_14 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c14_i32 : BitVec 32 := 14#32
  let v1 : BitVec 32 := Scalar.addi v0 c14_i32
  let v2 : Index := Scalar.indexCast arg0
  let v3 : Index := Scalar.indexCast v1
  let v4 : BitVec 32 := pf.at 0 (Rect.unit (s := S128x64) ![v2.toNat, v3.toNat] S1x1.size (k0_off1_inb i 14)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_15 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c15_i32 : BitVec 32 := 15#32
  let v1 : BitVec 32 := Scalar.addi v0 c15_i32
  let v2 : Index := Scalar.indexCast arg0
  let v3 : Index := Scalar.indexCast v1
  let v4 : BitVec 32 := pf.at 0 (Rect.unit (s := S128x64) ![v2.toNat, v3.toNat] S1x1.size (k0_off1_inb i 15)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S2x8x256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S2x1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S2x128x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== CompressRefIdeal.lean ====
abbrev S2x10240x128x2x4x64 : Shape := ⟨6, ![2, 10240, 128, 2, 4, 64]⟩
abbrev S128x64 : Shape := ⟨2, ![128, 64]⟩
abbrev S2x32x64x64 : Shape := ⟨4, ![2, 32, 64, 64]⟩
abbrev S2x64 : Shape := ⟨2, ![2, 64]⟩
abbrev S2x64x64 : Shape := ⟨3, ![2, 64, 64]⟩
abbrev S_ : Shape := ⟨0, ![]⟩
abbrev S128x64x1 : Shape := ⟨3, ![128, 64, 1]⟩
abbrev S128x64x2 : Shape := ⟨3, ![128, 64, 2]⟩
abbrev S128x64x128x2x4x64 : Shape := ⟨6, ![128, 64, 128, 2, 4, 64]⟩
abbrev S128x64x128x1x4x64 : Shape := ⟨6, ![128, 64, 128, 1, 4, 64]⟩
abbrev S128x64x128x4x64 : Shape := ⟨5, ![128, 64, 128, 4, 64]⟩
abbrev S128x8192x4x64 : Shape := ⟨4, ![128, 8192, 4, 64]⟩
abbrev S1x32x64x64 : Shape := ⟨4, ![1, 32, 64, 64]⟩
abbrev S32x64x64 : Shape := ⟨3, ![32, 64, 64]⟩
abbrev S128x512x16x4x64 : Shape := ⟨5, ![128, 512, 16, 4, 64]⟩
abbrev S16x64x64 : Shape := ⟨3, ![16, 64, 64]⟩
abbrev S128x512x4x64 : Shape := ⟨4, ![128, 512, 4, 64]⟩
abbrev S128x511x4x64 : Shape := ⟨4, ![128, 511, 4, 64]⟩
abbrev S1x64 : Shape := ⟨2, ![1, 64]⟩
abbrev S64 : Shape := ⟨1, ![64]⟩
abbrev S1x1x1x64 : Shape := ⟨4, ![1, 1, 1, 64]⟩
abbrev S1x64x64 : Shape := ⟨3, ![1, 64, 64]⟩
abbrev S64x64 : Shape := ⟨2, ![64, 64]⟩
abbrev S128x511x256 : Shape := ⟨3, ![128, 511, 256]⟩
abbrev S128x512x256 : Shape := ⟨3, ![128, 512, 256]⟩

abbrev nBuf : Space → Nat
  | .hbm => 119
  | .vmem => 0
  | .smem => 0
  | _ => 0

abbrev bufTy : (tb : Table) → Fin (tcTables nBuf tb) → BufTy
  | .hbm, ⟨0, _⟩ => ⟨S2x10240x128x2x4x64, .f32⟩
  | .hbm, ⟨1, _⟩ => ⟨S128x64, .i32⟩
  | .hbm, ⟨2, _⟩ => ⟨S2x32x64x64, .f32⟩
  | .hbm, ⟨3, _⟩ => ⟨S2x64, .f32⟩
  | .hbm, ⟨4, _⟩ => ⟨S2x64x64, .f32⟩
  | .hbm, ⟨5, _⟩ => ⟨S_, .i32⟩
  | .hbm, ⟨6, _⟩ => ⟨S128x64, .i32⟩
  | .hbm, ⟨7, _⟩ => ⟨S128x64, .i1⟩
  | .hbm, ⟨8, _⟩ => ⟨S_, .i32⟩
  | .hbm, ⟨9, _⟩ => ⟨S128x64, .i32⟩
  | .hbm, ⟨10, _⟩ => ⟨S128x64, .i32⟩
  | .hbm, ⟨11, _⟩ => ⟨S128x64, .i32⟩
  | .hbm, ⟨12, _⟩ => ⟨S_, .i32⟩
  | .hbm, ⟨13, _⟩ => ⟨S128x64, .i32⟩
  | .hbm, ⟨14, _⟩ => ⟨S128x64, .i32⟩
  | .hbm, ⟨15, _⟩ => ⟨S128x64x1, .i32⟩
  | .hbm, ⟨16, _⟩ => ⟨S128x64x1, .i32⟩
  | .hbm, ⟨17, _⟩ => ⟨S128x64x2, .i32⟩
  | .hbm, ⟨18, _⟩ => ⟨S128x64x128x2x4x64, .f32⟩
  | .hbm, ⟨19, _⟩ => ⟨S128x64x128x1x4x64, .f32⟩
  | .hbm, ⟨20, _⟩ => ⟨S128x64x128x4x64, .f32⟩
  | .hbm, ⟨21, _⟩ => ⟨S128x8192x4x64, .f32⟩
  | .hbm, ⟨22, _⟩ => ⟨S1x32x64x64, .f32⟩
  | .hbm, ⟨23, _⟩ => ⟨S32x64x64, .f32⟩
  | .hbm, ⟨24, _⟩ => ⟨S128x512x16x4x64, .f32⟩
  | .hbm, ⟨25, _⟩ => ⟨S16x64x64, .f32⟩
  | .hbm, ⟨26, _⟩ => ⟨S128x512x4x64, .f32⟩
  | .hbm, ⟨27, _⟩ => ⟨S16x64x64, .f32⟩
  | .hbm, ⟨28, _⟩ => ⟨S128x512x4x64, .f32⟩
  | .hbm, ⟨29, _⟩ => ⟨S128x511x4x64, .f32⟩
  | .hbm, ⟨30, _⟩ => ⟨S128x511x4x64, .f32⟩
  | .hbm, ⟨31, _⟩ => ⟨S128x511x4x64, .f32⟩
  | .hbm, ⟨32, _⟩ => ⟨S1x64, .f32⟩
  | .hbm, ⟨33, _⟩ => ⟨S64, .f32⟩
  | .hbm, ⟨34, _⟩ => ⟨S1x1x1x64, .f32⟩
  | .hbm, ⟨35, _⟩ => ⟨S128x511x4x64, .f32⟩
  | .hbm, ⟨36, _⟩ => ⟨S128x511x4x64, .f32⟩
  | .hbm, ⟨37, _⟩ => ⟨S128x511x4x64, .f32⟩
  | .hbm, ⟨38, _⟩ => ⟨S128x511x4x64, .f32⟩
  | .hbm, ⟨39, _⟩ => ⟨S_, .f32⟩
  | .hbm, ⟨40, _⟩ => ⟨S128x511x4x64, .f32⟩
  | .hbm, ⟨41, _⟩ => ⟨S128x511x4x64, .f32⟩
  | .hbm, ⟨42, _⟩ => ⟨S128x511x4x64, .f32⟩
  | .hbm, ⟨43, _⟩ => ⟨S_, .f32⟩
  | .hbm, ⟨44, _⟩ => ⟨S128x511x4x64, .f32⟩
  | .hbm, ⟨45, _⟩ => ⟨S128x511x4x64, .f32⟩
  | .hbm, ⟨46, _⟩ => ⟨S128x511x4x64, .f32⟩
  | .hbm, ⟨47, _⟩ => ⟨S_, .f32⟩
  | .hbm, ⟨48, _⟩ => ⟨S128x511x4x64, .f32⟩
  | .hbm, ⟨49, _⟩ => ⟨S128x511x4x64, .f32⟩
  | .hbm, ⟨50, _⟩ => ⟨S_, .f32⟩
  | .hbm, ⟨51, _⟩ => ⟨S128x511x4x64, .f32⟩
  | .hbm, ⟨52, _⟩ => ⟨S128x511x4x64, .f32⟩
  | .hbm, ⟨53, _⟩ => ⟨S128x511x4x64, .f32⟩
  | .hbm, ⟨54, _⟩ => ⟨S1x64x64, .f32⟩
  | .hbm, ⟨55, _⟩ => ⟨S64x64, .f32⟩
  | .hbm, ⟨56, _⟩ => ⟨S128x511x4x64, .f32⟩
  | .hbm, ⟨57, _⟩ => ⟨S128x511x256, .f32⟩
  | .hbm, ⟨58, _⟩ => ⟨S_, .i32⟩
  | .hbm, ⟨59, _⟩ => ⟨S_, .f32⟩
  | .hbm, ⟨60, _⟩ => ⟨S128x512x256, .f32⟩
  | .hbm, ⟨61, _⟩ => ⟨S128x512x256, .bf16⟩
  | .hbm, ⟨62, _⟩ => ⟨S_, .i32⟩
  | .hbm, ⟨63, _⟩ => ⟨S128x64, .i32⟩
  | .hbm, ⟨64, _⟩ => ⟨S128x64, .i1⟩
  | .hbm, ⟨65, _⟩ => ⟨S_, .i32⟩
  | .hbm, ⟨66, _⟩ => ⟨S128x64, .i32⟩
  | .hbm, ⟨67, _⟩ => ⟨S128x64, .i32⟩
  | .hbm, ⟨68, _⟩ => ⟨S128x64, .i32⟩
  | .hbm, ⟨69, _⟩ => ⟨S_, .i32⟩
  | .hbm, ⟨70, _⟩ => ⟨S128x64, .i32⟩
  | .hbm, ⟨71, _⟩ => ⟨S128x64, .i32⟩
  | .hbm, ⟨72, _⟩ => ⟨S128x64x1, .i32⟩
  | .hbm, ⟨73, _⟩ => ⟨S128x64x1, .i32⟩
  | .hbm, ⟨74, _⟩ => ⟨S128x64x2, .i32⟩
  | .hbm, ⟨75, _⟩ => ⟨S128x64x128x2x4x64, .f32⟩
  | .hbm, ⟨76, _⟩ => ⟨S128x64x128x1x4x64, .f32⟩
  | .hbm, ⟨77, _⟩ => ⟨S128x64x128x4x64, .f32⟩
  | .hbm, ⟨78, _⟩ => ⟨S128x8192x4x64, .f32⟩
  | .hbm, ⟨79, _⟩ => ⟨S1x32x64x64, .f32⟩
  | .hbm, ⟨80, _⟩ => ⟨S32x64x64, .f32⟩
  | .hbm, ⟨81, _⟩ => ⟨S128x512x16x4x64, .f32⟩
  | .hbm, ⟨82, _⟩ => ⟨S16x64x64, .f32⟩
  | .hbm, ⟨83, _⟩ => ⟨S128x512x4x64, .f32⟩
  | .hbm, ⟨84, _⟩ => ⟨S16x64x64, .f32⟩
  | .hbm, ⟨85, _⟩ => ⟨S128x512x4x64, .f32⟩
  | .hbm, ⟨86, _⟩ => ⟨S128x511x4x64, .f32⟩
  | .hbm, ⟨87, _⟩ => ⟨S128x511x4x64, .f32⟩
  | .hbm, ⟨88, _⟩ => ⟨S128x511x4x64, .f32⟩
  | .hbm, ⟨89, _⟩ => ⟨S1x64, .f32⟩
  | .hbm, ⟨90, _⟩ => ⟨S64, .f32⟩
  | .hbm, ⟨91, _⟩ => ⟨S1x1x1x64, .f32⟩
  | .hbm, ⟨92, _⟩ => ⟨S128x511x4x64, .f32⟩
  | .hbm, ⟨93, _⟩ => ⟨S128x511x4x64, .f32⟩
  | .hbm, ⟨94, _⟩ => ⟨S128x511x4x64, .f32⟩
  | .hbm, ⟨95, _⟩ => ⟨S128x511x4x64, .f32⟩
  | .hbm, ⟨96, _⟩ => ⟨S_, .f32⟩
  | .hbm, ⟨97, _⟩ => ⟨S128x511x4x64, .f32⟩
  | .hbm, ⟨98, _⟩ => ⟨S128x511x4x64, .f32⟩
  | .hbm, ⟨99, _⟩ => ⟨S128x511x4x64, .f32⟩
  | .hbm, ⟨100, _⟩ => ⟨S_, .f32⟩
  | .hbm, ⟨101, _⟩ => ⟨S128x511x4x64, .f32⟩
  | .hbm, ⟨102, _⟩ => ⟨S128x511x4x64, .f32⟩
  | .hbm, ⟨103, _⟩ => ⟨S128x511x4x64, .f32⟩
  | .hbm, ⟨104, _⟩ => ⟨S_, .f32⟩
  | .hbm, ⟨105, _⟩ => ⟨S128x511x4x64, .f32⟩
  | .hbm, ⟨106, _⟩ => ⟨S128x511x4x64, .f32⟩
  | .hbm, ⟨107, _⟩ => ⟨S_, .f32⟩
  | .hbm, ⟨108, _⟩ => ⟨S128x511x4x64, .f32⟩
  | .hbm, ⟨109, _⟩ => ⟨S128x511x4x64, .f32⟩
  | .hbm, ⟨110, _⟩ => ⟨S128x511x4x64, .f32⟩
  | .hbm, ⟨111, _⟩ => ⟨S1x64x64, .f32⟩
  | .hbm, ⟨112, _⟩ => ⟨S64x64, .f32⟩
  | .hbm, ⟨113, _⟩ => ⟨S128x511x4x64, .f32⟩
  | .hbm, ⟨114, _⟩ => ⟨S128x511x256, .f32⟩
  | .hbm, ⟨115, _⟩ => ⟨S_, .i32⟩
  | .hbm, ⟨116, _⟩ => ⟨S_, .f32⟩
  | .hbm, ⟨117, _⟩ => ⟨S128x512x256, .f32⟩
  | .hbm, ⟨118, _⟩ => ⟨S128x512x256, .bf16⟩
  | _, _ => ⟨S2x10240x128x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_5 : Ref sig .tc := ⟨.hbm, 58, rfl⟩
abbrev main_call0_v0 : Ref sig .tc := ⟨.hbm, 59, rfl⟩
abbrev main_v46 : Ref sig .tc := ⟨.hbm, 60, rfl⟩
abbrev main_v47 : Ref sig .tc := ⟨.hbm, 61, rfl⟩
abbrev main_c_6 : Ref sig .tc := ⟨.hbm, 62, rfl⟩
abbrev main_v48 : Ref sig .tc := ⟨.hbm, 63, rfl⟩
abbrev main_v49 : Ref sig .tc := ⟨.hbm, 64, rfl⟩
abbrev main_c_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_9 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_10 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_11 : Ref sig .tc := ⟨.hbm, 104, rfl⟩
abbrev main_v85 : Ref sig .tc := ⟨.hbm, 105, rfl⟩
abbrev main_v86 : Ref sig .tc := ⟨.hbm, 106, rfl⟩
abbrev main_cst_12 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_c_13 : Ref sig .tc := ⟨.hbm, 115, rfl⟩
abbrev main_call1_v0 : Ref sig .tc := ⟨.hbm, 116, rfl⟩
abbrev main_v94 : Ref sig .tc := ⟨.hbm, 117, rfl⟩
abbrev main_v95 : Ref sig .tc := ⟨.hbm, 118, rfl⟩

abbrev nD : Nat := 1
abbrev τ : Topo := Topo.v7x

variable {F : FTy → Type} [FloatOps F]
-- ==== Proof.NsaIn.Array.lean ====
/- The projection's result array: row `r`, column `n` holds the product of row `r` of the stacked inputs with column
   `n` of the padded weights, plus the padded bias. -/
module

public import proofs.«01_k».proof.Proof.Gen.NsaInIdeal.Frame
public import Idealize.ShloMosaic.Lib.Pipeline.ValueKit
public import Idealize.ShloMosaic.Lib.Claim

@[expose] public section

set_option maxRecDepth 16384

noncomputable section

namespace Cert.NsaInIdeal.Val

open Cert.NsaInIdeal Cert.NsaInIdeal.Gen Idealize.ShloMosaic Idealize.ShloMosaic.TcCoe Idealize.SL.Sem
open Idealize.ShloMosaic.Pipeline (Dat)

variable (m : (ℓ : Loc nD τ sig) → Buf (Elt Ideal) ℓ)

/-- Rows times columns plus a bias row. -/
def affine (X : FVec Ideal S16896x1024 .f32) (W : FVec Ideal S1024x2688 .bf16) (B : FVec Ideal S1x2688 .f32) :
    FVec Ideal S16896x2688 .f32 := fun i => (∑ k : Fin 1024, X (ix2 (i 0) k) * W (ix2 k (i 1))) + B (ix2 0 (i 1))

/-- Grid point `t` works on row block `t`; the weights and the bias are one block each. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- What point `t` stores at block index `y`. -/
theorem point (c : Dev nD) (t : Fin cfg0.N) (y) : k0_pay1 (iblk m c 0 t) (iblk m c 1 t) (iblk m c 2 t) y
    = affine (V m c main_v3) (V m c main_v5) (V m c main_v7) (((cfg0.win 3).blk t).view.emb y) := by
  pointwise [k0_pay1, affine]
  blk_point [iblk, idx t]

/-- The projection's array after the run. -/
theorem final (c : Dev nD) : (dats m 0 c).arrAt 3 (cfgs 0).N
    = affine (V m c main_v3) (V m c main_v5) (V m c main_v7) := by
  refine (dats m 0 c).arrAt_eq_of_covers 3 _ (by decide +kernel) fun t _ y => ?_
  blk_simp
  rw [after0_3]; frame_out
  exact point m c t y

end Cert.NsaInIdeal.Val

end
-- ==== Proof.NsaIn.Entry.lean ====
/- The arrays the call is given, read at an index: the stacked inputs, the padded weights and the padded bias. -/
module

public import proofs.«01_k».proof.Proof.NsaIn.Array
public import Idealize.ShloMosaic.Lib.Pipeline.ValueKit
public import Idealize.ShloMosaic.Lib.Claim

@[expose] public section

set_option maxRecDepth 16384

noncomputable section

namespace Cert.NsaInIdeal.Val

open Cert.NsaInIdeal Cert.NsaInIdeal.Gen Idealize.ShloMosaic Idealize.ShloMosaic.TcCoe Idealize.SL.Sem
open Idealize.ShloMosaic.Pipeline (Dat)

variable (m : (ℓ : Loc nD τ sig) → Buf (Elt Ideal) ℓ)

/-- The prompt rows, then the sample rows, then nothing. -/
def stack (X : FVec Ideal S4x4096x1024 .f32) (Y : FVec Ideal S128x4x1024 .f32) : FVec Ideal S16896x1024 .f32 :=
  concatenate S16896x1024 0 [⟨S16384x1024, shapeCast _ X shapeCasts_S4x4096x1024_S16384x1024⟩,
    ⟨S512x1024, shapeCast _ Y shapeCasts_S128x4x1024_S512x1024⟩,
    ⟨S0x1024, broadcastInDim S0x1024 ![] bcast_S_S0x1024 (constant S_ .f32 0x00000000#32)⟩]
    concatenates_S16384x1024_S512x1024_S0x1024_S16896x1024_d0

/-- The call's first argument. -/
theorem V_v3 (c : Dev nD) : (show FVec Ideal S16896x1024 .f32 from V m c main_v3)
    = stack (m ((c : Thread nD τ).loc main_arg0)) (m ((c : Thread nD τ).loc main_arg1)) := by
  unfold V V0 stack
  simp only [hostOps0, hostOps0_1, hostOps0_2, hostOps0_3, hostOps0_4, List.flatten_cons, List.flatten_nil, List.append_nil,
    List.cons_append, List.nil_append]
  after_results
  rfl

/-- The padded bias left of the padding. -/
theorem b_at (c : Dev nD) (n : Fin 2688) (n' : Fin 2608) (hn : (n : ℕ) = n') :
    (show FVec Ideal S1x2688 .f32 from V m c main_v7) (ix2 0 n)
      = (show FVec Ideal S2608 .f32 from m ((c : Thread nD τ).loc main_arg3)) (ix1 n') := by
  unfold V V0
  simp only [hostOps0, hostOps0_1, hostOps0_2, hostOps0_3, hostOps0_4, List.flatten_cons, List.flatten_nil, List.append_nil,
    List.cons_append, List.nil_append]
  after_results
  show shapeCast S1x2688 (pad S2688 ![0] ![80] ![0] (show FVec Ideal S2608 .f32 from m ((c : Thread nD τ).loc main_arg3))
    (sitofp .f32 (constantI S_ 32 0#32)) pads_S2608_S2688_0800 h_S_) shapeCasts_S2688_S1x2688 (ix2 0 n) = _
  pointwise
  rw [dif_pos (by omega)]
  blk_ext

/-- The stacked inputs at a prompt row. -/
theorem x_prompt (c : Dev nD) (r : Fin 16896) (k : Fin 1024) (b : Fin 4) (l : Fin 4096) (hr : (r : ℕ) = b * 4096 + l) :
    (show FVec Ideal S16896x1024 .f32 from V m c main_v3) (ix2 r k)
      = (show FVec Ideal S4x4096x1024 .f32 from m ((c : Thread nD τ).loc main_arg0)) (ix3 b l k) := by
  rw [V_v3]
  pointwise [stack]
  rw [dif_pos (by omega)]
  blk_ext

/-- The stacked inputs at a sample row. -/
theorem x_sample (c : Dev nD) (r : Fin 16896) (k : Fin 1024) (b : Fin 128) (l : Fin 4)
    (hr : (r : ℕ) = 16384 + (b * 4 + l)) :
    (show FVec Ideal S16896x1024 .f32 from V m c main_v3) (ix2 r k)
      = (show FVec Ideal S128x4x1024 .f32 from m ((c : Thread nD τ).loc main_arg1)) (ix3 b l k) := by
  rw [V_v3]
  pointwise [stack]
  rw [dif_neg (by omega), dif_pos (by omega)]
  blk_ext

/-- The padded weights left of the padding. -/
theorem w_at (c : Dev nD) (k : Fin 1024) (n : Fin 2688) (n' : Fin 2608) (hn : (n : ℕ) = n') :
    (show FVec Ideal S1024x2688 .bf16 from V m c main_v5) (ix2 k n)
      = (show FVec Ideal S1024x2608 .f32 from m ((c : Thread nD τ).loc main_arg2)) (ix2 k n') := by
  unfold V V0
  simp only [hostOps0, hostOps0_1, hostOps0_2, hostOps0_3, hostOps0_4, List.flatten_cons, List.flatten_nil, List.append_nil,
    List.cons_append, List.nil_append]
  after_results
  show pad S1024x2688 ![0, 0] ![0, 80] ![0, 0] (show FVec Ideal S1024x2608 .f32 from m ((c : Thread nD τ).loc main_arg2))
    (sitofp .f32 (constantI S_ 32 0#32)) pads_S1024x2608_S1024x2688_000_0800 h_S_ (ix2 k n) = _
  pointwise
  rw [dif_pos (by omega)]
  blk_ext

/-- A prompt row of the result, from the arguments. -/
theorem prompt_row (c : Dev nD) (r : Fin 16896) (n : Fin 2688) (b : Fin 4) (l : Fin 4096) (n' : Fin 2608)
    (hr : (r : ℕ) = b * 4096 + l) (hn : (n : ℕ) = n') :
    affine (V m c main_v3) (V m c main_v5) (V m c main_v7) (ix2 r n)
      = (∑ k : Fin 1024, (show FVec Ideal S4x4096x1024 .f32 from m ((c : Thread nD τ).loc main_arg0)) (ix3 b l k)
          * (show FVec Ideal S1024x2608 .f32 from m ((c : Thread nD τ).loc main_arg2)) (ix2 k n'))
        + (show FVec Ideal S2608 .f32 from m ((c : Thread nD τ).loc main_arg3)) (ix1 n') :=
  congrArg₂ (· + ·) (Finset.sum_congr rfl fun k _ => congrArg₂ (· * ·) (x_prompt m c r k b l hr) (w_at m c k n n' hn))
    (b_at m c n n' hn)

/-- A sample row of the result, from the arguments. -/
theorem sample_row (c : Dev nD) (r : Fin 16896) (n : Fin 2688) (b : Fin 128) (l : Fin 4) (n' : Fin 2608)
    (hr : (r : ℕ) = 16384 + (b * 4 + l)) (hn : (n : ℕ) = n') :
    affine (V m c main_v3) (V m c main_v5) (V m c main_v7) (ix2 r n)
      = (∑ k : Fin 1024, (show FVec Ideal S128x4x1024 .f32 from m ((c : Thread nD τ).loc main_arg1)) (ix3 b l k)
          * (show FVec Ideal S1024x2608 .f32 from m ((c : Thread nD τ).loc main_arg2)) (ix2 k n'))
        + (show FVec Ideal S2608 .f32 from m ((c : Thread nD τ).loc main_arg3)) (ix1 n') :=
  congrArg₂ (· + ·) (Finset.sum_congr rfl fun k _ => congrArg₂ (· * ·) (x_sample m c r k b l hr) (w_at m c k n n' hn))
    (b_at m c n n' hn)

end Cert.NsaInIdeal.Val

end
-- ==== Proof.NsaIn.Tail.lean ====
/- The results cut out of the call's array after it, each against the reference's own term. -/
module

public import proofs.«01_k».proof.Proof.NsaIn.Entry
public import proofs.«01_k».proof.Proof.Gen.NsaInRefIdeal.Run

@[expose] public section

set_option maxRecDepth 16384

noncomputable section

open Idealize.ShloMosaic Idealize.ShloMosaic.TcCoe Idealize.SL.Sem

namespace Cert.NsaInIdeal.Val

open Cert.NsaInIdeal Cert.NsaInIdeal.Gen

variable (m : (ℓ : Loc nD τ sig) → Buf (Elt Ideal) ℓ)

/-- The call's result when it has ended. -/
theorem exit_v8 (c : Dev nD) : Pipeline.withArrays (cfgs 0).spec c (V0 m c) (fun w => (dats m 0 c).arrAt w (cfgs 0).N)
    (Proc.tc.devRef main_v8) = affine (V m c main_v3) (V m c main_v5) (V m c main_v7) :=
  (Pipeline.withArrays_arr spec0 winFacts0.arr_inj c _ _ 3).trans (final m c)

/-- The kept rows' old window is untouched by the call. -/
theorem exit_arg4 (c : Dev nD) : Pipeline.withArrays (cfgs 0).spec c (V0 m c) (fun w => (dats m 0 c).arrAt w (cfgs 0).N)
    (Proc.tc.devRef main_arg4) = m ((c : Thread nD τ).loc main_arg4) :=
  (Pipeline.withArrays_of_ne spec0 c _ _ main_arg4 (by decide)).trans (V_main_arg4 m c)

/-- The prompt rows of the call's result. -/
def promptOut (A : FVec Ideal S16896x2688 .f32) : FVec Ideal S4x4096x2688 .f32 :=
  shapeCast _ (extractStridedSlice S16384x2688 ![0, 0] A slices_S16896x2688_S16384x2688_0_0)
    shapeCasts_S16384x2688_S4x4096x2688

/-- The sample rows of the call's result. -/
def sampleOut (A : FVec Ideal S16896x2688 .f32) : FVec Ideal S128x4x2688 .f32 :=
  shapeCast _ (extractStridedSlice S512x2688 ![16384, 0] A slices_S16896x2688_S512x2688_16384_0)
    shapeCasts_S512x2688_S128x4x2688

/-- The reference's projection of the prompt. -/
def refP (X : FVec Ideal S4x4096x1024 .f32) (W : FVec Ideal S1024x2608 .f32) (B : FVec Ideal S2608 .f32) :
    FVec Ideal Cert.NsaInRefIdeal.S4x4096x2608 .f32 :=
  addf (Host.dotGeneral Cert.NsaInRefIdeal.dot_S4x4096x1024_S1024x2608_S4x4096x2608_2_0_01_1_n_n none X W)
    (broadcastInDim Cert.NsaInRefIdeal.S4x4096x2608 ![0, 1, 2] Cert.NsaInRefIdeal.Gen.bcast_S1x1x2608_S4x4096x2608_0_1_2
      (broadcastInDim Cert.NsaInRefIdeal.S1x1x2608 ![2] Cert.NsaInRefIdeal.Gen.bcast_S2608_S1x1x2608_2 B))

/-- The reference's projection of the samples. -/
def refS (X : FVec Ideal S128x4x1024 .f32) (W : FVec Ideal S1024x2608 .f32) (B : FVec Ideal S2608 .f32) :
    FVec Ideal Cert.NsaInRefIdeal.S128x4x2608 .f32 :=
  addf (Host.dotGeneral Cert.NsaInRefIdeal.dot_S128x4x1024_S1024x2608_S128x4x2608_2_0_01_1_n_n none X W)
    (broadcastInDim Cert.NsaInRefIdeal.S128x4x2608 ![0, 1, 2] Cert.NsaInRefIdeal.Gen.bcast_S1x1x2608_S128x4x2608_0_1_2
      (broadcastInDim Cert.NsaInRefIdeal.S1x1x2608 ![2] Cert.NsaInRefIdeal.Gen.bcast_S2608_S1x1x2608_2 B))

/-- The samples' window in the reference: the old window followed by the new rows, its last 512 rows. -/
def refWin (O : FVec Ideal S128x512x2x4x64 .f32) (X : FVec Ideal S128x4x1024 .f32) (W : FVec Ideal S1024x2608 .f32)
    (B : FVec Ideal S2608 .f32) : FVec Ideal S128x512x2x4x64 .f32 :=
  extractStridedSlice Cert.NsaInRefIdeal.S128x512x2x4x64 ![0, 4, 0, 0, 0] (concatenate Cert.NsaInRefIdeal.S128x516x2x4x64 1 [⟨S128x512x2x4x64, O⟩, ⟨Cert.NsaInRefIdeal.S128x4x2x4x64, extractStridedSlice Cert.NsaInRefIdeal.S128x4x2x4x64 ![0, 0, 4, 0, 0] (shapeCast _ (extractStridedSlice Cert.NsaInRefIdeal.S128x4x1536 ![0, 0, 1024] (refS X W B) Cert.NsaInRefIdeal.Gen.slices_S128x4x2608_S128x4x1536_0_0_1024) Cert.NsaInRefIdeal.Gen.shapeCasts_S128x4x1536_S128x4x6x4x64) Cert.NsaInRefIdeal.Gen.slices_S128x4x6x4x64_S128x4x2x4x64_0_0_4_0_0⟩] Cert.NsaInRefIdeal.Gen.concatenates_S128x512x2x4x64_S128x4x2x4x64_S128x516x2x4x64_d1) Cert.NsaInRefIdeal.Gen.slices_S128x516x2x4x64_S128x512x2x4x64_0_4_0_0_0

/-- `refP` of the kernel's arguments. -/
abbrev RP (c : Dev nD) := refP (m ((c : Thread nD τ).loc main_arg0)) (m ((c : Thread nD τ).loc main_arg2))
  (m ((c : Thread nD τ).loc main_arg3))

/-- `refS` of the kernel's arguments. -/
abbrev RS (c : Dev nD) := refS (m ((c : Thread nD τ).loc main_arg1)) (m ((c : Thread nD τ).loc main_arg2))
  (m ((c : Thread nD τ).loc main_arg3))

/-- The call's array over the arrays it was given. -/
abbrev A (c : Dev nD) := affine (V m c main_v3) (V m c main_v5) (V m c main_v7)

/-- A prompt row, left of the padding, is the reference's. -/
theorem prompt_eq (c : Dev nD) (b b' : Fin 4) (l l' : Fin 4096) (n : Fin 2688) (n' : Fin 2608) (hb : (b : ℕ) = b')
    (hl : (l : ℕ) = l') (hn : (n : ℕ) = n') : promptOut (A m c) (ix3 b l n) = RP m c (ix3 b' l' n') := by
  obtain rfl := Fin.ext hb
  obtain rfl := Fin.ext hl
  have h : promptOut (A m c) (ix3 b l n) = A m c (ix2 (⟨b * 4096 + l, by omega⟩ : Fin 16896) n) := by
    pointwise [promptOut]
    blk_ext
  rw [h]
  refine (prompt_row m c _ n b l n' rfl hn).trans ?_
  pointwise [RP, refP]

/-- A sample row, left of the padding, is the reference's. -/
theorem sample_eq (c : Dev nD) (b b' : Fin 128) (l l' : Fin 4) (n : Fin 2688) (n' : Fin 2608) (hb : (b : ℕ) = b')
    (hl : (l : ℕ) = l') (hn : (n : ℕ) = n') : sampleOut (A m c) (ix3 b l n) = RS m c (ix3 b' l' n') := by
  obtain rfl := Fin.ext hb
  obtain rfl := Fin.ext hl
  have h : sampleOut (A m c) (ix3 b l n) = A m c (ix2 (⟨16384 + (b * 4 + l), by omega⟩ : Fin 16896) n) := by
    pointwise [sampleOut]
    blk_ext
  rw [h]
  refine (sample_row m c _ n b l n' rfl hn).trans ?_
  pointwise [RS, refS]

/-- The prompt queries. -/
theorem tail16 (c : Dev nD) : (show FVec Ideal _ .f32 from Pipeline.afterTail₀ cfgs (dats m) 0 (V0 m) [hostOps1] c main_v16)
    = extractStridedSlice Cert.NsaInRefIdeal.S4x4096x1024 ![0, 0, 0] (RP m c) Cert.NsaInRefIdeal.Gen.slices_S4x4096x2608_S4x4096x1024_0_0_0 := by
  unfold Pipeline.afterTail₀
  simp only [hostOps1, List.flatten_cons, List.flatten_nil, List.append_nil, List.cons_append, List.nil_append]
  after_results
  rw [exit_v8]
  show extractStridedSlice S4x4096x1024 ![0, 0, 0] (promptOut (A m c)) slices_S4x4096x2688_S4x4096x1024_0_0_0 = _
  funext j
  pointwise
  refine prompt_eq m c _ _ _ _ _ _ ?_ ?_ ?_
  all_goals idx_bounds
  all_goals try dsimp only
  all_goals omega

/-- The prompt gates. -/
theorem tail17 (c : Dev nD) : (show FVec Ideal _ .f32 from Pipeline.afterTail₀ cfgs (dats m) 0 (V0 m) [hostOps1] c main_v17)
    = extractStridedSlice Cert.NsaInRefIdeal.S4x4096x48 ![0, 0, 2560] (RP m c) Cert.NsaInRefIdeal.Gen.slices_S4x4096x2608_S4x4096x48_0_0_2560 := by
  unfold Pipeline.afterTail₀
  simp only [hostOps1, List.flatten_cons, List.flatten_nil, List.append_nil, List.cons_append, List.nil_append]
  after_results
  rw [exit_v8]
  show extractStridedSlice S4x4096x48 ![0, 0, 2560] (promptOut (A m c)) slices_S4x4096x2688_S4x4096x48_0_0_2560 = _
  funext j
  pointwise
  refine prompt_eq m c _ _ _ _ _ _ ?_ ?_ ?_
  all_goals idx_bounds
  all_goals try dsimp only
  all_goals omega

/-- The sample queries. -/
theorem tail18 (c : Dev nD) : (show FVec Ideal _ .f32 from Pipeline.afterTail₀ cfgs (dats m) 0 (V0 m) [hostOps1] c main_v18)
    = extractStridedSlice Cert.NsaInRefIdeal.S128x4x1024 ![0, 0, 0] (RS m c) Cert.NsaInRefIdeal.Gen.slices_S128x4x2608_S128x4x1024_0_0_0 := by
  unfold Pipeline.afterTail₀
  simp only [hostOps1, List.flatten_cons, List.flatten_nil, List.append_nil, List.cons_append, List.nil_append]
  after_results
  rw [exit_v8]
  show extractStridedSlice S128x4x1024 ![0, 0, 0] (sampleOut (A m c)) slices_S128x4x2688_S128x4x1024_0_0_0 = _
  funext j
  pointwise
  refine sample_eq m c _ _ _ _ _ _ ?_ ?_ ?_
  all_goals idx_bounds
  all_goals try dsimp only
  all_goals omega

/-- The sample gates. -/
theorem tail19 (c : Dev nD) : (show FVec Ideal _ .f32 from Pipeline.afterTail₀ cfgs (dats m) 0 (V0 m) [hostOps1] c main_v19)
    = extractStridedSlice Cert.NsaInRefIdeal.S128x4x48 ![0, 0, 2560] (RS m c) Cert.NsaInRefIdeal.Gen.slices_S128x4x2608_S128x4x48_0_0_2560 := by
  unfold Pipeline.afterTail₀
  simp only [hostOps1, List.flatten_cons, List.flatten_nil, List.append_nil, List.cons_append, List.nil_append]
  after_results
  rw [exit_v8]
  show extractStridedSlice S128x4x48 ![0, 0, 2560] (sampleOut (A m c)) slices_S128x4x2688_S128x4x48_0_0_2560 = _
  funext j
  pointwise
  refine sample_eq m c _ _ _ _ _ _ ?_ ?_ ?_
  all_goals idx_bounds
  all_goals try dsimp only
  all_goals omega

/-- The prompt rows to be compressed. -/
theorem tail20 (c : Dev nD) : (show FVec Ideal _ .f32 from Pipeline.afterTail₀ cfgs (dats m) 0 (V0 m) [hostOps1] c main_v20)
    = extractStridedSlice Cert.NsaInRefIdeal.S4x4096x2x4x64 ![0, 0, 0, 0, 0] (shapeCast _ (extractStridedSlice Cert.NsaInRefIdeal.S4x4096x1536 ![0, 0, 1024] (RP m c) Cert.NsaInRefIdeal.Gen.slices_S4x4096x2608_S4x4096x1536_0_0_1024) Cert.NsaInRefIdeal.Gen.shapeCasts_S4x4096x1536_S4x4096x6x4x64) Cert.NsaInRefIdeal.Gen.slices_S4x4096x6x4x64_S4x4096x2x4x64_0_0_0_0_0 := by
  unfold Pipeline.afterTail₀
  simp only [hostOps1, List.flatten_cons, List.flatten_nil, List.append_nil, List.cons_append, List.nil_append]
  after_results
  rw [exit_v8]
  show shapeCast _ (extractStridedSlice S4x4096x512 ![0, 0, 1024] (promptOut (A m c)) slices_S4x4096x2688_S4x4096x512_0_0_1024) shapeCasts_S4x4096x512_S4x4096x2x4x64 = _
  funext j
  pointwise
  refine prompt_eq m c _ _ _ _ _ _ ?_ ?_ ?_
  all_goals idx_bounds
  all_goals try dsimp only
  all_goals omega

/-- The sample rows to be compressed. -/
theorem tail22 (c : Dev nD) : (show FVec Ideal _ .f32 from Pipeline.afterTail₀ cfgs (dats m) 0 (V0 m) [hostOps1] c main_v22)
    = extractStridedSlice Cert.NsaInRefIdeal.S128x4x2x4x64 ![0, 0, 0, 0, 0] (shapeCast _ (extractStridedSlice Cert.NsaInRefIdeal.S128x4x1536 ![0, 0, 1024] (RS m c) Cert.NsaInRefIdeal.Gen.slices_S128x4x2608_S128x4x1536_0_0_1024) Cert.NsaInRefIdeal.Gen.shapeCasts_S128x4x1536_S128x4x6x4x64) Cert.NsaInRefIdeal.Gen.slices_S128x4x6x4x64_S128x4x2x4x64_0_0_0_0_0 := by
  unfold Pipeline.afterTail₀
  simp only [hostOps1, List.flatten_cons, List.flatten_nil, List.append_nil, List.cons_append, List.nil_append]
  after_results
  rw [exit_v8]
  show shapeCast _ (extractStridedSlice S128x4x512 ![0, 0, 1024] (sampleOut (A m c)) slices_S128x4x2688_S128x4x512_0_0_1024) shapeCasts_S128x4x512_S128x4x2x4x64 = _
  funext j
  pointwise
  refine sample_eq m c _ _ _ _ _ _ ?_ ?_ ?_
  all_goals idx_bounds
  all_goals try dsimp only
  all_goals omega

/-- The prompt rows to be selected. -/
theorem tail23 (c : Dev nD) : (show FVec Ideal _ .f32 from Pipeline.afterTail₀ cfgs (dats m) 0 (V0 m) [hostOps1] c main_v23)
    = extractStridedSlice Cert.NsaInRefIdeal.S4x4096x2x4x64 ![0, 0, 2, 0, 0] (shapeCast _ (extractStridedSlice Cert.NsaInRefIdeal.S4x4096x1536 ![0, 0, 1024] (RP m c) Cert.NsaInRefIdeal.Gen.slices_S4x4096x2608_S4x4096x1536_0_0_1024) Cert.NsaInRefIdeal.Gen.shapeCasts_S4x4096x1536_S4x4096x6x4x64) Cert.NsaInRefIdeal.Gen.slices_S4x4096x6x4x64_S4x4096x2x4x64_0_0_2_0_0 := by
  unfold Pipeline.afterTail₀
  simp only [hostOps1, List.flatten_cons, List.flatten_nil, List.append_nil, List.cons_append, List.nil_append]
  after_results
  rw [exit_v8]
  show shapeCast _ (extractStridedSlice S4x4096x512 ![0, 0, 1536] (promptOut (A m c)) slices_S4x4096x2688_S4x4096x512_0_0_1536) shapeCasts_S4x4096x512_S4x4096x2x4x64 = _
  funext j
  pointwise
  refine prompt_eq m c _ _ _ _ _ _ ?_ ?_ ?_
  all_goals idx_bounds
  all_goals try dsimp only
  all_goals omega

/-- The sample rows to be selected. -/
theorem tail25 (c : Dev nD) : (show FVec Ideal _ .f32 from Pipeline.afterTail₀ cfgs (dats m) 0 (V0 m) [hostOps1] c main_v25)
    = extractStridedSlice Cert.NsaInRefIdeal.S128x4x2x4x64 ![0, 0, 2, 0, 0] (shapeCast _ (extractStridedSlice Cert.NsaInRefIdeal.S128x4x1536 ![0, 0, 1024] (RS m c) Cert.NsaInRefIdeal.Gen.slices_S128x4x2608_S128x4x1536_0_0_1024) Cert.NsaInRefIdeal.Gen.shapeCasts_S128x4x1536_S128x4x6x4x64) Cert.NsaInRefIdeal.Gen.slices_S128x4x6x4x64_S128x4x2x4x64_0_0_2_0_0 := by
  unfold Pipeline.afterTail₀
  simp only [hostOps1, List.flatten_cons, List.flatten_nil, List.append_nil, List.cons_append, List.nil_append]
  after_results
  rw [exit_v8]
  show shapeCast _ (extractStridedSlice S128x4x512 ![0, 0, 1536] (sampleOut (A m c)) slices_S128x4x2688_S128x4x512_0_0_1536) shapeCasts_S128x4x512_S128x4x2x4x64 = _
  funext j
  pointwise
  refine sample_eq m c _ _ _ _ _ _ ?_ ?_ ?_
  all_goals idx_bounds
  all_goals try dsimp only
  all_goals omega

/-- The prompt's window. -/
theorem tail27 (c : Dev nD) : (show FVec Ideal _ .f32 from Pipeline.afterTail₀ cfgs (dats m) 0 (V0 m) [hostOps1] c main_v27)
    = extractStridedSlice Cert.NsaInRefIdeal.S4x512x2x4x64 ![0, 3584, 4, 0, 0] (shapeCast _ (extractStridedSlice Cert.NsaInRefIdeal.S4x4096x1536 ![0, 0, 1024] (RP m c) Cert.NsaInRefIdeal.Gen.slices_S4x4096x2608_S4x4096x1536_0_0_1024) Cert.NsaInRefIdeal.Gen.shapeCasts_S4x4096x1536_S4x4096x6x4x64) Cert.NsaInRefIdeal.Gen.slices_S4x4096x6x4x64_S4x512x2x4x64_0_3584_4_0_0 := by
  unfold Pipeline.afterTail₀
  simp only [hostOps1, List.flatten_cons, List.flatten_nil, List.append_nil, List.cons_append, List.nil_append]
  after_results
  rw [exit_v8]
  show shapeCast _ (extractStridedSlice S4x512x512 ![0, 3584, 0] (extractStridedSlice S4x4096x512 ![0, 0, 2048] (promptOut (A m c)) slices_S4x4096x2688_S4x4096x512_0_0_2048) slices_S4x4096x512_S4x512x512_0_3584_0) shapeCasts_S4x512x512_S4x512x2x4x64 = _
  funext j
  pointwise
  refine prompt_eq m c _ _ _ _ _ _ ?_ ?_ ?_
  all_goals idx_bounds
  all_goals try dsimp only
  all_goals omega

/-- The samples' window. -/
theorem tail31 (c : Dev nD) : (show FVec Ideal _ .f32 from Pipeline.afterTail₀ cfgs (dats m) 0 (V0 m) [hostOps1] c main_v31)
    = refWin (m ((c : Thread nD τ).loc main_arg4)) (m ((c : Thread nD τ).loc main_arg1)) (m ((c : Thread nD τ).loc main_arg2)) (m ((c : Thread nD τ).loc main_arg3)) := by
  unfold Pipeline.afterTail₀
  simp only [hostOps1, List.flatten_cons, List.flatten_nil, List.append_nil, List.cons_append, List.nil_append]
  after_results
  rw [exit_v8]; rw [exit_arg4]
  show concatenate S128x512x2x4x64 1 [⟨S128x508x2x4x64, extractStridedSlice S128x508x2x4x64 ![0, 4, 0, 0, 0] (m ((c : Thread nD τ).loc main_arg4)) slices_S128x512x2x4x64_S128x508x2x4x64_0_4_0_0_0⟩, ⟨S128x4x2x4x64, shapeCast _ (extractStridedSlice S128x4x512 ![0, 0, 2048] (sampleOut (A m c)) slices_S128x4x2688_S128x4x512_0_0_2048) shapeCasts_S128x4x512_S128x4x2x4x64⟩] concatenates_S128x508x2x4x64_S128x4x2x4x64_S128x512x2x4x64_d1 = _
  funext j
  pointwise [refWin]
  by_cases h : (j 1 : ℕ) < 508
  · rw [dif_pos h, dif_pos (by omega)]
  · rw [dif_neg h, dif_neg (by omega)]
    refine sample_eq m c _ _ _ _ _ _ ?_ ?_ ?_
    all_goals idx_bounds
    all_goals try dsimp only
    all_goals omega

end Cert.NsaInIdeal.Val

end
-- ==== Proof.SwaIn.Array.lean ====
/- The projection's result array: row `r`, column `n` holds the product of row `r` of the stacked inputs with column
   `n` of the weights, plus a bias (all zeros here). -/
module

public import proofs.«01_k».proof.Proof.Gen.SwaInIdeal.Frame
public import Idealize.ShloMosaic.Lib.Pipeline.ValueKit
public import Idealize.ShloMosaic.Lib.Claim

@[expose] public section

set_option maxRecDepth 16384

noncomputable section

namespace Cert.SwaInIdeal.Val

open Cert.SwaInIdeal Cert.SwaInIdeal.Gen Idealize.ShloMosaic Idealize.ShloMosaic.TcCoe Idealize.SL.Sem
open Idealize.ShloMosaic.Pipeline (Dat)

variable (m : (ℓ : Loc nD τ sig) → Buf (Elt Ideal) ℓ)

/-- Rows times columns plus a bias row. -/
def affine (X : FVec Ideal S16896x1024 .f32) (W : FVec Ideal S1024x1280 .bf16) (B : FVec Ideal S1x1280 .f32) :
    FVec Ideal S16896x1280 .f32 := fun i => (∑ k : Fin 1024, X (ix2 (i 0) k) * W (ix2 k (i 1))) + B (ix2 0 (i 1))

/-- Grid point `t` works on row block `t`; the weights and the bias are one block each. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- What point `t` stores at block index `y`. -/
theorem point (c : Dev nD) (t : Fin cfg0.N) (y) : k0_pay1 (iblk m c 0 t) (iblk m c 1 t) (iblk m c 2 t) y
    = affine (V m c main_v3) (V m c main_v4) (V m c main_v5) (((cfg0.win 3).blk t).view.emb y) := by
  pointwise [k0_pay1, affine]
  blk_point [iblk, idx t]

/-- The projection's array after the run. -/
theorem final (c : Dev nD) : (dats m 0 c).arrAt 3 (cfgs 0).N
    = affine (V m c main_v3) (V m c main_v4) (V m c main_v5) := by
  refine (dats m 0 c).arrAt_eq_of_covers 3 _ (by decide +kernel) fun t _ y => ?_
  blk_simp
  rw [after0_3]; frame_out
  exact point m c t y

end Cert.SwaInIdeal.Val

end
-- ==== Proof.SwaIn.Entry.lean ====
/- The arrays the call is given, and the rows of its result read from the arguments. -/
module

public import proofs.«01_k».proof.Proof.SwaIn.Array
public import Idealize.ShloMosaic.Lib.Pipeline.ValueKit
public import Idealize.ShloMosaic.Lib.Claim

@[expose] public section

set_option maxRecDepth 16384

noncomputable section

namespace Cert.SwaInIdeal.Val

open Cert.SwaInIdeal Cert.SwaInIdeal.Gen Idealize.ShloMosaic Idealize.ShloMosaic.TcCoe Idealize.SL.Sem
open Idealize.ShloMosaic.Pipeline (Dat)

variable (m : (ℓ : Loc nD τ sig) → Buf (Elt Ideal) ℓ)

/-- The prompt rows, then the sample rows, then nothing. -/
def stack (X : FVec Ideal S4x4096x1024 .f32) (Y : FVec Ideal S128x4x1024 .f32) : FVec Ideal S16896x1024 .f32 :=
  concatenate S16896x1024 0 [⟨S16384x1024, shapeCast _ X shapeCasts_S4x4096x1024_S16384x1024⟩,
    ⟨S512x1024, shapeCast _ Y shapeCasts_S128x4x1024_S512x1024⟩,
    ⟨S0x1024, broadcastInDim S0x1024 ![] bcast_S_S0x1024 (constant S_ .f32 0x00000000#32)⟩]
    concatenates_S16384x1024_S512x1024_S0x1024_S16896x1024_d0

/-- The call's first argument: the stacked inputs. -/
theorem V_v3 (c : Dev nD) : (show FVec Ideal S16896x1024 .f32 from V m c main_v3)
    = stack (m ((c : Thread nD τ).loc main_arg0)) (m ((c : Thread nD τ).loc main_arg1)) := by
  unfold V V0 stack
  simp only [hostOps0, List.flatten_cons, List.flatten_nil, List.append_nil, List.cons_append, List.nil_append]
  after_results
  rfl

/-- The call's second argument: the weights. -/
theorem V_v4 (c : Dev nD) : (show FVec Ideal S1024x1280 .bf16 from V m c main_v4)
    = (show FVec Ideal S1024x1280 .f32 from m ((c : Thread nD τ).loc main_arg2)) := by
  unfold V V0
  simp only [hostOps0, List.flatten_cons, List.flatten_nil, List.append_nil, List.cons_append, List.nil_append]
  after_results
  rfl

/-- The call's third argument: no bias. -/
theorem V_v5 (c : Dev nD) : (show FVec Ideal S1x1280 .f32 from V m c main_v5)
    = broadcastInDim S1x1280 ![] bcast_S_S1x1280 (constant S_ .f32 0x00000000#32) := by
  unfold V V0
  simp only [hostOps0, List.flatten_cons, List.flatten_nil, List.append_nil, List.cons_append, List.nil_append]
  after_results

/-- A prompt row of the call's array is that row times the weights. -/
theorem prompt_row (c : Dev nD) (r : Fin 16896) (n : Fin 1280) (b : Fin 4) (l : Fin 4096) (hr : (r : ℕ) = b * 4096 + l) :
    affine (V m c main_v3) (V m c main_v4) (V m c main_v5) (ix2 r n)
      = ∑ k : Fin 1024, (show FVec Ideal S4x4096x1024 .f32 from m ((c : Thread nD τ).loc main_arg0)) (ix3 b l k)
          * (show FVec Ideal S1024x1280 .f32 from m ((c : Thread nD τ).loc main_arg2)) (ix2 k n) := by
  have h3 := V_v3 m c
  have h4 := V_v4 m c
  have h5 := V_v5 m c
  dsimp only at h3 h4 h5
  rw [h3, h4, h5]
  pointwise [affine, stack]
  refine Finset.sum_congr rfl fun k _ => ?_
  rw [dif_pos (by omega)]
  refine congrArg₂ (· * ·) (congrArg _ ?_) rfl
  blk_ext

/-- A sample row of the call's array is that row times the weights. -/
theorem sample_row (c : Dev nD) (r : Fin 16896) (n : Fin 1280) (b : Fin 128) (l : Fin 4) (hr : (r : ℕ) = 16384 + (b * 4 + l)) :
    affine (V m c main_v3) (V m c main_v4) (V m c main_v5) (ix2 r n)
      = ∑ k : Fin 1024, (show FVec Ideal S128x4x1024 .f32 from m ((c : Thread nD τ).loc main_arg1)) (ix3 b l k)
          * (show FVec Ideal S1024x1280 .f32 from m ((c : Thread nD τ).loc main_arg2)) (ix2 k n) := by
  have h3 := V_v3 m c
  have h4 := V_v4 m c
  have h5 := V_v5 m c
  dsimp only at h3 h4 h5
  rw [h3, h4, h5]
  pointwise [affine, stack]
  refine Finset.sum_congr rfl fun k _ => ?_
  rw [dif_neg (by omega), dif_pos (by omega)]
  refine congrArg₂ (· * ·) (congrArg _ ?_) rfl
  blk_ext

end Cert.SwaInIdeal.Val

end
-- ==== Proof.SwaIn.Tail.lean ====
/- The results cut out of the call's array after it, each against the reference's own term. -/
module

public import proofs.«01_k».proof.Proof.SwaIn.Entry
public import proofs.«01_k».proof.Proof.Gen.SwaInRefIdeal.Run

@[expose] public section

set_option maxRecDepth 16384

noncomputable section

open Idealize.ShloMosaic Idealize.ShloMosaic.TcCoe Idealize.SL.Sem

namespace Cert.SwaInIdeal.Val

open Cert.SwaInIdeal Cert.SwaInIdeal.Gen

variable (m : (ℓ : Loc nD τ sig) → Buf (Elt Ideal) ℓ)

/-- The call's result when it has ended. -/
theorem exit_v6 (c : Dev nD) : Pipeline.withArrays (cfgs 0).spec c (V0 m c) (fun w => (dats m 0 c).arrAt w (cfgs 0).N)
    (Proc.tc.devRef main_v6) = affine (V m c main_v3) (V m c main_v4) (V m c main_v5) :=
  (Pipeline.withArrays_arr spec0 winFacts0.arr_inj c _ _ 3).trans (final m c)

/-- The kept rows' old window is untouched by the call. -/
theorem exit_arg3 (c : Dev nD) : Pipeline.withArrays (cfgs 0).spec c (V0 m c) (fun w => (dats m 0 c).arrAt w (cfgs 0).N)
    (Proc.tc.devRef main_arg3) = m ((c : Thread nD τ).loc main_arg3) :=
  (Pipeline.withArrays_of_ne spec0 c _ _ main_arg3 (by decide)).trans (V_main_arg3 m c)

/-- The prompt rows of the call's result. -/
def promptOut (A : FVec Ideal S16896x1280 .f32) : FVec Ideal S4x4096x1280 .f32 :=
  shapeCast _ (extractStridedSlice S16384x1280 ![0, 0] A slices_S16896x1280_S16384x1280_0_0)
    shapeCasts_S16384x1280_S4x4096x1280

/-- The sample rows of the call's result. -/
def sampleOut (A : FVec Ideal S16896x1280 .f32) : FVec Ideal S128x4x1280 .f32 :=
  shapeCast _ (extractStridedSlice S512x1280 ![16384, 0] A slices_S16896x1280_S512x1280_16384_0)
    shapeCasts_S512x1280_S128x4x1280

/-- The reference's projection of the prompt. -/
def refP (X : FVec Ideal S4x4096x1024 .f32) (W : FVec Ideal S1024x1280 .f32) : FVec Ideal S4x4096x1280 .f32 :=
  Host.dotGeneral Cert.SwaInRefIdeal.dot_S4x4096x1024_S1024x1280_S4x4096x1280_2_0_01_1_n_n none X W

/-- The reference's projection of the samples. -/
def refS (X : FVec Ideal S128x4x1024 .f32) (W : FVec Ideal S1024x1280 .f32) : FVec Ideal S128x4x1280 .f32 :=
  Host.dotGeneral Cert.SwaInRefIdeal.dot_S128x4x1024_S1024x1280_S128x4x1280_2_0_01_1_n_n none X W

/-- The call's array over the arrays it was given. -/
abbrev A (c : Dev nD) := affine (V m c main_v3) (V m c main_v4) (V m c main_v5)

/-- The prompt rows are the reference's. -/
theorem prompt_eq (c : Dev nD) : promptOut (A m c)
    = refP (m ((c : Thread nD τ).loc main_arg0)) (m ((c : Thread nD τ).loc main_arg2)) := by
  funext j
  obtain ⟨b, l, n, rfl⟩ : ∃ b l n, j = ix3 b l n := ⟨j 0, j 1, j 2, by blk_ext⟩
  have h : promptOut (A m c) (ix3 b l n) = A m c (ix2 (⟨b * 4096 + l, by omega⟩ : Fin 16896) n) := by
    pointwise [promptOut]
    blk_ext
  rw [h]
  refine (prompt_row m c _ n b l rfl).trans ?_
  pointwise [refP]

/-- The sample rows are the reference's. -/
theorem sample_eq (c : Dev nD) : sampleOut (A m c)
    = refS (m ((c : Thread nD τ).loc main_arg1)) (m ((c : Thread nD τ).loc main_arg2)) := by
  funext j
  obtain ⟨b, l, n, rfl⟩ : ∃ b l n, j = ix3 b l n := ⟨j 0, j 1, j 2, by blk_ext⟩
  have h : sampleOut (A m c) (ix3 b l n) = A m c (ix2 (⟨16384 + (b * 4 + l), by omega⟩ : Fin 16896) n) := by
    pointwise [sampleOut]
    blk_ext
  rw [h]
  refine (sample_row m c _ n b l rfl).trans ?_
  pointwise [refS]

/-- Keys and values of the prompt's last rows side by side, as the call's host code stacks them. -/
def keepP (H : FVec Ideal S4x4096x1280 .f32) : FVec Ideal S4x128x2x2x64 .f32 :=
  concatenate S4x128x2x2x64 2
    [⟨S4x128x1x2x64, broadcastInDim S4x128x1x2x64 ![0, 1, 3, 4] bcast_S4x128x2x64_S4x128x1x2x64_0_1_3_4 (shapeCast _
        (extractStridedSlice S4x128x128 ![0, 3968, 0] (extractStridedSlice S4x4096x128 ![0, 0, 1024] H
          slices_S4x4096x1280_S4x4096x128_0_0_1024) slices_S4x4096x128_S4x128x128_0_3968_0) shapeCasts_S4x128x128_S4x128x2x64)⟩,
     ⟨S4x128x1x2x64, broadcastInDim S4x128x1x2x64 ![0, 1, 3, 4] bcast_S4x128x2x64_S4x128x1x2x64_0_1_3_4 (shapeCast _
        (extractStridedSlice S4x128x128 ![0, 3968, 0] (extractStridedSlice S4x4096x128 ![0, 0, 1152] H
          slices_S4x4096x1280_S4x4096x128_0_0_1152) slices_S4x4096x128_S4x128x128_0_3968_0) shapeCasts_S4x128x128_S4x128x2x64)⟩]
    concatenates_S4x128x1x2x64_S4x128x1x2x64_S4x128x2x2x64_d2

/-- Keys and values of the new sample rows side by side. -/
def newS (H : FVec Ideal S128x4x1280 .f32) : FVec Ideal S128x4x2x2x64 .f32 :=
  concatenate S128x4x2x2x64 2
    [⟨S128x4x1x2x64, broadcastInDim S128x4x1x2x64 ![0, 1, 3, 4] bcast_S128x4x2x64_S128x4x1x2x64_0_1_3_4 (shapeCast _
        (extractStridedSlice S128x4x128 ![0, 0, 1024] H slices_S128x4x1280_S128x4x128_0_0_1024)
        shapeCasts_S128x4x128_S128x4x2x64)⟩,
     ⟨S128x4x1x2x64, broadcastInDim S128x4x1x2x64 ![0, 1, 3, 4] bcast_S128x4x2x64_S128x4x1x2x64_0_1_3_4 (shapeCast _
        (extractStridedSlice S128x4x128 ![0, 0, 1152] H slices_S128x4x1280_S128x4x128_0_0_1152)
        shapeCasts_S128x4x128_S128x4x2x64)⟩]
    concatenates_S128x4x1x2x64_S128x4x1x2x64_S128x4x2x2x64_d2

/-- The reference's window of the prompt: its rows are cut after the heads are split. -/
def refKeepP (H : FVec Ideal S4x4096x1280 .f32) : FVec Ideal S4x128x2x2x64 .f32 :=
  concatenate S4x128x2x2x64 2
    [⟨S4x128x1x2x64, broadcastInDim S4x128x1x2x64 ![0, 1, 3, 4] Cert.SwaInRefIdeal.Gen.bcast_S4x128x2x64_S4x128x1x2x64_0_1_3_4
        (extractStridedSlice S4x128x2x64 ![0, 3968, 0, 0] (shapeCast _ (extractStridedSlice S4x4096x128 ![0, 0, 1024] H
          slices_S4x4096x1280_S4x4096x128_0_0_1024) Cert.SwaInRefIdeal.Gen.shapeCasts_S4x4096x128_S4x4096x2x64)
          Cert.SwaInRefIdeal.Gen.slices_S4x4096x2x64_S4x128x2x64_0_3968_0_0)⟩,
     ⟨S4x128x1x2x64, broadcastInDim S4x128x1x2x64 ![0, 1, 3, 4] Cert.SwaInRefIdeal.Gen.bcast_S4x128x2x64_S4x128x1x2x64_0_1_3_4
        (extractStridedSlice S4x128x2x64 ![0, 3968, 0, 0] (shapeCast _ (extractStridedSlice S4x4096x128 ![0, 0, 1152] H
          slices_S4x4096x1280_S4x4096x128_0_0_1152) Cert.SwaInRefIdeal.Gen.shapeCasts_S4x4096x128_S4x4096x2x64)
          Cert.SwaInRefIdeal.Gen.slices_S4x4096x2x64_S4x128x2x64_0_3968_0_0)⟩]
    concatenates_S4x128x1x2x64_S4x128x1x2x64_S4x128x2x2x64_d2

/-- The reference's window of the samples: the old window followed by the new rows, its last 128 rows. -/
def refWin (O : FVec Ideal S128x128x2x2x64 .f32) (H : FVec Ideal S128x4x1280 .f32) : FVec Ideal S128x128x2x2x64 .f32 :=
  extractStridedSlice S128x128x2x2x64 ![0, 4, 0, 0, 0]
    (concatenate Cert.SwaInRefIdeal.S128x132x2x2x64 1 [⟨S128x128x2x2x64, O⟩, ⟨S128x4x2x2x64, newS H⟩]
      Cert.SwaInRefIdeal.Gen.concatenates_S128x128x2x2x64_S128x4x2x2x64_S128x132x2x2x64_d1)
    Cert.SwaInRefIdeal.Gen.slices_S128x132x2x2x64_S128x128x2x2x64_0_4_0_0_0

/-- Cutting rows before or after the heads are split is the same. -/
theorem keepP_eq (H : FVec Ideal S4x4096x1280 .f32) : keepP H = refKeepP H := by
  funext j
  pointwise [keepP, refKeepP]

/-- Dropping the oldest rows before or after the new rows are appended is the same. -/
theorem win_eq (O : FVec Ideal S128x128x2x2x64 .f32) (H : FVec Ideal S128x4x1280 .f32) :
    concatenate S128x128x2x2x64 1
      [⟨S128x124x2x2x64, extractStridedSlice S128x124x2x2x64 ![0, 4, 0, 0, 0] O slices_S128x128x2x2x64_S128x124x2x2x64_0_4_0_0_0⟩,
       ⟨S128x4x2x2x64, newS H⟩] concatenates_S128x124x2x2x64_S128x4x2x2x64_S128x128x2x2x64_d1 = refWin O H := by
  funext j
  pointwise [refWin]
  by_cases h : (j 1 : ℕ) < 124
  · rw [dif_pos h, dif_pos (by omega)]
  · rw [dif_neg h, dif_neg (by omega)]
    blk_ext

/-- The prompt queries. -/
theorem tail20 (c : Dev nD) : (show FVec Ideal _ .f32 from Pipeline.afterTail₀ cfgs (dats m) 0 (V0 m) [hostOps1] c main_v20)
    = extractStridedSlice S4x4096x1024 ![0, 0, 0] (refP (m ((c : Thread nD τ).loc main_arg0)) (m ((c : Thread nD τ).loc main_arg2))) slices_S4x4096x1280_S4x4096x1024_0_0_0 := by
  unfold Pipeline.afterTail₀
  simp only [hostOps1, List.flatten_cons, List.flatten_nil, List.append_nil, List.cons_append, List.nil_append]
  after_results
  rw [exit_v6]
  rw [← prompt_eq m c]
  rfl

/-- The prompt keys. -/
theorem tail11 (c : Dev nD) : (show FVec Ideal _ .f32 from Pipeline.afterTail₀ cfgs (dats m) 0 (V0 m) [hostOps1] c main_v11)
    = extractStridedSlice S4x4096x128 ![0, 0, 1024] (refP (m ((c : Thread nD τ).loc main_arg0)) (m ((c : Thread nD τ).loc main_arg2))) slices_S4x4096x1280_S4x4096x128_0_0_1024 := by
  unfold Pipeline.afterTail₀
  simp only [hostOps1, List.flatten_cons, List.flatten_nil, List.append_nil, List.cons_append, List.nil_append]
  after_results
  rw [exit_v6]
  rw [← prompt_eq m c]
  rfl

/-- The prompt values. -/
theorem tail12 (c : Dev nD) : (show FVec Ideal _ .f32 from Pipeline.afterTail₀ cfgs (dats m) 0 (V0 m) [hostOps1] c main_v12)
    = extractStridedSlice S4x4096x128 ![0, 0, 1152] (refP (m ((c : Thread nD τ).loc main_arg0)) (m ((c : Thread nD τ).loc main_arg2))) slices_S4x4096x1280_S4x4096x128_0_0_1152 := by
  unfold Pipeline.afterTail₀
  simp only [hostOps1, List.flatten_cons, List.flatten_nil, List.append_nil, List.cons_append, List.nil_append]
  after_results
  rw [exit_v6]
  rw [← prompt_eq m c]
  rfl

/-- The sample queries. -/
theorem tail21 (c : Dev nD) : (show FVec Ideal _ .f32 from Pipeline.afterTail₀ cfgs (dats m) 0 (V0 m) [hostOps1] c main_v21)
    = extractStridedSlice S128x4x1024 ![0, 0, 0] (refS (m ((c : Thread nD τ).loc main_arg1)) (m ((c : Thread nD τ).loc main_arg2))) slices_S128x4x1280_S128x4x1024_0_0_0 := by
  unfold Pipeline.afterTail₀
  simp only [hostOps1, List.flatten_cons, List.flatten_nil, List.append_nil, List.cons_append, List.nil_append]
  after_results
  rw [exit_v6]
  rw [← sample_eq m c]
  rfl

/-- The sample keys and values. -/
theorem tail22 (c : Dev nD) : (show FVec Ideal _ .f32 from Pipeline.afterTail₀ cfgs (dats m) 0 (V0 m) [hostOps1] c main_v22)
    = extractStridedSlice S128x4x256 ![0, 0, 1024] (refS (m ((c : Thread nD τ).loc main_arg1)) (m ((c : Thread nD τ).loc main_arg2))) slices_S128x4x1280_S128x4x256_0_0_1024 := by
  unfold Pipeline.afterTail₀
  simp only [hostOps1, List.flatten_cons, List.flatten_nil, List.append_nil, List.cons_append, List.nil_append]
  after_results
  rw [exit_v6]
  rw [← sample_eq m c]
  rfl

/-- The prompt's window. -/
theorem tail29 (c : Dev nD) : (show FVec Ideal _ .f32 from Pipeline.afterTail₀ cfgs (dats m) 0 (V0 m) [hostOps1] c main_v29)
    = refKeepP (refP (m ((c : Thread nD τ).loc main_arg0)) (m ((c : Thread nD τ).loc main_arg2))) := by
  unfold Pipeline.afterTail₀
  simp only [hostOps1, List.flatten_cons, List.flatten_nil, List.append_nil, List.cons_append, List.nil_append]
  after_results
  rw [exit_v6]
  rw [← keepP_eq, ← prompt_eq m c]
  rfl

/-- The samples' window. -/
theorem tail31 (c : Dev nD) : (show FVec Ideal _ .f32 from Pipeline.afterTail₀ cfgs (dats m) 0 (V0 m) [hostOps1] c main_v31)
    = refWin (m ((c : Thread nD τ).loc main_arg3)) (refS (m ((c : Thread nD τ).loc main_arg1)) (m ((c : Thread nD τ).loc main_arg2))) := by
  unfold Pipeline.afterTail₀
  simp only [hostOps1, List.flatten_cons, List.flatten_nil, List.append_nil, List.cons_append, List.nil_append]
  after_results
  rw [exit_v6]; rw [exit_arg3]
  rw [← win_eq, ← sample_eq m c]
  rfl

end Cert.SwaInIdeal.Val

end
-- ==== Proof.OutLn.Array.lean ====
/- The normed rows: what each grid point stores, and the whole array after the run, against the reference's term. -/
module

public import proofs.«01_k».proof.Proof.Gen.OutLnIdeal.Frame
public import proofs.«01_k».proof.Proof.Gen.OutLnRefIdeal.Run
public import Idealize.ShloMosaic.Lib.Pipeline.ValueKit
public import Idealize.ShloMosaic.Lib.Claim

@[expose] public section

set_option maxRecDepth 16384

noncomputable section

namespace Cert.OutLnIdeal.Val

open Cert.OutLnIdeal Cert.OutLnIdeal.Gen Idealize.ShloMosaic Idealize.ShloMosaic.TcCoe Idealize.SL.Sem
open Idealize.ShloMosaic.Pipeline (Dat)

variable (m : (ℓ : Loc nD τ sig) → Buf (Elt Ideal) ℓ)

/-- The residual sum `α x + o w`. -/
def resid (O : FVec Ideal S16896x1024 .f32) (W : FVec Ideal S1024x1024 .f32) (X : FVec Ideal S16896x1024 .f32) :
    FVec Ideal S16896x1024 .f32 :=
  addf (mulf (broadcastInDim S16896x1024 ![] Cert.OutLnRefIdeal.Gen.bcast_S_S16896x1024 (constant S_ .f32 0x3FD744FD#32)) X)
    (Host.dotGeneral Cert.OutLnRefIdeal.dot_S16896x1024_S1024x1024_S16896x1024_1_0_0_1_n_n none O W)

/-- The mean of each row, as a column. -/
def rowMean (Z : FVec Ideal S16896x1024 .f32) : FVec Ideal Cert.OutLnRefIdeal.S16896x1 .f32 :=
  Host.divf (broadcastInDim Cert.OutLnRefIdeal.S16896x1 ![0] Cert.OutLnRefIdeal.Gen.bcast_S16896_S16896x1_0
      (Host.reduceAdd Z (constant S_ .f32 0x00000000#32) Cert.OutLnRefIdeal.Gen.reducesTo_S16896x1024_S16896_d1
        Cert.OutLnRefIdeal.Gen.h_S_))
    (broadcastInDim Cert.OutLnRefIdeal.S16896x1 ![] Cert.OutLnRefIdeal.Gen.bcast_S_S16896x1 (constant S_ .f32 0x44800000#32))

/-- A column beside itself 1024 times. -/
def spread (C : FVec Ideal Cert.OutLnRefIdeal.S16896x1 .f32) : FVec Ideal S16896x1024 .f32 :=
  broadcastInDim S16896x1024 ![0, 1] Cert.OutLnRefIdeal.Gen.bcast_S16896x1_S16896x1024_0_1 C

/-- A row of 1024 under itself. -/
def rows (B : FVec Ideal S1024 .f32) : FVec Ideal S16896x1024 .f32 :=
  broadcastInDim S16896x1024 ![0, 1] Cert.OutLnRefIdeal.Gen.bcast_S1x1024_S16896x1024_0_1
    (broadcastInDim S1x1024 ![1] Cert.OutLnRefIdeal.Gen.bcast_S1024_S1x1024_1 B)

/-- The layer norm of each row. -/
def norm (Z : FVec Ideal S16896x1024 .f32) (G B : FVec Ideal S1024 .f32) : FVec Ideal S16896x1024 .f32 :=
  addf (mulf (mulf (subf Z (spread (rowMean Z)))
      (spread (Host.rsqrt (addf (rowMean (mulf (subf Z (spread (rowMean Z))) (subf Z (spread (rowMean Z)))))
        (broadcastInDim Cert.OutLnRefIdeal.S16896x1 ![] Cert.OutLnRefIdeal.Gen.bcast_S_S16896x1
          (constant S_ .f32 0x3727C5AC#32))))))
    (rows G)) (rows B)

/-- Grid point `t` works on row block `t`; the weights, the gain and the shift are one block each. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_8.index t = ![t.val, 0] :=
  (by decide +kernel : ∀ t : Fin grid0.N, _)

/-- The attention rows as the call is given them. -/
theorem V_v9 (c : Dev nD) : (show FVec Ideal S16896x1024 .bf16 from V m c main_v9)
    = (show FVec Ideal S16896x1024 .f32 from m ((c : Thread nD τ).loc main_arg0)) := by
  unfold V
  simp only [hostOps0, hostOps0_1, hostOps0_2, hostOps0_3, hostOps0_4, List.flatten_cons, List.flatten_nil, List.append_nil,
    List.cons_append, List.nil_append]
  after_results
  rfl

/-- The weights as the call is given them. -/
theorem V_v10 (c : Dev nD) : (show FVec Ideal S1024x1024 .bf16 from V m c main_v10)
    = (show FVec Ideal S1024x1024 .f32 from m ((c : Thread nD τ).loc main_arg1)) := by
  unfold V
  simp only [hostOps0, hostOps0_1, hostOps0_2, hostOps0_3, hostOps0_4, List.flatten_cons, List.flatten_nil, List.append_nil,
    List.cons_append, List.nil_append]
  after_results
  rfl

/-- The gain as the call is given it. -/
theorem V_v11 (c : Dev nD) : (show FVec Ideal S1x1024 .f32 from V m c main_v11)
    = fun j => (show FVec Ideal S1024 .f32 from m ((c : Thread nD τ).loc main_arg3)) (ix1 (j 1)) := by
  unfold V
  simp only [hostOps0, hostOps0_1, hostOps0_2, hostOps0_3, hostOps0_4, List.flatten_cons, List.flatten_nil, List.append_nil,
    List.cons_append, List.nil_append]
  after_results
  show shapeCast S1x1024 (show FVec Ideal S1024 .f32 from m ((c : Thread nD τ).loc main_arg3)) shapeCasts_S1024_S1x1024 = _
  funext j
  pointwise
  try blk_ext

/-- The shift as the call is given it. -/
theorem V_v12 (c : Dev nD) : (show FVec Ideal S1x1024 .f32 from V m c main_v12)
    = fun j => (show FVec Ideal S1024 .f32 from m ((c : Thread nD τ).loc main_arg4)) (ix1 (j 1)) := by
  unfold V
  simp only [hostOps0, hostOps0_1, hostOps0_2, hostOps0_3, hostOps0_4, List.flatten_cons, List.flatten_nil, List.append_nil,
    List.cons_append, List.nil_append]
  after_results
  show shapeCast S1x1024 (show FVec Ideal S1024 .f32 from m ((c : Thread nD τ).loc main_arg4)) shapeCasts_S1024_S1x1024 = _
  funext j
  pointwise
  try blk_ext

/-- The normed rows of the arguments. -/
abbrev goal (c : Dev nD) : FVec Ideal S16896x1024 .f32 :=
  norm (resid (m ((c : Thread nD τ).loc main_arg0)) (m ((c : Thread nD τ).loc main_arg1)) (m ((c : Thread nD τ).loc main_arg2)))
    (m ((c : Thread nD τ).loc main_arg3)) (m ((c : Thread nD τ).loc main_arg4))

/-- What point `t` stores at block index `y`. -/
theorem point (c : Dev nD) (t : Fin cfg0.N) (y) :
    k0_pay6 (iblk m c 0 t) (iblk m c 1 t) (iblk m c 2 t) (iblk m c 3 t) (iblk m c 4 t) y
      = goal m c (((cfg0.win 8).blk t).view.emb y) := by
  pointwise [k0_pay6, goal, norm, rows, spread, rowMean, resid]
  blk_point [iblk, idx t, V_v9 m c, V_v10 m c, V_v11 m c, V_v12 m c, V_main_arg2 m c]

/-- The normed rows after the run. -/
theorem final (c : Dev nD) : (dats m 0 c).arrAt 8 (cfgs 0).N = goal m c := by
  refine (dats m 0 c).arrAt_eq_of_covers 8 _ (by decide +kernel) fun t _ y => ?_
  blk_simp
  rw [after0_8]; frame_out
  exact point m c t y

end Cert.OutLnIdeal.Val

end
-- ==== Proof.Experts.Body.lean ====
module

public import proofs.«01_k».proof.Proof.Gen.ExpertsIdeal.Skeleton
public import proofs.«01_k».proof.Proof.Gen.ExpertsIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

/-! # One grid step of the expert call

At any contents of the two tables (the blocks' experts, the number of blocks used), from any contents of the three
scratches: what the body leaves in the scratches and in the output block. Stated at any arithmetic. -/

namespace Cert.ExpertsIdeal.Hand

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables and the three scratches, whole. -/
abbrev tbM0 : Memref sig .tc .smem S164 .i32 := Memref.whole main_arg1
abbrev tbM1 : Memref sig .tc .smem S1 .i32 := Memref.whole main_arg2
abbrev scM0 : Memref sig .tc .vmem S1024x512 .bf16 := Memref.whole cc0_scratch0
abbrev scM1 : Memref sig .tc .vmem S1024x512 .bf16 := Memref.whole cc0_scratch1
abbrev scM2 : Memref sig .tc .vmem S512x1024 .bf16 := Memref.whole cc0_scratch2

/-- The word of the block table at this point, the one at the point before, and the number of used blocks. -/
abbrev wordAt (T0 : S164.Idx → Elt F .i32) (i : grid0.Coords) : BitVec 32 :=
  View.readAt (Elt F) tbM0.view (Rect.unit (s := S164) (k0_off1 i) S1.size (k0_off1_inb i)).toLoadRect T0 (Shape.Idx.first (numel1_S1.symm ▸ Nat.one_pos))
abbrev wordPrev (T0 : S164.Idx → Elt F .i32) (i : grid0.Coords) : BitVec 32 :=
  View.readAt (Elt F) tbM0.view (Rect.unit (s := S164) (k0_off2 i) S1.size (k0_off2_inb i)).toLoadRect T0 (Shape.Idx.first (numel1_S1.symm ▸ Nat.one_pos))
abbrev nUsed (T1 : S1.Idx → Elt F .i32) : BitVec 32 :=
  View.readAt (Elt F) tbM1.view (Rect.unit (s := S1) ![0] S1.size inb_S1_S1_0).toLoadRect T1 (Shape.Idx.first (numel1_S1.symm ▸ Nat.one_pos))

/-- The step reloads the scratches: the first point, or another expert than at the point before. -/
def Reload (T0 : S164.Idx → Elt F .i32) (i : grid0.Coords) : Prop :=
  Scalar.cmpi .ne (Scalar.extui (Scalar.ori (Scalar.cmpi .eq (BitVec.ofNat 32 (i 0).val) 0#32) (Scalar.cmpi .ne (wordAt T0 i) (wordPrev T0 i)))) 0#32 = 1#1
/-- The block is a used one. -/
def Used (T1 : S1.Idx → Elt F .i32) (i : grid0.Coords) : Prop := k0_cond2 i (nUsed T1) = 1#1

instance (T0 : S164.Idx → Elt F .i32) (i : grid0.Coords) : Decidable (Reload T0 i) := by unfold Reload; infer_instance
instance (T1 : S1.Idx → Elt F .i32) (i : grid0.Coords) : Decidable (Used T1 i) := by unfold Used; infer_instance

/-- The kernel's two conditions on the block are each other's negation. -/
theorem cond3_iff (i : grid0.Coords) (w : BitVec 32) : k0_cond3 i w = 1#1 ↔ ¬ k0_cond2 i w = 1#1 := by
  show Scalar.cmpi .ne (Scalar.extui (Scalar.cmpi .sge (BitVec.ofNat 32 (i 0).val) w)) 0#32 = 1#1
    ↔ ¬ Scalar.cmpi .ne (Scalar.extui (Scalar.cmpi .slt (BitVec.ofNat 32 (i 0).val) w)) 0#32 = 1#1
  generalize BitVec.ofNat 32 (i 0).val = a
  have e1 : Scalar.cmpi .sge a w = BitVec.ofBool (w.sle a) := rfl
  have e2 : Scalar.cmpi .slt a w = BitVec.ofBool (a.slt w) := rfl
  rw [e1, e2, BitVec.sle_eq_not_slt]
  cases a.slt w <;> decide

/-- What a step leaves in the three scratches. -/
def left0 (T0 : S164.Idx → Elt F .i32) (i : grid0.Coords) (x1 : S1x1x1024x512.Idx → Elt F .f32) (xa0 : S1024x512.Idx → Elt F .bf16) : S1024x512.Idx → Elt F .bf16 :=
  if Reload T0 i then k0_pay1 x1 else xa0
def left1 (T0 : S164.Idx → Elt F .i32) (i : grid0.Coords) (x2 : S1x1x1024x512.Idx → Elt F .f32) (xa1 : S1024x512.Idx → Elt F .bf16) : S1024x512.Idx → Elt F .bf16 :=
  if Reload T0 i then k0_pay2 x2 else xa1
def left2 (T0 : S164.Idx → Elt F .i32) (i : grid0.Coords) (x3 : S1x1x512x1024.Idx → Elt F .f32) (xa2 : S512x1024.Idx → Elt F .bf16) : S512x1024.Idx → Elt F .bf16 :=
  if Reload T0 i then k0_pay3 x3 else xa2
/-- What a step leaves in the output block, from the scratches after the reload. -/
def outBlk (T1 : S1.Idx → Elt F .i32) (i : grid0.Coords) (x0 : S256x1024.Idx → Elt F .f32) (w0 w1 : S1024x512.Idx → Elt F .bf16) (w2 : S512x1024.Idx → Elt F .bf16) : S256x1024.Idx → Elt F .f32 :=
  if Used T1 i then k0_pay4 x0 w0 w1 w2 else k0_pay5

section
variable {T0 : S164.Idx → Elt F .i32} {T1 : S1.Idx → Elt F .i32} {i : grid0.Coords}
theorem left0_pos (h : Reload T0 i) (x1 : S1x1x1024x512.Idx → Elt F .f32) (xa0 : S1024x512.Idx → Elt F .bf16) : left0 T0 i x1 xa0 = k0_pay1 x1 := if_pos h
theorem left1_pos (h : Reload T0 i) (x2 : S1x1x1024x512.Idx → Elt F .f32) (xa1 : S1024x512.Idx → Elt F .bf16) : left1 T0 i x2 xa1 = k0_pay2 x2 := if_pos h
theorem left2_pos (h : Reload T0 i) (x3 : S1x1x512x1024.Idx → Elt F .f32) (xa2 : S512x1024.Idx → Elt F .bf16) : left2 T0 i x3 xa2 = k0_pay3 x3 := if_pos h
theorem left0_neg (h : ¬ Reload T0 i) (x1 : S1x1x1024x512.Idx → Elt F .f32) (xa0 : S1024x512.Idx → Elt F .bf16) : left0 T0 i x1 xa0 = xa0 := if_neg h
theorem left1_neg (h : ¬ Reload T0 i) (x2 : S1x1x1024x512.Idx → Elt F .f32) (xa1 : S1024x512.Idx → Elt F .bf16) : left1 T0 i x2 xa1 = xa1 := if_neg h
theorem left2_neg (h : ¬ Reload T0 i) (x3 : S1x1x512x1024.Idx → Elt F .f32) (xa2 : S512x1024.Idx → Elt F .bf16) : left2 T0 i x3 xa2 = xa2 := if_neg h
theorem outBlk_pos (h : Used T1 i) (x0 : S256x1024.Idx → Elt F .f32) (w0 w1 : S1024x512.Idx → Elt F .bf16) (w2 : S512x1024.Idx → Elt F .bf16) : outBlk T1 i x0 w0 w1 w2 = k0_pay4 x0 w0 w1 w2 := if_pos h
theorem outBlk_neg (h : ¬ Used T1 i) (x0 : S256x1024.Idx → Elt F .f32) (w0 w1 : S1024x512.Idx → Elt F .bf16) (w2 : S512x1024.Idx → Elt F .bf16) : outBlk T1 i x0 w0 w1 w2 = k0_pay5 := if_neg h
end

/-- A whole store into a scratch leaves the stored block. -/
theorem sc0_writes (f : S1024x512.Idx → Elt F .bf16) (w : S1024x512.Idx → Elt F .bf16) (L : List (View.Piece (Elt F) S1024x512 .bf16)) :
    scM0.view.writes (Elt F) f (⟨Rect.unit (s := S1024x512) ![0, 0] S1024x512.size inb_S1024x512_S1024x512_0_0, w⟩ :: L) = w :=
  (View.read_whole (Val := Elt F) cc0_scratch0 _).symm.trans (View.read_writes_full scM0.view f _ w L)
theorem sc1_writes (f : S1024x512.Idx → Elt F .bf16) (w : S1024x512.Idx → Elt F .bf16) (L : List (View.Piece (Elt F) S1024x512 .bf16)) :
    scM1.view.writes (Elt F) f (⟨Rect.unit (s := S1024x512) ![0, 0] S1024x512.size inb_S1024x512_S1024x512_0_0, w⟩ :: L) = w :=
  (View.read_whole (Val := Elt F) cc0_scratch1 _).symm.trans (View.read_writes_full scM1.view f _ w L)
theorem sc2_writes (f : S512x1024.Idx → Elt F .bf16) (w : S512x1024.Idx → Elt F .bf16) (L : List (View.Piece (Elt F) S512x1024 .bf16)) :
    scM2.view.writes (Elt F) f (⟨Rect.unit (s := S512x1024) ![0, 0] S512x1024.size inb_S512x1024_S512x1024_0_0, w⟩ :: L) = w :=
  (View.read_whole (Val := Elt F) cc0_scratch2 _).symm.trans (View.read_writes_full scM2.view f _ w L)
/-- A whole load of a scratch reads its contents. -/
theorem sc0_read (f : S1024x512.Idx → Elt F .bf16) :
    View.readAt (Elt F) scM0.view (Rect.unit (s := S1024x512) ![0, 0] S1024x512.size inb_S1024x512_S1024x512_0_0).toLoadRect f = f :=
  View.readAt_full scM0.view f _
theorem sc1_read (f : S1024x512.Idx → Elt F .bf16) :
    View.readAt (Elt F) scM1.view (Rect.unit (s := S1024x512) ![0, 0] S1024x512.size inb_S1024x512_S1024x512_0_0).toLoadRect f = f :=
  View.readAt_full scM1.view f _
theorem sc2_read (f : S512x1024.Idx → Elt F .bf16) :
    View.readAt (Elt F) scM2.view (Rect.unit (s := S512x1024) ![0, 0] S512x1024.size inb_S512x1024_S512x1024_0_0).toLoadRect f = f :=
  View.readAt_full scM2.view f _

/-- A whole load of a scratch after a whole store reads the stored block. -/
theorem sc0_cov (w : S1024x512.Idx → Elt F .bf16) (L : List (View.Piece (Elt F) S1024x512 .bf16)) :
    scM0.view.readCov (Val := Elt F) (⟨Rect.unit (s := S1024x512) ![0, 0] S1024x512.size inb_S1024x512_S1024x512_0_0, w⟩ :: L) (Rect.unit (s := S1024x512) ![0, 0] S1024x512.size inb_S1024x512_S1024x512_0_0).toLoadRect = w :=
  View.readCov_full scM0.view _ _ w L
theorem sc1_cov (w : S1024x512.Idx → Elt F .bf16) (L : List (View.Piece (Elt F) S1024x512 .bf16)) :
    scM1.view.readCov (Val := Elt F) (⟨Rect.unit (s := S1024x512) ![0, 0] S1024x512.size inb_S1024x512_S1024x512_0_0, w⟩ :: L) (Rect.unit (s := S1024x512) ![0, 0] S1024x512.size inb_S1024x512_S1024x512_0_0).toLoadRect = w :=
  View.readCov_full scM1.view _ _ w L
theorem sc2_cov (w : S512x1024.Idx → Elt F .bf16) (L : List (View.Piece (Elt F) S512x1024 .bf16)) :
    scM2.view.readCov (Val := Elt F) (⟨Rect.unit (s := S512x1024) ![0, 0] S512x1024.size inb_S512x1024_S512x1024_0_0, w⟩ :: L) (Rect.unit (s := S512x1024) ![0, 0] S512x1024.size inb_S512x1024_S512x1024_0_0).toLoadRect = w :=
  View.readCov_full scM2.view _ _ w L
/-- A whole load of an operand's block reads the block. -/
theorem in0_read (m : Memref sig .tc .vmem S256x1024 .f32) (x : S256x1024.Idx → Elt F .f32) :
    View.readAt (Elt F) m.view (Rect.unit (s := S256x1024) ![0, 0] S256x1024.size inb_S256x1024_S256x1024_0_0).toLoadRect (m.view.rep x) = x :=
  View.readAt_rep_full _ _ _
theorem in1_read (m : Memref sig .tc .vmem S1x1x1024x512 .f32) (x : S1x1x1024x512.Idx → Elt F .f32) :
    View.readAt (Elt F) m.view (Rect.unit (s := S1x1x1024x512) ![0, 0, 0, 0] S1x1x1024x512.size inb_S1x1x1024x512_S1x1x1024x512_0_0_0_0).toLoadRect (m.view.rep x) = x :=
  View.readAt_rep_full _ _ _
theorem in3_read (m : Memref sig .tc .vmem S1x1x512x1024 .f32) (x : S1x1x512x1024.Idx → Elt F .f32) :
    View.readAt (Elt F) m.view (Rect.unit (s := S1x1x512x1024) ![0, 0, 0, 0] S1x1x512x1024.size inb_S1x1x512x1024_S1x1x512x1024_0_0_0_0).toLoadRect (m.view.rep x) = x :=
  View.readAt_rep_full _ _ _

/-- The product's block from equal operands. -/
theorem pay4_congr {a a' : S256x1024.Idx → Elt F .f32} {b b' c c' : S1024x512.Idx → Elt F .bf16} {d d' : S512x1024.Idx → Elt F .bf16}
    (h0 : a = a') (h1 : b = b') (h2 : c = c') (h3 : d = d') : k0_pay4 a b c d = k0_pay4 a' b' c' d' := by rw [h0, h1, h2, h3]

set_option backward.proofsInPublic true in
set_option maxHeartbeats 8000000 in
theorem body (c : Dev nD) (i : grid0.Coords) (arg3 : Memref sig .tc .vmem S256x1024 .f32) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S256x1024 .f32) (harg7 : arg7.IsWhole)
    (T0 : S164.Idx → Elt F .i32) (T1 : S1.Idx → Elt F .i32)
    (x0 : S256x1024.Idx → Elt F .f32) (x1 : S1x1x1024x512.Idx → Elt F .f32) (x2 : S1x1x1024x512.Idx → Elt F .f32) (x3 : S1x1x512x1024.Idx → Elt F .f32)
    (xa0 xa1 : S1024x512.Idx → Elt F .bf16) (xa2 : S512x1024.Idx → Elt F .bf16) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (tbM0.view.loc (c : Thread nD τ) ↦{fullShare.right} T0)
      ∗ (tbM1.view.loc (c : Thread nD τ) ↦{fullShare.right} T1)
      ∗ (∃ d, owns (c : Thread nD τ) arg7 fullShare d)
      ∗ (scM0.view.loc (c : Thread nD τ) ↦{fullShare} xa0)
      ∗ (scM1.view.loc (c : Thread nD τ) ↦{fullShare} xa1)
      ∗ (scM2.view.loc (c : Thread nD τ) ↦{fullShare} xa2)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0.view.loc (c : Thread nD τ) ↦{fullShare.right} T0)
          ∗ (tbM1.view.loc (c : Thread nD τ) ↦{fullShare.right} T1)
          ∗ (∃ f, ⌜arg7.view.read (Elt F) f = outBlk T1 i x0 (left0 T0 i x1 xa0) (left1 T0 i x2 xa1) (left2 T0 i x3 xa2)⌝ ∗ arg7.view.loc (c : Thread nD τ) ↦[arg7.view.set]{fullShare} f)
          ∗ (∃ f : S1024x512.Idx → Elt F .bf16, ⌜f = left0 T0 i x1 xa0⌝ ∗ (scM0.view.loc (c : Thread nD τ) ↦{fullShare} f))
          ∗ (∃ f : S1024x512.Idx → Elt F .bf16, ⌜f = left1 T0 i x2 xa1⌝ ∗ (scM1.view.loc (c : Thread nD τ) ↦{fullShare} f))
          ∗ (∃ f : S512x1024.Idx → Elt F .bf16, ⌜f = left2 T0 i x3 xa2⌝ ∗ (scM2.view.loc (c : Thread nD τ) ↦{fullShare} f))) -∗ K ⟨⟩))
      ⊢ wp frame (wpE (defs₀ (F := F)) Variants.none c none) Set.univ (cc0_experts i tbM0 (Memref.isWhole_whole _) tbM1 (Memref.isWhole_whole _) arg3 harg3 arg4 harg4 arg5 harg5 arg6 harg6 arg7 harg7 scM0 (Memref.isWhole_whole _) scM1 (Memref.isWhole_whole _) scM2 (Memref.isWhole_whole _)) K := by
    unfold owns
    rw [cc0_experts_eq_skeleton]; unfold cc0_experts_skel
    iintro ⟨H0, H1, H2, H3, HT0, HT1, ⟨%d4, %f4, -, HO4⟩, HS0, HS1, HS2, Hk⟩
    have hS0 : scM0.IsWhole := Memref.isWhole_whole _
    have hS1 : scM1.IsWhole := Memref.isWhole_whole _
    have hS2 : scM2.IsWhole := Memref.isWhole_whole _
    have hT0 : tbM0.IsWhole := Memref.isWhole_whole _
    have hT1 : tbM1.IsWhole := Memref.isWhole_whole _
    have hc : (Used T1 i ∧ ¬ k0_cond3 i (nUsed T1) = 1#1) ∨ (¬ Used T1 i ∧ k0_cond3 i (nUsed T1) = 1#1) :=
      (Classical.em (Used T1 i)).imp (fun h => ⟨h, fun h' => (cond3_iff i _).1 h' h⟩) fun h => ⟨h, (cond3_iff i _).2 h⟩
    by_cases hr : Reload T0 i <;> rcases hc with ⟨hu, hn⟩ | ⟨hu, hn⟩
    all_goals
      have hr' := hr
      unfold Reload at hr'
      have hu' := hu
      unfold Used at hu'
      sl_exec! (disch := first | (guard_target = Scalar.cmpi = _; exact hr') | (guard_target = ¬(Scalar.cmpi = _); exact hr') | (guard_target = k0_cond2 _ _ = _; exact hu') | (guard_target = ¬(k0_cond2 _ _ = _); exact hu') | (guard_target = k0_cond3 _ _ = _; exact hn) | (guard_target = ¬(k0_cond3 _ _ = _); exact hn))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HO4]
      · iexists _; isplitr; swap
        · iexact HO4
        · ipureintro
          refine (View.read_writes_full arg7.view _ _ _ _).trans ?_
          first
          | exact (outBlk_neg hu _ _ _ _).symm
          | (refine Eq.trans ?_ (outBlk_pos hu _ _ _ _).symm
             rw [left0_neg hr, left1_neg hr, left2_neg hr]
             exact pay4_congr (in0_read arg3 x0) (sc0_read _) (sc1_read _) (sc2_read _))
          | (refine Eq.trans ?_ (outBlk_pos hu _ _ _ _).symm
             rw [left0_pos hr, left1_pos hr, left2_pos hr]
             refine pay4_congr (in0_read arg3 x0) ?_ ?_ ?_
             · exact (sc0_cov _ _).trans (congrArg k0_pay1 (in1_read arg4 x1))
             · exact (sc1_cov _ _).trans (congrArg k0_pay2 (in1_read arg5 x2))
             · exact (sc2_cov _ _).trans (congrArg k0_pay3 (in3_read arg6 x3)))
      isplitl [HS0]
      · iexists _; isplitr; swap
        · iexact HS0
        · ipureintro
          first
          | exact (left0_neg hr _ _).symm
          | exact ((sc0_writes _ _ _).trans (congrArg k0_pay1 (in1_read arg4 x1))).trans (left0_pos hr _ _).symm
      isplitl [HS1]
      · iexists _; isplitr; swap
        · iexact HS1
        · ipureintro
          first
          | exact (left1_neg hr _ _).symm
          | exact ((sc1_writes _ _ _).trans (congrArg k0_pay2 (in1_read arg5 x2))).trans (left1_pos hr _ _).symm
      iexists _; isplitr; swap
      · iexact HS2
      · ipureintro
        first
        | exact (left2_neg hr _ _).symm
        | exact ((sc2_writes _ _ _).trans (congrArg k0_pay3 (in3_read arg6 x3))).trans (left2_pos hr _ _).symm

end Cert.ExpertsIdeal.Hand

end
-- ==== Proof.Experts.Pipe.lean ====
module

public import proofs.«01_k».proof.Proof.Experts.Body

@[expose] public section

set_option maxRecDepth 16384
set_option Elab.async false

noncomputable section

/-! # The expert call's pipeline at any tables

The two tables are any words, the experts' below 32. A block of the weights is then the one its word names, so two
consecutive points of one expert see the same weights. -/

namespace Cert.ExpertsIdeal.Hand

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The tables: each block's expert, and the number of used blocks. -/
structure Tables where
  w0 : S164.Idx → BitVec 32
  w1 : S1.Idx → BitVec 32
  lt : ∀ x, (w0 x).toNat < 32

variable (T : Tables)

set_option backward.proofsInPublic true in
/-- The tables as the pipeline is handed them. -/
def pf : pre0.Contents (Elt F) := fun | ⟨0, _⟩ => T.w0 | ⟨1, _⟩ => T.w1 | ⟨_ + 2, h⟩ => absurd h (by simp)

/-- The block table's element a point reads. -/
abbrev at0 (i : grid0.Coords) : S164.Idx :=
  (Rect.unit (s := S164) (k0_off1 i) S1.size (k0_off1_inb i)).emb (Shape.Idx.first (numel1_S1.symm ▸ Nat.one_pos))

theorem tr1_eq (i : grid0.Coords) : cc0_transform_1 (F := F) k0_off1_inb numel1_S1 (pf T) i = ![0, (T.w0 (at0 i)).toNat, 0, 0] := rfl
theorem tr2_eq (i : grid0.Coords) : cc0_transform_2 (F := F) k0_off1_inb numel1_S1 (pf T) i = ![0, (T.w0 (at0 i)).toNat, 0, 0] := rfl
theorem tr3_eq (i : grid0.Coords) : cc0_transform_3 (F := F) k0_off1_inb numel1_S1 (pf T) i = ![0, (T.w0 (at0 i)).toNat, 0, 0] := rfl

theorem inb12 (n : ℕ) (h : n < 32) : ∀ a, ((![0, n, 0, 0] : Fin 4 → ℕ) a + 1) * S1x1x1024x512.size a ≤ S4x32x1024x512.size a := by
  intro a; fin_cases a
  · exact Nat.le.intro (k := 3) rfl
  · show (n + 1) * 1 ≤ 32; omega
  · exact Nat.le.intro (k := 0) rfl
  · exact Nat.le.intro (k := 0) rfl
theorem inb3 (n : ℕ) (h : n < 32) : ∀ a, ((![0, n, 0, 0] : Fin 4 → ℕ) a + 1) * S1x1x512x1024.size a ≤ S4x32x512x1024.size a := by
  intro a; fin_cases a
  · exact Nat.le.intro (k := 3) rfl
  · show (n + 1) * 1 ≤ 32; omega
  · exact Nat.le.intro (k := 0) rfl
  · exact Nat.le.intro (k := 0) rfl

/-- One expert's slab is one place. -/
theorem emb12_congr {n n' : ℕ} (e : n = n') (h : n < 32) (h' : n' < 32) (y : S1x1x1024x512.Idx) :
    (Rect.block (s := S4x32x1024x512) S1x1x1024x512.size ![0, n, 0, 0] (inb12 n h)).emb y = (Rect.block (s := S4x32x1024x512) S1x1x1024x512.size ![0, n', 0, 0] (inb12 n' h')).emb y := by
  subst e; rfl
theorem emb3_congr {n n' : ℕ} (e : n = n') (h : n < 32) (h' : n' < 32) (y : S1x1x512x1024.Idx) :
    (Rect.block (s := S4x32x512x1024) S1x1x512x1024.size ![0, n, 0, 0] (inb3 n h)).emb y = (Rect.block (s := S4x32x512x1024) S1x1x512x1024.size ![0, n', 0, 0] (inb3 n' h')).emb y := by
  subst e; rfl

/-- Every block lies inside its array. -/
theorem ok : ok0 (F := F) (pf T) :=
  ⟨fun i => ⟨by rw [tr1_eq]; exact inb12 _ (T.lt _), .inl rfl⟩, fun i => ⟨by rw [tr2_eq]; exact inb12 _ (T.lt _), .inl rfl⟩,
    fun i => ⟨by rw [tr3_eq]; exact inb3 _ (T.lt _), .inl rfl⟩⟩

/-- The pipeline at the tables. -/
def adm : (pcfg0 (F := F)).Adm := ⟨pf T, ok T⟩
variable (F) in
abbrev cfgA : Pipeline.Cfg sig Λ₀ := cfg0 (F := F) (adm T)
variable (F) in
abbrev pcs : Fin 1 → Pipeline.Cfg sig Λ₀ := Pipeline.pin (pcfgs (F := F)) fun _ => adm T

variable (m : (ℓ : Loc nD τ sig) → Buf (Elt F) ℓ) (ρ : Dev nD → PrngReg)

/-- A point's coordinates. -/
abbrev crd (t : Fin (cfgA F T).N) : grid0.Coords := (cfgA F T).grid.coords t

/-- Each window's current staging memref at a point, and its wholeness. -/
abbrev ms0_0 (t : Fin (cfgA F T).N) : Memref sig .tc .vmem S256x1024 .f32 := spec0_0.stage ((cfgA F T).slots t (0 : Fin 5))
abbrev hs0_0 (t : Fin (cfgA F T).N) : (ms0_0 T t).IsWhole := hstage0_0 (((cfgA F T).slots t (0 : Fin 5)).cast nbuf0_0)
abbrev ms0_1 (t : Fin (cfgA F T).N) : Memref sig .tc .vmem S1x1x1024x512 .f32 := spec0_1.stage ((cfgA F T).slots t (1 : Fin 5))
abbrev hs0_1 (t : Fin (cfgA F T).N) : (ms0_1 T t).IsWhole := hstage0_1 (((cfgA F T).slots t (1 : Fin 5)).cast nbuf0_1)
abbrev ms0_2 (t : Fin (cfgA F T).N) : Memref sig .tc .vmem S1x1x1024x512 .f32 := spec0_2.stage ((cfgA F T).slots t (2 : Fin 5))
abbrev hs0_2 (t : Fin (cfgA F T).N) : (ms0_2 T t).IsWhole := hstage0_2 (((cfgA F T).slots t (2 : Fin 5)).cast nbuf0_2)
abbrev ms0_3 (t : Fin (cfgA F T).N) : Memref sig .tc .vmem S1x1x512x1024 .f32 := spec0_3.stage ((cfgA F T).slots t (3 : Fin 5))
abbrev hs0_3 (t : Fin (cfgA F T).N) : (ms0_3 T t).IsWhole := hstage0_3 (((cfgA F T).slots t (3 : Fin 5)).cast nbuf0_3)
abbrev ms0_4 (t : Fin (cfgA F T).N) : Memref sig .tc .vmem S256x1024 .f32 := spec0_4.stage ((cfgA F T).slots t (4 : Fin 5))
abbrev hs0_4 (t : Fin (cfgA F T).N) : (ms0_4 T t).IsWhole := hstage0_4 (((cfgA F T).slots t (4 : Fin 5)).cast nbuf0_4)

/-- Window `w`'s block at point `t`, read off its array at launch. -/
def iblk (c : Dev nD) (w : Fin (cfgA F T).W) (t : Fin (cfgA F T).N) : (((cfgA F T).win w).xblock (crd T t)).Idx → Elt F ((cfgA F T).win w).elt :=
  (((cfgA F T).win w).blk t).view.read (Elt F) ((s₀ m ρ).mem (((cfgA F T).win w).arr.view.loc (c : Thread nD τ)))

/-- A weight's block is the slab of its expert. -/
theorem iblk1 (c : Dev nD) (t : Fin (cfgA F T).N) (y : S1x1x1024x512.Idx) :
    iblk T m ρ c (1 : Fin 5) t y = m ((c : Thread nD τ).loc main_arg3) (Rect.emb (Rect.block (s := S4x32x1024x512) S1x1x1024x512.size ![0, (T.w0 (at0 (crd T t))).toNat, 0, 0] (inb12 _ (T.lt _))) y) := rfl
theorem iblk2 (c : Dev nD) (t : Fin (cfgA F T).N) (y : S1x1x1024x512.Idx) :
    iblk T m ρ c (2 : Fin 5) t y = m ((c : Thread nD τ).loc main_arg4) (Rect.emb (Rect.block (s := S4x32x1024x512) S1x1x1024x512.size ![0, (T.w0 (at0 (crd T t))).toNat, 0, 0] (inb12 _ (T.lt _))) y) := rfl
theorem iblk3 (c : Dev nD) (t : Fin (cfgA F T).N) (y : S1x1x512x1024.Idx) :
    iblk T m ρ c (3 : Fin 5) t y = m ((c : Thread nD τ).loc main_arg5) (Rect.emb (Rect.block (s := S4x32x512x1024) S1x1x512x1024.size ![0, (T.w0 (at0 (crd T t))).toNat, 0, 0] (inb3 _ (T.lt _))) y) := rfl

/-- Two points of one expert see the same weights. -/
theorem iblk1_congr (c : Dev nD) {t s : Fin (cfgA F T).N} (h : T.w0 (at0 (crd T t)) = T.w0 (at0 (crd T s))) : iblk T m ρ c (1 : Fin 5) t = iblk T m ρ c (1 : Fin 5) s := by
  funext y
  refine (iblk1 T m ρ c t y).trans (Eq.trans ?_ (iblk1 T m ρ c s y).symm)
  exact congrArg _ (emb12_congr (congrArg BitVec.toNat h) (T.lt _) (T.lt _) y)
theorem iblk2_congr (c : Dev nD) {t s : Fin (cfgA F T).N} (h : T.w0 (at0 (crd T t)) = T.w0 (at0 (crd T s))) : iblk T m ρ c (2 : Fin 5) t = iblk T m ρ c (2 : Fin 5) s := by
  funext y
  refine (iblk2 T m ρ c t y).trans (Eq.trans ?_ (iblk2 T m ρ c s y).symm)
  exact congrArg _ (emb12_congr (congrArg BitVec.toNat h) (T.lt _) (T.lt _) y)
theorem iblk3_congr (c : Dev nD) {t s : Fin (cfgA F T).N} (h : T.w0 (at0 (crd T t)) = T.w0 (at0 (crd T s))) : iblk T m ρ c (3 : Fin 5) t = iblk T m ρ c (3 : Fin 5) s := by
  funext y
  refine (iblk3 T m ρ c t y).trans (Eq.trans ?_ (iblk3 T m ρ c s y).symm)
  exact congrArg _ (emb3_congr (congrArg BitVec.toNat h) (T.lt _) (T.lt _) y)

theorem off_pred : ∀ t : Fin grid0.N, (h : t.val ≠ 0) → k0_off2 (grid0.coords t) = k0_off1 (grid0.coords ⟨t.val - 1, by omega⟩) := by decide +kernel
theorem crd_zero : ∀ t : Fin grid0.N, t.val = 0 → Scalar.cmpi .eq (BitVec.ofNat 32 ((grid0.coords t) 0).val) 0#32 = 1#1 := by decide +kernel

theorem unit_congr {o o' : Fin 1 → ℕ} (e : o = o') (h : ∀ a, o a + S1.size a ≤ S164.size a) (h' : ∀ a, o' a + S1.size a ≤ S164.size a) (x : S1.Idx) :
    (Rect.unit (s := S164) o S1.size h).emb x = (Rect.unit (s := S164) o' S1.size h').emb x := by
  subst e; rfl

theorem wordPrev_eq (t : Fin grid0.N) (h : t.val ≠ 0) : wordPrev (F := F) T.w0 (grid0.coords t) = T.w0 (at0 (grid0.coords ⟨t.val - 1, by omega⟩)) := by
  show T.w0 ((Rect.unit (s := S164) (k0_off2 (grid0.coords t)) S1.size (k0_off2_inb (grid0.coords t))).emb _) = _
  exact congrArg T.w0 (unit_congr (off_pred t h) _ _ _)

/-- Where the step does not reload, it is not the first and has the expert of the point before. -/
theorem keep (t : Fin grid0.N) (h : ¬ Reload (F := F) T.w0 (grid0.coords t)) :
    ∃ h0 : t.val ≠ 0, T.w0 (at0 (grid0.coords t)) = T.w0 (at0 (grid0.coords ⟨t.val - 1, by omega⟩)) := by
  have key : ∀ (a : BitVec 1) (x y : BitVec 32), ¬ Scalar.cmpi .ne (Scalar.extui (Scalar.ori a (Scalar.cmpi .ne x y))) 0#32 = 1#1 → a ≠ 1#1 ∧ x = y := by
    intro a x y hh
    have e : Scalar.cmpi .ne x y = BitVec.ofBool (x != y) := rfl
    rw [e] at hh
    revert hh
    rcases BitVec.eq_zero_or_eq_one a with rfl | rfl <;> by_cases hxy : x = y
    · intro _; exact ⟨by decide, hxy⟩
    · rw [show (x != y) = true from by simpa using hxy]; intro hh; exact absurd (by decide) hh
    · rw [show (x != y) = false from by simpa using hxy]; intro hh; exact absurd (by decide) hh
    · rw [show (x != y) = true from by simpa using hxy]; intro hh; exact absurd (by decide) hh
  unfold Reload at h
  obtain ⟨ha, hw⟩ := key _ _ _ h
  have h0 : t.val ≠ 0 := fun hz => ha (crd_zero t hz)
  exact ⟨h0, Eq.trans (show T.w0 (at0 (grid0.coords t)) = wordAt (F := F) T.w0 (grid0.coords t) from rfl) (hw.trans (wordPrev_eq T t h0))⟩

end Cert.ExpertsIdeal.Hand

end
-- ==== Proof.Experts.Run.lean ====
module

public import proofs.«01_k».proof.Proof.Experts.Pipe

@[expose] public section

set_option maxRecDepth 16384
set_option Elab.async false

noncomputable section

/-! # The expert call's run at any tables

Before a point the scratches hold the weights of the point before, rounded to bfloat16: either the point before loaded them,
or it kept them and they are its own expert's. So every used block is the experts' layer of its rows by its own expert's
weights, and every other block is zero. -/

namespace Cert.ExpertsIdeal.Hand

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra. -/
abbrev EPh : Emb (UR sig nD τ) 𝕄 := emb₁

variable (T : Tables)
variable (m : (ℓ : Loc nD τ sig) → Buf (Elt F) ℓ) (ρ : Dev nD → PrngReg)

/-- The weights of a point, as a reload leaves them in the scratches. -/
def wt0 (c : Dev nD) (t : Fin (cfgA F T).N) : S1024x512.Idx → Elt F .bf16 := k0_pay1 (iblk T m ρ c (1 : Fin 5) t)
def wt1 (c : Dev nD) (t : Fin (cfgA F T).N) : S1024x512.Idx → Elt F .bf16 := k0_pay2 (iblk T m ρ c (2 : Fin 5) t)
def wt2 (c : Dev nD) (t : Fin (cfgA F T).N) : S512x1024.Idx → Elt F .bf16 := k0_pay3 (iblk T m ρ c (3 : Fin 5) t)

/-- What a point leaves in the output block. -/
def outAt (c : Dev nD) (t : Fin (cfgA F T).N) : S256x1024.Idx → Elt F .f32 :=
  outBlk T.w1 (crd T t) (iblk T m ρ c (0 : Fin 5) t) (wt0 T m ρ c t) (wt1 T m ρ c t) (wt2 T m ρ c t)

/-- The invariant before point `n`: each scratch at the weights of the point before, and the body's halves of the tables. -/
def Phi (c : Dev nD) (n : ℕ) : sProp 𝕄 :=
  iprop((∃ a : S1024x512.Idx → Elt F .bf16, ⌜∀ s : Fin (cfgA F T).N, n = s.val + 1 → a = wt0 T m ρ c s⌝ ∗ (scM0.view.loc (c : Thread nD τ) ↦{fullShare} a))
    ∗ (∃ a : S1024x512.Idx → Elt F .bf16, ⌜∀ s : Fin (cfgA F T).N, n = s.val + 1 → a = wt1 T m ρ c s⌝ ∗ (scM1.view.loc (c : Thread nD τ) ↦{fullShare} a))
    ∗ (∃ a : S512x1024.Idx → Elt F .bf16, ⌜∀ s : Fin (cfgA F T).N, n = s.val + 1 → a = wt2 T m ρ c s⌝ ∗ (scM2.view.loc (c : Thread nD τ) ↦{fullShare} a))
    ∗ (tbM0.view.loc (c : Thread nD τ) ↦{fullShare.right} T.w0)
    ∗ (tbM1.view.loc (c : Thread nD τ) ↦{fullShare.right} T.w1))

/-- After the reload the scratches hold the point's own weights. -/
theorem left0_eq (c : Dev nD) (t : Fin (cfgA F T).N) (a : S1024x512.Idx → Elt F .bf16) (ha : ∀ s : Fin (cfgA F T).N, t.val = s.val + 1 → a = wt0 T m ρ c s) :
    left0 T.w0 (crd T t) (iblk T m ρ c (1 : Fin 5) t) a = wt0 T m ρ c t := by
  by_cases h : Reload (F := F) T.w0 (crd T t)
  · exact left0_pos h _ _
  · obtain ⟨h0, he⟩ := keep T t h
    refine (left0_neg h _ _).trans ((ha ⟨t.val - 1, by omega⟩ (by simp only; omega)).trans ?_)
    exact congrArg k0_pay1 (iblk1_congr T m ρ c he.symm)
theorem left1_eq (c : Dev nD) (t : Fin (cfgA F T).N) (a : S1024x512.Idx → Elt F .bf16) (ha : ∀ s : Fin (cfgA F T).N, t.val = s.val + 1 → a = wt1 T m ρ c s) :
    left1 T.w0 (crd T t) (iblk T m ρ c (2 : Fin 5) t) a = wt1 T m ρ c t := by
  by_cases h : Reload (F := F) T.w0 (crd T t)
  · exact left1_pos h _ _
  · obtain ⟨h0, he⟩ := keep T t h
    refine (left1_neg h _ _).trans ((ha ⟨t.val - 1, by omega⟩ (by simp only; omega)).trans ?_)
    exact congrArg k0_pay2 (iblk2_congr T m ρ c he.symm)
theorem left2_eq (c : Dev nD) (t : Fin (cfgA F T).N) (a : S512x1024.Idx → Elt F .bf16) (ha : ∀ s : Fin (cfgA F T).N, t.val = s.val + 1 → a = wt2 T m ρ c s) :
    left2 T.w0 (crd T t) (iblk T m ρ c (3 : Fin 5) t) a = wt2 T m ρ c t := by
  by_cases h : Reload (F := F) T.w0 (crd T t)
  · exact left2_pos h _ _
  · obtain ⟨h0, he⟩ := keep T t h
    refine (left2_neg h _ _).trans ((ha ⟨t.val - 1, by omega⟩ (by simp only; omega)).trans ?_)
    exact congrArg k0_pay3 (iblk3_congr T m ρ c he.symm)

/-- The proof data of the one pipeline on core `c`. -/
def dats (_ : Fin 1) (c : Dev nD) : Dat τ (Elt F) Unit ℕ (UR sig nD τ) ℕ (cfgA F T) c where
  A w := (s₀ m ρ).mem (((cfgA F T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => outAt T m ρ c t
  Φ t := Phi T m ρ c t.val
  q _ := fullShare
  owed _ := 0

theorem after0_0 (c : Dev nD) (t : Fin (cfgA F T).N) : (dats T m ρ 0 c).after (0 : Fin 5) t = iblk T m ρ c (0 : Fin 5) t := rfl
theorem after0_1 (c : Dev nD) (t : Fin (cfgA F T).N) : (dats T m ρ 0 c).after (1 : Fin 5) t = iblk T m ρ c (1 : Fin 5) t := rfl
theorem after0_2 (c : Dev nD) (t : Fin (cfgA F T).N) : (dats T m ρ 0 c).after (2 : Fin 5) t = iblk T m ρ c (2 : Fin 5) t := rfl
theorem after0_3 (c : Dev nD) (t : Fin (cfgA F T).N) : (dats T m ρ 0 c).after (3 : Fin 5) t = iblk T m ρ c (3 : Fin 5) t := rfl
theorem after0_4 (c : Dev nD) (t : Fin (cfgA F T).N) : (dats T m ρ 0 c).after (4 : Fin 5) t = outAt T m ρ c t := rfl

/-- An input window holds its block when the body runs. -/
theorem before0_0 (c : Dev nD) (t : Fin (cfgA F T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA F T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA F T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA F T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Every point stores its output block. -/
theorem idle4 (i : grid0.Coords) : (cfgA F T).idle (4 : Fin 5) i = false := by
  show (!(k0_cond2 i ((pf (F := F) T).atD 1 ![0]) == 1#1) && !(k0_cond3 i ((pf (F := F) T).atD 1 ![0]) == 1#1)) = false
  generalize (pf (F := F) T).atD 1 ![0] = w
  have hc := cond3_iff i w
  by_cases h : k0_cond2 i w = 1#1
  · rw [h]; rfl
  · rw [hc.2 h, Bool.and_eq_false_iff]; exact .inr rfl

/-- The body at point `t` on its staging memrefs, as the pipeline calls it. -/
abbrev bodyAt0 (t : Fin (cfgA F T).N) : Prog (TpuEff nD τ sig (Elt F) Λ₀ .tc) PUnit :=
  cc0_experts (crd T t) tbM0 (Memref.isWhole_whole _) tbM1 (Memref.isWhole_whole _) (ms0_0 T t) (hs0_0 T t) (ms0_1 T t) (hs0_1 T t) (ms0_2 T t) (hs0_2 T t) (ms0_3 T t) (hs0_3 T t) (ms0_4 T t) (hs0_4 T t) scM0 (Memref.isWhole_whole _) scM1 (Memref.isWhole_whole _) scM2 (Memref.isWhole_whole _)

set_option maxHeartbeats 4000000 in
/-- The body's obligation at a point. -/
theorem sound_body (c : Dev nD) (t : Fin (cfgA F T).N) :
    iprop((dats T m ρ 0 c).Φ t.castSucc ∗ (dats T m ρ 0 c).owesAt () t.castSucc
        ∗ (∃ d, owns (c : Thread nD τ) (ms0_0 T t) fullShare ((dats T m ρ 0 c).before (0 : Fin 5) t d))
        ∗ (∃ d, owns (c : Thread nD τ) (ms0_1 T t) fullShare ((dats T m ρ 0 c).before (1 : Fin 5) t d))
        ∗ (∃ d, owns (c : Thread nD τ) (ms0_2 T t) fullShare ((dats T m ρ 0 c).before (2 : Fin 5) t d))
        ∗ (∃ d, owns (c : Thread nD τ) (ms0_3 T t) fullShare ((dats T m ρ 0 c).before (3 : Fin 5) t d))
        ∗ (∃ d, owns (c : Thread nD τ) (ms0_4 T t) fullShare ((dats T m ρ 0 c).before (4 : Fin 5) t d)))
      ⊢ wp frame (wpE (defs₀ (F := F)) Variants.none c none) Set.univ (bodyAt0 T t) fun _ =>
          iprop((dats T m ρ 0 c).Φ t.succ ∗ (dats T m ρ 0 c).owesAt () t.succ
            ∗ bigSep Finset.univ fun w : Fin (cfgA F T).W =>
                match (cfgA F T).idle w ((cfgA F T).grid.coords t) with
                | true =>
                  match ((cfgA F T).win w).flush t with
                  | false => iprop(∃ d, owns (c : Thread nD τ) (((cfgA F T).win w).stage ((cfgA F T).slots t w)) fullShare ((dats T m ρ 0 c).before w t d))
                  | true => owns (c : Thread nD τ) (((cfgA F T).win w).stage ((cfgA F T).slots t w)) fullShare ((dats T m ρ 0 c).after w t)
                | false => owns (c : Thread nD τ) (((cfgA F T).win w).stage ((cfgA F T).slots t w)) fullShare ((dats T m ρ 0 c).after w t)) := by
  rw [bigSep_W0]
  have i4 := idle4 (F := F) T ((cfgA F T).grid.coords t)
  rewrite [i4]
  simp only [before0_0, before0_1, before0_2, before0_3, after0_0, after0_1, after0_2, after0_3, after0_4]
  rewrite [show (dats T m ρ 0 c).Φ t.succ = Phi T m ρ c (t.val + 1) from rfl, show (dats T m ρ 0 c).Φ t.castSucc = Phi T m ρ c t.val from rfl,
    show (dats T m ρ 0 c).owesAt () t.succ = (dats T m ρ 0 c).owesAt () t.castSucc from rfl]
  unfold Phi
  iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
  iapply (body c (crd T t) (ms0_0 T t) (hs0_0 T t) (ms0_1 T t) (hs0_1 T t) (ms0_2 T t) (hs0_2 T t) (ms0_3 T t) (hs0_3 T t) (ms0_4 T t) (hs0_4 T t) T.w0 T.w1
    (iblk T m ρ c (0 : Fin 5) t) (iblk T m ρ c (1 : Fin 5) t) (iblk T m ρ c (2 : Fin 5) t) (iblk T m ρ c (3 : Fin 5) t) a0 a1 a2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, ⟨%e4, %he4, H4⟩, ⟨%f0, %hf0, HS0⟩, ⟨%f1, %hf1, HS1⟩, ⟨%f2, %hf2, HS2⟩⟩
  have g0 := left0_eq T m ρ c t a0 ha0
  have g1 := left1_eq T m ρ c t a1 ha1
  have g2 := left2_eq T m ρ c t a2 ha2
  isplitl [HS0 HS1 HS2 HT0 HT1]
  · isplitl [HS0]
    · iexists f0; isplitr; swap
      · iexact HS0
      · ipureintro; intro s hs
        obtain rfl : t = s := Fin.ext (by omega)
        exact hf0.trans g0
    isplitl [HS1]
    · iexists f1; isplitr; swap
      · iexact HS1
      · ipureintro; intro s hs
        obtain rfl : t = s := Fin.ext (by omega)
        exact hf1.trans g1
    isplitl [HS2]
    · iexists f2; isplitr; swap
      · iexact HS2
      · ipureintro; intro s hs
        obtain rfl : t = s := Fin.ext (by omega)
        exact hf2.trans g2
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists e4; isplitr; swap
  · iexact H4
  · ipureintro
    refine he4.trans ?_
    rw [g0, g1, g2]; rfl

/-- The library's body obligation, at every point. -/
theorem body_obligation (c : Dev nD) : BodyObligation (dats T m ρ 0 c) (defs₀ (F := F)) Variants.none () Set.univ := fun t => by
  rw [bigSep_W0]
  exact sound_body T m ρ c t

/-! ## The launch -/

variable (F) in
/-- The rounds library's launch element. -/
def u₀ : UR sig nD τ :=
  initOf (Pipeline.cells (pcs F T) ((launch0 (F := F)).cellOf_inj fun _ => adm T))
    (Pipeline.launchToks (pcs F T) ((launch0 (F := F)).cellOf_inj fun _ => adm T))

theorem share_eq (c : Dev nD) (w : Fin (cfgA F T).W) : (dats T m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers; -/
theorem phi0_intro (c : Dev nD) :
    iprop(BI.emp ∗ Pipeline.prefHeld pre0 c (fun _ => fullShare.right) (adm (F := F) T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro s h; exact absurd h (Nat.succ_ne_zero _).symm
  isplitl [HS1]
  · iexists a1; isplitr; swap
    · iexact HS1
    · ipureintro; intro s h; exact absurd h (Nat.succ_ne_zero _).symm
  isplitl [HS2]
  · iexists a2; isplitr; swap
    · iexact HS2
    · ipureintro; intro s h; exact absurd h (Nat.succ_ne_zero _).symm
  isplitl [HT0]
  · iexact HT0
  iexact HT1

/-- at the last point it gives the scratch buffers back, the tables let go. -/
theorem phiN_exit (c : Dev nD) : (dats T m ρ 0 c).Φ (Fin.last (cfgA F T).N) ⊢ iprop(BI.emp ∗ Pipeline.scopedRest spec0 c) := by
  rw [scopedRest0_eq, show (dats T m ρ 0 c).Φ (Fin.last (cfgA F T).N) = Phi T m ρ c (Fin.last (cfgA F T).N).val from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- Every array ends at what the library computes, every table at what the pipeline ran at. -/
def QC : PUnit × MemSt nD τ sig (Elt F) → Prop := fun r =>
  ∀ c : Dev nD, (∀ w : Fin (cfgA F T).W, r.2.mem (((cfgA F T).win w).arr.view.loc (c : Thread nD τ)) = (dats T m ρ 0 c).arrAt w (cfgA F T).N)
    ∧ ∀ j, r.2.mem ((c : Thread nD τ).loc (pre0.ref j)) = (adm (F := F) T).1 j

/-- The launch memory holds the tables. -/
def Holds : Prop := (∀ c : Dev nD, m ((c : Thread nD τ).loc main_arg1) = T.w0) ∧ (∀ c : Dev nD, m ((c : Thread nD τ).loc main_arg2) = T.w1)

theorem V_pre (hp : Holds T m) (c : Dev nD) (j : Fin 2) : m ((c : Thread nD τ).loc (pre0.ref j)) = (adm (F := F) T).1 j := by
  fin_cases j
  · exact hp.1 c
  · exact hp.2 c

set_option backward.isDefEq.respectTransparency.types false in
set_option maxHeartbeats 4000000 in
/-- Every weakly fair execution ends, with each array at the computed contents and every counter at zero. -/
theorem run_main_quiescent (hp : Holds T m) : θ_run (defs (F := F)) (onTc (τ := τ) (main (F := F))) (s₀ m ρ) (fun r => QC T m ρ r ∧ r.2.sem = fun _ => 0) :=
  Pipeline.θ_run_region_noSem_pf_quiescent pcfgs (fun _ => adm T) (dats T m ρ) () ((launch0 (F := F)).cellOf_inj fun _ => adm T) (0 : Fin 1)
    (launch0 (F := F)).win.to₀ (launch0 (F := F)).pre EPh defs₀ Variants.none m ρ main
    (hbody := fun c => (body_obligation T m ρ c).loose) (hne := (launch0 (F := F)).block_pos)
    (harr := (launch0 (F := F)).arr_whole) (hstage := (launch0 (F := F)).stage_whole) (howed := fun _ _ => rfl)
    (u₀ := u₀ F T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs F T) (dats T m ρ) 0 (launch0 (F := F)).win.arr_inj c (launch0 (F := F)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The result at the computed contents, and the arguments unchanged. -/
theorem run_main (hp : Holds T m) :
    θ_run (defs (F := F)) (onTc (τ := τ) (main (F := F))) ⟨m, fun _ => 0, ρ⟩ (fun r => (∀ c : Dev nD,
      r.2.mem ((c.tc : Thread nD τ).loc main_v0) = (dats T m ρ 0 c).arrAt (4 : Fin 5) (cfgA F T).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).1 (0 : Fin 5)).trans ((dats T m ρ 0 c).arrAt_in (0 : Fin 5) rfl _), ((h.1 c).2 0).trans (hp.1 c).symm, ((h.1 c).2 1).trans (hp.2 c).symm,
    ((h.1 c).1 (1 : Fin 5)).trans ((dats T m ρ 0 c).arrAt_in (1 : Fin 5) rfl _), ((h.1 c).1 (2 : Fin 5)).trans ((dats T m ρ 0 c).arrAt_in (2 : Fin 5) rfl _), ((h.1 c).1 (3 : Fin 5)).trans ((dats T m ρ 0 c).arrAt_in (3 : Fin 5) rfl _)⟩, h.2⟩)
    (run_main_quiescent T m ρ hp)

end Cert.ExpertsIdeal.Hand

end
-- ==== Proof.Experts.Frame.lean ====
/- The expert call's frames: its tables' range read off the precondition, the run at those tables, and the same for the
   program read at bit patterns, whose text is the idealized one's. -/
module

public import proofs.«01_k».proof.Defs
public import proofs.«01_k».proof.Proof.Gen.Experts
public import proofs.«01_k».proof.Proof.Gen.ExpertsRefIdeal
public import proofs.«01_k».proof.Proof.Experts.Run

@[expose] public section

set_option maxRecDepth 16384

noncomputable section

namespace Cert.ExpertsIdeal.Hand

open Cert.ExpertsIdeal Cert.ExpertsIdeal.Gen
open Idealize.ShloMosaic Idealize.ShloMosaic.TcCoe Idealize.SL.Sem

variable {F : FTy → Type} [FloatOps F]

/-- The predicate's one side condition. -/
theorem preFacts : Cert.Pre_experts_in_range.Facts where
  bcast_S_S164 := Cert.ExpertsRefIdeal.Gen.bcast_S_S164

/-- A signed word from 0 up to 31 is below 32. -/
theorem word_lt (w : BitVec 32) (h : BitVec.ofBool ((0#32).sle w) &&& BitVec.ofBool (w.slt 32#32) = 1#1) : w.toNat < 32 := by
  have hs : (0#32).sle w = true ∧ w.slt 32#32 = true := by
    revert h
    cases (0#32).sle w <;> cases w.slt 32#32 <;> decide
  have h1 : (0 : ℤ) ≤ w.toInt := by simpa [BitVec.sle] using hs.1
  have h2 : w.toInt < 32 := by simpa [BitVec.slt] using hs.2
  rw [BitVec.toInt_eq_toNat_cond] at h1 h2
  have := w.isLt
  split at h1 <;> omega

/-- Where the predicate holds, every block's expert is one of the 32. -/
theorem experts_lt (x : FVec F S41984x1024 .f32) (b : IVec S164 32) (n : IVec S1 32) (g u : FVec F S4x32x1024x512 .f32) (d : FVec F S4x32x512x1024 .f32)
    (h : @Cert.Pre_experts_in_range.fn preFacts F _ x b n g u d = fun _ => 1#1) (i : S164.Idx) : (b i).toNat < 32 :=
  word_lt (b i) (congrFun h i)

/-- The tables of a launch memory. -/
def tables (m : (ℓ : Loc nD τ sig) → Buf (Elt F) ℓ) (h : ∀ i, ((show IVec S164 32 from m ((0 : Dev nD).tc.loc main_arg1)) i).toNat < 32) : Tables :=
  ⟨m ((0 : Dev nD).tc.loc main_arg1), m ((0 : Dev nD).tc.loc main_arg2), h⟩

theorem tables_hold (m : (ℓ : Loc nD τ sig) → Buf (Elt F) ℓ) (h) : Holds (tables m h) m :=
  ⟨fun c => by obtain rfl : c = 0 := Subsingleton.elim _ _; rfl, fun c => by obtain rfl : c = 0 := Subsingleton.elim _ _; rfl⟩

/-- The frame, at any arithmetic. -/
theorem callFrame (m : (ℓ : Loc nD τ sig) → Buf (Elt F) ℓ) (ρ : Dev nD → PrngReg)
    (h : ∀ i, ((show IVec S164 32 from m ((0 : Dev nD).tc.loc main_arg1)) i).toNat < 32) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_main (tables m h) m ρ (tables_hold m h))

/-- The program and its idealization are one text. -/
theorem defs₀_eq : @Cert.Experts.defs₀ F _ Cert.Experts.Gen.facts = @Cert.ExpertsIdeal.defs₀ F _ Cert.ExpertsIdeal.Gen.facts := by
  delta Cert.Experts.defs₀ Cert.ExpertsIdeal.defs₀
  refine congrArg Defs.onTc (funext fun l => funext fun a => ?_)
  match l, a with
  | ⟨0, _⟩, (t, s) => rfl
theorem defs_eq : @Cert.Experts.defs F _ Cert.Experts.Gen.facts = @Cert.ExpertsIdeal.defs F _ Cert.ExpertsIdeal.Gen.facts := by
  delta Cert.Experts.defs Cert.ExpertsIdeal.defs
  exact congrArg (Pipeline.defs _) defs₀_eq
theorem main_eq : @Cert.Experts.main F _ Cert.Experts.Gen.facts = @Cert.ExpertsIdeal.main F _ Cert.ExpertsIdeal.Gen.facts := rfl

end Cert.ExpertsIdeal.Hand

namespace Cert.Proof

open Idealize.ShloMosaic Idealize.ShloMosaic.TcCoe Idealize.SL.Sem Cert.ExpertsIdeal.Hand

/-- The idealized call runs, its arguments unchanged. -/
theorem expertsIdeal_frame : Cert.quiescent_ExpertsIdeal (hExpertsIdeal := Cert.ExpertsIdeal.Gen.facts) (hPre_experts_in_range := preFacts) :=
  fun m ρ hp => callFrame m ρ fun i => experts_lt _ _ _ _ _ _ (hp 0) i

/-- The call at bit patterns runs, its arguments unchanged. -/
theorem experts_frame : Cert.quiescent_Experts (hExperts := Cert.Experts.Gen.facts) (hPre_experts_in_range := preFacts) := by
  intro m ρ hp
  have h := callFrame (F := Bits) m ρ fun i => experts_lt _ _ _ _ _ _ (hp 0) i
  rw [← defs_eq (F := Bits), ← main_eq (F := Bits)] at h
  exact h

end Cert.Proof

end
-- ==== Proof.Experts.Spec.lean ====
/- The experts' layer as a function of its arguments: each block of 256 rows goes through the gated layer of the block's own
   expert, and blocks past the used ones are zero. -/
module

public import proofs.«01_k».proof.Proof.Experts.Pipe
public import Idealize.ShloMosaic.Lib.Pipeline.ValueKit

@[expose] public section

set_option maxRecDepth 16384

noncomputable section

namespace Cert.ExpertsIdeal.Hand

open Cert.ExpertsIdeal Cert.ExpertsIdeal.Gen
open Idealize.ShloMosaic

/-- The expert of block `n`. -/
def expert (T : Tables) (n : Fin 164) : Fin 32 := ⟨(T.w0 (ix1 n)).toNat, T.lt _⟩

/-- Block `n` is a used one. -/
def InUse (T : Tables) (n : Fin 164) : Prop := (BitVec.ofNat 32 n.val).slt (T.w1 (ix1 (0 : Fin 1))) = true

instance (T : Tables) (n : Fin 164) : Decidable (InUse T n) := by unfold InUse; infer_instance

/-- Row `r` against column `e` of expert `x`'s weights. -/
def proj (X : FVec Ideal S41984x1024 .f32) (W : FVec Ideal S4x32x1024x512 .f32) (r : Fin 41984) (x : Fin 32) (e : Fin 512) : EReal :=
  ∑ k : Fin 1024, X (ix2 r k) * W (ix4 (0 : Fin 4) x k e)

/-- The gated hidden value `silu (x Wg) (x Wu)`. -/
def hidden (X : FVec Ideal S41984x1024 .f32) (G U : FVec Ideal S4x32x1024x512 .f32) (r : Fin 41984) (x : Fin 32) (e : Fin 512) : EReal :=
  proj X G r x e * Ideal.logistic (proj X G r x e) * proj X U r x e

/-- Row `r` through expert `x`, column `q`. -/
def through (X : FVec Ideal S41984x1024 .f32) (G U : FVec Ideal S4x32x1024x512 .f32) (D : FVec Ideal S4x32x512x1024 .f32)
    (r : Fin 41984) (x : Fin 32) (q : Fin 1024) : EReal :=
  ∑ e : Fin 512, hidden X G U r x e * D (ix4 (0 : Fin 4) x e q)

/-- Row `p` of block `n`. -/
abbrev rowOf (n : Fin 164) (p : Fin 256) : Fin 41984 := ⟨n.val * 256 + p.val, by omega⟩

/-- The layer at row `p` of block `n`, column `q`. -/
def layerAt (T : Tables) (X : FVec Ideal S41984x1024 .f32) (G U : FVec Ideal S4x32x1024x512 .f32) (D : FVec Ideal S4x32x512x1024 .f32)
    (n : Fin 164) (p : Fin 256) (q : Fin 1024) : EReal :=
  if InUse T n then through X G U D (rowOf n p) (expert T n) q else 0

/-- The layer as an array. -/
def layer (T : Tables) (X : FVec Ideal S41984x1024 .f32) (G U : FVec Ideal S4x32x1024x512 .f32) (D : FVec Ideal S4x32x512x1024 .f32) :
    FVec Ideal S41984x1024 .f32 := fun i =>
  have h : (i 0).val < 41984 := (i 0).isLt
  layerAt T X G U D ⟨(i 0).val / 256, by omega⟩ ⟨(i 0).val % 256, by omega⟩ (i 1)

end Cert.ExpertsIdeal.Hand

end
-- ==== Proof.Experts.Ref.lean ====
/- The reference's term is the layer: the gather takes each block's own expert's weights, the batched products are the sums
   over one block, and the mask is the used blocks'. -/
module

public import proofs.«01_k».proof.Proof.Experts.Spec
public import proofs.«01_k».proof.Proof.Gen.ExpertsRefIdeal.Run

@[expose] public section

set_option maxRecDepth 16384

noncomputable section

namespace Cert.ExpertsIdeal.Hand

open Cert.ExpertsRefIdeal Cert.ExpertsRefIdeal.Gen
open Idealize.ShloMosaic Idealize.ShloMosaic.TcCoe Idealize.SL.Sem

section Blocks
variable {α : Type} {N A B C : ℕ}

/-- The dimension numbers of a gather of whole `[A, B]` blocks of an `[N, A, B]` array, one block number per result block. -/
abbrev blocksDims (wf : GatherDims.WF ⟨3, ![N, A, B]⟩ ⟨2, ![C, 1]⟩ ⟨3, ![C, A, B]⟩ [1, 2] [0] [] [0] [] 1 ![1, A, B]) :
    GatherDims ⟨3, ![N, A, B]⟩ ⟨2, ![C, 1]⟩ ⟨3, ![C, A, B]⟩ where
  offsetDims := [1, 2]
  collapsedSliceDims := [0]
  operandBatchingDims := []
  startIndicesBatchingDims := []
  startIndexMap := [0]
  indexVectorDim := 1
  sliceSizes := ![1, A, B]
  wf := wf

/-- Where the block number of result block `n` is `x`, the gathered block is block `x`. -/
theorem gather_block (wf : GatherDims.WF ⟨3, ![N, A, B]⟩ ⟨2, ![C, 1]⟩ ⟨3, ![C, A, B]⟩ [1, 2] [0] [] [0] [] 1 ![1, A, B])
    (W : (⟨3, ![N, A, B]⟩ : Shape).Idx → α) (I : IVec ⟨2, ![C, 1]⟩ 32) (n : Fin C) (x : Fin N) (a : Fin A) (b : Fin B)
    (h : (I (ix2 n (0 : Fin 1))).toInt.toNat = x.val) :
    Host.gather (blocksDims wf) W I (ix3 n a b) = W (ix3 x a b) := by
  unfold Host.gather
  refine congrArg W (funext fun d => Fin.ext ?_)
  show (blocksDims wf).start (ix3 n a b) I d + (blocksDims wf).batchCoord (ix3 n a b) d + (blocksDims wf).offCoord (ix3 n a b) d = _
  rw [GatherDims.batchCoord_eq_zero _ _ _ List.not_mem_nil, Nat.add_zero]
  match d with
  | ⟨0, _⟩ =>
    show (blocksDims wf).start (ix3 n a b) I (0 : Fin 3) + (blocksDims wf).offCoord (ix3 n a b) (0 : Fin 3) = x.val
    rw [GatherDims.offCoord_eq_zero _ _ _ (fun h => ((GatherDims.mem_sKept _ _).mp h).1 (List.mem_singleton.mpr rfl)), Nat.add_zero]
    unfold GatherDims.start
    rw [dif_pos (show (0 : Fin 3) ∈ (blocksDims wf).startIndexMap from List.mem_singleton.mpr rfl)]
    have hs : (blocksDims wf).siIdx (ix3 n a b) ⟨List.idxOf (0 : Fin 3) (blocksDims wf).startIndexMap,
        List.idxOf_lt_length_iff.2 (List.mem_singleton.mpr rfl)⟩ = ix2 n (0 : Fin 1) := by
      funext z; refine Fin.ext ?_
      match z with
      | ⟨0, _⟩ => rfl
      | ⟨1, _⟩ => rfl
    show min (I ((blocksDims wf).siIdx (ix3 n a b) ⟨List.idxOf (0 : Fin 3) (blocksDims wf).startIndexMap, _⟩)).toInt.toNat (N - 1) = x.val
    rw [hs, h]
    have := x.isLt
    omega
  | ⟨1, _⟩ =>
    have h0 : (blocksDims wf).start (ix3 n a b) I (1 : Fin 3) = 0 := by
      unfold GatherDims.start
      exact dif_neg (show (1 : Fin 3) ∉ ([0] : List (Fin 3)) by decide)
    show (blocksDims wf).start (ix3 n a b) I (1 : Fin 3) + (blocksDims wf).offCoord (ix3 n a b) (1 : Fin 3) = a.val
    rw [h0, Nat.zero_add]
    rfl
  | ⟨2, _⟩ =>
    have h0 : (blocksDims wf).start (ix3 n a b) I (2 : Fin 3) = 0 := by
      unfold GatherDims.start
      exact dif_neg (show (2 : Fin 3) ∉ ([0] : List (Fin 3)) by decide)
    show (blocksDims wf).start (ix3 n a b) I (2 : Fin 3) + (blocksDims wf).offCoord (ix3 n a b) (2 : Fin 3) = b.val
    rw [h0, Nat.zero_add]
    rfl
end Blocks

/-- A choice by a signed comparison. -/
theorem select_slt {α : Type} (a b : BitVec 32) (x y : α) :
    Scalar.select (IntOp.cmpi .slt a b) x y = if a.slt b = true then x else y := by
  show Scalar.select (BitVec.ofBool (a.slt b)) x y = _
  cases a.slt b <;> rfl

variable (T : Tables)

/-- The block numbers the reference gathers at, a column. -/
def ids (b : IVec S164 32) : IVec S164x1 32 :=
  broadcastInDim S164x1 ![0] bcast_S164_S164x1_0 (select (cmpi .slt b (broadcastInDim S164 ![] bcast_S_S164 (constantI S_ 32 0#32)))
    (addi b (broadcastInDim S164 ![] bcast_S_S164 (constantI S_ 32 32#32))) b)

/-- A table word below 32 is read as itself. -/
theorem ids_at (n : Fin 164) : (ids T.w0 (ix2 n (0 : Fin 1))).toInt.toNat = (expert T n).val := by
  have h : ids T.w0 (ix2 n (0 : Fin 1)) = if (T.w0 (ix1 n)).slt 0#32 then T.w0 (ix1 n) + 32#32 else T.w0 (ix1 n) := by
    pointwise [ids]
    exact select_slt _ _ _ _
  have hl := T.lt (ix1 n)
  have hi : (T.w0 (ix1 n)).toInt = ((T.w0 (ix1 n)).toNat : ℤ) := by
    rw [BitVec.toInt_eq_toNat_cond, if_pos (by omega)]
  rw [h, if_neg (by simp only [BitVec.slt, hi, BitVec.toInt_zero, decide_eq_true_eq]; omega), hi]
  rfl

/-- The gate's or the up projection's weights, gathered by block. -/
def wide (b : IVec S164 32) (W : FVec Ideal S4x32x1024x512 .f32) : FVec Ideal S164x1024x512 .f32 :=
  Host.gather gather_S32x1024x512_S164x1_S164x1024x512_12_0_n_n_0_1_11024512
    (shapeCast _ (extractStridedSlice S1x32x1024x512 ![0, 0, 0, 0] W slices_S4x32x1024x512_S1x32x1024x512_0_0_0_0) shapeCasts_S1x32x1024x512_S32x1024x512) (ids b)

/-- The down projection's weights, gathered by block. -/
def back (b : IVec S164 32) (W : FVec Ideal S4x32x512x1024 .f32) : FVec Ideal S164x512x1024 .f32 :=
  Host.gather gather_S32x512x1024_S164x1_S164x512x1024_12_0_n_n_0_1_15121024
    (shapeCast _ (extractStridedSlice S1x32x512x1024 ![0, 0, 0, 0] W slices_S4x32x512x1024_S1x32x512x1024_0_0_0_0) shapeCasts_S1x32x512x1024_S32x512x1024) (ids b)

theorem wide_at (W : FVec Ideal S4x32x1024x512 .f32) (n : Fin 164) (k : Fin 1024) (e : Fin 512) :
    wide T.w0 W (ix3 n k e) = W (ix4 (0 : Fin 4) (expert T n) k e) := by
  refine (gather_block _ _ _ n (expert T n) k e (ids_at T n)).trans ?_
  pointwise

theorem back_at (W : FVec Ideal S4x32x512x1024 .f32) (n : Fin 164) (e : Fin 512) (q : Fin 1024) :
    back T.w0 W (ix3 n e q) = W (ix4 (0 : Fin 4) (expert T n) e q) := by
  refine (gather_block _ _ _ n (expert T n) e q (ids_at T n)).trans ?_
  pointwise

/-- A projection of the rows, block by block. -/
def prod (b : IVec S164 32) (X : FVec Ideal S41984x1024 .f32) (W : FVec Ideal S4x32x1024x512 .f32) : FVec Ideal S164x256x512 .f32 :=
  Host.dotGeneral dot_S164x256x1024_S164x1024x512_S164x256x512_2_1_1_2_0_0 none (shapeCast _ X shapeCasts_S41984x1024_S164x256x1024) (wide b W)

theorem prod_at (X : FVec Ideal S41984x1024 .f32) (W : FVec Ideal S4x32x1024x512 .f32) (n : Fin 164) (p : Fin 256) (e : Fin 512) :
    prod T.w0 X W (ix3 n p e) = proj X W (rowOf n p) (expert T n) e := by
  have h : prod T.w0 X W (ix3 n p e) = ∑ k : Fin 1024, X (ix2 (rowOf n p) k) * wide T.w0 W (ix3 n k e) := by
    pointwise [prod]
  rw [h]
  exact Finset.sum_congr rfl fun k _ => by rw [wide_at]

/-- The gated hidden values, block by block. -/
def gated (b : IVec S164 32) (X : FVec Ideal S41984x1024 .f32) (G U : FVec Ideal S4x32x1024x512 .f32) : FVec Ideal S164x256x512 .f32 :=
  mulf (mulf (prod b X G) (Host.divf (broadcastInDim S164x256x512 ![] bcast_S_S164x256x512 (constant S_ .f32 0x3F800000#32))
    (addf (broadcastInDim S164x256x512 ![] bcast_S_S164x256x512 (constant S_ .f32 0x3F800000#32)) (Host.exp (Host.negf (prod b X G)))))) (prod b X U)

theorem gated_at (X : FVec Ideal S41984x1024 .f32) (G U : FVec Ideal S4x32x1024x512 .f32) (n : Fin 164) (p : Fin 256) (e : Fin 512) :
    gated T.w0 X G U (ix3 n p e) = hidden X G U (rowOf n p) (expert T n) e := by
  unfold hidden
  rw [← prod_at, ← prod_at]
  pointwise [gated]
  rfl

/-- The layer, block by block. -/
def masked (b : IVec S164 32) (u : IVec S1 32) (X : FVec Ideal S41984x1024 .f32) (G U : FVec Ideal S4x32x1024x512 .f32)
    (D : FVec Ideal S4x32x512x1024 .f32) : FVec Ideal S164x256x1024 .f32 :=
  select (broadcastInDim S164x256x1024 ![0, 1, 2] bcast_S164x1x1_S164x256x1024_0_1_2 (broadcastInDim S164x1x1 ![0] bcast_S164_S164x1x1_0
      (cmpi .slt (iotaInDim S164 32 0) (broadcastInDim S164 ![0] bcast_S1_S164_0 u))))
    (Host.dotGeneral dot_S164x256x512_S164x512x1024_S164x256x1024_2_1_1_2_0_0 none (gated b X G U) (back b D))
    (broadcastInDim S164x256x1024 ![] bcast_S_S164x256x1024 (constant S_ .f32 0x00000000#32))

theorem masked_at (X : FVec Ideal S41984x1024 .f32) (G U : FVec Ideal S4x32x1024x512 .f32) (D : FVec Ideal S4x32x512x1024 .f32)
    (n : Fin 164) (p : Fin 256) (q : Fin 1024) : masked T.w0 T.w1 X G U D (ix3 n p q) = layerAt T X G U D n p q := by
  have h : masked T.w0 T.w1 X G U D (ix3 n p q)
      = if InUse T n then ∑ e : Fin 512, gated T.w0 X G U (ix3 n p e) * back T.w0 D (ix3 n e q) else 0 := by
    pointwise [masked]
    exact select_slt _ _ _ _
  rw [h]
  unfold layerAt through
  refine if_congr Iff.rfl (Finset.sum_congr rfl fun e _ => ?_) rfl
  rw [gated_at, back_at]

/-- The reference's result. -/
def refTerm (b : IVec S164 32) (u : IVec S1 32) (X : FVec Ideal S41984x1024 .f32) (G U : FVec Ideal S4x32x1024x512 .f32)
    (D : FVec Ideal S4x32x512x1024 .f32) : FVec Ideal S41984x1024 .f32 :=
  shapeCast _ (masked b u X G U D) shapeCasts_S164x256x1024_S41984x1024

theorem ref_eq (X : FVec Ideal S41984x1024 .f32) (G U : FVec Ideal S4x32x1024x512 .f32) (D : FVec Ideal S4x32x512x1024 .f32) :
    refTerm T.w0 T.w1 X G U D = layer T X G U D := by
  funext j
  obtain ⟨r, q, rfl⟩ : ∃ r q, j = ix2 r q := ⟨j 0, j 1, by blk_ext⟩
  show _ = layerAt T X G U D _ _ q
  rw [← masked_at]
  pointwise [refTerm]

end Cert.ExpertsIdeal.Hand

end
-- ==== Proof.Experts.Value.lean ====
/- The call's result is the layer: what each grid point stores, and the whole array after the run. -/
module

public import proofs.«01_k».proof.Proof.Experts.Ref
public import proofs.«01_k».proof.Proof.Experts.Frame
public import Idealize.ShloMosaic.Lib.Claim

@[expose] public section

set_option maxRecDepth 16384

noncomputable section

namespace Cert.ExpertsIdeal.Hand

open Cert.ExpertsIdeal Cert.ExpertsIdeal.Gen
open Idealize.ShloMosaic Idealize.ShloMosaic.TcCoe Idealize.SL.Sem
open Idealize.ShloMosaic.Pipeline (Dat)

/-- A loaded block of the gate's weights. -/
theorem pay1_at (v : FVec Ideal S1x1x1024x512 .f32) (k : Fin 1024) (e : Fin 512) :
    k0_pay1 (F := Ideal) v (ix2 k e) = v (ix4 (0 : Fin 1) (0 : Fin 1) k e) := by
  pointwise [k0_pay1]

/-- A loaded block of the up projection's weights. -/
theorem pay2_at (v : FVec Ideal S1x1x1024x512 .f32) (k : Fin 1024) (e : Fin 512) :
    k0_pay2 (F := Ideal) v (ix2 k e) = v (ix4 (0 : Fin 1) (0 : Fin 1) k e) := by
  pointwise [k0_pay2]

/-- A loaded block of the down projection's weights. -/
theorem pay3_at (v : FVec Ideal S1x1x512x1024 .f32) (e : Fin 512) (q : Fin 1024) :
    k0_pay3 (F := Ideal) v (ix2 e q) = v (ix4 (0 : Fin 1) (0 : Fin 1) e q) := by
  pointwise [k0_pay3]

/-- A row of a block through three weights. -/
theorem pay4_at (x : FVec Ideal S256x1024 .f32) (g u : FVec Ideal S1024x512 .bf16) (d : FVec Ideal S512x1024 .bf16)
    (p : Fin 256) (q : Fin 1024) :
    k0_pay4 (F := Ideal) x g u d (ix2 p q)
      = ∑ e : Fin 512, (∑ k : Fin 1024, x (ix2 p k) * g (ix2 k e)) * Ideal.logistic (∑ k : Fin 1024, x (ix2 p k) * g (ix2 k e))
          * (∑ k : Fin 1024, x (ix2 p k) * u (ix2 k e)) * d (ix2 e q) := by
  pointwise [k0_pay4]

/-- Where a block's row and weights are an array's row and an expert's weights, the row goes through that expert. -/
theorem pay4_through {x : FVec Ideal S256x1024 .f32} {g u : FVec Ideal S1024x512 .bf16} {d : FVec Ideal S512x1024 .bf16}
    {X : FVec Ideal S41984x1024 .f32} {G U : FVec Ideal S4x32x1024x512 .f32} {D : FVec Ideal S4x32x512x1024 .f32}
    {p : Fin 256} {r : Fin 41984} {n : Fin 32} (hx : ∀ k, x (ix2 p k) = X (ix2 r k)) (hg : ∀ k e, g (ix2 k e) = G (ix4 (0 : Fin 4) n k e))
    (hu : ∀ k e, u (ix2 k e) = U (ix4 (0 : Fin 4) n k e)) (hd : ∀ e q, d (ix2 e q) = D (ix4 (0 : Fin 4) n e q)) (q : Fin 1024) :
    k0_pay4 (F := Ideal) x g u d (ix2 p q) = through X G U D r n q := by
  rw [pay4_at]
  unfold through hidden proj
  simp only [hx, hg, hu, hd]

/-- An unused block is zero. -/
theorem pay5_at (p : Fin 256) (q : Fin 1024) : k0_pay5 (F := Ideal) (ix2 p q) = 0 := by
  pointwise [k0_pay5]

variable (T : Tables) (m : (ℓ : Loc nD τ sig) → Buf (Elt Ideal) ℓ) (ρ : Dev nD → PrngReg)

/-- The grid has one point for each block of rows. -/
abbrev blockOf (t : Fin (cfgA Ideal T).N) : Fin 164 := ⟨t.val, t.isLt⟩

theorem off1_eq : ∀ t : Fin grid0.N, k0_off1 (grid0.coords t) = ![t.val] := by decide +kernel
theorem crd_eq : ∀ t : Fin grid0.N, (grid0.coords t 0).val = t.val := by decide +kernel

/-- The table's element a point reads is its own block's. -/
theorem at0_eq (t : Fin (cfgA Ideal T).N) : at0 (crd T t) = ix1 (blockOf T t) := by
  funext a
  refine Fin.ext ?_
  obtain rfl : a = 0 := Subsingleton.elim _ _
  show k0_off1 (grid0.coords t) 0 + 1 * 0 = t.val
  rw [off1_eq t]
  rfl

theorem expert_at (t : Fin (cfgA Ideal T).N) : (T.w0 (at0 (crd T t))).toNat = (expert T (blockOf T t)).val := by
  rw [at0_eq]; rfl

/-- The call computes a block exactly when it is a used one. -/
theorem used_iff (t : Fin (cfgA Ideal T).N) : Used (F := Ideal) T.w1 (crd T t) ↔ InUse T (blockOf T t) := by
  have h : nUsed (F := Ideal) T.w1 = T.w1 (ix1 (0 : Fin 1)) := congrArg T.w1 (funext fun a => by match a with | ⟨0, _⟩ => rfl)
  unfold Used InUse k0_cond2
  rw [h]
  have e : (crd T t 0).val = t.val := crd_eq t
  rw [e]
  show Scalar.cmpi .ne (Scalar.extui (BitVec.ofBool ((BitVec.ofNat 32 t.val).slt (T.w1 (ix1 (0 : Fin 1)))))) 0#32 = 1#1 ↔ _
  cases (BitVec.ofNat 32 t.val).slt (T.w1 (ix1 (0 : Fin 1))) <;> decide

theorem tr0_eq : ∀ t : Fin grid0.N, cc0_transform_0 (grid0.coords t) = ![t.val, 0] := by decide +kernel
theorem tr4_eq : ∀ t : Fin grid0.N, cc0_transform_4 (grid0.coords t) = ![t.val, 0] := by decide +kernel

/-- Row `p`, column `k` of the block of rows at block number `t`. -/
theorem rows_emb {o : Fin 2 → ℕ} (n : Fin 164) (ho : o = ![n.val, 0]) (h : ∀ a, (o a + 1) * S256x1024.size a ≤ S41984x1024.size a)
    (p : Fin 256) (k : Fin 1024) :
    (Rect.block (s := S41984x1024) S256x1024.size o h).emb (ix2 p k) = ix2 (rowOf n p) k := by
  subst ho
  refine funext fun a => Fin.ext ?_
  match a with
  | ⟨0, _⟩ => show n.val * 256 + 1 * p.val = n.val * 256 + p.val; omega
  | ⟨1, _⟩ => show 0 * 1024 + 1 * k.val = k.val; omega

/-- The rows a point reads. -/
theorem iblk0_at (c : Dev nD) (t : Fin (cfgA Ideal T).N) (p : Fin 256) (k : Fin 1024) :
    (show FVec Ideal S256x1024 .f32 from iblk T m ρ c (0 : Fin 5) t) (ix2 p k)
      = (show FVec Ideal S41984x1024 .f32 from m ((c : Thread nD τ).loc main_arg0)) (ix2 (rowOf (blockOf T t) p) k) :=
  congrArg (show FVec Ideal S41984x1024 .f32 from m ((c : Thread nD τ).loc main_arg0))
    (rows_emb (blockOf T t) (tr0_eq t) (Facts₀.hinb0_0 (grid0.coords t)) p k)

/-- Element `(k, e)` of an expert's block. -/
theorem wide_emb (x : Fin 32) (k : Fin 1024) (e : Fin 512) :
    (Rect.block (s := S4x32x1024x512) S1x1x1024x512.size ![0, x.val, 0, 0] (inb12 _ x.isLt)).emb (ix4 (0 : Fin 1) (0 : Fin 1) k e) = ix4 (0 : Fin 4) x k e := by
  refine funext fun a => Fin.ext ?_
  match a with
  | ⟨0, _⟩ => rfl
  | ⟨1, _⟩ => show x.val * 1 + 1 * 0 = x.val; omega
  | ⟨2, _⟩ => show 0 * 1024 + 1 * k.val = k.val; omega
  | ⟨3, _⟩ => show 0 * 512 + 1 * e.val = e.val; omega

theorem back_emb (x : Fin 32) (e : Fin 512) (q : Fin 1024) :
    (Rect.block (s := S4x32x512x1024) S1x1x512x1024.size ![0, x.val, 0, 0] (inb3 _ x.isLt)).emb (ix4 (0 : Fin 1) (0 : Fin 1) e q) = ix4 (0 : Fin 4) x e q := by
  refine funext fun a => Fin.ext ?_
  match a with
  | ⟨0, _⟩ => rfl
  | ⟨1, _⟩ => show x.val * 1 + 1 * 0 = x.val; omega
  | ⟨2, _⟩ => show 0 * 512 + 1 * e.val = e.val; omega
  | ⟨3, _⟩ => show 0 * 1024 + 1 * q.val = q.val; omega

/-- The gate's weights a point holds are its expert's. -/
theorem wt0_at (c : Dev nD) (t : Fin (cfgA Ideal T).N) (k : Fin 1024) (e : Fin 512) :
    wt0 T m ρ c t (ix2 k e)
      = (show FVec Ideal S4x32x1024x512 .f32 from m ((c : Thread nD τ).loc main_arg3)) (ix4 (0 : Fin 4) (expert T (blockOf T t)) k e) := by
  unfold wt0
  refine (pay1_at _ k e).trans ((iblk1 T m ρ c t _).trans ?_)
  rw [emb12_congr (expert_at T t) _ (expert T (blockOf T t)).isLt]
  · exact congrArg _ (wide_emb _ k e)
  · exact T.lt _

/-- The up projection's. -/
theorem wt1_at (c : Dev nD) (t : Fin (cfgA Ideal T).N) (k : Fin 1024) (e : Fin 512) :
    wt1 T m ρ c t (ix2 k e)
      = (show FVec Ideal S4x32x1024x512 .f32 from m ((c : Thread nD τ).loc main_arg4)) (ix4 (0 : Fin 4) (expert T (blockOf T t)) k e) := by
  unfold wt1
  refine (pay2_at _ k e).trans ((iblk2 T m ρ c t _).trans ?_)
  rw [emb12_congr (expert_at T t) _ (expert T (blockOf T t)).isLt]
  · exact congrArg _ (wide_emb _ k e)
  · exact T.lt _

/-- The down projection's. -/
theorem wt2_at (c : Dev nD) (t : Fin (cfgA Ideal T).N) (e : Fin 512) (q : Fin 1024) :
    wt2 T m ρ c t (ix2 e q)
      = (show FVec Ideal S4x32x512x1024 .f32 from m ((c : Thread nD τ).loc main_arg5)) (ix4 (0 : Fin 4) (expert T (blockOf T t)) e q) := by
  unfold wt2
  refine (pay3_at _ e q).trans ((iblk3 T m ρ c t _).trans ?_)
  rw [emb3_congr (expert_at T t) _ (expert T (blockOf T t)).isLt]
  · exact congrArg _ (back_emb _ e q)
  · exact T.lt _

/-- The layer of a launch memory's arguments. -/
abbrev goal (c : Dev nD) : FVec Ideal S41984x1024 .f32 :=
  layer T (m ((c : Thread nD τ).loc main_arg0)) (m ((c : Thread nD τ).loc main_arg3)) (m ((c : Thread nD τ).loc main_arg4))
    (m ((c : Thread nD τ).loc main_arg5))

/-- The layer's array at row `p` of block `n`. -/
theorem layer_at (X : FVec Ideal S41984x1024 .f32) (G U : FVec Ideal S4x32x1024x512 .f32) (D : FVec Ideal S4x32x512x1024 .f32)
    (n : Fin 164) (p : Fin 256) (q : Fin 1024) : layer T X G U D (ix2 (rowOf n p) q) = layerAt T X G U D n p q := by
  have h1 : (n.val * 256 + p.val) / 256 = n.val := by omega
  have h2 : (n.val * 256 + p.val) % 256 = p.val := by omega
  show layerAt T X G U D ⟨(n.val * 256 + p.val) / 256, _⟩ ⟨(n.val * 256 + p.val) % 256, _⟩ q = _
  congr 1
  · exact Fin.ext h1
  · exact Fin.ext h2

/-- What a point stores at row `p`, column `q` of its block. -/
theorem out_at (c : Dev nD) (t : Fin (cfgA Ideal T).N) (p : Fin 256) (q : Fin 1024) :
    outAt T m ρ c t (ix2 p q) = layerAt T (m ((c : Thread nD τ).loc main_arg0)) (m ((c : Thread nD τ).loc main_arg3))
      (m ((c : Thread nD τ).loc main_arg4)) (m ((c : Thread nD τ).loc main_arg5)) (blockOf T t) p q := by
  unfold outAt layerAt
  by_cases h : InUse T (blockOf T t)
  · rw [outBlk_pos ((used_iff T t).2 h), if_pos h]
    exact pay4_through (iblk0_at T m ρ c t p) (wt0_at T m ρ c t) (wt1_at T m ρ c t) (wt2_at T m ρ c t) q
  · rw [outBlk_neg (fun hu => h ((used_iff T t).1 hu)), if_neg h]
    exact pay5_at p q

/-- Tables of zeros: the result's window is the same at any tables. -/
def zeroTables : Tables := ⟨fun _ => 0#32, fun _ => 0#32, fun _ => by decide⟩

theorem win4_eq : (cfgA Ideal T).win (4 : Fin 5) = (cfgA Ideal zeroTables).win (4 : Fin 5) := rfl
theorem win4_covers : ((cfgA Ideal zeroTables).win (4 : Fin 5)).Covers := by decide +kernel

/-- The result after the run. -/
theorem final (c : Dev nD) : (dats T m ρ 0 c).arrAt (4 : Fin 5) (cfgA Ideal T).N = goal T m c := by
  refine (dats T m ρ 0 c).arrAt_eq_of_covers (4 : Fin 5) _ (by rw [win4_eq]; exact win4_covers) fun t _ y => ?_
  obtain ⟨p, q, rfl⟩ : ∃ (p : Fin 256) (q : Fin 1024), y = ix2 p q :=
    ⟨y 0, y 1, funext fun a => by match a with | ⟨0, _⟩ => rfl | ⟨1, _⟩ => rfl⟩
  have e := rows_emb (blockOf T t) (tr4_eq t) (Facts₀.hinb0_4 (grid0.coords t)) p q
  refine (out_at T m ρ c t p q).trans ((layer_at T _ _ _ _ (blockOf T t) p q).symm.trans ?_)
  exact congrArg (goal T m c) e.symm

end Cert.ExpertsIdeal.Hand

end
-- ==== Proof.Compress.Same.lean ====
/- The call read at bit patterns and its idealization are one text. -/
module

public import proofs.«01_k».proof.Proof.Gen.Compress
public import proofs.«01_k».proof.Proof.Gen.CompressIdeal
public import Idealize.ShloMosaic.Lib.Claim

@[expose] public section

set_option maxRecDepth 16384

noncomputable section

namespace Cert.CompressIdeal.Hand

open Idealize.ShloMosaic Idealize.ShloMosaic.TcCoe Idealize.SL.Sem
variable {F : FTy → Type} [FloatOps F]

set_option maxHeartbeats 40000000 in
/-- The program and its idealization are one text. -/
theorem defs₀_eq : @Cert.Compress.defs₀ F _ Cert.Compress.Gen.facts = @Cert.CompressIdeal.defs₀ F _ Cert.CompressIdeal.Gen.facts := by
  delta Cert.Compress.defs₀ Cert.CompressIdeal.defs₀
  refine congrArg Defs.onTc (funext fun l => funext fun a => ?_)
  match l, a with
  | ⟨0, _⟩, (t, s) => rfl
set_option maxHeartbeats 40000000 in
theorem defs_eq : @Cert.Compress.defs F _ Cert.Compress.Gen.facts = @Cert.CompressIdeal.defs F _ Cert.CompressIdeal.Gen.facts := by
  delta Cert.Compress.defs Cert.CompressIdeal.defs
  exact congrArg (Pipeline.defs _) defs₀_eq
set_option maxHeartbeats 40000000 in
theorem main_eq : @Cert.Compress.main F _ Cert.Compress.Gen.facts = @Cert.CompressIdeal.main F _ Cert.CompressIdeal.Gen.facts := rfl

end Cert.CompressIdeal.Hand

end
-- ==== Proof.Compress.Body.lean ====
module

public import proofs.«01_k».proof.Proof.Gen.CompressIdeal.Skeleton
public import proofs.«01_k».proof.Proof.Gen.CompressIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

/-! # One grid step of the compression from the cache: its rules

The body is some six hundred loads and stores of three kinds, written out one after the other. It is run here by one
rule for each kind. The two scratches' contents are given by recursion on the number of stores done: `slabs n` after
`n` stores of a transposed page quarter, `rows n` after `n` stores of a 16-row chunk. -/

namespace Cert.CompressIdeal.Hand

open Cert.CompressIdeal Cert.CompressIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The page table and the two scratches, whole. -/
abbrev tbM0 : Memref sig .tc .smem S128x64 .i32 := Memref.whole main_arg1
abbrev scM0 : Memref sig .tc .vmem S16x4x512x128 .bf16 := Memref.whole cc0_scratch0
abbrev scM1 : Memref sig .tc .vmem S2x4x128x128 .f32 := Memref.whole cc0_scratch1

/-- A page's block. -/
abbrev Page (F : FTy → Type) := S1x1x512x128.Idx → Elt F .f32
/-- The contents of the scratch of transposed pages, and of the scratch of rows. -/
abbrev SlabBuf (F : FTy → Type) := scM1.view.ty.Contents (Elt F)
abbrev RowBuf (F : FTy → Type) := scM0.view.ty.Contents (Elt F)

theorem inb_quarter (k : ℕ) (h : k < 4) : ∀ a, (![0, 0, 128 * k, 0] : Fin 4 → ℕ) a + S1x1x128x128.size a ≤ S1x1x512x128.size a := by
  have h' : ∀ k : Fin 4, ∀ a, (![0, 0, 128 * k.val, 0] : Fin 4 → ℕ) a + S1x1x128x128.size a ≤ S1x1x512x128.size a := by decide
  exact h' ⟨k, h⟩

theorem inb_slab (q k : ℕ) (hq : q < 2) (h : k < 4) : ∀ a, (![q, k, 0, 0] : Fin 4 → ℕ) a + S1x1x128x128.size a ≤ S2x4x128x128.size a := by
  have h' : ∀ q : Fin 2, ∀ k : Fin 4, ∀ a, (![q.val, k.val, 0, 0] : Fin 4 → ℕ) a + S1x1x128x128.size a ≤ S2x4x128x128.size a := by decide
  exact h' ⟨q, hq⟩ ⟨k, h⟩

/-- Quarter `k` of a page, as it is loaded. -/
def quarter (pg : Memref sig .tc .vmem S1x1x512x128 .f32) (x : Page F) (k : ℕ) (h : k < 4) : Vec F S1x1x128x128 .f32 :=
  pg.view.readAt (Elt F) (Rect.unit (s := S1x1x512x128) ![0, 0, 128 * k, 0] S1x1x128x128.size (inb_quarter k h)).toLoadRect (pg.view.rep x)

/-- The slabs after `n` stores: store `n` puts quarter `n % 4` of page `n / 4`, transposed, at slab `(n % 8 / 4, n % 4)`. -/
def slabs (pg : Fin 16 → Memref sig .tc .vmem S1x1x512x128 .f32) (x : Fin 16 → Page F) (f : SlabBuf F) : ℕ → SlabBuf F
  | 0 => f
  | n + 1 => scM1.view.writes (Elt F) (slabs pg x f n) [⟨Rect.unit (s := S2x4x128x128) ![n % 8 / 4, n % 4, 0, 0] S1x1x128x128.size
      (inb_slab _ _ (by omega) (by omega)),
        k0_pay34 (quarter (pg ⟨n / 4 % 16, by omega⟩) (x ⟨n / 4 % 16, by omega⟩) (n % 4) (by omega))⟩]

/-- The first row, of the 512, of the chunks written for page pair `p` at this grid point. -/
def base (i : grid0.Coords) (p : ℕ) : ℕ :=
  (Scalar.indexCast (Scalar.muli (Scalar.addi (Scalar.muli (BitVec.ofNat 32 (i 1).val) 16#32) (BitVec.ofNat 32 (2 * p))) 8#32)).toNat

theorem base_eq (i : grid0.Coords) (p : ℕ) (hp : p < 8) : base i p = 128 * (i 1).val + 16 * p := by
  have h : ∀ s : Fin 4, ∀ p : Fin 8, (Scalar.indexCast (Scalar.muli (Scalar.addi (Scalar.muli (BitVec.ofNat 32 s.val) 16#32) (BitVec.ofNat 32 (2 * p.val))) 8#32)).toNat = 128 * s.val + 16 * p.val := by decide
  exact h (i 1) ⟨p, hp⟩

theorem inb_strided (q k r : ℕ) (hq : q < 2) (hk : k < 4) (hr : r < 16) (a : Fin 4) : S1x1x8x128.size a = 0 ∨
    (![q, k, r, 0] : Fin 4 → ℕ) a + (![1, 1, 16, 1] : Fin 4 → ℕ) a * (S1x1x8x128.size a - 1) < S2x4x128x128.size a := by
  have h' : ∀ q : Fin 2, ∀ k : Fin 4, ∀ r : Fin 16, ∀ a : Fin 4, S1x1x8x128.size a = 0 ∨
    (![q.val, k.val, r.val, 0] : Fin 4 → ℕ) a + (![1, 1, 16, 1] : Fin 4 → ℕ) a * (S1x1x8x128.size a - 1) < S2x4x128x128.size a := by decide
  exact h' ⟨q, hq⟩ ⟨k, hk⟩ ⟨r, hr⟩ a

theorem inb_rows (i : grid0.Coords) (r k p : ℕ) (hr : r < 16) (hk : k < 4) (hp : p < 8) (a : Fin 4) :
    (![r, k, base i p, 0] : Fin 4 → ℕ) a + S1x1x16x128.size a ≤ S16x4x512x128.size a := by
  have hb := base_eq i p hp
  have hs : (i 1).val < 4 := (i 1).isLt
  match a with
  | ⟨0, _⟩ => show r + 1 ≤ 16; omega
  | ⟨1, _⟩ => show k + 1 ≤ 4; omega
  | ⟨2, _⟩ => show base i p + 16 ≤ 512; omega
  | ⟨3, _⟩ => show 0 + 128 ≤ 128; omega

/-- The eight rows `r, r + 16, …` of slab `(q, k)`, as they are loaded. -/
def strided (f : SlabBuf F) (q k r : ℕ) (hq : q < 2) (hk : k < 4) (hr : r < 16) : Vec F S1x1x8x128 .f32 :=
  scM1.view.readAt (Elt F) (⟨![q, k, r, 0], S1x1x8x128.size, ![1, 1, 16, 1], inb_strided q k r hq hk hr⟩ : LoadRect S2x4x128x128) f

/-- The rows after `n` stores: store `n` is of page pair `n / 64`, row offset `n % 64 / 4`, quarter `n % 4`, and takes
its sixteen rows from the slabs as they are once that pair's eight quarters are in. -/
def rows (pg : Fin 16 → Memref sig .tc .vmem S1x1x512x128 .f32) (x : Fin 16 → Page F) (f : SlabBuf F) (i : grid0.Coords) (g : RowBuf F) : ℕ → RowBuf F
  | 0 => g
  | n + 1 => scM0.view.writes (Elt F) (rows pg x f i g n) [⟨Rect.unit (s := S16x4x512x128) ![n % 64 / 4, n % 4, base i (n / 64 % 8), 0] S1x1x16x128.size
      (inb_rows i _ _ _ (by omega) (by omega) (by omega)),
        k0_pay44 (strided (slabs pg x f (8 * (n / 64) + 8)) 0 (n % 4) (n % 64 / 4) (by omega) (by omega) (by omega))
          (strided (slabs pg x f (8 * (n / 64) + 8)) 1 (n % 4) (n % 64 / 4) (by omega) (by omega) (by omega))⟩]

/-! ## The rules -/

section Rules

variable {α β : Type} (c : Dev nD)

/-- The weakest precondition of a program run by device `c`. -/
abbrev W {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

theorem glue {A B R X P : sProp 𝕄} (h1 : A ⊢ iprop((B -∗ X) -∗ P)) (h2 : iprop(B ∗ R) ⊢ X) : iprop(A ∗ R) ⊢ P :=
  (BI.sep_mono_l h1).trans (BI.wand_elim (BI.wand_intro (BI.sep_comm.trans
    ((BI.sep_mono_l (BI.wand_intro (BI.sep_comm.trans h2))).trans (BI.sep_comm.trans (BI.wand_elim (Entails.refl _)))))))

theorem r_bind {R : sProp 𝕄} {p : Prog (TpuEff nD τ sig (Elt F) Λ₀ .tc) α} {k : α → Prog (TpuEff nD τ sig (Elt F) Λ₀ .tc) β} {Q : β → sProp 𝕄}
    (h : R ⊢ W c p (fun a => W c (k a) Q)) : R ⊢ W c (p >>= k) Q := by
  have e : W c (p >>= k) Q = W c p (fun a => W c (k a) Q) := wp_bind frame (wpE (defs₀ (F := F)) Variants.none (c : Thread nD τ) none) Set.univ p k Q
  rw [e]
  exact h

theorem r_pure {R : sProp 𝕄} {a : α} {Q : α → sProp 𝕄} (h : R ⊢ Q a) : R ⊢ W c (Pure.pure a : Prog (TpuEff nD τ sig (Elt F) Λ₀ .tc) α) Q :=
  BIBase.Entails.trans h (fupd_intro (Fr := frame))

/-- A load of a buffer held whole or over a view: what it reads is handed on, the buffer stays. -/
theorem r_load {R : sProp 𝕄} {s : Shape} {e : EltTy} {m : Memref sig .tc .vmem s e} {r : LoadRect s} {hl : m.view.LoadsAt r}
    {S : Finset (Idx (m.view.loc (c : Thread nD τ)))} {f : Buf (Elt F) (m.view.loc (c : Thread nD τ))} {Q : (r.shape.Idx → Elt F e) → sProp 𝕄}
    (hS : m.view.setOn r.set ⊆ S)
    (h : iprop((m.view.loc (c : Thread nD τ) ↦[S]{fullShare} f) ∗ R) ⊢ Q (m.view.readAt (Elt F) r f)) :
    iprop((m.view.loc (c : Thread nD τ) ↦[S]{fullShare} f) ∗ R) ⊢ W c (Prog.lift (.load m r hl)) Q :=
  glue (wp_load Variants.none (c : Thread nD τ) none Set.univ (hl := hl) (k := .ret) (q := fullShare) (f := f) (Q := Q) hS)
    (r_pure c (a := m.view.readAt (Elt F) r f) (Q := Q) h)

/-- An unmasked store into such a buffer. -/
theorem r_store {R : sProp 𝕄} {s : Shape} {e : EltTy} {m : Memref sig .tc .vmem s e} {r : Rect s} {w : r.shape.Idx → Elt F e} {hx : (m.access r).Stores Finset.univ}
    {hm : Finset.univ = Finset.univ ∨ ∀ a, r.stride a = 1}
    {S : Finset (Idx (m.view.loc (c : Thread nD τ)))} {f : m.view.ty.Contents (Elt F)} {Q : PUnit → sProp 𝕄}
    (hS : (m.access r).set ⊆ S)
    (h : iprop((m.view.loc (c : Thread nD τ) ↦[S]{fullShare} (m.view.writes (Elt F) f [⟨r, w⟩])) ∗ R) ⊢ Q ⟨⟩) :
    iprop((m.view.loc (c : Thread nD τ) ↦[S]{fullShare} f) ∗ R) ⊢ W c (Prog.lift (.store m r w Finset.univ hx hm)) Q :=
  glue (wp_store_writes₀ Variants.none (c : Thread nD τ) none Set.univ (Q := Q) (w := w) (hx := hx) (hm := hm) (k := .ret) (f := f) hS)
    (r_pure c (a := PUnit.unit) (Q := Q) h)

/-- What the body holds: the sixteen pages' blocks, the two scratches, and the rest. -/
def Held (pg : Fin 16 → Memref sig .tc .vmem S1x1x512x128 .f32) (x : Fin 16 → Page F) (f : SlabBuf F) (g : RowBuf F) (R : sProp 𝕄) : sProp 𝕄 :=
  iprop(bigSep Finset.univ (fun j => (pg j).view.loc (c : Thread nD τ) ↦[(pg j).view.set]{fullShare} (pg j).view.rep (x j))
    ∗ (scM0.view.loc (c : Thread nD τ) ↦{fullShare} g) ∗ (scM1.view.loc (c : Thread nD τ) ↦{fullShare} f) ∗ R)

variable {pg : Fin 16 → Memref sig .tc .vmem S1x1x512x128 .f32} {x : Fin 16 → Page F} {f f0 : SlabBuf F} {g g0 : RowBuf F}

theorem assoc_eq (A B C : sProp 𝕄) : iprop((A ∗ B) ∗ C) = iprop(A ∗ B ∗ C) :=
  BI.Entails.antisymm BI.sep_assoc BI.sep_assoc'

theorem held_page {R : sProp 𝕄} (j : Fin 16) : ∃ R', Held c pg x f g R = iprop(((pg j).view.loc (c : Thread nD τ) ↦[(pg j).view.set]{fullShare} (pg j).view.rep (x j)) ∗ R') := by
  refine ⟨iprop(bigSep (Finset.univ.erase j) (fun j => (pg j).view.loc (c : Thread nD τ) ↦[(pg j).view.set]{fullShare} (pg j).view.rep (x j))
    ∗ (scM0.view.loc (c : Thread nD τ) ↦{fullShare} g) ∗ (scM1.view.loc (c : Thread nD τ) ↦{fullShare} f) ∗ R), ?_⟩
  unfold Held
  rw [bigSep_univ_split j]
  exact (assoc_eq _ _ _)

theorem held_rows {R : sProp 𝕄} : Held c pg x f g R ⊢ iprop((scM0.view.loc (c : Thread nD τ) ↦{fullShare} g) ∗ (bigSep Finset.univ (fun j => (pg j).view.loc (c : Thread nD τ) ↦[(pg j).view.set]{fullShare} (pg j).view.rep (x j)) ∗ (scM1.view.loc (c : Thread nD τ) ↦{fullShare} f) ∗ R)) := by
  unfold Held
  iintro ⟨Ha, Hb, H⟩
  isplitl [Hb]; · iexact Hb
  isplitl [Ha]; · iexact Ha
  iexact H

theorem rows_held {R : sProp 𝕄} : iprop((scM0.view.loc (c : Thread nD τ) ↦{fullShare} g) ∗ (bigSep Finset.univ (fun j => (pg j).view.loc (c : Thread nD τ) ↦[(pg j).view.set]{fullShare} (pg j).view.rep (x j)) ∗ (scM1.view.loc (c : Thread nD τ) ↦{fullShare} f) ∗ R)) ⊢ Held c pg x f g R := by
  unfold Held
  iintro ⟨Hb, Ha, H⟩
  isplitl [Ha]; · iexact Ha
  isplitl [Hb]; · iexact Hb
  iexact H

theorem held_slabs {R : sProp 𝕄} : Held c pg x f g R ⊢ iprop((scM1.view.loc (c : Thread nD τ) ↦{fullShare} f) ∗ (bigSep Finset.univ (fun j => (pg j).view.loc (c : Thread nD τ) ↦[(pg j).view.set]{fullShare} (pg j).view.rep (x j)) ∗ (scM0.view.loc (c : Thread nD τ) ↦{fullShare} g) ∗ R)) := by
  unfold Held
  iintro ⟨Ha, Hb, Hc, H⟩
  isplitl [Hc]; · iexact Hc
  isplitl [Ha]; · iexact Ha
  isplitl [Hb]; · iexact Hb
  iexact H

theorem slabs_held {R : sProp 𝕄} : iprop((scM1.view.loc (c : Thread nD τ) ↦{fullShare} f) ∗ (bigSep Finset.univ (fun j => (pg j).view.loc (c : Thread nD τ) ↦[(pg j).view.set]{fullShare} (pg j).view.rep (x j)) ∗ (scM0.view.loc (c : Thread nD τ) ↦{fullShare} g) ∗ R)) ⊢ Held c pg x f g R := by
  unfold Held
  iintro ⟨Hc, Ha, Hb, H⟩
  isplitl [Ha]; · iexact Ha
  isplitl [Hb]; · iexact Hb
  isplitl [Hc]; · iexact Hc
  iexact H

theorem r_page {R : sProp 𝕄} {j : Fin 16} {r : LoadRect S1x1x512x128} {hl : (pg j).view.LoadsAt r} {Q : (r.shape.Idx → Elt F .f32) → sProp 𝕄}
    (h : Held c pg x f g R ⊢ Q ((pg j).view.readAt (Elt F) r ((pg j).view.rep (x j)))) :
    Held c pg x f g R ⊢ W c (Prog.lift (.load (pg j) r hl)) Q := by
  obtain ⟨R', hR⟩ := held_page (F := F) (R := R) (pg := pg) (x := x) (f := f) (g := g) c j
  rw [hR] at h ⊢
  exact r_load c (View.setOn_subset_set _ _) h

theorem r_ldSlab {R : sProp 𝕄} {r : LoadRect S2x4x128x128} {hl : scM1.view.LoadsAt r} {Q : (r.shape.Idx → Elt F .f32) → sProp 𝕄}
    (h : Held c pg x f g R ⊢ Q (scM1.view.readAt (Elt F) r f)) :
    Held c pg x f g R ⊢ W c (Prog.lift (.load scM1 r hl)) Q :=
  BIBase.Entails.trans (held_slabs c) (r_load c (Finset.subset_univ _) (BIBase.Entails.trans (slabs_held c) h))

theorem r_ldRow {R : sProp 𝕄} {r : LoadRect S16x4x512x128} {hl : scM0.view.LoadsAt r} {Q : (r.shape.Idx → Elt F .bf16) → sProp 𝕄}
    (h : Held c pg x f g R ⊢ Q (scM0.view.readAt (Elt F) r g)) :
    Held c pg x f g R ⊢ W c (Prog.lift (.load scM0 r hl)) Q :=
  BIBase.Entails.trans (held_rows c) (r_load c (Finset.subset_univ _) (BIBase.Entails.trans (rows_held c) h))

theorem r_stSlab {R : sProp 𝕄} {n n' : ℕ} {off : Fin 4 → ℕ} {inb} {w : (Rect.unit (s := S2x4x128x128) off S1x1x128x128.size inb).shape.Idx → Elt F .f32}
    {hx : (scM1.access (Rect.unit (s := S2x4x128x128) off S1x1x128x128.size inb)).Stores Finset.univ} {hm} {Q : PUnit → sProp 𝕄}
    (hn : n + 1 = n') (hoff : off = ![n % 8 / 4, n % 4, 0, 0])
    (hw : w = k0_pay34 (quarter (pg ⟨n / 4 % 16, by omega⟩) (x ⟨n / 4 % 16, by omega⟩) (n % 4) (by omega)))
    (h : Held c pg x (slabs pg x f0 n') g R ⊢ Q ⟨⟩) :
    Held c pg x (slabs pg x f0 n) g R ⊢ W c (Prog.lift (.store scM1 (Rect.unit (s := S2x4x128x128) off S1x1x128x128.size inb) w Finset.univ hx hm)) Q := by
  subst hoff hw hn
  exact BIBase.Entails.trans (held_slabs c) (r_store c (Finset.subset_univ _) (BIBase.Entails.trans (slabs_held c) h))

theorem r_stRow {R : sProp 𝕄} {i : grid0.Coords} {n n' : ℕ} {off : Fin 4 → ℕ} {inb} {w : (Rect.unit (s := S16x4x512x128) off S1x1x16x128.size inb).shape.Idx → Elt F .bf16}
    {hx : (scM0.access (Rect.unit (s := S16x4x512x128) off S1x1x16x128.size inb)).Stores Finset.univ} {hm} {Q : PUnit → sProp 𝕄}
    (hn : n + 1 = n') (hoff : off = ![n % 64 / 4, n % 4, base i (n / 64 % 8), 0])
    (hw : w = k0_pay44 (strided (slabs pg x f0 (8 * (n / 64) + 8)) 0 (n % 4) (n % 64 / 4) (by omega) (by omega) (by omega))
          (strided (slabs pg x f0 (8 * (n / 64) + 8)) 1 (n % 4) (n % 64 / 4) (by omega) (by omega) (by omega)))
    (h : Held c pg x f (rows pg x f0 i g0 n') R ⊢ Q ⟨⟩) :
    Held c pg x f (rows pg x f0 i g0 n) R ⊢ W c (Prog.lift (.store scM0 (Rect.unit (s := S16x4x512x128) off S1x1x16x128.size inb) w Finset.univ hx hm)) Q := by
  subst hoff hw hn
  exact BIBase.Entails.trans (held_rows c) (r_store c (Finset.subset_univ _) (BIBase.Entails.trans (rows_held c) h))

/-- The weights' three blocks, the two output blocks, and the rest. -/
def Outs (wd : Memref sig .tc .vmem S2x8x256x256 .bf16) (b1 : Memref sig .tc .vmem S2x1x128 .f32) (w2 : Memref sig .tc .vmem S2x128x128 .bf16)
    (o0 o1 : Memref sig .tc .vmem S1x512x256 .bf16) (xw : S2x8x256x256.Idx → Elt F .bf16) (xb : S2x1x128.Idx → Elt F .f32) (x2 : S2x128x128.Idx → Elt F .bf16)
    (f0 : o0.view.ty.Contents (Elt F)) (f1 : o1.view.ty.Contents (Elt F)) (R : sProp 𝕄) : sProp 𝕄 :=
  iprop((wd.view.loc (c : Thread nD τ) ↦[wd.view.set]{fullShare} wd.view.rep xw)
    ∗ (b1.view.loc (c : Thread nD τ) ↦[b1.view.set]{fullShare} b1.view.rep xb)
    ∗ (w2.view.loc (c : Thread nD τ) ↦[w2.view.set]{fullShare} w2.view.rep x2)
    ∗ (o0.view.loc (c : Thread nD τ) ↦[o0.view.set]{fullShare} f0)
    ∗ (o1.view.loc (c : Thread nD τ) ↦[o1.view.set]{fullShare} f1) ∗ R)

variable {wd : Memref sig .tc .vmem S2x8x256x256 .bf16} {b1 : Memref sig .tc .vmem S2x1x128 .f32} {w2 : Memref sig .tc .vmem S2x128x128 .bf16}
    {o0 o1 : Memref sig .tc .vmem S1x512x256 .bf16} {xw : S2x8x256x256.Idx → Elt F .bf16} {xb : S2x1x128.Idx → Elt F .f32} {x2 : S2x128x128.Idx → Elt F .bf16}
    {f0 : o0.view.ty.Contents (Elt F)} {f1 : o1.view.ty.Contents (Elt F)}

theorem swap_eq (A B C : sProp 𝕄) : iprop(A ∗ B ∗ C) = iprop(B ∗ A ∗ C) := by
  rw [← assoc_eq, ← assoc_eq]
  exact congrArg (fun X => iprop(X ∗ C)) (BI.Entails.antisymm BI.sep_comm BI.sep_comm)

theorem held_abs (P P' P'' A R : sProp 𝕄) : iprop(P ∗ P' ∗ P'' ∗ A ∗ R) = iprop(A ∗ (P ∗ P' ∗ P'') ∗ R) := by
  rw [swap_eq P'' A, swap_eq P' A, swap_eq P A, assoc_eq, assoc_eq]

theorem front1 (A B C D E R : sProp 𝕄) : iprop(A ∗ B ∗ C ∗ D ∗ E ∗ R) = iprop(B ∗ A ∗ C ∗ D ∗ E ∗ R) := by
  rw [swap_eq A B]

theorem front2 (A B C D E R : sProp 𝕄) : iprop(A ∗ B ∗ C ∗ D ∗ E ∗ R) = iprop(C ∗ A ∗ B ∗ D ∗ E ∗ R) := by
  rw [swap_eq B C, swap_eq A C]

theorem front3 (A B C D E R : sProp 𝕄) : iprop(A ∗ B ∗ C ∗ D ∗ E ∗ R) = iprop(D ∗ A ∗ B ∗ C ∗ E ∗ R) := by
  rw [swap_eq C D, swap_eq B D, swap_eq A D]

theorem front4 (A B C D E R : sProp 𝕄) : iprop(A ∗ B ∗ C ∗ D ∗ E ∗ R) = iprop(E ∗ A ∗ B ∗ C ∗ D ∗ R) := by
  rw [swap_eq D E, swap_eq C E, swap_eq B E, swap_eq A E]

/-- What the body holds, the rest brought to the front. -/
theorem held_front (pg : Fin 16 → Memref sig .tc .vmem S1x1x512x128 .f32) (x : Fin 16 → Page F) (f : SlabBuf F) (g : RowBuf F) :
    ∃ H : sProp 𝕄, ∀ A R : sProp 𝕄, Held c pg x f g iprop(A ∗ R) = iprop(A ∗ H ∗ R) := by
  refine ⟨iprop(bigSep Finset.univ (fun j => (pg j).view.loc (c : Thread nD τ) ↦[(pg j).view.set]{fullShare} (pg j).view.rep (x j))
    ∗ (scM0.view.loc (c : Thread nD τ) ↦{fullShare} g) ∗ (scM1.view.loc (c : Thread nD τ) ↦{fullShare} f)), fun A R => ?_⟩
  unfold Held
  exact held_abs _ _ _ _ _

theorem outs_wd (R : sProp 𝕄) : ∃ R' : sProp 𝕄, Outs c wd b1 w2 o0 o1 xw xb x2 f0 f1 R = iprop((wd.view.loc (c : Thread nD τ) ↦[wd.view.set]{fullShare} wd.view.rep xw) ∗ R') := by
  refine ⟨iprop((b1.view.loc (c : Thread nD τ) ↦[b1.view.set]{fullShare} b1.view.rep xb) ∗ (w2.view.loc (c : Thread nD τ) ↦[w2.view.set]{fullShare} w2.view.rep x2) ∗ (o0.view.loc (c : Thread nD τ) ↦[o0.view.set]{fullShare} f0) ∗ (o1.view.loc (c : Thread nD τ) ↦[o1.view.set]{fullShare} f1) ∗ R), ?_⟩
  unfold Outs
  rfl

theorem outs_b1 (R : sProp 𝕄) : ∃ R' : sProp 𝕄, Outs c wd b1 w2 o0 o1 xw xb x2 f0 f1 R = iprop((b1.view.loc (c : Thread nD τ) ↦[b1.view.set]{fullShare} b1.view.rep xb) ∗ R') := by
  refine ⟨iprop((wd.view.loc (c : Thread nD τ) ↦[wd.view.set]{fullShare} wd.view.rep xw) ∗ (w2.view.loc (c : Thread nD τ) ↦[w2.view.set]{fullShare} w2.view.rep x2) ∗ (o0.view.loc (c : Thread nD τ) ↦[o0.view.set]{fullShare} f0) ∗ (o1.view.loc (c : Thread nD τ) ↦[o1.view.set]{fullShare} f1) ∗ R), ?_⟩
  unfold Outs
  exact front1 _ _ _ _ _ _

theorem outs_w2 (R : sProp 𝕄) : ∃ R' : sProp 𝕄, Outs c wd b1 w2 o0 o1 xw xb x2 f0 f1 R = iprop((w2.view.loc (c : Thread nD τ) ↦[w2.view.set]{fullShare} w2.view.rep x2) ∗ R') := by
  refine ⟨iprop((wd.view.loc (c : Thread nD τ) ↦[wd.view.set]{fullShare} wd.view.rep xw) ∗ (b1.view.loc (c : Thread nD τ) ↦[b1.view.set]{fullShare} b1.view.rep xb) ∗ (o0.view.loc (c : Thread nD τ) ↦[o0.view.set]{fullShare} f0) ∗ (o1.view.loc (c : Thread nD τ) ↦[o1.view.set]{fullShare} f1) ∗ R), ?_⟩
  unfold Outs
  exact front2 _ _ _ _ _ _

theorem outs_o0 (R : sProp 𝕄) : ∃ R' : sProp 𝕄, ∀ f0, Outs c wd b1 w2 o0 o1 xw xb x2 f0 f1 R = iprop((o0.view.loc (c : Thread nD τ) ↦[o0.view.set]{fullShare} f0) ∗ R') := by
  refine ⟨iprop((wd.view.loc (c : Thread nD τ) ↦[wd.view.set]{fullShare} wd.view.rep xw) ∗ (b1.view.loc (c : Thread nD τ) ↦[b1.view.set]{fullShare} b1.view.rep xb) ∗ (w2.view.loc (c : Thread nD τ) ↦[w2.view.set]{fullShare} w2.view.rep x2) ∗ (o1.view.loc (c : Thread nD τ) ↦[o1.view.set]{fullShare} f1) ∗ R), fun f0 => ?_⟩
  unfold Outs
  exact front3 _ _ _ _ _ _

theorem outs_o1 (R : sProp 𝕄) : ∃ R' : sProp 𝕄, ∀ f1, Outs c wd b1 w2 o0 o1 xw xb x2 f0 f1 R = iprop((o1.view.loc (c : Thread nD τ) ↦[o1.view.set]{fullShare} f1) ∗ R') := by
  refine ⟨iprop((wd.view.loc (c : Thread nD τ) ↦[wd.view.set]{fullShare} wd.view.rep xw) ∗ (b1.view.loc (c : Thread nD τ) ↦[b1.view.set]{fullShare} b1.view.rep xb) ∗ (w2.view.loc (c : Thread nD τ) ↦[w2.view.set]{fullShare} w2.view.rep x2) ∗ (o0.view.loc (c : Thread nD τ) ↦[o0.view.set]{fullShare} f0) ∗ R), fun f1 => ?_⟩
  unfold Outs
  exact front4 _ _ _ _ _ _

theorem r_ld_wd {R : sProp 𝕄} {r : LoadRect S2x8x256x256} {hl : wd.view.LoadsAt r} {Q : (r.shape.Idx → Elt F .bf16) → sProp 𝕄}
    (h : Held c pg x f g (Outs c wd b1 w2 o0 o1 xw xb x2 f0 f1 R) ⊢ Q (wd.view.readAt (Elt F) r (wd.view.rep xw))) :
    Held c pg x f g (Outs c wd b1 w2 o0 o1 xw xb x2 f0 f1 R) ⊢ W c (Prog.lift (.load wd r hl)) Q := by
  obtain ⟨R', hR⟩ := outs_wd (F := F) c (wd := wd) (b1 := b1) (w2 := w2) (o0 := o0) (o1 := o1) (xw := xw) (xb := xb) (x2 := x2) (f0 := f0) (f1 := f1) R
  obtain ⟨H, hH⟩ := held_front (F := F) c pg x f g
  rw [hR, hH] at h ⊢
  exact r_load c (View.setOn_subset_set _ _) h

theorem r_ld_b1 {R : sProp 𝕄} {r : LoadRect S2x1x128} {hl : b1.view.LoadsAt r} {Q : (r.shape.Idx → Elt F .f32) → sProp 𝕄}
    (h : Held c pg x f g (Outs c wd b1 w2 o0 o1 xw xb x2 f0 f1 R) ⊢ Q (b1.view.readAt (Elt F) r (b1.view.rep xb))) :
    Held c pg x f g (Outs c wd b1 w2 o0 o1 xw xb x2 f0 f1 R) ⊢ W c (Prog.lift (.load b1 r hl)) Q := by
  obtain ⟨R', hR⟩ := outs_b1 (F := F) c (wd := wd) (b1 := b1) (w2 := w2) (o0 := o0) (o1 := o1) (xw := xw) (xb := xb) (x2 := x2) (f0 := f0) (f1 := f1) R
  obtain ⟨H, hH⟩ := held_front (F := F) c pg x f g
  rw [hR, hH] at h ⊢
  exact r_load c (View.setOn_subset_set _ _) h

theorem r_ld_w2 {R : sProp 𝕄} {r : LoadRect S2x128x128} {hl : w2.view.LoadsAt r} {Q : (r.shape.Idx → Elt F .bf16) → sProp 𝕄}
    (h : Held c pg x f g (Outs c wd b1 w2 o0 o1 xw xb x2 f0 f1 R) ⊢ Q (w2.view.readAt (Elt F) r (w2.view.rep x2))) :
    Held c pg x f g (Outs c wd b1 w2 o0 o1 xw xb x2 f0 f1 R) ⊢ W c (Prog.lift (.load w2 r hl)) Q := by
  obtain ⟨R', hR⟩ := outs_w2 (F := F) c (wd := wd) (b1 := b1) (w2 := w2) (o0 := o0) (o1 := o1) (xw := xw) (xb := xb) (x2 := x2) (f0 := f0) (f1 := f1) R
  obtain ⟨H, hH⟩ := held_front (F := F) c pg x f g
  rw [hR, hH] at h ⊢
  exact r_load c (View.setOn_subset_set _ _) h

theorem r_ld_o0 {R : sProp 𝕄} {r : LoadRect S1x512x256} {hl : o0.view.LoadsAt r} {Q : (r.shape.Idx → Elt F .bf16) → sProp 𝕄}
    (h : Held c pg x f g (Outs c wd b1 w2 o0 o1 xw xb x2 f0 f1 R) ⊢ Q (o0.view.readAt (Elt F) r (f0))) :
    Held c pg x f g (Outs c wd b1 w2 o0 o1 xw xb x2 f0 f1 R) ⊢ W c (Prog.lift (.load o0 r hl)) Q := by
  obtain ⟨R', hR⟩ := outs_o0 (F := F) c (wd := wd) (b1 := b1) (w2 := w2) (o0 := o0) (o1 := o1) (xw := xw) (xb := xb) (x2 := x2) (f1 := f1) R
  obtain ⟨H, hH⟩ := held_front (F := F) c pg x f g
  rw [hR f0, hH] at h ⊢
  exact r_load c (View.setOn_subset_set _ _) h

theorem r_ld_o1 {R : sProp 𝕄} {r : LoadRect S1x512x256} {hl : o1.view.LoadsAt r} {Q : (r.shape.Idx → Elt F .bf16) → sProp 𝕄}
    (h : Held c pg x f g (Outs c wd b1 w2 o0 o1 xw xb x2 f0 f1 R) ⊢ Q (o1.view.readAt (Elt F) r (f1))) :
    Held c pg x f g (Outs c wd b1 w2 o0 o1 xw xb x2 f0 f1 R) ⊢ W c (Prog.lift (.load o1 r hl)) Q := by
  obtain ⟨R', hR⟩ := outs_o1 (F := F) c (wd := wd) (b1 := b1) (w2 := w2) (o0 := o0) (o1 := o1) (xw := xw) (xb := xb) (x2 := x2) (f0 := f0) R
  obtain ⟨H, hH⟩ := held_front (F := F) c pg x f g
  rw [hR f1, hH] at h ⊢
  exact r_load c (View.setOn_subset_set _ _) h

theorem r_st_o0 {R : sProp 𝕄} {off : Fin 3 → ℕ} {inb} {w w' : (Rect.unit (s := S1x512x256) off S1x512x128.size inb).shape.Idx → Elt F .bf16}
    {hx : (o0.access (Rect.unit (s := S1x512x256) off S1x512x128.size inb)).Stores Finset.univ} {hm} {Q : PUnit → sProp 𝕄}
    (hw : w' = w) (h : Held c pg x f g (Outs c wd b1 w2 o0 o1 xw xb x2 (o0.view.writes (Elt F) f0 [⟨Rect.unit (s := S1x512x256) off S1x512x128.size inb, w⟩]) f1 R) ⊢ Q ⟨⟩) :
    Held c pg x f g (Outs c wd b1 w2 o0 o1 xw xb x2 f0 f1 R) ⊢ W c (Prog.lift (.store o0 (Rect.unit (s := S1x512x256) off S1x512x128.size inb) w' Finset.univ hx hm)) Q := by
  subst hw
  obtain ⟨R', hR⟩ := outs_o0 (F := F) c (wd := wd) (b1 := b1) (w2 := w2) (o0 := o0) (o1 := o1) (xw := xw) (xb := xb) (x2 := x2) (f1 := f1) R
  obtain ⟨H, hH⟩ := held_front (F := F) c pg x f g
  rw [hR, hH] at h ⊢
  exact r_store c (Memref.setOn_access_subset _ _ _) h

theorem r_st_o1 {R : sProp 𝕄} {off : Fin 3 → ℕ} {inb} {w w' : (Rect.unit (s := S1x512x256) off S1x512x128.size inb).shape.Idx → Elt F .bf16}
    {hx : (o1.access (Rect.unit (s := S1x512x256) off S1x512x128.size inb)).Stores Finset.univ} {hm} {Q : PUnit → sProp 𝕄}
    (hw : w' = w) (h : Held c pg x f g (Outs c wd b1 w2 o0 o1 xw xb x2 f0 (o1.view.writes (Elt F) f1 [⟨Rect.unit (s := S1x512x256) off S1x512x128.size inb, w⟩]) R) ⊢ Q ⟨⟩) :
    Held c pg x f g (Outs c wd b1 w2 o0 o1 xw xb x2 f0 f1 R) ⊢ W c (Prog.lift (.store o1 (Rect.unit (s := S1x512x256) off S1x512x128.size inb) w' Finset.univ hx hm)) Q := by
  subst hw
  obtain ⟨R', hR⟩ := outs_o1 (F := F) c (wd := wd) (b1 := b1) (w2 := w2) (o0 := o0) (o1 := o1) (xw := xw) (xb := xb) (x2 := x2) (f0 := f0) R
  obtain ⟨H, hH⟩ := held_front (F := F) c pg x f g
  rw [hR, hH] at h ⊢
  exact r_store c (Memref.setOn_access_subset _ _ _) h

theorem r_dite {R : sProp 𝕄} {p : Prop} [Decidable p] {a : p → Prog (TpuEff nD τ sig (Elt F) Λ₀ .tc) α} {b : ¬p → Prog (TpuEff nD τ sig (Elt F) Λ₀ .tc) α} {Q : α → sProp 𝕄}
    (h1 : ∀ h : p, R ⊢ W c (a h) Q) (h2 : ∀ h : ¬p, R ⊢ W c (b h) Q) : R ⊢ W c (dite p a b) Q := by
  by_cases h : p
  · rw [dif_pos h]; exact h1 h
  · rw [dif_neg h]; exact h2 h

end Rules

/-! ## What the last step computes from the rows -/

section Formula

/-- All 512 rows of row offset `r`, quarter `k`, as they are loaded. -/
def ldX (g : RowBuf F) (r k : ℕ) (hr : r < 16) (hk : k < 4) : Vec F S1x1x512x128 .bf16 :=
  scM0.view.readAt (Elt F) (Rect.unit (s := S16x4x512x128) ![r, k, 0, 0] S1x1x512x128.size (by
    have h' : ∀ r : Fin 16, ∀ k : Fin 4, ∀ a, (![r.val, k.val, 0, 0] : Fin 4 → ℕ) a + S1x1x512x128.size a ≤ S16x4x512x128.size a := by decide
    exact h' ⟨r, hr⟩ ⟨k, hk⟩)).toLoadRect g

/-- One block of the block-diagonal weights, as it is loaded. -/
def ldW (wd : Memref sig .tc .vmem S2x8x256x256 .bf16) (xw : S2x8x256x256.Idx → Elt F .bf16) (v j : ℕ) (hv : v < 2) (hj : j < 8) : Vec F S1x1x256x256 .bf16 :=
  wd.view.readAt (Elt F) (Rect.unit (s := S2x8x256x256) ![v, j, 0, 0] S1x1x256x256.size (by
    have h' : ∀ v : Fin 2, ∀ j : Fin 8, ∀ a, (![v.val, j.val, 0, 0] : Fin 4 → ℕ) a + S1x1x256x256.size a ≤ S2x8x256x256.size a := by decide
    exact h' ⟨v, hv⟩ ⟨j, hj⟩)).toLoadRect (wd.view.rep xw)

def ldB (b1 : Memref sig .tc .vmem S2x1x128 .f32) (xb : S2x1x128.Idx → Elt F .f32) (v : ℕ) (hv : v < 2) : Vec F S1x1x128 .f32 :=
  b1.view.readAt (Elt F) (Rect.unit (s := S2x1x128) ![v, 0, 0] S1x1x128.size (by
    have h' : ∀ v : Fin 2, ∀ a, (![v.val, 0, 0] : Fin 3 → ℕ) a + S1x1x128.size a ≤ S2x1x128.size a := by decide
    exact h' ⟨v, hv⟩)).toLoadRect (b1.view.rep xb)

def ldV (w2 : Memref sig .tc .vmem S2x128x128 .bf16) (x2 : S2x128x128.Idx → Elt F .bf16) (v : ℕ) (hv : v < 2) : Vec F S1x128x128 .bf16 :=
  w2.view.readAt (Elt F) (Rect.unit (s := S2x128x128) ![v, 0, 0] S1x128x128.size (by
    have h' : ∀ v : Fin 2, ∀ a, (![v.val, 0, 0] : Fin 3 → ℕ) a + S1x128x128.size a ≤ S2x128x128.size a := by decide
    exact h' ⟨v, hv⟩)).toLoadRect (w2.view.rep x2)

/-- The sum of the first `n` of the eight products. -/
def ySum (X : (r : ℕ) → r < 16 → Vec F S1x1x512x128 .bf16) (Wb : (j : ℕ) → j < 8 → Vec F S1x1x256x256 .bf16) : ℕ → FVec F S512x256 .f32
  | 0 => broadcast S512x256 (Scalar.ofBits .f32 0x00000000#32)
  | n + 1 => addf (ySum X Wb n) (matmul dot_S512x256_S256x256_S512x256_1_0_0_1_n_n none
      (concatenate S512x256 1 [⟨S512x128, shapeCast S512x128 (X (2 * n % 16) (by omega)) shapeCasts_S1x1x512x128_S512x128⟩,
        ⟨S512x128, shapeCast S512x128 (X ((2 * n + 1) % 16) (by omega)) shapeCasts_S1x1x512x128_S512x128⟩] concatenates_S512x128_S512x128_S512x256_d1)
      (shapeCast S256x256 (Wb (n % 8) (by omega)) shapeCasts_S1x1x256x256_S256x256) (constant S512x256 .f32 0x00000000#32))

/-- The hidden layer before its activation. -/
def preAct (y : FVec F S512x256 .f32) (b : Vec F S1x1x128 .f32) : FVec F S512x128 .f32 :=
  addf (addf (extractStridedSlice S512x128 ![0, 0] y slices_S512x256_o0_0_S512x128)
    (dynamicRotate 0 511#32 none (extractStridedSlice S512x128 ![0, 128] y slices_S512x256_o0_128_S512x128) rotates_S512x128_d0))
    (broadcastTo S512x128 (shapeCast S1x128 b shapeCasts_S1x1x128_S1x128) broadcasts_S1x128_S512x128)

/-- The factor the activation multiplies with. -/
def gate (p : FVec F S512x128 .f32) : FVec F S512x128 .f32 :=
  mulf (broadcast S512x128 (Scalar.ofBits .f32 0x3F000000#32)) (addf (broadcast S512x128 (Scalar.ofBits .f32 0x3F800000#32))
    (tanh (mulf (broadcast S512x128 (Scalar.ofBits .f32 0x3F4C422A#32)) (addf p (mulf (broadcast S512x128 (Scalar.ofBits .f32 0x3D372713#32)) (mulf p (mulf p p)))))))

/-- Half of an output block. -/
def half (X : (r : ℕ) → r < 16 → Vec F S1x1x512x128 .bf16) (Wb : (j : ℕ) → j < 8 → Vec F S1x1x256x256 .bf16) (b : Vec F S1x1x128 .f32) (V : Vec F S1x128x128 .bf16) : FVec F S1x512x128 .bf16 :=
  k0_pay2 (iota .tc S512x1 32 [0] iota_S512x1_d0_w32) (preAct (ySum X Wb 8) b) (gate (preAct (ySum X Wb 8) b)) V

/-- Side `v`, head pair `p`: the half the last step stores. -/
def halfAt (wd : Memref sig .tc .vmem S2x8x256x256 .bf16) (b1 : Memref sig .tc .vmem S2x1x128 .f32) (w2 : Memref sig .tc .vmem S2x128x128 .bf16)
    (xw : S2x8x256x256.Idx → Elt F .bf16) (xb : S2x1x128.Idx → Elt F .f32) (x2 : S2x128x128.Idx → Elt F .bf16) (g : RowBuf F) (v p : ℕ) (hv : v < 2) (hp : p < 2) : FVec F S1x512x128 .bf16 :=
  half (fun r hr => ldX g r (2 * v + p) hr (by omega)) (fun j hj => ldW wd xw v j hv hj) (ldB b1 xb v hv) (ldV w2 x2 v hv)

end Formula

end Cert.CompressIdeal.Hand

end
-- ==== Proof.Compress.Fill.lean ====
module

public import proofs.«01_k».proof.Proof.Compress.Body
public import proofs.«01_k».proof.Proof.Gen.CompressIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Lib.Pipeline.ValueKit
public import Idealize.ShloMosaic.Lib.Claim
public import Idealize.ShloMosaic.Init

@[expose] public section

set_option maxRecDepth 16384
set_option Elab.async false

noncomputable section

/-! # What the two scratches hold after a step

A slab is a page's quarter transposed; a row of the second scratch is then sixteen tokens of that page, narrowed. Rows
outside the step's own 128 stay as they were. -/

namespace Cert.CompressIdeal.Hand

open Cert.CompressIdeal Cert.CompressIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The narrowing of one number. -/
def tr16 (a : Elt F .f32) : Elt F .bf16 := (truncf .bf16 (fun _ : S16x128.Idx => a) bitsLt_bf16_f32 : FVec F S16x128 .bf16) (ix2 (0 : Fin 16) (0 : Fin 128))

theorem pay34_at (v : Vec F S1x1x128x128 .f32) (a b : Fin 128) : k0_pay34 v (ix4 (0 : Fin 1) (0 : Fin 1) a b) = v (ix4 (0 : Fin 1) (0 : Fin 1) b a) := by
  pointwise [k0_pay34]

theorem pay44_lo (v w : Vec F S1x1x8x128 .f32) (a : Fin 16) (h : a.val < 8) (b : Fin 128) :
    k0_pay44 v w (ix4 (0 : Fin 1) (0 : Fin 1) a b) = tr16 (v (ix4 (0 : Fin 1) (0 : Fin 1) (⟨a.val, h⟩ : Fin 8) b)) := by
  pointwise [k0_pay44, tr16]
  rw [dif_pos h]

theorem pay44_hi (v w : Vec F S1x1x8x128 .f32) (a : Fin 16) (h : 8 ≤ a.val) (b : Fin 128) :
    k0_pay44 v w (ix4 (0 : Fin 1) (0 : Fin 1) a b) = tr16 (w (ix4 (0 : Fin 1) (0 : Fin 1) (⟨a.val - 8, by omega⟩ : Fin 8) b)) := by
  pointwise [k0_pay44, tr16]
  rw [dif_neg (by omega)]

/-- Entry `(l, tok)` of a page's quarter. -/
theorem quarter_at (pg : Memref sig .tc .vmem S1x1x512x128 .f32) (x : Page F) (k : Fin 4) (l tok : Fin 128) :
    quarter pg x k.val k.isLt (ix4 (0 : Fin 1) (0 : Fin 1) l tok) = x (ix4 (0 : Fin 1) (0 : Fin 1) (⟨128 * k.val + l.val, by omega⟩ : Fin 512) tok) := by
  unfold quarter
  rw [View.readAt_apply, View.read_rep]
  refine congrArg x (funext fun a => Fin.ext ?_)
  match a with
  | ⟨0, _⟩ => rfl
  | ⟨1, _⟩ => rfl
  | ⟨2, _⟩ => show 128 * k.val + 1 * l.val = 128 * k.val + l.val; omega
  | ⟨3, _⟩ => show 0 + 1 * tok.val = tok.val; omega

/-- Entry `(j, l)` of a strided load. -/
theorem strided_at (f : SlabBuf F) (q k r : ℕ) (hq : q < 2) (hk : k < 4) (hr : r < 16) (j : Fin 8) (l : Fin 128) :
    strided f q k r hq hk hr (ix4 (0 : Fin 1) (0 : Fin 1) j l) = f (ix4 (⟨q, hq⟩ : Fin 2) (⟨k, hk⟩ : Fin 4) (⟨16 * j.val + r, by omega⟩ : Fin 128) l) := by
  unfold strided
  rw [View.readAt_apply]
  refine congrArg f (funext fun a => Fin.ext ?_)
  match a with
  | ⟨0, _⟩ => show q + 1 * 0 = q; omega
  | ⟨1, _⟩ => show k + 1 * 0 = k; omega
  | ⟨2, _⟩ => show r + 16 * j.val = 16 * j.val + r; omega
  | ⟨3, _⟩ => show 0 + 1 * l.val = l.val; omega

variable (pg : Fin 16 → Memref sig .tc .vmem S1x1x512x128 .f32) (x : Fin 16 → Page F)

theorem slabs_read (f : SlabBuf F) (n : ℕ) (y : S2x4x128x128.Idx) : slabs pg x f (n + 1) y = scM1.view.read (Elt F)
    (scM1.view.writes (Elt F) (slabs pg x f n) [⟨Rect.unit (s := S2x4x128x128) ![n % 8 / 4, n % 4, 0, 0] S1x1x128x128.size
      (inb_slab _ _ (by omega) (by omega)),
        k0_pay34 (quarter (pg ⟨n / 4 % 16, by omega⟩) (x ⟨n / 4 % 16, by omega⟩) (n % 4) (by omega))⟩]) y := by
  rw [slabs]
  exact (congrFun (View.read_whole (Val := Elt F) cc0_scratch1 _) y).symm
theorem slabs_keep (f : SlabBuf F) (y : S2x4x128x128.Idx) : scM1.view.read (Elt F) f y = f y := congrFun (View.read_whole (Val := Elt F) cc0_scratch1 f) y

theorem rows_read (f : SlabBuf F) (i : grid0.Coords) (g : RowBuf F) (n : ℕ) (y : S16x4x512x128.Idx) : rows pg x f i g (n + 1) y = scM0.view.read (Elt F)
    (scM0.view.writes (Elt F) (rows pg x f i g n) [⟨Rect.unit (s := S16x4x512x128) ![n % 64 / 4, n % 4, base i (n / 64 % 8), 0] S1x1x16x128.size
      (inb_rows i _ _ _ (by omega) (by omega) (by omega)),
        k0_pay44 (strided (slabs pg x f (8 * (n / 64) + 8)) 0 (n % 4) (n % 64 / 4) (by omega) (by omega) (by omega))
          (strided (slabs pg x f (8 * (n / 64) + 8)) 1 (n % 4) (n % 64 / 4) (by omega) (by omega) (by omega))⟩]) y := by
  rw [rows]
  exact (congrFun (View.read_whole (Val := Elt F) cc0_scratch0 _) y).symm
theorem rows_keep (g : RowBuf F) (y : S16x4x512x128.Idx) : scM0.view.read (Elt F) g y = g y := congrFun (View.read_whole (Val := Elt F) cc0_scratch0 g) y

attribute [local irreducible] slabs rows base

/-- The slabs after the first `e` stores of page pair `p`: the quarters stored so far. -/
theorem slabs_at (f : SlabBuf F) (p : ℕ) (hp : p < 8) (e : ℕ) (he : e ≤ 8) (q : Fin 2) (k : Fin 4) (h : 4 * q.val + k.val < e) (tok l : Fin 128) :
    slabs pg x f (8 * p + e) (ix4 q k tok l) = x ⟨2 * p + q.val, by omega⟩ (ix4 (0 : Fin 1) (0 : Fin 1) (⟨128 * k.val + l.val, by omega⟩ : Fin 512) tok) := by
  induction e with
  | zero => exact absurd h (Nat.not_lt_zero _)
  | succ e ih =>
    refine (slabs_read pg x f (8 * p + e) _).trans ?_
    by_cases hh : 4 * q.val + k.val = e
    · have h1 : (8 * p + e) % 8 / 4 = q.val := by omega
      have h2 : (8 * p + e) % 4 = k.val := by omega
      have h3 : (8 * p + e) / 4 % 16 = 2 * p + q.val := by omega
      rw [View.read_writes_cons_hit_of_coords (x := ix4 (0 : Fin 1) (0 : Fin 1) tok l) (hx := fun a => by
        match a with
        | ⟨0, _⟩ => show q.val = (8 * p + e) % 8 / 4 + 1 * 0; omega
        | ⟨1, _⟩ => show k.val = (8 * p + e) % 4 + 1 * 0; omega
        | ⟨2, _⟩ => show tok.val = 0 + 1 * tok.val; omega
        | ⟨3, _⟩ => show l.val = 0 + 1 * l.val; omega)]
      refine (pay34_at _ tok l).trans ((quarter_at _ _ ⟨(8 * p + e) % 4, by omega⟩ l tok).trans ?_)
      have hx : x ⟨(8 * p + e) / 4 % 16, by omega⟩ = x ⟨2 * p + q.val, by omega⟩ := congrArg x (Fin.ext h3)
      rw [hx]
      exact congrArg _ (congrArg (fun z => ix4 (0 : Fin 1) (0 : Fin 1) z tok) (Fin.ext (by show 128 * ((8 * p + e) % 4) + l.val = _; rw [h2])))
    · have ih := ih (by omega) (by omega)
      by_cases hq : q.val = (8 * p + e) % 8 / 4
      · rw [View.read_writes_cons_miss_of_axis (a := (1 : Fin 4)) (o := (8 * p + e) % 4) (n := 1) (ho := rfl) (hst := rfl) (hn := rfl)
          (h := by show k.val < (8 * p + e) % 4 ∨ (8 * p + e) % 4 + 1 ≤ k.val; omega)]
        exact (slabs_keep _ _).trans ih
      · rw [View.read_writes_cons_miss_of_axis (a := (0 : Fin 4)) (o := (8 * p + e) % 8 / 4) (n := 1) (ho := rfl) (hst := rfl) (hn := rfl)
          (h := by show q.val < (8 * p + e) % 8 / 4 ∨ (8 * p + e) % 8 / 4 + 1 ≤ q.val; omega)]
        exact (slabs_keep _ _).trans ih

/-- A row outside the step's own stays. -/
theorem rows_out (f : SlabBuf F) (i : grid0.Coords) (g : RowBuf F) (n : ℕ) (hn : n ≤ 512) (r : Fin 16) (k : Fin 4) (row : Fin 512) (l : Fin 128)
    (h : row.val < 128 * (i 1).val ∨ 128 * (i 1).val + 128 ≤ row.val) : rows pg x f i g n (ix4 r k row l) = g (ix4 r k row l) := by
  induction n with
  | zero => rw [rows]
  | succ n ih =>
    have hb := base_eq i (n / 64 % 8) (by omega)
    refine (rows_read pg x f i g n _).trans ?_
    rw [View.read_writes_cons_miss_of_axis (a := (2 : Fin 4)) (o := base i (n / 64 % 8)) (n := 16) (ho := rfl) (hst := rfl) (hn := rfl)
          (h := by show row.val < base i (n / 64 % 8) ∨ base i (n / 64 % 8) + 16 ≤ row.val; omega)]
    exact (rows_keep _ _).trans (ih (by omega))

/-- A row of the step's own, once it is stored. -/
theorem rows_in (f : SlabBuf F) (i : grid0.Coords) (g : RowBuf F) (n : ℕ) (hn : n ≤ 512) (r : Fin 16) (k : Fin 4) (p : Fin 8) (q : Fin 2) (j : Fin 8) (row : Fin 512) (l : Fin 128)
    (hrow : row.val = 128 * (i 1).val + 16 * p.val + 8 * q.val + j.val) (h : 64 * p.val + 4 * r.val + k.val < n) :
    rows pg x f i g n (ix4 r k row l) = tr16 (x ⟨2 * p.val + q.val, by omega⟩ (ix4 (0 : Fin 1) (0 : Fin 1) (⟨128 * k.val + l.val, by omega⟩ : Fin 512) (⟨16 * j.val + r.val, by omega⟩ : Fin 128))) := by
  induction n with
  | zero => exact absurd h (Nat.not_lt_zero _)
  | succ n ih =>
    have hb := base_eq i (n / 64 % 8) (by omega)
    refine (rows_read pg x f i g n _).trans ?_
    by_cases hh : 64 * p.val + 4 * r.val + k.val = n
    · have h1 : n % 64 / 4 = r.val := by omega
      have h2 : n % 4 = k.val := by omega
      have h3 : n / 64 = p.val := by omega
      have hr : ∀ z : Fin 2, slabs pg x f (8 * (n / 64) + 8) (ix4 z (⟨n % 4, by omega⟩ : Fin 4) (⟨16 * j.val + n % 64 / 4, by omega⟩ : Fin 128) l)
          = x ⟨2 * p.val + z.val, by omega⟩ (ix4 (0 : Fin 1) (0 : Fin 1) (⟨128 * k.val + l.val, by omega⟩ : Fin 512) (⟨16 * j.val + r.val, by omega⟩ : Fin 128)) := fun z => by
        rw [slabs_at pg x f (n / 64) (by omega) 8 le_rfl z _ (by show 4 * z.val + n % 4 < 8; omega)]
        have hx : x ⟨2 * (n / 64) + z.val, by omega⟩ = x ⟨2 * p.val + z.val, by omega⟩ := congrArg x (Fin.ext (by show 2 * (n / 64) + z.val = 2 * p.val + z.val; omega))
        rw [hx]
        refine congrArg _ ?_
        have e1 : (⟨128 * (n % 4) + l.val, by omega⟩ : Fin 512) = ⟨128 * k.val + l.val, by omega⟩ := Fin.ext (by show 128 * (n % 4) + l.val = 128 * k.val + l.val; omega)
        have e2 : (⟨16 * j.val + n % 64 / 4, by omega⟩ : Fin 128) = ⟨16 * j.val + r.val, by omega⟩ := Fin.ext (by show 16 * j.val + n % 64 / 4 = 16 * j.val + r.val; omega)
        exact congrArg₂ (fun a b => ix4 (0 : Fin 1) (0 : Fin 1) a b) e1 e2
      rw [View.read_writes_cons_hit_of_coords (x := ix4 (0 : Fin 1) (0 : Fin 1) (⟨8 * q.val + j.val, by omega⟩ : Fin 16) l) (hx := fun a => by
        match a with
        | ⟨0, _⟩ => show r.val = n % 64 / 4 + 1 * 0; omega
        | ⟨1, _⟩ => show k.val = n % 4 + 1 * 0; omega
        | ⟨2, _⟩ => show row.val = base i (n / 64 % 8) + 1 * (8 * q.val + j.val); omega
        | ⟨3, _⟩ => show l.val = 0 + 1 * l.val; omega)]
      match q, hr with
      | ⟨0, _⟩, hr =>
        refine (pay44_lo _ _ _ (by show 8 * 0 + j.val < 8; omega) l).trans (congrArg tr16 ?_)
        refine (strided_at _ _ _ _ _ _ _ _ l).trans ?_
        refine Eq.trans (congrArg (slabs pg x f (8 * (n / 64) + 8)) ?_) (hr ⟨0, by omega⟩)
        exact congrArg (fun z => ix4 (0 : Fin 2) (⟨n % 4, by omega⟩ : Fin 4) z l) (Fin.ext (by show 16 * (8 * 0 + j.val) + n % 64 / 4 = 16 * j.val + n % 64 / 4; omega))
      | ⟨1, _⟩, hr =>
        refine (pay44_hi _ _ _ (by show 8 ≤ 8 * 1 + j.val; omega) l).trans (congrArg tr16 ?_)
        refine (strided_at _ _ _ _ _ _ _ _ l).trans ?_
        refine Eq.trans (congrArg (slabs pg x f (8 * (n / 64) + 8)) ?_) (hr ⟨1, by omega⟩)
        exact congrArg (fun z => ix4 (1 : Fin 2) (⟨n % 4, by omega⟩ : Fin 4) z l) (Fin.ext (by show 16 * (8 * 1 + j.val - 8) + n % 64 / 4 = 16 * j.val + n % 64 / 4; omega))
    · have ih := ih (by omega) (by omega)
      by_cases hp : p.val = n / 64
      · by_cases hr : r.val = n % 64 / 4
        · rw [View.read_writes_cons_miss_of_axis (a := (1 : Fin 4)) (o := n % 4) (n := 1) (ho := rfl) (hst := rfl) (hn := rfl)
            (h := by show k.val < n % 4 ∨ n % 4 + 1 ≤ k.val; omega)]
          exact (rows_keep _ _).trans ih
        · rw [View.read_writes_cons_miss_of_axis (a := (0 : Fin 4)) (o := n % 64 / 4) (n := 1) (ho := rfl) (hst := rfl) (hn := rfl)
            (h := by show r.val < n % 64 / 4 ∨ n % 64 / 4 + 1 ≤ r.val; omega)]
          exact (rows_keep _ _).trans ih
      · rw [View.read_writes_cons_miss_of_axis (a := (2 : Fin 4)) (o := base i (n / 64 % 8)) (n := 16) (ho := rfl) (hst := rfl) (hn := rfl)
            (h := by show row.val < base i (n / 64 % 8) ∨ base i (n / 64 % 8) + 16 ≤ row.val; omega)]
        exact (rows_keep _ _).trans ih

end Cert.CompressIdeal.Hand

end
-- ==== Proof.Compress.Step.lean ====
module

public import proofs.«01_k».proof.Proof.Compress.Body
public import proofs.«01_k».proof.Proof.Gen.CompressIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

/-! # One grid step of the compression from the cache, run

Every step fills the rows of its sixteen pages; the last step of a sequence also computes the two output blocks. -/

namespace Cert.CompressIdeal.Hand

open Cert.CompressIdeal Cert.CompressIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

attribute [local irreducible] slabs rows Held Outs

theorem inb_h0 : ∀ a, (![0, 0, 0] : Fin 3 → ℕ) a + S1x512x128.size a ≤ S1x512x256.size a := by decide
theorem inb_h1 : ∀ a, (![0, 0, 128] : Fin 3 → ℕ) a + S1x512x128.size a ≤ S1x512x256.size a := by decide

/-- An output block after its two halves are stored. -/
def stored (o : Memref sig .tc .vmem S1x512x256 .bf16) (f : o.view.ty.Contents (Elt F)) (a b : FVec F S1x512x128 .bf16) : o.view.ty.Contents (Elt F) :=
  o.view.writes (Elt F) (o.view.writes (Elt F) f [⟨Rect.unit (s := S1x512x256) ![0, 0, 0] S1x512x128.size inb_h0, a⟩])
    [⟨Rect.unit (s := S1x512x256) ![0, 0, 128] S1x512x128.size inb_h1, b⟩]

set_option maxHeartbeats 40000000 in
theorem body (c : Dev nD) (i : grid0.Coords) (pg : Fin 16 → Memref sig .tc .vmem S1x1x512x128 .f32) (hpg : ∀ j, (pg j).IsWhole)
    (wd : Memref sig .tc .vmem S2x8x256x256 .bf16) (hwd : wd.IsWhole) (b1 : Memref sig .tc .vmem S2x1x128 .f32) (hb1 : b1.IsWhole)
    (w2 : Memref sig .tc .vmem S2x128x128 .bf16) (hw2 : w2.IsWhole) (o0 : Memref sig .tc .vmem S1x512x256 .bf16) (ho0 : o0.IsWhole) (o1 : Memref sig .tc .vmem S1x512x256 .bf16) (ho1 : o1.IsWhole)
    (x : Fin 16 → Page F) (f : SlabBuf F) (g : RowBuf F) (xw : S2x8x256x256.Idx → Elt F .bf16) (xb : S2x1x128.Idx → Elt F .f32) (x2 : S2x128x128.Idx → Elt F .bf16)
    (f0 : o0.view.ty.Contents (Elt F)) (f1 : o1.view.ty.Contents (Elt F)) (R : sProp 𝕄) (K : PUnit → sProp 𝕄)
    (h0 : ¬ k0_cond1 i = 1#1 → Held c pg x (slabs pg x f 64) (rows pg x f i g 512) (Outs c wd b1 w2 o0 o1 xw xb x2 f0 f1 R) ⊢ K ⟨⟩)
    (h1 : k0_cond1 i = 1#1 → Held c pg x (slabs pg x f 64) (rows pg x f i g 512) (Outs c wd b1 w2 o0 o1 xw xb x2
      (stored o0 f0 (halfAt wd b1 w2 xw xb x2 (rows pg x f i g 512) 0 0 (by decide) (by decide)) (halfAt wd b1 w2 xw xb x2 (rows pg x f i g 512) 0 1 (by decide) (by decide)))
      (stored o1 f1 (halfAt wd b1 w2 xw xb x2 (rows pg x f i g 512) 1 0 (by decide) (by decide)) (halfAt wd b1 w2 xw xb x2 (rows pg x f i g 512) 1 1 (by decide) (by decide))) R) ⊢ K ⟨⟩) :
    Held c pg x (slabs pg x f 0) (rows pg x f i g 0) (Outs c wd b1 w2 o0 o1 xw xb x2 f0 f1 R) ⊢ W c (cc0_compress i tbM0 (Memref.isWhole_whole _) (pg 0) (hpg 0) (pg 1) (hpg 1) (pg 2) (hpg 2) (pg 3) (hpg 3) (pg 4) (hpg 4) (pg 5) (hpg 5) (pg 6) (hpg 6) (pg 7) (hpg 7) (pg 8) (hpg 8) (pg 9) (hpg 9) (pg 10) (hpg 10) (pg 11) (hpg 11) (pg 12) (hpg 12) (pg 13) (hpg 13) (pg 14) (hpg 14) (pg 15) (hpg 15) wd hwd b1 hb1 w2 hw2 o0 ho0 o1 ho1 scM0 (Memref.isWhole_whole _) scM1 (Memref.isWhole_whole _)) K := by
  repeat (first
    | with_reducible refine r_bind c ?_
    | with_reducible refine r_page c ?_
    | with_reducible refine r_ldSlab c ?_
    | with_reducible refine r_ldRow c ?_
    | (with_reducible refine r_stSlab c (by simp only [Nat.reduceAdd]; rfl) ?hoff ?hw ?_
       case hoff => exact rfl
       case hw => exact rfl)
    | (with_reducible refine r_stRow c (by simp only [Nat.reduceAdd]; rfl) ?hoff ?hw ?_
       case hoff => exact rfl
       case hw => exact rfl)
    | with_reducible refine r_pure c ?_
    | refine r_bind c ?_)
  refine r_dite c (fun hc => ?_) (fun hc => ?_)
  · repeat (first
    | with_reducible refine r_bind c ?_
    | with_reducible refine r_ldRow c ?_
    | with_reducible refine r_ld_wd c ?_
    | with_reducible refine r_ld_b1 c ?_
    | with_reducible refine r_ld_w2 c ?_
    | with_reducible refine r_ld_o0 c ?_
    | with_reducible refine r_ld_o1 c ?_
    | (with_reducible refine r_st_o0 c (w := halfAt wd b1 w2 xw xb x2 (rows pg x f i g 512) 0 0 (by decide) (by decide)) ?hw ?_
       case hw => exact rfl)
    | (with_reducible refine r_st_o0 c (w := halfAt wd b1 w2 xw xb x2 (rows pg x f i g 512) 0 1 (by decide) (by decide)) ?hw ?_
       case hw => exact rfl)
    | (with_reducible refine r_st_o1 c (w := halfAt wd b1 w2 xw xb x2 (rows pg x f i g 512) 1 0 (by decide) (by decide)) ?hw ?_
       case hw => exact rfl)
    | (with_reducible refine r_st_o1 c (w := halfAt wd b1 w2 xw xb x2 (rows pg x f i g 512) 1 1 (by decide) (by decide)) ?hw ?_
       case hw => exact rfl)
    | with_reducible refine r_pure c ?_
    | refine r_bind c ?_)
    exact h1 hc
  · repeat (first
    | with_reducible refine r_bind c ?_
    | with_reducible refine r_pure c ?_
    | refine r_bind c ?_)
    exact h0 hc

end Cert.CompressIdeal.Hand

end
-- ==== Proof.Compress.Pipe.lean ====
module

public import proofs.«01_k».proof.Proof.Compress.Step
public import proofs.«01_k».proof.Proof.Gen.CompressIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

/-! # The compression's pipeline at any page table

The table is any words below 10240. Page window `j` of a grid point then holds the page its word names. -/

namespace Cert.CompressIdeal.Hand

open Cert.CompressIdeal Cert.CompressIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The page table. -/
structure Tables where
  w0 : S128x64.Idx → BitVec 32
  lt : ∀ x, (w0 x).toNat < 10240

variable (T : Tables)

set_option backward.proofsInPublic true in
/-- The table as the pipeline is handed it. -/
def pf : pre0.Contents (Elt F) := fun | ⟨0, _⟩ => T.w0 | ⟨_ + 1, h⟩ => absurd h (by simp)

/-- The table's element that page window `j` of a point reads. -/
abbrev at0 (i : grid0.Coords) (j : Fin 16) : S128x64.Idx :=
  (Rect.unit (s := S128x64) (k0_off1 i (BitVec.ofNat 32 j.val)) S1x1.size (k0_off1_inb i j)).emb (Shape.Idx.first (numel1_S1x1.symm ▸ Nat.one_pos))

theorem tr0_eq (i : grid0.Coords) : cc0_transform_0 (F := F) k0_off1_inb numel1_S1x1 (pf T) i = ![0, (T.w0 (at0 i 0)).toNat, 0, 0] := rfl
theorem tr1_eq (i : grid0.Coords) : cc0_transform_1 (F := F) k0_off1_inb numel1_S1x1 (pf T) i = ![0, (T.w0 (at0 i 1)).toNat, 0, 0] := rfl
theorem tr2_eq (i : grid0.Coords) : cc0_transform_2 (F := F) k0_off1_inb numel1_S1x1 (pf T) i = ![0, (T.w0 (at0 i 2)).toNat, 0, 0] := rfl
theorem tr3_eq (i : grid0.Coords) : cc0_transform_3 (F := F) k0_off1_inb numel1_S1x1 (pf T) i = ![0, (T.w0 (at0 i 3)).toNat, 0, 0] := rfl
theorem tr4_eq (i : grid0.Coords) : cc0_transform_4 (F := F) k0_off1_inb numel1_S1x1 (pf T) i = ![0, (T.w0 (at0 i 4)).toNat, 0, 0] := rfl
theorem tr5_eq (i : grid0.Coords) : cc0_transform_5 (F := F) k0_off1_inb numel1_S1x1 (pf T) i = ![0, (T.w0 (at0 i 5)).toNat, 0, 0] := rfl
theorem tr6_eq (i : grid0.Coords) : cc0_transform_6 (F := F) k0_off1_inb numel1_S1x1 (pf T) i = ![0, (T.w0 (at0 i 6)).toNat, 0, 0] := rfl
theorem tr7_eq (i : grid0.Coords) : cc0_transform_7 (F := F) k0_off1_inb numel1_S1x1 (pf T) i = ![0, (T.w0 (at0 i 7)).toNat, 0, 0] := rfl
theorem tr8_eq (i : grid0.Coords) : cc0_transform_8 (F := F) k0_off1_inb numel1_S1x1 (pf T) i = ![0, (T.w0 (at0 i 8)).toNat, 0, 0] := rfl
theorem tr9_eq (i : grid0.Coords) : cc0_transform_9 (F := F) k0_off1_inb numel1_S1x1 (pf T) i = ![0, (T.w0 (at0 i 9)).toNat, 0, 0] := rfl
theorem tr10_eq (i : grid0.Coords) : cc0_transform_10 (F := F) k0_off1_inb numel1_S1x1 (pf T) i = ![0, (T.w0 (at0 i 10)).toNat, 0, 0] := rfl
theorem tr11_eq (i : grid0.Coords) : cc0_transform_11 (F := F) k0_off1_inb numel1_S1x1 (pf T) i = ![0, (T.w0 (at0 i 11)).toNat, 0, 0] := rfl
theorem tr12_eq (i : grid0.Coords) : cc0_transform_12 (F := F) k0_off1_inb numel1_S1x1 (pf T) i = ![0, (T.w0 (at0 i 12)).toNat, 0, 0] := rfl
theorem tr13_eq (i : grid0.Coords) : cc0_transform_13 (F := F) k0_off1_inb numel1_S1x1 (pf T) i = ![0, (T.w0 (at0 i 13)).toNat, 0, 0] := rfl
theorem tr14_eq (i : grid0.Coords) : cc0_transform_14 (F := F) k0_off1_inb numel1_S1x1 (pf T) i = ![0, (T.w0 (at0 i 14)).toNat, 0, 0] := rfl
theorem tr15_eq (i : grid0.Coords) : cc0_transform_15 (F := F) k0_off1_inb numel1_S1x1 (pf T) i = ![0, (T.w0 (at0 i 15)).toNat, 0, 0] := rfl

theorem inbP (n : ℕ) (h : n < 10240) : ∀ a, ((![0, n, 0, 0] : Fin 4 → ℕ) a + 1) * S1x1x512x128.size a ≤ S2x10240x512x128.size a := by
  intro a; fin_cases a
  · exact Nat.le.intro (k := 1) rfl
  · show (n + 1) * 1 ≤ 10240; omega
  · exact Nat.le.intro (k := 0) rfl
  · exact Nat.le.intro (k := 0) rfl

/-- Every block lies inside its array. -/
theorem ok : ok0 (F := F) (pf T) :=
  ⟨fun i => ⟨by rw [tr0_eq]; exact inbP _ (T.lt _), .inl rfl⟩, fun i => ⟨by rw [tr1_eq]; exact inbP _ (T.lt _), .inl rfl⟩, fun i => ⟨by rw [tr2_eq]; exact inbP _ (T.lt _), .inl rfl⟩, fun i => ⟨by rw [tr3_eq]; exact inbP _ (T.lt _), .inl rfl⟩, fun i => ⟨by rw [tr4_eq]; exact inbP _ (T.lt _), .inl rfl⟩, fun i => ⟨by rw [tr5_eq]; exact inbP _ (T.lt _), .inl rfl⟩, fun i => ⟨by rw [tr6_eq]; exact inbP _ (T.lt _), .inl rfl⟩, fun i => ⟨by rw [tr7_eq]; exact inbP _ (T.lt _), .inl rfl⟩, fun i => ⟨by rw [tr8_eq]; exact inbP _ (T.lt _), .inl rfl⟩, fun i => ⟨by rw [tr9_eq]; exact inbP _ (T.lt _), .inl rfl⟩, fun i => ⟨by rw [tr10_eq]; exact inbP _ (T.lt _), .inl rfl⟩, fun i => ⟨by rw [tr11_eq]; exact inbP _ (T.lt _), .inl rfl⟩, fun i => ⟨by rw [tr12_eq]; exact inbP _ (T.lt _), .inl rfl⟩, fun i => ⟨by rw [tr13_eq]; exact inbP _ (T.lt _), .inl rfl⟩, fun i => ⟨by rw [tr14_eq]; exact inbP _ (T.lt _), .inl rfl⟩, fun i => ⟨by rw [tr15_eq]; exact inbP _ (T.lt _), .inl rfl⟩⟩

/-- The pipeline at the table. -/
def adm : (pcfg0 (F := F)).Adm := ⟨pf T, ok T⟩
variable (F) in
abbrev cfgA : Pipeline.Cfg sig Λ₀ := cfg0 (F := F) (adm T)
variable (F) in
abbrev pcs : Fin 1 → Pipeline.Cfg sig Λ₀ := Pipeline.pin (pcfgs (F := F)) fun _ => adm T

variable (m : (ℓ : Loc nD τ sig) → Buf (Elt F) ℓ)

/-- A point's coordinates. -/
abbrev crd (t : Fin (cfgA F T).N) : grid0.Coords := (cfgA F T).grid.coords t

/-- Each window's current staging memref at a point, and its wholeness. -/
abbrev ms0_0 (t : Fin (cfgA F T).N) : Memref sig .tc .vmem S1x1x512x128 .f32 := spec0_0.stage ((cfgA F T).slots t (0 : Fin 21))
abbrev hs0_0 (t : Fin (cfgA F T).N) : (ms0_0 T t).IsWhole := hstage0_0 (((cfgA F T).slots t (0 : Fin 21)).cast nbuf0_0)
abbrev ms0_1 (t : Fin (cfgA F T).N) : Memref sig .tc .vmem S1x1x512x128 .f32 := spec0_1.stage ((cfgA F T).slots t (1 : Fin 21))
abbrev hs0_1 (t : Fin (cfgA F T).N) : (ms0_1 T t).IsWhole := hstage0_1 (((cfgA F T).slots t (1 : Fin 21)).cast nbuf0_1)
abbrev ms0_2 (t : Fin (cfgA F T).N) : Memref sig .tc .vmem S1x1x512x128 .f32 := spec0_2.stage ((cfgA F T).slots t (2 : Fin 21))
abbrev hs0_2 (t : Fin (cfgA F T).N) : (ms0_2 T t).IsWhole := hstage0_2 (((cfgA F T).slots t (2 : Fin 21)).cast nbuf0_2)
abbrev ms0_3 (t : Fin (cfgA F T).N) : Memref sig .tc .vmem S1x1x512x128 .f32 := spec0_3.stage ((cfgA F T).slots t (3 : Fin 21))
abbrev hs0_3 (t : Fin (cfgA F T).N) : (ms0_3 T t).IsWhole := hstage0_3 (((cfgA F T).slots t (3 : Fin 21)).cast nbuf0_3)
abbrev ms0_4 (t : Fin (cfgA F T).N) : Memref sig .tc .vmem S1x1x512x128 .f32 := spec0_4.stage ((cfgA F T).slots t (4 : Fin 21))
abbrev hs0_4 (t : Fin (cfgA F T).N) : (ms0_4 T t).IsWhole := hstage0_4 (((cfgA F T).slots t (4 : Fin 21)).cast nbuf0_4)
abbrev ms0_5 (t : Fin (cfgA F T).N) : Memref sig .tc .vmem S1x1x512x128 .f32 := spec0_5.stage ((cfgA F T).slots t (5 : Fin 21))
abbrev hs0_5 (t : Fin (cfgA F T).N) : (ms0_5 T t).IsWhole := hstage0_5 (((cfgA F T).slots t (5 : Fin 21)).cast nbuf0_5)
abbrev ms0_6 (t : Fin (cfgA F T).N) : Memref sig .tc .vmem S1x1x512x128 .f32 := spec0_6.stage ((cfgA F T).slots t (6 : Fin 21))
abbrev hs0_6 (t : Fin (cfgA F T).N) : (ms0_6 T t).IsWhole := hstage0_6 (((cfgA F T).slots t (6 : Fin 21)).cast nbuf0_6)
abbrev ms0_7 (t : Fin (cfgA F T).N) : Memref sig .tc .vmem S1x1x512x128 .f32 := spec0_7.stage ((cfgA F T).slots t (7 : Fin 21))
abbrev hs0_7 (t : Fin (cfgA F T).N) : (ms0_7 T t).IsWhole := hstage0_7 (((cfgA F T).slots t (7 : Fin 21)).cast nbuf0_7)
abbrev ms0_8 (t : Fin (cfgA F T).N) : Memref sig .tc .vmem S1x1x512x128 .f32 := spec0_8.stage ((cfgA F T).slots t (8 : Fin 21))
abbrev hs0_8 (t : Fin (cfgA F T).N) : (ms0_8 T t).IsWhole := hstage0_8 (((cfgA F T).slots t (8 : Fin 21)).cast nbuf0_8)
abbrev ms0_9 (t : Fin (cfgA F T).N) : Memref sig .tc .vmem S1x1x512x128 .f32 := spec0_9.stage ((cfgA F T).slots t (9 : Fin 21))
abbrev hs0_9 (t : Fin (cfgA F T).N) : (ms0_9 T t).IsWhole := hstage0_9 (((cfgA F T).slots t (9 : Fin 21)).cast nbuf0_9)
abbrev ms0_10 (t : Fin (cfgA F T).N) : Memref sig .tc .vmem S1x1x512x128 .f32 := spec0_10.stage ((cfgA F T).slots t (10 : Fin 21))
abbrev hs0_10 (t : Fin (cfgA F T).N) : (ms0_10 T t).IsWhole := hstage0_10 (((cfgA F T).slots t (10 : Fin 21)).cast nbuf0_10)
abbrev ms0_11 (t : Fin (cfgA F T).N) : Memref sig .tc .vmem S1x1x512x128 .f32 := spec0_11.stage ((cfgA F T).slots t (11 : Fin 21))
abbrev hs0_11 (t : Fin (cfgA F T).N) : (ms0_11 T t).IsWhole := hstage0_11 (((cfgA F T).slots t (11 : Fin 21)).cast nbuf0_11)
abbrev ms0_12 (t : Fin (cfgA F T).N) : Memref sig .tc .vmem S1x1x512x128 .f32 := spec0_12.stage ((cfgA F T).slots t (12 : Fin 21))
abbrev hs0_12 (t : Fin (cfgA F T).N) : (ms0_12 T t).IsWhole := hstage0_12 (((cfgA F T).slots t (12 : Fin 21)).cast nbuf0_12)
abbrev ms0_13 (t : Fin (cfgA F T).N) : Memref sig .tc .vmem S1x1x512x128 .f32 := spec0_13.stage ((cfgA F T).slots t (13 : Fin 21))
abbrev hs0_13 (t : Fin (cfgA F T).N) : (ms0_13 T t).IsWhole := hstage0_13 (((cfgA F T).slots t (13 : Fin 21)).cast nbuf0_13)
abbrev ms0_14 (t : Fin (cfgA F T).N) : Memref sig .tc .vmem S1x1x512x128 .f32 := spec0_14.stage ((cfgA F T).slots t (14 : Fin 21))
abbrev hs0_14 (t : Fin (cfgA F T).N) : (ms0_14 T t).IsWhole := hstage0_14 (((cfgA F T).slots t (14 : Fin 21)).cast nbuf0_14)
abbrev ms0_15 (t : Fin (cfgA F T).N) : Memref sig .tc .vmem S1x1x512x128 .f32 := spec0_15.stage ((cfgA F T).slots t (15 : Fin 21))
abbrev hs0_15 (t : Fin (cfgA F T).N) : (ms0_15 T t).IsWhole := hstage0_15 (((cfgA F T).slots t (15 : Fin 21)).cast nbuf0_15)
abbrev ms0_16 (t : Fin (cfgA F T).N) : Memref sig .tc .vmem S2x8x256x256 .bf16 := spec0_16.stage ((cfgA F T).slots t (16 : Fin 21))
abbrev hs0_16 (t : Fin (cfgA F T).N) : (ms0_16 T t).IsWhole := hstage0_16 (((cfgA F T).slots t (16 : Fin 21)).cast nbuf0_16)
abbrev ms0_17 (t : Fin (cfgA F T).N) : Memref sig .tc .vmem S2x1x128 .f32 := spec0_17.stage ((cfgA F T).slots t (17 : Fin 21))
abbrev hs0_17 (t : Fin (cfgA F T).N) : (ms0_17 T t).IsWhole := hstage0_17 (((cfgA F T).slots t (17 : Fin 21)).cast nbuf0_17)
abbrev ms0_18 (t : Fin (cfgA F T).N) : Memref sig .tc .vmem S2x128x128 .bf16 := spec0_18.stage ((cfgA F T).slots t (18 : Fin 21))
abbrev hs0_18 (t : Fin (cfgA F T).N) : (ms0_18 T t).IsWhole := hstage0_18 (((cfgA F T).slots t (18 : Fin 21)).cast nbuf0_18)
abbrev ms0_19 (t : Fin (cfgA F T).N) : Memref sig .tc .vmem S1x512x256 .bf16 := spec0_19.stage ((cfgA F T).slots t (19 : Fin 21))
abbrev hs0_19 (t : Fin (cfgA F T).N) : (ms0_19 T t).IsWhole := hstage0_19 (((cfgA F T).slots t (19 : Fin 21)).cast nbuf0_19)
abbrev ms0_20 (t : Fin (cfgA F T).N) : Memref sig .tc .vmem S1x512x256 .bf16 := spec0_20.stage ((cfgA F T).slots t (20 : Fin 21))
abbrev hs0_20 (t : Fin (cfgA F T).N) : (ms0_20 T t).IsWhole := hstage0_20 (((cfgA F T).slots t (20 : Fin 21)).cast nbuf0_20)

/-- The page windows' memrefs, by their number. -/
def pgs (t : Fin (cfgA F T).N) : Fin 16 → Memref sig .tc .vmem S1x1x512x128 .f32
  | ⟨0, _⟩ => ms0_0 T t
  | ⟨1, _⟩ => ms0_1 T t
  | ⟨2, _⟩ => ms0_2 T t
  | ⟨3, _⟩ => ms0_3 T t
  | ⟨4, _⟩ => ms0_4 T t
  | ⟨5, _⟩ => ms0_5 T t
  | ⟨6, _⟩ => ms0_6 T t
  | ⟨7, _⟩ => ms0_7 T t
  | ⟨8, _⟩ => ms0_8 T t
  | ⟨9, _⟩ => ms0_9 T t
  | ⟨10, _⟩ => ms0_10 T t
  | ⟨11, _⟩ => ms0_11 T t
  | ⟨12, _⟩ => ms0_12 T t
  | ⟨13, _⟩ => ms0_13 T t
  | ⟨14, _⟩ => ms0_14 T t
  | ⟨15, _⟩ => ms0_15 T t
  | ⟨_ + 16, h⟩ => absurd h (by omega)
theorem hpgs (t : Fin (cfgA F T).N) : ∀ j, (pgs T t j).IsWhole
  | ⟨0, _⟩ => hs0_0 T t
  | ⟨1, _⟩ => hs0_1 T t
  | ⟨2, _⟩ => hs0_2 T t
  | ⟨3, _⟩ => hs0_3 T t
  | ⟨4, _⟩ => hs0_4 T t
  | ⟨5, _⟩ => hs0_5 T t
  | ⟨6, _⟩ => hs0_6 T t
  | ⟨7, _⟩ => hs0_7 T t
  | ⟨8, _⟩ => hs0_8 T t
  | ⟨9, _⟩ => hs0_9 T t
  | ⟨10, _⟩ => hs0_10 T t
  | ⟨11, _⟩ => hs0_11 T t
  | ⟨12, _⟩ => hs0_12 T t
  | ⟨13, _⟩ => hs0_13 T t
  | ⟨14, _⟩ => hs0_14 T t
  | ⟨15, _⟩ => hs0_15 T t
  | ⟨_ + 16, h⟩ => absurd h (by omega)

/-- The contents of each buffer once the host part has run. -/
abbrev hostV (c : Dev nD) (b : Ref sig .tc) : Buf (Elt F) ((c.tc : Thread nD τ).loc b) := StableHlo.after hostOps0 (fun b => m (c, b)) b

/-- Window `w`'s block at point `t`, read off its array after the host part. -/
def iblk (c : Dev nD) (w : Fin (cfgA F T).W) (t : Fin (cfgA F T).N) : (((cfgA F T).win w).xblock (crd T t)).Idx → Elt F ((cfgA F T).win w).elt :=
  (((cfgA F T).win w).blk t).view.read (Elt F) (hostV m c (Pipeline.arrRef (cfgA F T).spec w))

/-- The page of window `j` at a point, read off the transposed cache. -/
def pageAt (v1 : S2x10240x512x128.Idx → Elt F .f32) (i : grid0.Coords) (j : Fin 16) : Page F :=
  fun y => v1 (Rect.emb (Rect.block (s := S2x10240x512x128) S1x1x512x128.size ![0, (T.w0 (at0 i j)).toNat, 0, 0] (inbP _ (T.lt _))) y)

theorem iblk0 (c : Dev nD) (t : Fin (cfgA F T).N) : iblk T m c (0 : Fin 21) t = pageAt T (hostV m c main_v1) (crd T t) 0 := rfl
theorem iblk1 (c : Dev nD) (t : Fin (cfgA F T).N) : iblk T m c (1 : Fin 21) t = pageAt T (hostV m c main_v1) (crd T t) 1 := rfl
theorem iblk2 (c : Dev nD) (t : Fin (cfgA F T).N) : iblk T m c (2 : Fin 21) t = pageAt T (hostV m c main_v1) (crd T t) 2 := rfl
theorem iblk3 (c : Dev nD) (t : Fin (cfgA F T).N) : iblk T m c (3 : Fin 21) t = pageAt T (hostV m c main_v1) (crd T t) 3 := rfl
theorem iblk4 (c : Dev nD) (t : Fin (cfgA F T).N) : iblk T m c (4 : Fin 21) t = pageAt T (hostV m c main_v1) (crd T t) 4 := rfl
theorem iblk5 (c : Dev nD) (t : Fin (cfgA F T).N) : iblk T m c (5 : Fin 21) t = pageAt T (hostV m c main_v1) (crd T t) 5 := rfl
theorem iblk6 (c : Dev nD) (t : Fin (cfgA F T).N) : iblk T m c (6 : Fin 21) t = pageAt T (hostV m c main_v1) (crd T t) 6 := rfl
theorem iblk7 (c : Dev nD) (t : Fin (cfgA F T).N) : iblk T m c (7 : Fin 21) t = pageAt T (hostV m c main_v1) (crd T t) 7 := rfl
theorem iblk8 (c : Dev nD) (t : Fin (cfgA F T).N) : iblk T m c (8 : Fin 21) t = pageAt T (hostV m c main_v1) (crd T t) 8 := rfl
theorem iblk9 (c : Dev nD) (t : Fin (cfgA F T).N) : iblk T m c (9 : Fin 21) t = pageAt T (hostV m c main_v1) (crd T t) 9 := rfl
theorem iblk10 (c : Dev nD) (t : Fin (cfgA F T).N) : iblk T m c (10 : Fin 21) t = pageAt T (hostV m c main_v1) (crd T t) 10 := rfl
theorem iblk11 (c : Dev nD) (t : Fin (cfgA F T).N) : iblk T m c (11 : Fin 21) t = pageAt T (hostV m c main_v1) (crd T t) 11 := rfl
theorem iblk12 (c : Dev nD) (t : Fin (cfgA F T).N) : iblk T m c (12 : Fin 21) t = pageAt T (hostV m c main_v1) (crd T t) 12 := rfl
theorem iblk13 (c : Dev nD) (t : Fin (cfgA F T).N) : iblk T m c (13 : Fin 21) t = pageAt T (hostV m c main_v1) (crd T t) 13 := rfl
theorem iblk14 (c : Dev nD) (t : Fin (cfgA F T).N) : iblk T m c (14 : Fin 21) t = pageAt T (hostV m c main_v1) (crd T t) 14 := rfl
theorem iblk15 (c : Dev nD) (t : Fin (cfgA F T).N) : iblk T m c (15 : Fin 21) t = pageAt T (hostV m c main_v1) (crd T t) 15 := rfl
theorem blk_id16 (y : S2x8x256x256.Idx) : Rect.emb (Rect.block (s := S2x8x256x256) S2x8x256x256.size ![0, 0, 0, 0] (by decide)) y = y := by
  funext a; apply Fin.ext
  match a with
  | ⟨0, h⟩ => show 0 * 2 + 1 * (y ⟨0, h⟩).val = _; omega
  | ⟨1, h⟩ => show 0 * 8 + 1 * (y ⟨1, h⟩).val = _; omega
  | ⟨2, h⟩ => show 0 * 256 + 1 * (y ⟨2, h⟩).val = _; omega
  | ⟨3, h⟩ => show 0 * 256 + 1 * (y ⟨3, h⟩).val = _; omega
theorem blk_id17 (y : S2x1x128.Idx) : Rect.emb (Rect.block (s := S2x1x128) S2x1x128.size ![0, 0, 0] (by decide)) y = y := by
  funext a; apply Fin.ext
  match a with
  | ⟨0, h⟩ => show 0 * 2 + 1 * (y ⟨0, h⟩).val = _; omega
  | ⟨1, h⟩ => show 0 * 1 + 1 * (y ⟨1, h⟩).val = _; omega
  | ⟨2, h⟩ => show 0 * 128 + 1 * (y ⟨2, h⟩).val = _; omega
theorem blk_id18 (y : S2x128x128.Idx) : Rect.emb (Rect.block (s := S2x128x128) S2x128x128.size ![0, 0, 0] (by decide)) y = y := by
  funext a; apply Fin.ext
  match a with
  | ⟨0, h⟩ => show 0 * 2 + 1 * (y ⟨0, h⟩).val = _; omega
  | ⟨1, h⟩ => show 0 * 128 + 1 * (y ⟨1, h⟩).val = _; omega
  | ⟨2, h⟩ => show 0 * 128 + 1 * (y ⟨2, h⟩).val = _; omega

theorem iblk16 (c : Dev nD) (t : Fin (cfgA F T).N) : iblk T m c (16 : Fin 21) t = (hostV m c main_v26 : S2x8x256x256.Idx → Elt F .bf16) := by
  funext y; exact congrArg (hostV m c main_v26) (blk_id16 y)
theorem iblk17 (c : Dev nD) (t : Fin (cfgA F T).N) : iblk T m c (17 : Fin 21) t = (hostV m c main_v19 : S2x1x128.Idx → Elt F .f32) := by
  funext y; exact congrArg (hostV m c main_v19) (blk_id17 y)
theorem iblk18 (c : Dev nD) (t : Fin (cfgA F T).N) : iblk T m c (18 : Fin 21) t = (hostV m c main_v27 : S2x128x128.Idx → Elt F .bf16) := by
  funext y; exact congrArg (hostV m c main_v27) (blk_id18 y)

end Cert.CompressIdeal.Hand

end
-- ==== Proof.Compress.Rows.lean ====
module

public import proofs.«01_k».proof.Proof.Compress.Fill
public import proofs.«01_k».proof.Proof.Compress.Pipe
public import proofs.«01_k».proof.Proof.Gen.CompressIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Lib.Pipeline.ValueKit
public import Idealize.ShloMosaic.Lib.Claim
public import Idealize.ShloMosaic.Init

@[expose] public section

set_option maxRecDepth 16384
set_option Elab.async false

noncomputable section

/-! # The rows of a sequence, and the output blocks they give

A sequence's 512 rows of sixteen tokens fill up over four grid points, 128 a point. The fourth point computes the
sequence's output blocks from all of them. -/

namespace Cert.CompressIdeal.Hand

open Cert.CompressIdeal Cert.CompressIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (T : Tables)

theorem i1_lt (i : grid0.Coords) : (i 1).val < 4 := (i 1).isLt

/-- The table's element that page window `j` of a point reads is the `16 s + j`-th page of the point's sequence. -/
theorem at0_eq (i : grid0.Coords) (j : Fin 16) : at0 i j = ix2 (i 0) (⟨16 * (i 1).val + j.val, by have := i1_lt i; omega⟩ : Fin 64) := by
  funext a; apply Fin.ext
  match a with
  | ⟨0, _⟩ =>
    have h : ∀ b : Fin 128, (Scalar.indexCast (BitVec.ofNat 32 b.val)).toNat = b.val := by decide
    show k0_off1 i (BitVec.ofNat 32 j.val) 0 + 1 * 0 = (i 0).val
    exact h (i 0)
  | ⟨1, _⟩ =>
    have h : ∀ s : Fin 4, ∀ j : Fin 16, (Scalar.indexCast (Scalar.addi (Scalar.muli (BitVec.ofNat 32 s.val) 16#32) (BitVec.ofNat 32 j.val))).toNat = 16 * s.val + j.val := by decide
    show k0_off1 i (BitVec.ofNat 32 j.val) 1 + 1 * 0 = 16 * (i 1).val + j.val
    exact h (i 1) j

/-- Number `e` of token `tok` of page `n` of sequence `b`, read off the transposed cache. -/
def tokAt (v1 : S2x10240x512x128.Idx → Elt F .f32) (b : Fin 128) (n : Fin 64) (e : Fin 512) (tok : Fin 128) : Elt F .f32 :=
  v1 (ix4 (0 : Fin 2) (⟨(T.w0 (ix2 b n)).toNat, T.lt _⟩ : Fin 10240) e tok)

theorem pageAt_at (v1 : S2x10240x512x128.Idx → Elt F .f32) (i : grid0.Coords) (j : Fin 16) (e : Fin 512) (tok : Fin 128) :
    pageAt T v1 i j (ix4 (0 : Fin 1) (0 : Fin 1) e tok) = tokAt T v1 (i 0) ⟨16 * (i 1).val + j.val, by have := i1_lt i; omega⟩ e tok := by
  unfold pageAt tokAt
  refine congrArg v1 (funext fun a => Fin.ext ?_)
  match a with
  | ⟨0, _⟩ => rfl
  | ⟨1, _⟩ => show (T.w0 (at0 i j)).toNat * 1 + 1 * 0 = (T.w0 _).toNat; rw [at0_eq, Nat.mul_one]; rfl
  | ⟨2, _⟩ => show 0 * 512 + 1 * e.val = e.val; omega
  | ⟨3, _⟩ => show 0 * 128 + 1 * tok.val = tok.val; omega

/-- The rows of a sequence: row `n` of offset `r` is token `16 (n % 8) + r` of page `n / 8`, narrowed. -/
def want (v1 : S2x10240x512x128.Idx → Elt F .f32) (b : Fin 128) : S16x4x512x128.Idx → Elt F .bf16 := fun y =>
  have h0 : (y 0).val < 16 := (y 0).isLt
  have h1 : (y 1).val < 4 := (y 1).isLt
  have h2 : (y 2).val < 512 := (y 2).isLt
  have h3 : (y 3).val < 128 := (y 3).isLt
  tr16 (tokAt T v1 b ⟨(y 2).val / 8, by omega⟩ ⟨128 * (y 1).val + (y 3).val, by omega⟩ ⟨16 * ((y 2).val % 8) + (y 0).val, by omega⟩)

/-- The first `n` rows are the sequence's. -/
def Filled (v1 : S2x10240x512x128.Idx → Elt F .f32) (b : Fin 128) (n : ℕ) (g : RowBuf F) : Prop :=
  ∀ (r : Fin 16) (k : Fin 4) (row : Fin 512) (l : Fin 128), row.val < n → g (ix4 r k row l) = want T v1 b (ix4 r k row l)

/-- A point adds its 128 rows. -/
theorem filled_step (v1 : S2x10240x512x128.Idx → Elt F .f32) (i : grid0.Coords) (pg : Fin 16 → Memref sig .tc .vmem S1x1x512x128 .f32) (f : SlabBuf F) (g : RowBuf F)
    (hg : Filled T v1 (i 0) (128 * (i 1).val) g) :
    Filled T v1 (i 0) (128 * (i 1).val + 128) (rows pg (pageAt T v1 i) f i g 512) := fun r k row l hrow => by
  by_cases h : row.val < 128 * (i 1).val
  · exact (rows_out pg _ f i g 512 le_rfl r k row l (Or.inl h)).trans (hg r k row l h)
  · refine (rows_in pg _ f i g 512 le_rfl r k (⟨row.val % 128 / 16, by omega⟩ : Fin 8) (⟨row.val % 16 / 8, by omega⟩ : Fin 2) (⟨row.val % 8, by omega⟩ : Fin 8) row l
      (by show row.val = 128 * (i 1).val + 16 * (row.val % 128 / 16) + 8 * (row.val % 16 / 8) + row.val % 8; omega)
      (by show 64 * (row.val % 128 / 16) + 4 * r.val + k.val < 512; omega)).trans ?_
    refine (congrArg tr16 (pageAt_at T v1 i _ _ _)).trans ?_
    unfold want
    have e : (⟨16 * (i 1).val + (2 * (row.val % 128 / 16) + row.val % 16 / 8), by have := i1_lt i; omega⟩ : Fin 64) = ⟨row.val / 8, by omega⟩ :=
      Fin.ext (by show 16 * (i 1).val + (2 * (row.val % 128 / 16) + row.val % 16 / 8) = row.val / 8; omega)
    exact congrArg (fun z => tr16 (tokAt T v1 (i 0) z _ _)) e

theorem filled_all (v1 : S2x10240x512x128.Idx → Elt F .f32) (b : Fin 128) (g : RowBuf F) (h : Filled T v1 b 512 g) : g = want T v1 b := by
  funext y
  have hy : y = ix4 (y 0) (y 1) (y 2) (y 3) := by funext a; match a with | ⟨0, _⟩ => rfl | ⟨1, _⟩ => rfl | ⟨2, _⟩ => rfl | ⟨3, _⟩ => rfl
  rw [hy]
  exact h _ _ _ _ (y 2).isLt

/-! ## The output blocks -/

/-- Two halves side by side. -/
def outBlk (a b : FVec F S1x512x128 .bf16) : S1x512x256.Idx → Elt F .bf16 := fun y =>
  have h2 : (y 2).val < 256 := (y 2).isLt
  if h : (y 2).val < 128 then a (ix3 (y 0) (y 1) (⟨(y 2).val, h⟩ : Fin 128)) else b (ix3 (y 0) (y 1) (⟨(y 2).val - 128, by omega⟩ : Fin 128))

theorem stored_read (o : Memref sig .tc .vmem S1x512x256 .bf16) (f : o.view.ty.Contents (Elt F)) (a b : FVec F S1x512x128 .bf16) :
    o.view.read (Elt F) (stored o f a b) = outBlk a b := by
  funext y
  have h0 : (y 0).val < 1 := (y 0).isLt
  have h2 : (y 2).val < 256 := (y 2).isLt
  unfold stored outBlk
  by_cases h : (y 2).val < 128
  · rw [dif_pos h, View.read_writes_cons_miss_of_axis (a := (2 : Fin 3)) (o := 128) (n := 128) (ho := rfl) (hst := rfl) (hn := rfl) (h := by omega)]
    show o.view.read (Elt F) (o.view.writes (Elt F) f _) y = _
    rw [View.read_writes_cons_hit_of_coords (x := ix3 (y 0) (y 1) (⟨(y 2).val, h⟩ : Fin 128)) (hx := fun z => by
      match z with
      | ⟨0, _⟩ => show (y 0).val = 0 + 1 * (y 0).val; omega
      | ⟨1, _⟩ => show (y 1).val = 0 + 1 * (y 1).val; omega
      | ⟨2, _⟩ => show (y 2).val = 0 + 1 * (y 2).val; omega)]
    rfl
  · rw [dif_neg h, View.read_writes_cons_hit_of_coords (x := ix3 (y 0) (y 1) (⟨(y 2).val - 128, by omega⟩ : Fin 128)) (hx := fun z => by
      match z with
      | ⟨0, _⟩ => show (y 0).val = 0 + 1 * (y 0).val; omega
      | ⟨1, _⟩ => show (y 1).val = 0 + 1 * (y 1).val; omega
      | ⟨2, _⟩ => show (y 2).val = 128 + 1 * ((y 2).val - 128); omega)]
    rfl

/-- The rows, and the weights' blocks, that a half is computed from. -/
def rowX (g : S16x4x512x128.Idx → Elt F .bf16) (r k : ℕ) (hr : r < 16) (hk : k < 4) : Vec F S1x1x512x128 .bf16 := fun y => g (ix4 (⟨r, hr⟩ : Fin 16) (⟨k, hk⟩ : Fin 4) (y 2) (y 3))
def blkW (xw : S2x8x256x256.Idx → Elt F .bf16) (v j : ℕ) (hv : v < 2) (hj : j < 8) : Vec F S1x1x256x256 .bf16 := fun y => xw (ix4 (⟨v, hv⟩ : Fin 2) (⟨j, hj⟩ : Fin 8) (y 2) (y 3))
def blkB (xb : S2x1x128.Idx → Elt F .f32) (v : ℕ) (hv : v < 2) : Vec F S1x1x128 .f32 := fun y => xb (ix3 (⟨v, hv⟩ : Fin 2) (0 : Fin 1) (y 2))
def blkV (x2 : S2x128x128.Idx → Elt F .bf16) (v : ℕ) (hv : v < 2) : Vec F S1x128x128 .bf16 := fun y => x2 (ix3 (⟨v, hv⟩ : Fin 2) (y 1) (y 2))

/-- Side `v`, head pair `p`: the half, from the weights and the rows. -/
def halfOf (xw : S2x8x256x256.Idx → Elt F .bf16) (xb : S2x1x128.Idx → Elt F .f32) (x2 : S2x128x128.Idx → Elt F .bf16) (g : S16x4x512x128.Idx → Elt F .bf16) (v p : ℕ) (hv : v < 2) (hp : p < 2) : FVec F S1x512x128 .bf16 :=
  half (fun r hr => rowX g r (2 * v + p) hr (by omega)) (fun j hj => blkW xw v j hv hj) (blkB xb v hv) (blkV x2 v hv)

theorem halfAt_eq (wd : Memref sig .tc .vmem S2x8x256x256 .bf16) (b1 : Memref sig .tc .vmem S2x1x128 .f32) (w2 : Memref sig .tc .vmem S2x128x128 .bf16)
    (xw : S2x8x256x256.Idx → Elt F .bf16) (xb : S2x1x128.Idx → Elt F .f32) (x2 : S2x128x128.Idx → Elt F .bf16) (g : RowBuf F) (v p : ℕ) (hv : v < 2) (hp : p < 2) :
    halfAt wd b1 w2 xw xb x2 g v p hv hp = halfOf xw xb x2 g v p hv hp := by
  have eX : (fun (r : ℕ) (hr : r < 16) => ldX g r (2 * v + p) hr (by omega)) = fun r hr => rowX g r (2 * v + p) hr (by omega) := by
    funext r hr y
    unfold ldX rowX
    rw [View.readAt_apply]
    refine congrArg g (funext fun a => Fin.ext ?_)
    have h0 : (y 0).val < 1 := (y 0).isLt
    have h1 : (y 1).val < 1 := (y 1).isLt
    match a with
    | ⟨0, _⟩ => show r + 1 * (y 0).val = r; omega
    | ⟨1, _⟩ => show 2 * v + p + 1 * (y 1).val = 2 * v + p; omega
    | ⟨2, _⟩ => show 0 + 1 * (y 2).val = (y 2).val; omega
    | ⟨3, _⟩ => show 0 + 1 * (y 3).val = (y 3).val; omega
  have eW : (fun (j : ℕ) (hj : j < 8) => ldW wd xw v j hv hj) = fun j hj => blkW xw v j hv hj := by
    funext j hj y
    unfold ldW blkW
    rw [View.readAt_apply, View.read_rep]
    refine congrArg xw (funext fun a => Fin.ext ?_)
    have h0 : (y 0).val < 1 := (y 0).isLt
    have h1 : (y 1).val < 1 := (y 1).isLt
    match a with
    | ⟨0, _⟩ => show v + 1 * (y 0).val = v; omega
    | ⟨1, _⟩ => show j + 1 * (y 1).val = j; omega
    | ⟨2, _⟩ => show 0 + 1 * (y 2).val = (y 2).val; omega
    | ⟨3, _⟩ => show 0 + 1 * (y 3).val = (y 3).val; omega
  have eB : ldB b1 xb v hv = blkB xb v hv := by
    funext y
    unfold ldB blkB
    rw [View.readAt_apply, View.read_rep]
    refine congrArg xb (funext fun a => Fin.ext ?_)
    have h0 : (y 0).val < 1 := (y 0).isLt
    have h1 : (y 1).val < 1 := (y 1).isLt
    match a with
    | ⟨0, _⟩ => show v + 1 * (y 0).val = v; omega
    | ⟨1, _⟩ => show 0 + 1 * (y 1).val = 0; omega
    | ⟨2, _⟩ => show 0 + 1 * (y 2).val = (y 2).val; omega
  have eV : ldV w2 x2 v hv = blkV x2 v hv := by
    funext y
    unfold ldV blkV
    rw [View.readAt_apply, View.read_rep]
    refine congrArg x2 (funext fun a => Fin.ext ?_)
    have h0 : (y 0).val < 1 := (y 0).isLt
    match a with
    | ⟨0, _⟩ => show v + 1 * (y 0).val = v; omega
    | ⟨1, _⟩ => show 0 + 1 * (y 1).val = (y 1).val; omega
    | ⟨2, _⟩ => show 0 + 1 * (y 2).val = (y 2).val; omega
  unfold halfAt halfOf
  rw [eX, eW, eB, eV]

end Cert.CompressIdeal.Hand

end
-- ==== Proof.Compress.Dats.lean ====
module

public import proofs.«01_k».proof.Proof.Compress.Rows
public import proofs.«01_k».proof.Proof.Gen.CompressIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Lib.Pipeline.ValueKit
public import Idealize.ShloMosaic.Lib.Claim
public import Idealize.ShloMosaic.Init

@[expose] public section

set_option maxRecDepth 16384
set_option Elab.async false

noncomputable section

/-! # The compression's proof data

Between points the invariant carries the rows filled so far; the fourth point of a sequence writes its two output
blocks, the other three leave them alone. -/

namespace Cert.CompressIdeal.Hand

open Cert.CompressIdeal Cert.CompressIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (T : Tables)
variable (m : (ℓ : Loc nD τ sig) → Buf (Elt F) ℓ) (ρ : Dev nD → PrngReg)

/-- The transposed cache, and the weights, after the host part. -/
abbrev hv1 (c : Dev nD) : S2x10240x512x128.Idx → Elt F .f32 := hostV m c main_v1
abbrev hvW (c : Dev nD) : S2x8x256x256.Idx → Elt F .bf16 := hostV m c main_v26
abbrev hvB (c : Dev nD) : S2x1x128.Idx → Elt F .f32 := hostV m c main_v19
abbrev hvV (c : Dev nD) : S2x128x128.Idx → Elt F .bf16 := hostV m c main_v27

/-- The output block of side `v` of sequence `b`. -/
def outOf (c : Dev nD) (v : ℕ) (hv : v < 2) (b : Fin 128) : S1x512x256.Idx → Elt F .bf16 :=
  outBlk (halfOf (hvW m c) (hvB m c) (hvV m c) (want T (hv1 m c) b) v 0 hv (by decide)) (halfOf (hvW m c) (hvB m c) (hvV m c) (want T (hv1 m c) b) v 1 hv (by decide))

/-- The invariant before point `n`. -/
def Phi (c : Dev nD) (n : ℕ) : sProp 𝕄 :=
  iprop(∃ (g : RowBuf F) (f : SlabBuf F), ⌜∀ b : Fin 128, b.val = n / 4 → Filled T (hv1 m c) b (128 * (n % 4)) g⌝
    ∗ (scM0.view.loc (c : Thread nD τ) ↦{fullShare} g) ∗ (scM1.view.loc (c : Thread nD τ) ↦{fullShare} f)
    ∗ Pipeline.ΦT pre0 (adm (F := F) T).1 c ∗ ∃ r, prngReg c r)

/-- The proof data of the one pipeline on core `c`. -/
def dats (_ : Fin 1) (c : Dev nD) : Dat τ (Elt F) Unit ℕ (UR sig nD τ) ℕ (cfgA F T) c where
  A w := hostV m c (Pipeline.arrRef (cfgA F T).spec w)
  after w t := match w with
    | ⟨0, _⟩ => iblk T m c (0 : Fin 21) t
    | ⟨1, _⟩ => iblk T m c (1 : Fin 21) t
    | ⟨2, _⟩ => iblk T m c (2 : Fin 21) t
    | ⟨3, _⟩ => iblk T m c (3 : Fin 21) t
    | ⟨4, _⟩ => iblk T m c (4 : Fin 21) t
    | ⟨5, _⟩ => iblk T m c (5 : Fin 21) t
    | ⟨6, _⟩ => iblk T m c (6 : Fin 21) t
    | ⟨7, _⟩ => iblk T m c (7 : Fin 21) t
    | ⟨8, _⟩ => iblk T m c (8 : Fin 21) t
    | ⟨9, _⟩ => iblk T m c (9 : Fin 21) t
    | ⟨10, _⟩ => iblk T m c (10 : Fin 21) t
    | ⟨11, _⟩ => iblk T m c (11 : Fin 21) t
    | ⟨12, _⟩ => iblk T m c (12 : Fin 21) t
    | ⟨13, _⟩ => iblk T m c (13 : Fin 21) t
    | ⟨14, _⟩ => iblk T m c (14 : Fin 21) t
    | ⟨15, _⟩ => iblk T m c (15 : Fin 21) t
    | ⟨16, _⟩ => iblk T m c (16 : Fin 21) t
    | ⟨17, _⟩ => iblk T m c (17 : Fin 21) t
    | ⟨18, _⟩ => iblk T m c (18 : Fin 21) t
    | ⟨19, _⟩ => outOf T m c 0 (by decide) (crd T t 0)
    | ⟨20, _⟩ => outOf T m c 1 (by decide) (crd T t 0)
    | ⟨_ + 21, h⟩ => absurd h (Nat.not_lt.2 (Nat.le_add_left _ _))
  Φ t := Phi T m c t.val
  q w := Pipeline.shareOf (cfgA F T).spec w
  owed _ := 0

theorem after0_0 (c : Dev nD) (t : Fin (cfgA F T).N) : (dats T m 0 c).after (0 : Fin 21) t = iblk T m c (0 : Fin 21) t := rfl
theorem after0_1 (c : Dev nD) (t : Fin (cfgA F T).N) : (dats T m 0 c).after (1 : Fin 21) t = iblk T m c (1 : Fin 21) t := rfl
theorem after0_2 (c : Dev nD) (t : Fin (cfgA F T).N) : (dats T m 0 c).after (2 : Fin 21) t = iblk T m c (2 : Fin 21) t := rfl
theorem after0_3 (c : Dev nD) (t : Fin (cfgA F T).N) : (dats T m 0 c).after (3 : Fin 21) t = iblk T m c (3 : Fin 21) t := rfl
theorem after0_4 (c : Dev nD) (t : Fin (cfgA F T).N) : (dats T m 0 c).after (4 : Fin 21) t = iblk T m c (4 : Fin 21) t := rfl
theorem after0_5 (c : Dev nD) (t : Fin (cfgA F T).N) : (dats T m 0 c).after (5 : Fin 21) t = iblk T m c (5 : Fin 21) t := rfl
theorem after0_6 (c : Dev nD) (t : Fin (cfgA F T).N) : (dats T m 0 c).after (6 : Fin 21) t = iblk T m c (6 : Fin 21) t := rfl
theorem after0_7 (c : Dev nD) (t : Fin (cfgA F T).N) : (dats T m 0 c).after (7 : Fin 21) t = iblk T m c (7 : Fin 21) t := rfl
theorem after0_8 (c : Dev nD) (t : Fin (cfgA F T).N) : (dats T m 0 c).after (8 : Fin 21) t = iblk T m c (8 : Fin 21) t := rfl
theorem after0_9 (c : Dev nD) (t : Fin (cfgA F T).N) : (dats T m 0 c).after (9 : Fin 21) t = iblk T m c (9 : Fin 21) t := rfl
theorem after0_10 (c : Dev nD) (t : Fin (cfgA F T).N) : (dats T m 0 c).after (10 : Fin 21) t = iblk T m c (10 : Fin 21) t := rfl
theorem after0_11 (c : Dev nD) (t : Fin (cfgA F T).N) : (dats T m 0 c).after (11 : Fin 21) t = iblk T m c (11 : Fin 21) t := rfl
theorem after0_12 (c : Dev nD) (t : Fin (cfgA F T).N) : (dats T m 0 c).after (12 : Fin 21) t = iblk T m c (12 : Fin 21) t := rfl
theorem after0_13 (c : Dev nD) (t : Fin (cfgA F T).N) : (dats T m 0 c).after (13 : Fin 21) t = iblk T m c (13 : Fin 21) t := rfl
theorem after0_14 (c : Dev nD) (t : Fin (cfgA F T).N) : (dats T m 0 c).after (14 : Fin 21) t = iblk T m c (14 : Fin 21) t := rfl
theorem after0_15 (c : Dev nD) (t : Fin (cfgA F T).N) : (dats T m 0 c).after (15 : Fin 21) t = iblk T m c (15 : Fin 21) t := rfl
theorem after0_16 (c : Dev nD) (t : Fin (cfgA F T).N) : (dats T m 0 c).after (16 : Fin 21) t = iblk T m c (16 : Fin 21) t := rfl
theorem after0_17 (c : Dev nD) (t : Fin (cfgA F T).N) : (dats T m 0 c).after (17 : Fin 21) t = iblk T m c (17 : Fin 21) t := rfl
theorem after0_18 (c : Dev nD) (t : Fin (cfgA F T).N) : (dats T m 0 c).after (18 : Fin 21) t = iblk T m c (18 : Fin 21) t := rfl
theorem after0_19 (c : Dev nD) (t : Fin (cfgA F T).N) : (dats T m 0 c).after (19 : Fin 21) t = outOf T m c 0 (by decide) (crd T t 0) := rfl
theorem after0_20 (c : Dev nD) (t : Fin (cfgA F T).N) : (dats T m 0 c).after (20 : Fin 21) t = outOf T m c 1 (by decide) (crd T t 0) := rfl

/-! An input window holds its block when the body runs. -/

theorem before0_0 (c : Dev nD) (t : Fin (cfgA F T).N) (d) : (dats T m 0 c).before (0 : Fin 21) t d = pageAt T (hv1 m c) (crd T t) 0 :=
  (((dats T m 0 c).before_in_eq_fetched (0 : Fin 21) rfl (fun _ => rfl) (fun _ _ _ => rfl) (fun t => by rw [after0_0]; unfold Dat.blockOf iblk; rfl) t d).trans
    (by unfold Dat.fetched Dat.blockOf iblk; rfl)).trans (iblk0 T m c t)
theorem before0_1 (c : Dev nD) (t : Fin (cfgA F T).N) (d) : (dats T m 0 c).before (1 : Fin 21) t d = pageAt T (hv1 m c) (crd T t) 1 :=
  (((dats T m 0 c).before_in_eq_fetched (1 : Fin 21) rfl (fun _ => rfl) (fun _ _ _ => rfl) (fun t => by rw [after0_1]; unfold Dat.blockOf iblk; rfl) t d).trans
    (by unfold Dat.fetched Dat.blockOf iblk; rfl)).trans (iblk1 T m c t)
theorem before0_2 (c : Dev nD) (t : Fin (cfgA F T).N) (d) : (dats T m 0 c).before (2 : Fin 21) t d = pageAt T (hv1 m c) (crd T t) 2 :=
  (((dats T m 0 c).before_in_eq_fetched (2 : Fin 21) rfl (fun _ => rfl) (fun _ _ _ => rfl) (fun t => by rw [after0_2]; unfold Dat.blockOf iblk; rfl) t d).trans
    (by unfold Dat.fetched Dat.blockOf iblk; rfl)).trans (iblk2 T m c t)
theorem before0_3 (c : Dev nD) (t : Fin (cfgA F T).N) (d) : (dats T m 0 c).before (3 : Fin 21) t d = pageAt T (hv1 m c) (crd T t) 3 :=
  (((dats T m 0 c).before_in_eq_fetched (3 : Fin 21) rfl (fun _ => rfl) (fun _ _ _ => rfl) (fun t => by rw [after0_3]; unfold Dat.blockOf iblk; rfl) t d).trans
    (by unfold Dat.fetched Dat.blockOf iblk; rfl)).trans (iblk3 T m c t)
theorem before0_4 (c : Dev nD) (t : Fin (cfgA F T).N) (d) : (dats T m 0 c).before (4 : Fin 21) t d = pageAt T (hv1 m c) (crd T t) 4 :=
  (((dats T m 0 c).before_in_eq_fetched (4 : Fin 21) rfl (fun _ => rfl) (fun _ _ _ => rfl) (fun t => by rw [after0_4]; unfold Dat.blockOf iblk; rfl) t d).trans
    (by unfold Dat.fetched Dat.blockOf iblk; rfl)).trans (iblk4 T m c t)
theorem before0_5 (c : Dev nD) (t : Fin (cfgA F T).N) (d) : (dats T m 0 c).before (5 : Fin 21) t d = pageAt T (hv1 m c) (crd T t) 5 :=
  (((dats T m 0 c).before_in_eq_fetched (5 : Fin 21) rfl (fun _ => rfl) (fun _ _ _ => rfl) (fun t => by rw [after0_5]; unfold Dat.blockOf iblk; rfl) t d).trans
    (by unfold Dat.fetched Dat.blockOf iblk; rfl)).trans (iblk5 T m c t)
theorem before0_6 (c : Dev nD) (t : Fin (cfgA F T).N) (d) : (dats T m 0 c).before (6 : Fin 21) t d = pageAt T (hv1 m c) (crd T t) 6 :=
  (((dats T m 0 c).before_in_eq_fetched (6 : Fin 21) rfl (fun _ => rfl) (fun _ _ _ => rfl) (fun t => by rw [after0_6]; unfold Dat.blockOf iblk; rfl) t d).trans
    (by unfold Dat.fetched Dat.blockOf iblk; rfl)).trans (iblk6 T m c t)
theorem before0_7 (c : Dev nD) (t : Fin (cfgA F T).N) (d) : (dats T m 0 c).before (7 : Fin 21) t d = pageAt T (hv1 m c) (crd T t) 7 :=
  (((dats T m 0 c).before_in_eq_fetched (7 : Fin 21) rfl (fun _ => rfl) (fun _ _ _ => rfl) (fun t => by rw [after0_7]; unfold Dat.blockOf iblk; rfl) t d).trans
    (by unfold Dat.fetched Dat.blockOf iblk; rfl)).trans (iblk7 T m c t)
theorem before0_8 (c : Dev nD) (t : Fin (cfgA F T).N) (d) : (dats T m 0 c).before (8 : Fin 21) t d = pageAt T (hv1 m c) (crd T t) 8 :=
  (((dats T m 0 c).before_in_eq_fetched (8 : Fin 21) rfl (fun _ => rfl) (fun _ _ _ => rfl) (fun t => by rw [after0_8]; unfold Dat.blockOf iblk; rfl) t d).trans
    (by unfold Dat.fetched Dat.blockOf iblk; rfl)).trans (iblk8 T m c t)
theorem before0_9 (c : Dev nD) (t : Fin (cfgA F T).N) (d) : (dats T m 0 c).before (9 : Fin 21) t d = pageAt T (hv1 m c) (crd T t) 9 :=
  (((dats T m 0 c).before_in_eq_fetched (9 : Fin 21) rfl (fun _ => rfl) (fun _ _ _ => rfl) (fun t => by rw [after0_9]; unfold Dat.blockOf iblk; rfl) t d).trans
    (by unfold Dat.fetched Dat.blockOf iblk; rfl)).trans (iblk9 T m c t)
theorem before0_10 (c : Dev nD) (t : Fin (cfgA F T).N) (d) : (dats T m 0 c).before (10 : Fin 21) t d = pageAt T (hv1 m c) (crd T t) 10 :=
  (((dats T m 0 c).before_in_eq_fetched (10 : Fin 21) rfl (fun _ => rfl) (fun _ _ _ => rfl) (fun t => by rw [after0_10]; unfold Dat.blockOf iblk; rfl) t d).trans
    (by unfold Dat.fetched Dat.blockOf iblk; rfl)).trans (iblk10 T m c t)
theorem before0_11 (c : Dev nD) (t : Fin (cfgA F T).N) (d) : (dats T m 0 c).before (11 : Fin 21) t d = pageAt T (hv1 m c) (crd T t) 11 :=
  (((dats T m 0 c).before_in_eq_fetched (11 : Fin 21) rfl (fun _ => rfl) (fun _ _ _ => rfl) (fun t => by rw [after0_11]; unfold Dat.blockOf iblk; rfl) t d).trans
    (by unfold Dat.fetched Dat.blockOf iblk; rfl)).trans (iblk11 T m c t)
theorem before0_12 (c : Dev nD) (t : Fin (cfgA F T).N) (d) : (dats T m 0 c).before (12 : Fin 21) t d = pageAt T (hv1 m c) (crd T t) 12 :=
  (((dats T m 0 c).before_in_eq_fetched (12 : Fin 21) rfl (fun _ => rfl) (fun _ _ _ => rfl) (fun t => by rw [after0_12]; unfold Dat.blockOf iblk; rfl) t d).trans
    (by unfold Dat.fetched Dat.blockOf iblk; rfl)).trans (iblk12 T m c t)
theorem before0_13 (c : Dev nD) (t : Fin (cfgA F T).N) (d) : (dats T m 0 c).before (13 : Fin 21) t d = pageAt T (hv1 m c) (crd T t) 13 :=
  (((dats T m 0 c).before_in_eq_fetched (13 : Fin 21) rfl (fun _ => rfl) (fun _ _ _ => rfl) (fun t => by rw [after0_13]; unfold Dat.blockOf iblk; rfl) t d).trans
    (by unfold Dat.fetched Dat.blockOf iblk; rfl)).trans (iblk13 T m c t)
theorem before0_14 (c : Dev nD) (t : Fin (cfgA F T).N) (d) : (dats T m 0 c).before (14 : Fin 21) t d = pageAt T (hv1 m c) (crd T t) 14 :=
  (((dats T m 0 c).before_in_eq_fetched (14 : Fin 21) rfl (fun _ => rfl) (fun _ _ _ => rfl) (fun t => by rw [after0_14]; unfold Dat.blockOf iblk; rfl) t d).trans
    (by unfold Dat.fetched Dat.blockOf iblk; rfl)).trans (iblk14 T m c t)
theorem before0_15 (c : Dev nD) (t : Fin (cfgA F T).N) (d) : (dats T m 0 c).before (15 : Fin 21) t d = pageAt T (hv1 m c) (crd T t) 15 :=
  (((dats T m 0 c).before_in_eq_fetched (15 : Fin 21) rfl (fun _ => rfl) (fun _ _ _ => rfl) (fun t => by rw [after0_15]; unfold Dat.blockOf iblk; rfl) t d).trans
    (by unfold Dat.fetched Dat.blockOf iblk; rfl)).trans (iblk15 T m c t)
theorem before0_16 (c : Dev nD) (t : Fin (cfgA F T).N) (d) : (dats T m 0 c).before (16 : Fin 21) t d = hvW m c :=
  (((dats T m 0 c).before_in_eq_fetched (16 : Fin 21) rfl (fun _ => rfl) (fun _ _ _ => rfl) (fun t => by rw [after0_16]; unfold Dat.blockOf iblk; rfl) t d).trans
    (by unfold Dat.fetched Dat.blockOf iblk; rfl)).trans (iblk16 T m c t)
theorem before0_17 (c : Dev nD) (t : Fin (cfgA F T).N) (d) : (dats T m 0 c).before (17 : Fin 21) t d = hvB m c :=
  (((dats T m 0 c).before_in_eq_fetched (17 : Fin 21) rfl (fun _ => rfl) (fun _ _ _ => rfl) (fun t => by rw [after0_17]; unfold Dat.blockOf iblk; rfl) t d).trans
    (by unfold Dat.fetched Dat.blockOf iblk; rfl)).trans (iblk17 T m c t)
theorem before0_18 (c : Dev nD) (t : Fin (cfgA F T).N) (d) : (dats T m 0 c).before (18 : Fin 21) t d = hvV m c :=
  (((dats T m 0 c).before_in_eq_fetched (18 : Fin 21) rfl (fun _ => rfl) (fun _ _ _ => rfl) (fun t => by rw [after0_18]; unfold Dat.blockOf iblk; rfl) t d).trans
    (by unfold Dat.fetched Dat.blockOf iblk; rfl)).trans (iblk18 T m c t)

theorem crd0 (t : Fin (cfgA F T).N) : ((crd T t) 0).val = t.val / 4 % 128 := Pipeline.Grid.coords_val (G := grid0) t (0 : Fin 2) (by decide) rfl
theorem crd1 (t : Fin (cfgA F T).N) : ((crd T t) 1).val = t.val % 4 := by
  have h := Pipeline.Grid.coords_val (G := grid0) t (1 : Fin 2) (S := 1) (B := 4) (by decide) rfl
  rw [Nat.div_one] at h; exact h

theorem t_lt (t : Fin (cfgA F T).N) : t.val < 512 := lt_of_lt_of_eq t.isLt (show (cfgA F T).N = 512 from N_0)

theorem cond1_iff (i : grid0.Coords) : k0_cond1 i = 1#1 ↔ (i 1).val = 3 := by
  have h : ∀ s : Fin 4, Iff (Scalar.cmpi .ne (Scalar.extui (Scalar.cmpi .eq (BitVec.ofNat 32 s.val) 3#32) : BitVec 32) 0#32 = 1#1) (s.val = 3) := by decide
  exact h (i 1)

theorem idle19 (t : Fin (cfgA F T).N) : (cfgA F T).idle (19 : Fin 21) ((cfgA F T).grid.coords t) = !(k0_cond1 (crd T t) == 1#1) := rfl
theorem idle20 (t : Fin (cfgA F T).N) : (cfgA F T).idle (20 : Fin 21) ((cfgA F T).grid.coords t) = !(k0_cond1 (crd T t) == 1#1) := rfl

theorem ix19_congr (i i' : grid0.Coords) (h : i 0 = i' 0) : cc0_transform_19 i = cc0_transform_19 i' := by unfold cc0_transform_19; rw [h]
theorem ix20_congr (i i' : grid0.Coords) (h : i 0 = i' 0) : cc0_transform_20 i = cc0_transform_20 i' := by unfold cc0_transform_20; rw [h]

theorem next0 (t : Fin (cfgA F T).N) (h : t.val % 4 ≠ 3) (h' : t.val + 1 < (cfgA F T).N) : crd T ⟨t.val + 1, h'⟩ 0 = crd T t 0 :=
  Fin.ext (by rw [crd0, crd0]; show (t.val + 1) / 4 % 128 = t.val / 4 % 128; omega)

/-- An output block is not written back before its sequence's fourth point. -/
theorem flush19 (t : Fin (cfgA F T).N) (h : t.val % 4 ≠ 3) : ((cfgA F T).win (19 : Fin 21)).flush t = false := by
  have ht := t_lt T t
  have e : ¬ ∃ h' : t.val + 1 < (cfgA F T).N, cc0_transform_19 (crd T ⟨t.val + 1, h'⟩) ≠ cc0_transform_19 (crd T t) := fun ⟨h', hne⟩ => hne (ix19_congr _ _ (next0 T t h h'))
  have e' : ¬ (t.val + 1 = (cfgA F T).N) := fun h' => by
    have h'' : t.val + 1 = 512 := h'.trans (show (cfgA F T).N = 512 from N_0)
    omega
  rw [Pipeline.Window.flush_eq_flushOf]
  show (true && (decide (t.val + 1 = (cfgA F T).N) || decide (∃ h' : t.val + 1 < (cfgA F T).N, cc0_transform_19 (crd T ⟨t.val + 1, h'⟩) ≠ cc0_transform_19 (crd T t)))) = false
  rw [decide_eq_false e, decide_eq_false e']; rfl
theorem flush20 (t : Fin (cfgA F T).N) (h : t.val % 4 ≠ 3) : ((cfgA F T).win (20 : Fin 21)).flush t = false := by
  have ht := t_lt T t
  have e : ¬ ∃ h' : t.val + 1 < (cfgA F T).N, cc0_transform_20 (crd T ⟨t.val + 1, h'⟩) ≠ cc0_transform_20 (crd T t) := fun ⟨h', hne⟩ => hne (ix20_congr _ _ (next0 T t h h'))
  have e' : ¬ (t.val + 1 = (cfgA F T).N) := fun h' => by
    have h'' : t.val + 1 = 512 := h'.trans (show (cfgA F T).N = 512 from N_0)
    omega
  rw [Pipeline.Window.flush_eq_flushOf]
  show (true && (decide (t.val + 1 = (cfgA F T).N) || decide (∃ h' : t.val + 1 < (cfgA F T).N, cc0_transform_20 (crd T ⟨t.val + 1, h'⟩) ≠ cc0_transform_20 (crd T t)))) = false
  rw [decide_eq_false e, decide_eq_false e']; rfl

/-- The body at point `t` on its staging memrefs, as the pipeline calls it. -/
abbrev bodyAt0 (t : Fin (cfgA F T).N) : Prog (TpuEff nD τ sig (Elt F) Λ₀ .tc) PUnit :=
  cc0_compress (crd T t) tbM0 (Memref.isWhole_whole _) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) (ms0_8 T t) (hs0_8 T t) (ms0_9 T t) (hs0_9 T t) (ms0_10 T t) (hs0_10 T t) (ms0_11 T t) (hs0_11 T t) (ms0_12 T t) (hs0_12 T t) (ms0_13 T t) (hs0_13 T t) (ms0_14 T t) (hs0_14 T t) (ms0_15 T t) (hs0_15 T t) (ms0_16 T t) (hs0_16 T t) (ms0_17 T t) (hs0_17 T t) (ms0_18 T t) (hs0_18 T t) (ms0_19 T t) (hs0_19 T t) (ms0_20 T t) (hs0_20 T t) scM0 (Memref.isWhole_whole _) scM1 (Memref.isWhole_whole _)

theorem bigSep_P (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [((0 : Fin 16)), ((1 : Fin 16)), ((2 : Fin 16)), ((3 : Fin 16)), ((4 : Fin 16)), ((5 : Fin 16)), ((6 : Fin 16)), ((7 : Fin 16)), ((8 : Fin 16)), ((9 : Fin 16)), ((10 : Fin 16)), ((11 : Fin 16)), ((12 : Fin 16)), ((13 : Fin 16)), ((14 : Fin 16)), ((15 : Fin 16))] (by decide) (by decide) Φ

/-- The invariant moves on by one point. -/
theorem filled_next (c : Dev nD) (t : Fin (cfgA F T).N) (g : RowBuf F) (f : SlabBuf F)
    (hg : ∀ b : Fin 128, b.val = t.val / 4 → Filled T (hv1 m c) b (128 * (t.val % 4)) g) :
    Filled T (hv1 m c) (crd T t 0) (128 * (t.val % 4) + 128) (rows (pgs T t) (pageAt T (hv1 m c) (crd T t)) f (crd T t) g 512) := by
  have ht := t_lt T t
  have h := filled_step T (hv1 m c) (crd T t) (pgs T t) f g (by rw [crd1]; exact hg _ (by rw [crd0]; omega))
  rw [crd1] at h
  exact h

theorem filled_inv (c : Dev nD) (t : Fin (cfgA F T).N) (g : RowBuf F) (f : SlabBuf F)
    (hg : ∀ b : Fin 128, b.val = t.val / 4 → Filled T (hv1 m c) b (128 * (t.val % 4)) g) (b : Fin 128) (hb : b.val = (t.val + 1) / 4) :
    Filled T (hv1 m c) b (128 * ((t.val + 1) % 4)) (rows (pgs T t) (pageAt T (hv1 m c) (crd T t)) f (crd T t) g 512) := by
  have ht := t_lt T t
  intro r k row l hrow
  by_cases h : t.val % 4 = 3
  · omega
  · have e : b = crd T t 0 := Fin.ext (by rw [crd0]; omega)
    rw [e]
    exact filled_next T m c t g f hg r k row l (by omega)

/-- What one point starts from. -/
abbrev pre21 (c : Dev nD) (t : Fin (cfgA F T).N) : sProp 𝕄 :=
  iprop((dats T m 0 c).Φ t.castSucc ∗ (dats T m 0 c).owesAt () t.castSucc
        ∗ (∃ d, owns (c : Thread nD τ) (ms0_0 T t) fullShare ((dats T m 0 c).before (0 : Fin 21) t d))
        ∗ (∃ d, owns (c : Thread nD τ) (ms0_1 T t) fullShare ((dats T m 0 c).before (1 : Fin 21) t d))
        ∗ (∃ d, owns (c : Thread nD τ) (ms0_2 T t) fullShare ((dats T m 0 c).before (2 : Fin 21) t d))
        ∗ (∃ d, owns (c : Thread nD τ) (ms0_3 T t) fullShare ((dats T m 0 c).before (3 : Fin 21) t d))
        ∗ (∃ d, owns (c : Thread nD τ) (ms0_4 T t) fullShare ((dats T m 0 c).before (4 : Fin 21) t d))
        ∗ (∃ d, owns (c : Thread nD τ) (ms0_5 T t) fullShare ((dats T m 0 c).before (5 : Fin 21) t d))
        ∗ (∃ d, owns (c : Thread nD τ) (ms0_6 T t) fullShare ((dats T m 0 c).before (6 : Fin 21) t d))
        ∗ (∃ d, owns (c : Thread nD τ) (ms0_7 T t) fullShare ((dats T m 0 c).before (7 : Fin 21) t d))
        ∗ (∃ d, owns (c : Thread nD τ) (ms0_8 T t) fullShare ((dats T m 0 c).before (8 : Fin 21) t d))
        ∗ (∃ d, owns (c : Thread nD τ) (ms0_9 T t) fullShare ((dats T m 0 c).before (9 : Fin 21) t d))
        ∗ (∃ d, owns (c : Thread nD τ) (ms0_10 T t) fullShare ((dats T m 0 c).before (10 : Fin 21) t d))
        ∗ (∃ d, owns (c : Thread nD τ) (ms0_11 T t) fullShare ((dats T m 0 c).before (11 : Fin 21) t d))
        ∗ (∃ d, owns (c : Thread nD τ) (ms0_12 T t) fullShare ((dats T m 0 c).before (12 : Fin 21) t d))
        ∗ (∃ d, owns (c : Thread nD τ) (ms0_13 T t) fullShare ((dats T m 0 c).before (13 : Fin 21) t d))
        ∗ (∃ d, owns (c : Thread nD τ) (ms0_14 T t) fullShare ((dats T m 0 c).before (14 : Fin 21) t d))
        ∗ (∃ d, owns (c : Thread nD τ) (ms0_15 T t) fullShare ((dats T m 0 c).before (15 : Fin 21) t d))
        ∗ (∃ d, owns (c : Thread nD τ) (ms0_16 T t) fullShare ((dats T m 0 c).before (16 : Fin 21) t d))
        ∗ (∃ d, owns (c : Thread nD τ) (ms0_17 T t) fullShare ((dats T m 0 c).before (17 : Fin 21) t d))
        ∗ (∃ d, owns (c : Thread nD τ) (ms0_18 T t) fullShare ((dats T m 0 c).before (18 : Fin 21) t d))
        ∗ (∃ d, owns (c : Thread nD τ) (ms0_19 T t) fullShare ((dats T m 0 c).before (19 : Fin 21) t d))
        ∗ (∃ d, owns (c : Thread nD τ) (ms0_20 T t) fullShare ((dats T m 0 c).before (20 : Fin 21) t d)))

end Cert.CompressIdeal.Hand

end
-- ==== Proof.Compress.Run.lean ====
module

public import proofs.«01_k».proof.Proof.Compress.Dats
public import proofs.«01_k».proof.Proof.Gen.CompressIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Lib.Pipeline.ValueKit
public import Idealize.ShloMosaic.Lib.Claim
public import Idealize.ShloMosaic.Lib.StableHlo.RunRead
public import Idealize.ShloMosaic.Init

@[expose] public section

set_option maxRecDepth 16384
set_option Elab.async false

noncomputable section

/-! # The compression's run

The obligation of one point, and the launch. -/

namespace Cert.CompressIdeal.Hand

open Cert.CompressIdeal Cert.CompressIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (T : Tables)
variable (m : (ℓ : Loc nD τ sig) → Buf (Elt F) ℓ) (ρ : Dev nD → PrngReg)

attribute [local irreducible] rows slabs stored cc0_compress

set_option maxHeartbeats 8000000 in
/-- The body's obligation at a point. -/
theorem sound_body (c : Dev nD) (t : Fin (cfgA F T).N) :
    pre21 T m c t
      ⊢ wp frame (wpE (defs₀ (F := F)) Variants.none c none) Set.univ (bodyAt0 T t) fun _ =>
          iprop((dats T m 0 c).Φ t.succ ∗ (dats T m 0 c).owesAt () t.succ
            ∗ bigSep Finset.univ fun w : Fin (cfgA F T).W =>
                match (cfgA F T).idle w ((cfgA F T).grid.coords t) with
                | true =>
                  match ((cfgA F T).win w).flush t with
                  | false => iprop(∃ d, owns (c : Thread nD τ) (((cfgA F T).win w).stage ((cfgA F T).slots t w)) fullShare ((dats T m 0 c).before w t d))
                  | true => owns (c : Thread nD τ) (((cfgA F T).win w).stage ((cfgA F T).slots t w)) fullShare ((dats T m 0 c).after w t)
                | false => owns (c : Thread nD τ) (((cfgA F T).win w).stage ((cfgA F T).slots t w)) fullShare ((dats T m 0 c).after w t)) := by
  have hN := t_lt T t
  have key : ∀ (K : PUnit → sProp 𝕄) (g : RowBuf F) (f : SlabBuf F) f0 f1 (R : sProp 𝕄) (h0) (h1), _ ⊢ wp frame (wpE (defs₀ (F := F)) Variants.none c none) Set.univ (bodyAt0 T t) K := fun K g f f0 f1 R h0 h1 =>
    body c (crd T t) (pgs T t) (hpgs T t) (ms0_16 T t) (hs0_16 T t) (ms0_17 T t) (hs0_17 T t) (ms0_18 T t) (hs0_18 T t) (ms0_19 T t) (hs0_19 T t) (ms0_20 T t) (hs0_20 T t)
      (pageAt T (hv1 m c) (crd T t)) f g (hvW m c) (hvB m c) (hvV m c) f0 f1 R K h0 h1
  rw [bigSep_W0]
  unfold pre21
  by_cases hc : k0_cond1 (crd T t) = 1#1
  · have hs : t.val % 4 = 3 := by rw [← crd1 T t]; exact (cond1_iff _).1 hc
    have i19 : (cfgA F T).idle (19 : Fin 21) ((cfgA F T).grid.coords t) = false := by rw [idle19, hc]; rfl
    have i20 : (cfgA F T).idle (20 : Fin 21) ((cfgA F T).grid.coords t) = false := by rw [idle20, hc]; rfl
    rewrite [i19]
    try rewrite [i20]
    simp only [before0_0, before0_1, before0_2, before0_3, before0_4, before0_5, before0_6, before0_7, before0_8, before0_9, before0_10, before0_11, before0_12, before0_13, before0_14, before0_15, before0_16, before0_17, before0_18]
    rewrite [show (dats T m 0 c).Φ t.succ = Phi T m c (t.val + 1) from rfl, show (dats T m 0 c).Φ t.castSucc = Phi T m c t.val from rfl,
      show (dats T m 0 c).owesAt () t.succ = (dats T m 0 c).owesAt () t.castSucc from rfl]
    unfold Phi
    iintro ⟨⟨%g, %f, %hg, HS0, HS1, HT, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (key _ g f ((ms0_19 T t).view.rep ((dats T m 0 c).before (19 : Fin 21) t d19)) ((ms0_20 T t).view.rep ((dats T m 0 c).before (20 : Fin 21) t d20))
      iprop(Pipeline.ΦT pre0 (adm (F := F) T).1 c ∗ (∃ r, prngReg c r) ∗ (dats T m 0 c).owesAt () t.castSucc) (fun h => absurd hc h) ?h1)
    case h1 =>
      intro _
      have hall := filled_next T m c t g f hg
      rw [hs] at hall
      have hw := filled_all T (hv1 m c) _ _ hall
      have hinv := filled_inv T m c t g f hg
      unfold Held Outs
      rw [bigSep_P, halfAt_eq, halfAt_eq, halfAt_eq, halfAt_eq]
      iintro ⟨⟨H0, H1, H2, H3, H4, H5, H6, H7, H8, H9, H10, H11, H12, H13, H14, H15⟩, HS0, HS1, H16, H17, H18, H19, H20, HT, Hp, Ho⟩
      isplitl [HS0 HS1 HT Hp]
      · iexists _; iexists _
        isplitr; swap
        · isplitl [HS0]; · iexact HS0
          isplitl [HS1]; · iexact HS1
          isplitl [HT]; · iexact HT
          iexact Hp
        · ipureintro; exact hinv
      isplitl [Ho]; · iexact Ho
      isplitl [H0]; · rw [after0_0, iblk0]; iapply owns_of_rep; iexact H0
      isplitl [H1]; · rw [after0_1, iblk1]; iapply owns_of_rep; iexact H1
      isplitl [H2]; · rw [after0_2, iblk2]; iapply owns_of_rep; iexact H2
      isplitl [H3]; · rw [after0_3, iblk3]; iapply owns_of_rep; iexact H3
      isplitl [H4]; · rw [after0_4, iblk4]; iapply owns_of_rep; iexact H4
      isplitl [H5]; · rw [after0_5, iblk5]; iapply owns_of_rep; iexact H5
      isplitl [H6]; · rw [after0_6, iblk6]; iapply owns_of_rep; iexact H6
      isplitl [H7]; · rw [after0_7, iblk7]; iapply owns_of_rep; iexact H7
      isplitl [H8]; · rw [after0_8, iblk8]; iapply owns_of_rep; iexact H8
      isplitl [H9]; · rw [after0_9, iblk9]; iapply owns_of_rep; iexact H9
      isplitl [H10]; · rw [after0_10, iblk10]; iapply owns_of_rep; iexact H10
      isplitl [H11]; · rw [after0_11, iblk11]; iapply owns_of_rep; iexact H11
      isplitl [H12]; · rw [after0_12, iblk12]; iapply owns_of_rep; iexact H12
      isplitl [H13]; · rw [after0_13, iblk13]; iapply owns_of_rep; iexact H13
      isplitl [H14]; · rw [after0_14, iblk14]; iapply owns_of_rep; iexact H14
      isplitl [H15]; · rw [after0_15, iblk15]; iapply owns_of_rep; iexact H15
      isplitl [H16]; · rw [after0_16, iblk16]; iapply owns_of_rep; iexact H16
      isplitl [H17]; · rw [after0_17, iblk17]; iapply owns_of_rep; iexact H17
      isplitl [H18]; · rw [after0_18, iblk18]; iapply owns_of_rep; iexact H18
      isplitl [H19]
      · unfold owns; iexists _; isplitr; swap
        · iexact H19
        · ipureintro; rw [stored_read, hw]; rfl
      unfold owns; iexists _; isplitr; swap
      · iexact H20
      · ipureintro; rw [stored_read, hw]; rfl
    unfold Held Outs; rw [bigSep_P]
    isplitl [H0 H1 H2 H3 H4 H5 H6 H7 H8 H9 H10 H11 H12 H13 H14 H15]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [H8]; · iapply rep_of_owns; iexact H8
      isplitl [H9]; · iapply rep_of_owns; iexact H9
      isplitl [H10]; · iapply rep_of_owns; iexact H10
      isplitl [H11]; · iapply rep_of_owns; iexact H11
      isplitl [H12]; · iapply rep_of_owns; iexact H12
      isplitl [H13]; · iapply rep_of_owns; iexact H13
      isplitl [H14]; · iapply rep_of_owns; iexact H14
      iapply rep_of_owns; iexact H15
    isplitl [HS0]; · rw [rows]; iexact HS0
    isplitl [HS1]; · rw [slabs]; iexact HS1
    isplitl [H16]; · iapply rep_of_owns; iexact H16
    isplitl [H17]; · iapply rep_of_owns; iexact H17
    isplitl [H18]; · iapply rep_of_owns; iexact H18
    isplitl [H19]; · iapply rep_of_owns; iexact H19
    isplitl [H20]; · iapply rep_of_owns; iexact H20
    isplitl [HT]; · iexact HT
    isplitl [Hp]; · iexact Hp
    iexact Ho
  · have hs : t.val % 4 ≠ 3 := fun h => hc ((cond1_iff _).2 (by rw [crd1]; exact h))
    have i19 : (cfgA F T).idle (19 : Fin 21) ((cfgA F T).grid.coords t) = true := by rw [idle19]; simp [hc]
    have i20 : (cfgA F T).idle (20 : Fin 21) ((cfgA F T).grid.coords t) = true := by rw [idle20]; simp [hc]
    rewrite [i19]
    try rewrite [i20]
    rewrite [flush19 T t hs]
    try rewrite [flush20 T t hs]
    simp only [before0_0, before0_1, before0_2, before0_3, before0_4, before0_5, before0_6, before0_7, before0_8, before0_9, before0_10, before0_11, before0_12, before0_13, before0_14, before0_15, before0_16, before0_17, before0_18]
    rewrite [show (dats T m 0 c).Φ t.succ = Phi T m c (t.val + 1) from rfl, show (dats T m 0 c).Φ t.castSucc = Phi T m c t.val from rfl,
      show (dats T m 0 c).owesAt () t.succ = (dats T m 0 c).owesAt () t.castSucc from rfl]
    unfold Phi
    iintro ⟨⟨%g, %f, %hg, HS0, HS1, HT, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (key _ g f ((ms0_19 T t).view.rep ((dats T m 0 c).before (19 : Fin 21) t d19)) ((ms0_20 T t).view.rep ((dats T m 0 c).before (20 : Fin 21) t d20))
      iprop(Pipeline.ΦT pre0 (adm (F := F) T).1 c ∗ (∃ r, prngReg c r) ∗ (dats T m 0 c).owesAt () t.castSucc) ?h0 (fun h => absurd h hc))
    case h0 =>
      intro _
      have hinv := filled_inv T m c t g f hg
      unfold Held Outs
      rw [bigSep_P]
      iintro ⟨⟨H0, H1, H2, H3, H4, H5, H6, H7, H8, H9, H10, H11, H12, H13, H14, H15⟩, HS0, HS1, H16, H17, H18, H19, H20, HT, Hp, Ho⟩
      isplitl [HS0 HS1 HT Hp]
      · iexists _; iexists _
        isplitr; swap
        · isplitl [HS0]; · iexact HS0
          isplitl [HS1]; · iexact HS1
          isplitl [HT]; · iexact HT
          iexact Hp
        · ipureintro; exact hinv
      isplitl [Ho]; · iexact Ho
      isplitl [H0]; · rw [after0_0, iblk0]; iapply owns_of_rep; iexact H0
      isplitl [H1]; · rw [after0_1, iblk1]; iapply owns_of_rep; iexact H1
      isplitl [H2]; · rw [after0_2, iblk2]; iapply owns_of_rep; iexact H2
      isplitl [H3]; · rw [after0_3, iblk3]; iapply owns_of_rep; iexact H3
      isplitl [H4]; · rw [after0_4, iblk4]; iapply owns_of_rep; iexact H4
      isplitl [H5]; · rw [after0_5, iblk5]; iapply owns_of_rep; iexact H5
      isplitl [H6]; · rw [after0_6, iblk6]; iapply owns_of_rep; iexact H6
      isplitl [H7]; · rw [after0_7, iblk7]; iapply owns_of_rep; iexact H7
      isplitl [H8]; · rw [after0_8, iblk8]; iapply owns_of_rep; iexact H8
      isplitl [H9]; · rw [after0_9, iblk9]; iapply owns_of_rep; iexact H9
      isplitl [H10]; · rw [after0_10, iblk10]; iapply owns_of_rep; iexact H10
      isplitl [H11]; · rw [after0_11, iblk11]; iapply owns_of_rep; iexact H11
      isplitl [H12]; · rw [after0_12, iblk12]; iapply owns_of_rep; iexact H12
      isplitl [H13]; · rw [after0_13, iblk13]; iapply owns_of_rep; iexact H13
      isplitl [H14]; · rw [after0_14, iblk14]; iapply owns_of_rep; iexact H14
      isplitl [H15]; · rw [after0_15, iblk15]; iapply owns_of_rep; iexact H15
      isplitl [H16]; · rw [after0_16, iblk16]; iapply owns_of_rep; iexact H16
      isplitl [H17]; · rw [after0_17, iblk17]; iapply owns_of_rep; iexact H17
      isplitl [H18]; · rw [after0_18, iblk18]; iapply owns_of_rep; iexact H18
      isplitl [H19]
      · iexists d19; iapply owns_of_rep; iexact H19
      iexists d20; iapply owns_of_rep; iexact H20
    unfold Held Outs; rw [bigSep_P]
    isplitl [H0 H1 H2 H3 H4 H5 H6 H7 H8 H9 H10 H11 H12 H13 H14 H15]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [H8]; · iapply rep_of_owns; iexact H8
      isplitl [H9]; · iapply rep_of_owns; iexact H9
      isplitl [H10]; · iapply rep_of_owns; iexact H10
      isplitl [H11]; · iapply rep_of_owns; iexact H11
      isplitl [H12]; · iapply rep_of_owns; iexact H12
      isplitl [H13]; · iapply rep_of_owns; iexact H13
      isplitl [H14]; · iapply rep_of_owns; iexact H14
      iapply rep_of_owns; iexact H15
    isplitl [HS0]; · rw [rows]; iexact HS0
    isplitl [HS1]; · rw [slabs]; iexact HS1
    isplitl [H16]; · iapply rep_of_owns; iexact H16
    isplitl [H17]; · iapply rep_of_owns; iexact H17
    isplitl [H18]; · iapply rep_of_owns; iexact H18
    isplitl [H19]; · iapply rep_of_owns; iexact H19
    isplitl [H20]; · iapply rep_of_owns; iexact H20
    isplitl [HT]; · iexact HT
    isplitl [Hp]; · iexact Hp
    iexact Ho

/-- The library's body obligation, at every point. -/
theorem body_obligation (c : Dev nD) : BodyObligation (dats T m 0 c) (defs₀ (F := F)) Variants.none () Set.univ := fun t => by
  rw [bigSep_W0]
  exact sound_body T m c t

/-! ## The launch -/

theorem phi0_intro (c : Dev nD) : iprop(Pipeline.ΦA (Val := Elt F) (U := UR sig nD τ) spec0 c ∗ Pipeline.ΦT pre0 (adm (F := F) T).1 c) ⊢ (dats T m 0 c).Φ 0 := by
  rw [show (dats T m 0 c).Φ 0 = Phi T m c 0 from rfl]
  unfold Pipeline.ΦA Phi
  rw [scopedRest0_eq]
  iintro ⟨⟨⟨⟨%g, HS0⟩, ⟨%f, HS1⟩⟩, Hp⟩, HT⟩
  iexists g; iexists f
  isplitr
  · ipureintro; intro b _ r k row l h; exact absurd h (Nat.not_lt_zero _)
  isplitl [HS0]; · iexact HS0
  isplitl [HS1]; · iexact HS1
  isplitl [HT]; · iexact HT
  iexact Hp

theorem phiN_exit (c : Dev nD) : (dats T m 0 c).Φ (Fin.last (cfgA F T).N) ⊢ Pipeline.ΦA (Val := Elt F) (U := UR sig nD τ) spec0 c := by
  rw [show (dats T m 0 c).Φ (Fin.last (cfgA F T).N) = Phi T m c (Fin.last (cfgA F T).N).val from rfl]
  unfold Pipeline.ΦA Phi
  rw [scopedRest0_eq]
  iintro ⟨%g, %f, -, HS0, HS1, -, Hp⟩
  isplitl [HS0 HS1]
  · isplitl [HS0]
    · iexists g; iexact HS0
    iexists f; iexact HS1
  iexact Hp

theorem hostOps0_fresh : (hostOps0 : List (HloOp τ sig (Elt F))).Forall fun op => op.fresh = ∅ := by
  simp only [List.Forall]; repeat' constructor

/-- The launch memory holds the table. -/
def Holds : Prop := ∀ c : Dev nD, m ((c : Thread nD τ).loc main_arg1) = T.w0

set_option maxHeartbeats 4000000 in
theorem hostV_arg1 (c : Dev nD) : hostV m c main_arg1 = m (c, main_arg1) := by
  exact StableHlo.after_unwritten (ops := hostOps0) [main_v0, main_v1, main_v2, main_v3, main_v4, main_c, main_v5, main_v6, main_v7, main_v8, main_v9, main_v10, main_v11, main_v12, main_v13, main_v14, main_v15, main_v16, main_v17, main_v18, main_v19, main_v20, main_v21, main_v22, main_v23, main_v24, main_v25, main_v26, main_v27] rfl (by decide) _

set_option backward.isDefEq.respectTransparency.types false in
set_option maxHeartbeats 4000000 in
/-- Every weakly fair execution ends, with each array at the computed contents and every counter at zero. -/
theorem run_main (hp : Holds T m) : θ_run (defs (F := F)) (onTc (τ := τ) (main (F := F))) ⟨m, fun _ => 0, ρ⟩
    (fun r => Pipeline.FramePost (pcs F T) (dats T m) 0 (hostV m) r ∧ r.2.sem = fun _ => 0) :=
  Pipeline.θ_run_frameP_track_shared pcfgs (fun _ => adm T) (dats T m) (0 : Fin 1) launch₀0 defs₀ Variants.none m ρ main
    (hbody := fun c => (body_obligation T m c).loose)
    (hq := fun _ _ _ => rfl) (howed := fun _ _ => rfl)
    (V := hostV m)
    (hmain := Pipeline.hmainP_prefix pcfgs 0 defs₀ Variants.none m main hostOps0 hostOps0_sub hostOps0_fresh main_chain)
    (hA := fun _ _ => rfl)
    (hpf := fun c k => by
      match k with
      | ⟨0, _⟩ => exact (hostV_arg1 m c).trans (hp c)
      | ⟨_ + 1, h⟩ => exact absurd h (by simp))
    (hin := phi0_intro T m)
    (hout := phiN_exit T m)
    (Q' := fun r => Pipeline.FramePost (pcs F T) (dats T m) 0 (hostV m) r ∧ r.2.sem = fun _ => 0)
    (hQ' := fun _ h => h)

end Cert.CompressIdeal.Hand

end
-- ==== Proof.Compress.Frame.lean ====
/- The compression's frames: its table's range read off the precondition, the run at that table, and the same for the
   program read at bit patterns, whose text is the idealized one's. -/
module

public import proofs.«01_k».proof.Defs
public import proofs.«01_k».proof.Proof.Compress.Same
public import proofs.«01_k».proof.Proof.Gen.CompressRefIdeal
public import proofs.«01_k».proof.Proof.Compress.Run
public import Idealize.ShloMosaic.Lib.StableHlo.RunRead

@[expose] public section

set_option maxRecDepth 16384

noncomputable section

namespace Cert.CompressIdeal.Hand

open Cert.CompressIdeal Cert.CompressIdeal.Gen
open Idealize.ShloMosaic Idealize.ShloMosaic.TcCoe Idealize.SL.Sem

variable {F : FTy → Type} [FloatOps F]

/-- The predicate's one side condition. -/
theorem preFacts : Cert.Pre_pages_in_range.Facts where
  bcast_S_S128x64 := Cert.CompressRefIdeal.Gen.bcast_S_S128x64

/-- A signed word from 0 up to 10239 is below 10240. -/
theorem word_lt (w : BitVec 32) (h : BitVec.ofBool ((0#32).sle w) &&& BitVec.ofBool (w.slt 10240#32) = 1#1) : w.toNat < 10240 := by
  have hs : (0#32).sle w = true ∧ w.slt 10240#32 = true := by
    revert h
    cases (0#32).sle w <;> cases w.slt 10240#32 <;> decide
  have h1 : (0 : ℤ) ≤ w.toInt := by simpa [BitVec.sle] using hs.1
  have h2 : w.toInt < 10240 := by simpa [BitVec.slt] using hs.2
  rw [BitVec.toInt_eq_toNat_cond] at h1 h2
  have := w.isLt
  split at h1 <;> omega

/-- Where the predicate holds, every page number is one of the cache's pages. -/
theorem pages_lt (x : FVec F S2x10240x128x2x4x64 .f32) (b : IVec S128x64 32) (w : FVec F S2x32x64x64 .f32) (z : FVec F S2x64 .f32) (d : FVec F S2x64x64 .f32)
    (h : @Cert.Pre_pages_in_range.fn preFacts F _ x b w z d = fun _ => 1#1) (i : S128x64.Idx) : (b i).toNat < 10240 :=
  word_lt (b i) (congrFun h i)

/-- The table of a launch memory. -/
def table (m : (ℓ : Loc nD τ sig) → Buf (Elt F) ℓ) (h : ∀ i, ((show IVec S128x64 32 from m ((0 : Dev nD).tc.loc main_arg1)) i).toNat < 10240) : Tables :=
  ⟨m ((0 : Dev nD).tc.loc main_arg1), h⟩

theorem table_holds (m : (ℓ : Loc nD τ sig) → Buf (Elt F) ℓ) (h) : Holds (table m h) m :=
  fun c => by obtain rfl : c = 0 := Subsingleton.elim _ _; rfl

/-- What the host part writes. -/
abbrev written : List (Ref sig .tc) := [main_v0, main_v1, main_v2, main_v3, main_v4, main_c, main_v5, main_v6, main_v7, main_v8, main_v9, main_v10, main_v11, main_v12, main_v13, main_v14, main_v15, main_v16, main_v17, main_v18, main_v19, main_v20, main_v21, main_v22, main_v23, main_v24, main_v25, main_v26, main_v27]

/-- The host part leaves the arguments alone. -/
theorem args_kept (m : (ℓ : Loc nD τ sig) → Buf (Elt F) ℓ) (c : Dev nD) :
    hostV m c main_arg0 = m (c, main_arg0) ∧ hostV m c main_arg1 = m (c, main_arg1) ∧ hostV m c main_arg2 = m (c, main_arg2)
      ∧ hostV m c main_arg3 = m (c, main_arg3) ∧ hostV m c main_arg4 = m (c, main_arg4) :=
  ⟨StableHlo.after_unwritten (ops := hostOps0) written rfl (by decide) _, StableHlo.after_unwritten (ops := hostOps0) written rfl (by decide) _,
   StableHlo.after_unwritten (ops := hostOps0) written rfl (by decide) _, StableHlo.after_unwritten (ops := hostOps0) written rfl (by decide) _,
   StableHlo.after_unwritten (ops := hostOps0) written rfl (by decide) _⟩

/-! No window is on an argument's array. -/

theorem arg0_free (T : Tables) : ∀ w, ((pcs F T 0).spec w).arr.view.ref ≠ main_arg0 := by
  show ∀ w : Fin 21, (spec0 w).arr.view.ref ≠ main_arg0
  decide
theorem arg1_free (T : Tables) : ∀ w, ((pcs F T 0).spec w).arr.view.ref ≠ main_arg1 := by
  show ∀ w : Fin 21, (spec0 w).arr.view.ref ≠ main_arg1
  decide
theorem arg2_free (T : Tables) : ∀ w, ((pcs F T 0).spec w).arr.view.ref ≠ main_arg2 := by
  show ∀ w : Fin 21, (spec0 w).arr.view.ref ≠ main_arg2
  decide
theorem arg3_free (T : Tables) : ∀ w, ((pcs F T 0).spec w).arr.view.ref ≠ main_arg3 := by
  show ∀ w : Fin 21, (spec0 w).arr.view.ref ≠ main_arg3
  decide
theorem arg4_free (T : Tables) : ∀ w, ((pcs F T 0).spec w).arr.view.ref ≠ main_arg4 := by
  show ∀ w : Fin 21, (spec0 w).arr.view.ref ≠ main_arg4
  decide

/-- The arguments after a run. -/
theorem post_args (T : Tables) (m : (ℓ : Loc nD τ sig) → Buf (Elt F) ℓ) (r) (h : Pipeline.FramePost (pcs F T) (dats T m) 0 (hostV m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  obtain ⟨k0, k1, k2, k3, k4⟩ := args_kept m c
  exact ⟨((h c).2 main_arg0 (Pipeline.mem_restRefs_of main_arg0 (by decide) (arg0_free T))).trans k0, ((h c).2 main_arg1 (Pipeline.mem_restRefs_of main_arg1 (by decide) (arg1_free T))).trans k1, ((h c).2 main_arg2 (Pipeline.mem_restRefs_of main_arg2 (by decide) (arg2_free T))).trans k2,
    ((h c).2 main_arg3 (Pipeline.mem_restRefs_of main_arg3 (by decide) (arg3_free T))).trans k3, ((h c).2 main_arg4 (Pipeline.mem_restRefs_of main_arg4 (by decide) (arg4_free T))).trans k4⟩

/-- The frame, at any arithmetic. -/
theorem callFrame (m : (ℓ : Loc nD τ sig) → Buf (Elt F) ℓ) (ρ : Dev nD → PrngReg)
    (h : ∀ i, ((show IVec S128x64 32 from m ((0 : Dev nD).tc.loc main_arg1)) i).toNat < 10240) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h' => ⟨post_args (table m h) m r h'.1, h'.2⟩) (run_main (table m h) m ρ (table_holds m h))

end Cert.CompressIdeal.Hand

namespace Cert.Proof

open Idealize.ShloMosaic Idealize.ShloMosaic.TcCoe Idealize.SL.Sem Cert.CompressIdeal.Hand

set_option maxHeartbeats 8000000 in
/-- The idealized call runs, its arguments unchanged. -/
theorem compressIdeal_frame : Cert.quiescent_CompressIdeal (hCompressIdeal := Cert.CompressIdeal.Gen.facts) (hPre_pages_in_range := preFacts) :=
  fun m ρ hp => callFrame m ρ fun i => pages_lt _ _ _ _ _ (hp 0) i

set_option maxHeartbeats 8000000 in
/-- The call at bit patterns runs, its arguments unchanged. -/
theorem compress_frame : Cert.quiescent_Compress (hCompress := Cert.Compress.Gen.facts) (hPre_pages_in_range := preFacts) := by
  intro m ρ hp
  have h := callFrame (F := Bits) m ρ fun i => pages_lt _ _ _ _ _ (hp 0) i
  rw [← defs_eq (F := Bits), ← main_eq (F := Bits)] at h
  exact h

end Cert.Proof

end
-- ==== Proof.Compress.Spec.lean ====
/- The compression as a function of its arguments: a sequence's cached tokens in rows of sixteen, each row and the next one
   through a two-layer perceptron, head by head, and a last row of zeros. -/
module

public import proofs.«01_k».proof.Proof.Compress.Pipe
public import Idealize.ShloMosaic.Lib.Pipeline.ValueKit

@[expose] public section

set_option maxRecDepth 16384

noncomputable section

namespace Cert.CompressIdeal.Hand

open Cert.CompressIdeal Cert.CompressIdeal.Gen
open Idealize.ShloMosaic

variable (T : Tables) (C : FVec Ideal S2x10240x128x2x4x64 .f32) (W : FVec Ideal S2x32x64x64 .f32) (B : FVec Ideal S2x64 .f32) (V : FVec Ideal S2x64x64 .f32)

/-- The cache's page number `n` of sequence `b`. -/
def page (b : Fin 128) (n : Fin 64) : Fin 10240 := ⟨(T.w0 (ix2 b n)).toNat, T.lt _⟩

/-- Number `d` of head `h` of token `r` of row `n` of sequence `b`: token `16 (n % 8) + r` of the sequence's page `n / 8`. -/
def token (v : Fin 2) (b : Fin 128) (n : Fin 512) (r : Fin 16) (h : Fin 4) (d : Fin 64) : EReal :=
  C (ix6 (0 : Fin 2) (page T b ⟨n.val / 8, by omega⟩) (⟨16 * (n.val % 8) + r.val, by omega⟩ : Fin 128) v h d)

/-- Row `n` against half `s` of the first layer's weights. -/
def proj (v : Fin 2) (s : Fin 2) (b : Fin 128) (n : Fin 512) (h : Fin 4) (g : Fin 64) : EReal :=
  ∑ r : Fin 16, ∑ d : Fin 64, token T C v b n r h d * W (ix4 v (⟨16 * s.val + r.val, by omega⟩ : Fin 32) d g)

/-- The hidden layer before its activation. -/
def hid (v : Fin 2) (b : Fin 128) (n : Fin 511) (h : Fin 4) (g : Fin 64) : EReal :=
  proj T C W v 0 b ⟨n.val, by omega⟩ h g + proj T C W v 1 b ⟨n.val + 1, by omega⟩ h g + B (ix2 v g)

/-- The activation: the Gaussian error linear unit by its hyperbolic tangent. -/
def gelu (p : EReal) : EReal :=
  p * (Scalar.ofBits (F := Ideal) .f32 0x3F000000#32 * (1 + Ideal.tanh (Scalar.ofBits (F := Ideal) .f32 0x3F4C422A#32
    * (p + Scalar.ofBits (F := Ideal) .f32 0x3D372713#32 * (p * p * p)))))

/-- The compressed row `n`, number `o` of head `h`. -/
def outAt (v : Fin 2) (b : Fin 128) (n : Fin 512) (h : Fin 4) (o : Fin 64) : EReal :=
  if hn : n.val < 511 then ∑ g : Fin 64, gelu (hid T C W B v b ⟨n.val, hn⟩ h g) * V (ix3 v g o) else 0

/-- The compressed keys (`v = 0`) or values (`v = 1`), as an array. -/
def compressed (v : Fin 2) : FVec Ideal S128x512x256 .bf16 := fun i =>
  have h2 : (i 2).val < 256 := (i 2).isLt
  outAt T C W B V v (i 0) (i 1) ⟨(i 2).val / 64, by omega⟩ ⟨(i 2).val % 64, by omega⟩

end Cert.CompressIdeal.Hand

end
-- ==== Proof.Compress.Gather.lean ====
/- The reference's gather of the cache's pages, read at an index. -/
module

public import proofs.«01_k».proof.Proof.Compress.Spec
public import proofs.«01_k».proof.Proof.Gen.CompressRefIdeal

@[expose] public section

set_option maxRecDepth 16384

noncomputable section

namespace Cert.CompressIdeal.Hand

open Cert.CompressRefIdeal Cert.CompressRefIdeal.Gen
open Idealize.ShloMosaic Idealize.ShloMosaic.TcCoe Idealize.SL.Sem

variable (T : Tables)

/-- The page numbers the reference gathers at, as pairs with a leading 0. -/
def ids (b : IVec S128x64 32) : IVec S128x64x2 32 :=
  concatenate S128x64x2 2 [⟨S128x64x1, (broadcastInDim S128x64x1 ![0, 1] bcast_S128x64_S128x64x1_0_1 (id (broadcastInDim S128x64 ![] bcast_S_S128x64 (constantI S_ 32 0#32))))⟩,
    ⟨S128x64x1, (broadcastInDim S128x64x1 ![0, 1] bcast_S128x64_S128x64x1_0_1 (select (cmpi .slt b (broadcastInDim S128x64 ![] bcast_S_S128x64 (constantI S_ 32 0#32)))
      (addi b (broadcastInDim S128x64 ![] bcast_S_S128x64 (constantI S_ 32 10240#32))) b))⟩] concatenates_S128x64x1_S128x64x1_S128x64x2_d2

/-- A choice by a signed comparison. -/
theorem select_slt {α : Type} (a b : BitVec 32) (x y : α) :
    Scalar.select (IntOp.cmpi .slt a b) x y = if a.slt b = true then x else y := by
  show Scalar.select (BitVec.ofBool (a.slt b)) x y = _
  cases a.slt b <;> rfl

/-- The leading number is 0. -/
theorem ids_zero (b : Fin 128) (n : Fin 64) : ids T.w0 (ix3 b n (0 : Fin 2)) = 0#32 := by
  unfold ids
  pointwise
  rfl

/-- A page number below 10240 is read as itself. -/
theorem ids_page (b : Fin 128) (n : Fin 64) : (ids T.w0 (ix3 b n (1 : Fin 2))).toInt.toNat = (page T b n).val := by
  have h : ids T.w0 (ix3 b n (1 : Fin 2)) = if (T.w0 (ix2 b n)).slt 0#32 then T.w0 (ix2 b n) + 10240#32 else T.w0 (ix2 b n) := by
    unfold ids
    pointwise
    exact select_slt _ _ _ _
  have hl := T.lt (ix2 b n)
  have hi : (T.w0 (ix2 b n)).toInt = ((T.w0 (ix2 b n)).toNat : ℤ) := by
    rw [BitVec.toInt_eq_toNat_cond, if_pos (by omega)]
  rw [h, if_neg (by simp only [BitVec.slt, hi, BitVec.toInt_zero, decide_eq_true_eq]; omega), hi]
  rfl

/-- The dimension numbers of the gather of whole pages. -/
abbrev pages := gather_S2x10240x128x2x4x64_S128x64x2_S128x64x128x2x4x64_2345_01_n_n_01_2_111282464

/-- The gathered pages. -/
def gathered (b : IVec S128x64 32) (C : FVec Ideal S2x10240x128x2x4x64 .f32) : FVec Ideal S128x64x128x2x4x64 .f32 :=
  Host.gather pages C (ids b)

/-- On an axis the gather takes whole, the coordinate is the result's. -/
theorem start_whole (j : S128x64x128x2x4x64.Idx) (I : IVec S128x64x2 32) (d : Fin 6) (h : d ∉ ([0, 1] : List (Fin 6))) : pages.start j I d = 0 := by
  unfold GatherDims.start
  exact dif_neg h

/-- Where an index word sits. -/
theorem siIdx_at (b : Fin 128) (n : Fin 64) (t : Fin 128) (v : Fin 2) (h : Fin 4) (d : Fin 64) (z : Fin 2) (hz) :
    pages.siIdx (ix6 b n t v h d) ⟨z.val, hz⟩ = ix3 b n z := by
  funext a; refine Fin.ext ?_
  match a with
  | ⟨0, _⟩ => rfl
  | ⟨1, _⟩ => rfl
  | ⟨2, _⟩ => rfl

/-- The gathered pages are the sequences' own. -/
theorem gathered_at (C : FVec Ideal S2x10240x128x2x4x64 .f32) (b : Fin 128) (n : Fin 64) (t : Fin 128) (v : Fin 2) (h : Fin 4) (d : Fin 64) :
    gathered T.w0 C (ix6 b n t v h d) = C (ix6 (0 : Fin 2) (page T b n) t v h d) := by
  unfold gathered Host.gather
  refine congrArg C (funext fun a => Fin.ext ?_)
  show pages.start (ix6 b n t v h d) (ids T.w0) a + pages.batchCoord (ix6 b n t v h d) a + pages.offCoord (ix6 b n t v h d) a = _
  rw [GatherDims.batchCoord_eq_zero _ _ _ List.not_mem_nil, Nat.add_zero]
  match a with
  | ⟨0, _⟩ =>
    show pages.start (ix6 b n t v h d) (ids T.w0) (0 : Fin 6) + pages.offCoord (ix6 b n t v h d) (0 : Fin 6) = 0
    rw [GatherDims.offCoord_eq_zero _ _ _ (fun h => ((GatherDims.mem_sKept _ _).mp h).1 (show (0 : Fin 6) ∈ ([0, 1] : List (Fin 6)) by decide)), Nat.add_zero]
    unfold GatherDims.start
    rw [dif_pos (show (0 : Fin 6) ∈ pages.startIndexMap from (show (0 : Fin 6) ∈ ([0, 1] : List (Fin 6)) by decide))]
    show min (ids T.w0 (pages.siIdx (ix6 b n t v h d) ⟨(0 : Fin 2).val, _⟩)).toInt.toNat (2 - 1) = 0
    exact congrArg (fun w : BitVec 32 => min w.toInt.toNat 1) ((congrArg (ids T.w0) (siIdx_at b n t v h d 0 _)).trans (ids_zero T b n))
  | ⟨1, _⟩ =>
    show pages.start (ix6 b n t v h d) (ids T.w0) (1 : Fin 6) + pages.offCoord (ix6 b n t v h d) (1 : Fin 6) = (page T b n).val
    rw [GatherDims.offCoord_eq_zero _ _ _ (fun h => ((GatherDims.mem_sKept _ _).mp h).1 (show (1 : Fin 6) ∈ ([0, 1] : List (Fin 6)) by decide)), Nat.add_zero]
    unfold GatherDims.start
    rw [dif_pos (show (1 : Fin 6) ∈ pages.startIndexMap from (show (1 : Fin 6) ∈ ([0, 1] : List (Fin 6)) by decide))]
    show min (ids T.w0 (pages.siIdx (ix6 b n t v h d) ⟨(1 : Fin 2).val, _⟩)).toInt.toNat (10240 - 1) = (page T b n).val
    have hlt := (page T b n).isLt
    exact (congrArg (fun k : ℕ => min k 10239) ((congrArg (fun z => (ids T.w0 z).toInt.toNat) (siIdx_at b n t v h d 1 _)).trans (ids_page T b n))).trans
      (Nat.min_eq_left (by omega))
  | ⟨2, _⟩ => exact (congrArg (· + _) (start_whole _ _ (2 : Fin 6) (by decide))).trans (Nat.zero_add _)
  | ⟨3, _⟩ => exact (congrArg (· + _) (start_whole _ _ (3 : Fin 6) (by decide))).trans (Nat.zero_add _)
  | ⟨4, _⟩ => exact (congrArg (· + _) (start_whole _ _ (4 : Fin 6) (by decide))).trans (Nat.zero_add _)
  | ⟨5, _⟩ => exact (congrArg (· + _) (start_whole _ _ (5 : Fin 6) (by decide))).trans (Nat.zero_add _)

end Cert.CompressIdeal.Hand

end
-- ==== Proof.Compress.Ref.lean ====
/- The reference's term is the compression, side by side. -/
module

public import proofs.«01_k».proof.Proof.Compress.Gather
public import proofs.«01_k».proof.Proof.Gen.CompressRefIdeal

@[expose] public section

set_option maxRecDepth 16384

noncomputable section

namespace Cert.CompressIdeal.Hand

open Cert.CompressRefIdeal Cert.CompressRefIdeal.Gen
open Idealize.ShloMosaic Idealize.ShloMosaic.TcCoe Idealize.SL.Sem

variable (T : Tables)

/-- The rows of sixteen tokens of one side. -/
def rows16 (P : FVec Ideal S128x64x128x1x4x64 .f32) : FVec Ideal S128x512x16x4x64 .f32 :=
  shapeCast _ (shapeCast _ (shapeCast _ P shapeCasts_S128x64x128x1x4x64_S128x64x128x4x64) shapeCasts_S128x64x128x4x64_S128x8192x4x64) shapeCasts_S128x8192x4x64_S128x512x16x4x64

theorem rows16_at (P : FVec Ideal S128x64x128x1x4x64 .f32) (b : Fin 128) (n : Fin 512) (r : Fin 16) (h : Fin 4) (d : Fin 64) :
    rows16 P (ix5 b n r h d) = P (ix6 b (⟨n.val / 8, by omega⟩ : Fin 64) (⟨16 * (n.val % 8) + r.val, by omega⟩ : Fin 128) (0 : Fin 1) h d) := by
  pointwise [rows16]
  blk_ext

/-- A product of rows with half of the first layer's weights. -/
def prod (X : FVec Ideal S128x512x16x4x64 .f32) (W : FVec Ideal S16x64x64 .f32) : FVec Ideal S128x512x4x64 .f32 :=
  Host.dotGeneral dot_S128x512x16x4x64_S16x64x64_S128x512x4x64_42_10_013_2_n_n none X W

theorem prod_at (X : FVec Ideal S128x512x16x4x64 .f32) (W : FVec Ideal S16x64x64 .f32) (b : Fin 128) (n : Fin 512) (h : Fin 4) (g : Fin 64) :
    prod X W (ix4 b n h g) = ∑ r : Fin 16, ∑ d : Fin 64, X (ix5 b n r h d) * W (ix3 r d g) := by
  rw [Finset.sum_comm]
  pointwise [prod, dot_S128x512x16x4x64_S16x64x64_S128x512x4x64_42_10_013_2_n_n]

/-- The two halves of one side's first-layer weights. -/
def lower (W : FVec Ideal S1x32x64x64 .f32) : FVec Ideal S16x64x64 .f32 :=
  extractStridedSlice S16x64x64 ![0, 0, 0] (shapeCast _ W shapeCasts_S1x32x64x64_S32x64x64) slices_S32x64x64_S16x64x64_0_0_0
def upper (W : FVec Ideal S1x32x64x64 .f32) : FVec Ideal S16x64x64 .f32 :=
  extractStridedSlice S16x64x64 ![16, 0, 0] (shapeCast _ W shapeCasts_S1x32x64x64_S32x64x64) slices_S32x64x64_S16x64x64_16_0_0

theorem lower_at (W : FVec Ideal S1x32x64x64 .f32) (r : Fin 16) (d g : Fin 64) : lower W (ix3 r d g) = W (ix4 (0 : Fin 1) (⟨16 * (0 : Fin 2).val + r.val, by show 16 * 0 + r.val < 32; omega⟩ : Fin 32) d g) := by
  pointwise [lower]
  blk_ext
theorem upper_at (W : FVec Ideal S1x32x64x64 .f32) (r : Fin 16) (d g : Fin 64) : upper W (ix3 r d g) = W (ix4 (0 : Fin 1) (⟨16 * (1 : Fin 2).val + r.val, by show 16 * 1 + r.val < 32; omega⟩ : Fin 32) d g) := by
  pointwise [upper]
  blk_ext

/-- The hidden layer before its activation. -/
def pre (P : FVec Ideal S128x64x128x1x4x64 .f32) (W : FVec Ideal S1x32x64x64 .f32) (B : FVec Ideal S1x64 .f32) : FVec Ideal S128x511x4x64 .f32 :=
  addf (addf (extractStridedSlice S128x511x4x64 ![0, 0, 0, 0] (prod (rows16 P) (lower W)) slices_S128x512x4x64_S128x511x4x64_0_0_0_0)
      (extractStridedSlice S128x511x4x64 ![0, 1, 0, 0] (prod (rows16 P) (upper W)) slices_S128x512x4x64_S128x511x4x64_0_1_0_0))
    (broadcastInDim S128x511x4x64 ![0, 1, 2, 3] bcast_S1x1x1x64_S128x511x4x64_0_1_2_3 (broadcastInDim S1x1x1x64 ![3] bcast_S64_S1x1x1x64_3 (shapeCast _ B shapeCasts_S1x64_S64)))

theorem pre_at (P : FVec Ideal S128x64x128x1x4x64 .f32) (W : FVec Ideal S1x32x64x64 .f32) (B : FVec Ideal S1x64 .f32) (b : Fin 128) (n : Fin 511) (h : Fin 4) (g : Fin 64) :
    pre P W B (ix4 b n h g) = prod (rows16 P) (lower W) (ix4 b (⟨n.val, by omega⟩ : Fin 512) h g) + prod (rows16 P) (upper W) (ix4 b (⟨n.val + 1, by omega⟩ : Fin 512) h g)
      + B (ix2 (0 : Fin 1) g) := by
  unfold pre
  generalize prod (rows16 P) (lower W) = X
  generalize prod (rows16 P) (upper W) = Y
  have e : (⟨1 + n.val, by omega⟩ : Fin 512) = ⟨n.val + 1, by omega⟩ := Fin.ext (Nat.add_comm 1 n.val)
  rw [← e]
  pointwise

/-- The activation. -/
def act (p : FVec Ideal S128x511x4x64 .f32) : FVec Ideal S128x511x4x64 .f32 :=
  mulf p (mulf (broadcastInDim S128x511x4x64 ![] bcast_S_S128x511x4x64 (constant S_ .f32 0x3F000000#32))
    (addf (broadcastInDim S128x511x4x64 ![] bcast_S_S128x511x4x64 (constant S_ .f32 0x3F800000#32))
      (Host.tanh (mulf (broadcastInDim S128x511x4x64 ![] bcast_S_S128x511x4x64 (constant S_ .f32 0x3F4C422A#32))
        (addf p (mulf (broadcastInDim S128x511x4x64 ![] bcast_S_S128x511x4x64 (constant S_ .f32 0x3D372713#32)) (mulf (mulf p p) p)))))))

theorem act_at (p : FVec Ideal S128x511x4x64 .f32) (b : Fin 128) (n : Fin 511) (h : Fin 4) (g : Fin 64) :
    act p (ix4 b n h g) = gelu (p (ix4 b n h g)) := by
  unfold gelu
  pointwise [act]

/-- The second layer. -/
def second (a : FVec Ideal S128x511x4x64 .f32) (V : FVec Ideal S1x64x64 .f32) : FVec Ideal S128x511x256 .f32 :=
  shapeCast _ (Host.dotGeneral dot_S128x511x4x64_S64x64_S128x511x4x64_3_0_012_1_n_n none a (shapeCast _ V shapeCasts_S1x64x64_S64x64)) shapeCasts_S128x511x4x64_S128x511x256

theorem second_at (a : FVec Ideal S128x511x4x64 .f32) (V : FVec Ideal S1x64x64 .f32) (b : Fin 128) (n : Fin 511) (k : Fin 256) :
    second a V (ix3 b n k) = ∑ g : Fin 64, a (ix4 b n (⟨k.val / 64, by omega⟩ : Fin 4) g) * V (ix3 (0 : Fin 1) g (⟨k.val % 64, by omega⟩ : Fin 64)) := by
  pointwise [second, dot_S128x511x4x64_S64x64_S128x511x4x64_3_0_012_1_n_n]
  blk_ext

/-- One side of the reference. -/
def side (P : FVec Ideal S128x64x128x1x4x64 .f32) (W : FVec Ideal S1x32x64x64 .f32) (B : FVec Ideal S1x64 .f32) (V : FVec Ideal S1x64x64 .f32) : FVec Ideal S128x512x256 .bf16 :=
  truncf .bf16 (pad S128x512x256 ![0, 0, 0] ![0, 1, 0] ![0, 0, 0] (second (act (pre P W B)) V)
    (sitofp .f32 (constantI S_ 32 0#32)) pads_S128x511x256_S128x512x256_000_010_000 h_S_) bitsLt_bf16_f32

/-- A side, from what its slices are. -/
theorem side_eq (P : FVec Ideal S128x64x128x1x4x64 .f32) (W : FVec Ideal S1x32x64x64 .f32) (B : FVec Ideal S1x64 .f32) (V : FVec Ideal S1x64x64 .f32)
    (C : FVec Ideal S2x10240x128x2x4x64 .f32) (W' : FVec Ideal S2x32x64x64 .f32) (B' : FVec Ideal S2x64 .f32) (V' : FVec Ideal S2x64x64 .f32) (v : Fin 2)
    (hP : ∀ b n t h d, P (ix6 b n t (0 : Fin 1) h d) = C (ix6 (0 : Fin 2) (page T b n) t v h d)) (hW : ∀ r d g, W (ix4 (0 : Fin 1) r d g) = W' (ix4 v r d g))
    (hB : ∀ g, B (ix2 (0 : Fin 1) g) = B' (ix2 v g)) (hV : ∀ g o, V (ix3 (0 : Fin 1) g o) = V' (ix3 v g o)) :
    side P W B V = compressed T C W' B' V' v := by
  have hL : ∀ b n h g, prod (rows16 P) (lower W) (ix4 b n h g) = proj T C W' v 0 b n h g := fun b n h g => by
    rw [prod_at]; unfold proj token
    exact Finset.sum_congr rfl fun r _ => Finset.sum_congr rfl fun d _ => by rw [rows16_at, lower_at, hP, hW]
  have hU : ∀ b n h g, prod (rows16 P) (upper W) (ix4 b n h g) = proj T C W' v 1 b n h g := fun b n h g => by
    rw [prod_at]; unfold proj token
    exact Finset.sum_congr rfl fun r _ => Finset.sum_congr rfl fun d _ => by rw [rows16_at, upper_at, hP, hW]
  have hp : ∀ b n h g, pre P W B (ix4 b n h g) = hid T C W' B' v b n h g := fun b n h g => by
    rw [pre_at, hL, hU, hB]; rfl
  funext j
  obtain ⟨b, n, k, rfl⟩ : ∃ (b : Fin 128) (n : Fin 512) (k : Fin 256), j = ix3 b n k :=
    ⟨j 0, j 1, j 2, funext fun a => by match a with | ⟨0, _⟩ => rfl | ⟨1, _⟩ => rfl | ⟨2, _⟩ => rfl⟩
  show _ = outAt T C W' B' V' v b n ⟨k.val / 64, _⟩ ⟨k.val % 64, _⟩
  unfold outAt side
  pointwise
  by_cases hn : n.val < 511
  · rw [dif_pos hn]
    have e : ∀ h, second (act (pre P W B)) V (ix3 b (⟨n.val, h⟩ : Fin 511) k) = ∑ g : Fin 64, gelu (hid T C W' B' v b ⟨n.val, hn⟩ ⟨k.val / 64, by omega⟩ g) * V' (ix3 v g (⟨k.val % 64, by omega⟩ : Fin 64)) := fun h => by
      rw [second_at]
      exact Finset.sum_congr rfl fun g _ => by rw [act_at, hp, hV]
    rw [dif_pos (by omega)]
    exact e _
  · rw [dif_neg hn, dif_neg (by omega)]
    show (((0#32 : BitVec 32).toInt : ℝ) : EReal) = 0
    simp

variable (C : FVec Ideal S2x10240x128x2x4x64 .f32) (W : FVec Ideal S2x32x64x64 .f32) (B : FVec Ideal S2x64 .f32) (V : FVec Ideal S2x64x64 .f32)

/-- The reference's keys and values. -/
def keys (b : IVec S128x64 32) : FVec Ideal S128x512x256 .bf16 :=
  side (extractStridedSlice S128x64x128x1x4x64 ![0, 0, 0, 0, 0, 0] (gathered b C) slices_S128x64x128x2x4x64_S128x64x128x1x4x64_0_0_0_0_0_0)
    (extractStridedSlice S1x32x64x64 ![0, 0, 0, 0] W slices_S2x32x64x64_S1x32x64x64_0_0_0_0) (extractStridedSlice S1x64 ![0, 0] B slices_S2x64_S1x64_0_0)
    (extractStridedSlice S1x64x64 ![0, 0, 0] V slices_S2x64x64_S1x64x64_0_0_0)
def vals (b : IVec S128x64 32) : FVec Ideal S128x512x256 .bf16 :=
  side (extractStridedSlice S128x64x128x1x4x64 ![0, 0, 0, 1, 0, 0] (gathered b C) slices_S128x64x128x2x4x64_S128x64x128x1x4x64_0_0_0_1_0_0)
    (extractStridedSlice S1x32x64x64 ![1, 0, 0, 0] W slices_S2x32x64x64_S1x32x64x64_1_0_0_0) (extractStridedSlice S1x64 ![1, 0] B slices_S2x64_S1x64_1_0)
    (extractStridedSlice S1x64x64 ![1, 0, 0] V slices_S2x64x64_S1x64x64_1_0_0)

theorem keys_eq : keys C W B V T.w0 = compressed T C W B V 0 :=
  side_eq T _ _ _ _ C W B V 0 (fun b n t h d => by rw [← gathered_at T C b n t 0 h d]; pointwise) (fun r d g => by pointwise) (fun g => by pointwise) (fun g o => by pointwise)
theorem vals_eq : vals C W B V T.w0 = compressed T C W B V 1 :=
  side_eq T _ _ _ _ C W B V 1 (fun b n t h d => by rw [← gathered_at T C b n t 1 h d]; pointwise) (fun r d g => by pointwise) (fun g => by pointwise) (fun g o => by pointwise)

end Cert.CompressIdeal.Hand

end
-- ==== Proof.Compress.RefRun.lean ====
/- The reference's run. Its operations are taken in eight stretches, so that no term grows long: each side gathers its pages,
   makes the hidden layer, applies the activation, and goes through the second layer.
-/
module

public import proofs.«01_k».proof.Proof.Compress.Ref
public import Idealize.ShloMosaic.Lib.StableHlo.Run
public import Idealize.ShloMosaic.Lib.StableHlo.RunRead

@[expose] public section

set_option maxRecDepth 16384

noncomputable section

namespace Cert.CompressRefIdeal.Hand

open Cert.CompressRefIdeal Cert.CompressRefIdeal.Gen
open Idealize.ShloMosaic Idealize.ShloMosaic.TcCoe Idealize.SL.Sem
open Cert.CompressIdeal.Hand (gathered pre act second keys vals)
open Idealize.ShloMosaic.StableHlo

variable {F : FTy → Type} [FloatOps F]

/-- Two columns of numbers side by side. -/
def twoCols (a b : (⟨S128x64x1, .i32⟩ : BufTy).Contents (Elt F)) : (⟨S128x64x2, .i32⟩ : BufTy).Contents (Elt F) :=
  concatenate S128x64x2 2 [⟨S128x64x1, a⟩, ⟨S128x64x1, b⟩] concatenates_S128x64x1_S128x64x1_S128x64x2_d2

/-! The reference's operations, in eight stretches. -/

/-- Gathers the pages, for the keys. -/
abbrev part1 : List (HloOp τ sig (Elt F)) :=
  [ nullary main_c (constantI S_ 32 0#32),
    unary main_c main_v0 (broadcastInDim S128x64 ![] bcast_S_S128x64 : (⟨S_, .i32⟩ : BufTy).Contents (Elt F) → (⟨S128x64, .i32⟩ : BufTy).Contents (Elt F)),
    binary main_arg1 main_v0 main_v1 (cmpi .slt : (⟨S128x64, .i32⟩ : BufTy).Contents (Elt F) → (⟨S128x64, .i32⟩ : BufTy).Contents (Elt F) → (⟨S128x64, .i1⟩ : BufTy).Contents (Elt F)),
    nullary main_c_0 (constantI S_ 32 10240#32),
    unary main_c_0 main_v2 (broadcastInDim S128x64 ![] bcast_S_S128x64 : (⟨S_, .i32⟩ : BufTy).Contents (Elt F) → (⟨S128x64, .i32⟩ : BufTy).Contents (Elt F)),
    binary main_arg1 main_v2 main_v3 (addi : (⟨S128x64, .i32⟩ : BufTy).Contents (Elt F) → (⟨S128x64, .i32⟩ : BufTy).Contents (Elt F) → (⟨S128x64, .i32⟩ : BufTy).Contents (Elt F)),
    ternary main_v1 main_v3 main_arg1 main_v4 (select : (⟨S128x64, .i1⟩ : BufTy).Contents (Elt F) → (⟨S128x64, .i32⟩ : BufTy).Contents (Elt F) → (⟨S128x64, .i32⟩ : BufTy).Contents (Elt F) → (⟨S128x64, .i32⟩ : BufTy).Contents (Elt F)),
    nullary main_c_1 (constantI S_ 32 0#32),
    unary main_c_1 main_v5 (broadcastInDim S128x64 ![] bcast_S_S128x64 : (⟨S_, .i32⟩ : BufTy).Contents (Elt F) → (⟨S128x64, .i32⟩ : BufTy).Contents (Elt F)),
    unary main_v5 main_v6 (id : (⟨S128x64, .i32⟩ : BufTy).Contents (Elt F) → (⟨S128x64, .i32⟩ : BufTy).Contents (Elt F)),
    unary main_v6 main_v7 (broadcastInDim S128x64x1 ![0, 1] bcast_S128x64_S128x64x1_0_1 : (⟨S128x64, .i32⟩ : BufTy).Contents (Elt F) → (⟨S128x64x1, .i32⟩ : BufTy).Contents (Elt F)),
    unary main_v4 main_v8 (broadcastInDim S128x64x1 ![0, 1] bcast_S128x64_S128x64x1_0_1 : (⟨S128x64, .i32⟩ : BufTy).Contents (Elt F) → (⟨S128x64x1, .i32⟩ : BufTy).Contents (Elt F)),
    binary main_v7 main_v8 main_v9 (twoCols (F := F)),
    binary main_arg0 main_v9 main_v10 ((fun x i => Host.gather gather_S2x10240x128x2x4x64_S128x64x2_S128x64x128x2x4x64_2345_01_n_n_01_2_111282464 x i) : (⟨S2x10240x128x2x4x64, .f32⟩ : BufTy).Contents (Elt F) → (⟨S128x64x2, .i32⟩ : BufTy).Contents (Elt F) → (⟨S128x64x128x2x4x64, .f32⟩ : BufTy).Contents (Elt F)) ]
theorem part1_sub : (part1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub ..⟩
/-- It leaves the other buffers alone. -/
theorem keep1 (r : Ref sig .tc) (hr : r ∉ [main_c, main_v0, main_v1, main_c_0, main_v2, main_v3, main_v4, main_c_1, main_v5, main_v6, main_v7, main_v8, main_v9, main_v10]) (V : Valuation τ sig (Elt F)) : after part1 V r = V r :=
  after_unwritten [main_c, main_v0, main_v1, main_c_0, main_v2, main_v3, main_v4, main_c_1, main_v5, main_v6, main_v7, main_v8, main_v9, main_v10] rfl hr V

/-- The keys' hidden layer. -/
abbrev part2 : List (HloOp τ sig (Elt F)) :=
  [ unary main_v10 main_v11 ((extractStridedSlice S128x64x128x1x4x64 ![0, 0, 0, 0, 0, 0] · slices_S128x64x128x2x4x64_S128x64x128x1x4x64_0_0_0_0_0_0) : (⟨S128x64x128x2x4x64, .f32⟩ : BufTy).Contents (Elt F) → (⟨S128x64x128x1x4x64, .f32⟩ : BufTy).Contents (Elt F)),
    reshape main_v11 main_v12 (rfl : (.f32 : EltTy) = .f32) shapeCasts_S128x64x128x1x4x64_S128x64x128x4x64,
    reshape main_v12 main_v13 (rfl : (.f32 : EltTy) = .f32) shapeCasts_S128x64x128x4x64_S128x8192x4x64,
    unary main_arg2 main_v14 ((extractStridedSlice S1x32x64x64 ![0, 0, 0, 0] · slices_S2x32x64x64_S1x32x64x64_0_0_0_0) : (⟨S2x32x64x64, .f32⟩ : BufTy).Contents (Elt F) → (⟨S1x32x64x64, .f32⟩ : BufTy).Contents (Elt F)),
    reshape main_v14 main_v15 (rfl : (.f32 : EltTy) = .f32) shapeCasts_S1x32x64x64_S32x64x64,
    reshape main_v13 main_v16 (rfl : (.f32 : EltTy) = .f32) shapeCasts_S128x8192x4x64_S128x512x16x4x64,
    unary main_v15 main_v17 ((extractStridedSlice S16x64x64 ![0, 0, 0] · slices_S32x64x64_S16x64x64_0_0_0) : (⟨S32x64x64, .f32⟩ : BufTy).Contents (Elt F) → (⟨S16x64x64, .f32⟩ : BufTy).Contents (Elt F)),
    binary main_v16 main_v17 main_v18 ((fun l r => Host.dotGeneral dot_S128x512x16x4x64_S16x64x64_S128x512x4x64_42_10_013_2_n_n none l r) : (⟨S128x512x16x4x64, .f32⟩ : BufTy).Contents (Elt F) → (⟨S16x64x64, .f32⟩ : BufTy).Contents (Elt F) → (⟨S128x512x4x64, .f32⟩ : BufTy).Contents (Elt F)),
    unary main_v15 main_v19 ((extractStridedSlice S16x64x64 ![16, 0, 0] · slices_S32x64x64_S16x64x64_16_0_0) : (⟨S32x64x64, .f32⟩ : BufTy).Contents (Elt F) → (⟨S16x64x64, .f32⟩ : BufTy).Contents (Elt F)),
    binary main_v16 main_v19 main_v20 ((fun l r => Host.dotGeneral dot_S128x512x16x4x64_S16x64x64_S128x512x4x64_42_10_013_2_n_n none l r) : (⟨S128x512x16x4x64, .f32⟩ : BufTy).Contents (Elt F) → (⟨S16x64x64, .f32⟩ : BufTy).Contents (Elt F) → (⟨S128x512x4x64, .f32⟩ : BufTy).Contents (Elt F)),
    unary main_v18 main_v21 ((extractStridedSlice S128x511x4x64 ![0, 0, 0, 0] · slices_S128x512x4x64_S128x511x4x64_0_0_0_0) : (⟨S128x512x4x64, .f32⟩ : BufTy).Contents (Elt F) → (⟨S128x511x4x64, .f32⟩ : BufTy).Contents (Elt F)),
    unary main_v20 main_v22 ((extractStridedSlice S128x511x4x64 ![0, 1, 0, 0] · slices_S128x512x4x64_S128x511x4x64_0_1_0_0) : (⟨S128x512x4x64, .f32⟩ : BufTy).Contents (Elt F) → (⟨S128x511x4x64, .f32⟩ : BufTy).Contents (Elt F)),
    binary main_v21 main_v22 main_v23 (addf : (⟨S128x511x4x64, .f32⟩ : BufTy).Contents (Elt F) → (⟨S128x511x4x64, .f32⟩ : BufTy).Contents (Elt F) → (⟨S128x511x4x64, .f32⟩ : BufTy).Contents (Elt F)),
    unary main_arg3 main_v24 ((extractStridedSlice S1x64 ![0, 0] · slices_S2x64_S1x64_0_0) : (⟨S2x64, .f32⟩ : BufTy).Contents (Elt F) → (⟨S1x64, .f32⟩ : BufTy).Contents (Elt F)),
    reshape main_v24 main_v25 (rfl : (.f32 : EltTy) = .f32) shapeCasts_S1x64_S64,
    unary main_v25 main_v26 (broadcastInDim S1x1x1x64 ![3] bcast_S64_S1x1x1x64_3 : (⟨S64, .f32⟩ : BufTy).Contents (Elt F) → (⟨S1x1x1x64, .f32⟩ : BufTy).Contents (Elt F)),
    unary main_v26 main_v27 (broadcastInDim S128x511x4x64 ![0, 1, 2, 3] bcast_S1x1x1x64_S128x511x4x64_0_1_2_3 : (⟨S1x1x1x64, .f32⟩ : BufTy).Contents (Elt F) → (⟨S128x511x4x64, .f32⟩ : BufTy).Contents (Elt F)),
    binary main_v23 main_v27 main_v28 (addf : (⟨S128x511x4x64, .f32⟩ : BufTy).Contents (Elt F) → (⟨S128x511x4x64, .f32⟩ : BufTy).Contents (Elt F) → (⟨S128x511x4x64, .f32⟩ : BufTy).Contents (Elt F)) ]
theorem part2_sub : (part2 : List (HloOp τ sig (Elt F))).Forall fun op => op.bufs ⊆ tcRefs τ sig :=
  ⟨unary_bufs_sub .., reshape_bufs_sub .., reshape_bufs_sub .., unary_bufs_sub .., reshape_bufs_sub .., reshape_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub ..⟩
/-- It leaves the other buffers alone. -/
theorem keep2 (r : Ref sig .tc) (hr : r ∉ [main_v11, main_v12, main_v13, main_v14, main_v15, main_v16, main_v17, main_v18, main_v19, main_v20, main_v21, main_v22, main_v23, main_v24, main_v25, main_v26, main_v27, main_v28]) (V : Valuation τ sig (Elt F)) : after part2 V r = V r :=
  after_unwritten [main_v11, main_v12, main_v13, main_v14, main_v15, main_v16, main_v17, main_v18, main_v19, main_v20, main_v21, main_v22, main_v23, main_v24, main_v25, main_v26, main_v27, main_v28] rfl hr V

/-- Its activation. -/
abbrev part3 : List (HloOp τ sig (Elt F)) :=
  [ binary main_v28 main_v28 main_v29 (mulf : (⟨S128x511x4x64, .f32⟩ : BufTy).Contents (Elt F) → (⟨S128x511x4x64, .f32⟩ : BufTy).Contents (Elt F) → (⟨S128x511x4x64, .f32⟩ : BufTy).Contents (Elt F)),
    binary main_v29 main_v28 main_v30 (mulf : (⟨S128x511x4x64, .f32⟩ : BufTy).Contents (Elt F) → (⟨S128x511x4x64, .f32⟩ : BufTy).Contents (Elt F) → (⟨S128x511x4x64, .f32⟩ : BufTy).Contents (Elt F)),
    nullary main_cst (constant S_ .f32 0x3D372713#32),
    unary main_cst main_v31 (broadcastInDim S128x511x4x64 ![] bcast_S_S128x511x4x64 : (⟨S_, .f32⟩ : BufTy).Contents (Elt F) → (⟨S128x511x4x64, .f32⟩ : BufTy).Contents (Elt F)),
    binary main_v31 main_v30 main_v32 (mulf : (⟨S128x511x4x64, .f32⟩ : BufTy).Contents (Elt F) → (⟨S128x511x4x64, .f32⟩ : BufTy).Contents (Elt F) → (⟨S128x511x4x64, .f32⟩ : BufTy).Contents (Elt F)),
    binary main_v28 main_v32 main_v33 (addf : (⟨S128x511x4x64, .f32⟩ : BufTy).Contents (Elt F) → (⟨S128x511x4x64, .f32⟩ : BufTy).Contents (Elt F) → (⟨S128x511x4x64, .f32⟩ : BufTy).Contents (Elt F)),
    nullary main_cst_2 (constant S_ .f32 0x3F4C422A#32),
    unary main_cst_2 main_v34 (broadcastInDim S128x511x4x64 ![] bcast_S_S128x511x4x64 : (⟨S_, .f32⟩ : BufTy).Contents (Elt F) → (⟨S128x511x4x64, .f32⟩ : BufTy).Contents (Elt F)),
    binary main_v34 main_v33 main_v35 (mulf : (⟨S128x511x4x64, .f32⟩ : BufTy).Contents (Elt F) → (⟨S128x511x4x64, .f32⟩ : BufTy).Contents (Elt F) → (⟨S128x511x4x64, .f32⟩ : BufTy).Contents (Elt F)),
    unary main_v35 main_v36 (Host.tanh : (⟨S128x511x4x64, .f32⟩ : BufTy).Contents (Elt F) → (⟨S128x511x4x64, .f32⟩ : BufTy).Contents (Elt F)),
    nullary main_cst_3 (constant S_ .f32 0x3F800000#32),
    unary main_cst_3 main_v37 (broadcastInDim S128x511x4x64 ![] bcast_S_S128x511x4x64 : (⟨S_, .f32⟩ : BufTy).Contents (Elt F) → (⟨S128x511x4x64, .f32⟩ : BufTy).Contents (Elt F)),
    binary main_v37 main_v36 main_v38 (addf : (⟨S128x511x4x64, .f32⟩ : BufTy).Contents (Elt F) → (⟨S128x511x4x64, .f32⟩ : BufTy).Contents (Elt F) → (⟨S128x511x4x64, .f32⟩ : BufTy).Contents (Elt F)),
    nullary main_cst_4 (constant S_ .f32 0x3F000000#32),
    unary main_cst_4 main_v39 (broadcastInDim S128x511x4x64 ![] bcast_S_S128x511x4x64 : (⟨S_, .f32⟩ : BufTy).Contents (Elt F) → (⟨S128x511x4x64, .f32⟩ : BufTy).Contents (Elt F)),
    binary main_v39 main_v38 main_v40 (mulf : (⟨S128x511x4x64, .f32⟩ : BufTy).Contents (Elt F) → (⟨S128x511x4x64, .f32⟩ : BufTy).Contents (Elt F) → (⟨S128x511x4x64, .f32⟩ : BufTy).Contents (Elt F)),
    binary main_v28 main_v40 main_v41 (mulf : (⟨S128x511x4x64, .f32⟩ : BufTy).Contents (Elt F) → (⟨S128x511x4x64, .f32⟩ : BufTy).Contents (Elt F) → (⟨S128x511x4x64, .f32⟩ : BufTy).Contents (Elt F)) ]
theorem part3_sub : (part3 : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub ..⟩
/-- It leaves the other buffers alone. -/
theorem keep3 (r : Ref sig .tc) (hr : r ∉ [main_v29, main_v30, main_cst, main_v31, main_v32, main_v33, main_cst_2, main_v34, main_v35, main_v36, main_cst_3, main_v37, main_v38, main_cst_4, main_v39, main_v40, main_v41]) (V : Valuation τ sig (Elt F)) : after part3 V r = V r :=
  after_unwritten [main_v29, main_v30, main_cst, main_v31, main_v32, main_v33, main_cst_2, main_v34, main_v35, main_v36, main_cst_3, main_v37, main_v38, main_cst_4, main_v39, main_v40, main_v41] rfl hr V

/-- The keys' second layer, padded by a row and narrowed. -/
abbrev part4 : List (HloOp τ sig (Elt F)) :=
  [ unary main_arg4 main_v42 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v42 main_v43 (rfl : (.f32 : EltTy) = .f32) shapeCasts_S1x64x64_S64x64,
    binary main_v41 main_v43 main_v44 ((fun l r => Host.dotGeneral dot_S128x511x4x64_S64x64_S128x511x4x64_3_0_012_1_n_n none l r) : (⟨S128x511x4x64, .f32⟩ : BufTy).Contents (Elt F) → (⟨S64x64, .f32⟩ : BufTy).Contents (Elt F) → (⟨S128x511x4x64, .f32⟩ : BufTy).Contents (Elt F)),
    reshape main_v44 main_v45 (rfl : (.f32 : EltTy) = .f32) shapeCasts_S128x511x4x64_S128x511x256,
    nullary main_c_5 (constantI S_ 32 0#32),
    TRef.unary (TRef.of (T := ⟨S_, .i32⟩) main_c_5) (TRef.of (T := ⟨S_, .f32⟩) main_call0_v0) (sitofp .f32),
    TRef.binary (TRef.of (T := ⟨S128x511x256, .f32⟩) main_v45) (TRef.of (T := ⟨S_, .f32⟩) main_call0_v0) (TRef.of (T := ⟨S128x512x256, .f32⟩) main_v46) (fun x v => pad S128x512x256 ![0, 0, 0] ![0, 1, 0] ![0, 0, 0] x v pads_S128x511x256_S128x512x256_000_010_000 h_S_),
    unary main_v46 main_v47 ((truncf .bf16 · bitsLt_bf16_f32) : (⟨S128x512x256, .f32⟩ : BufTy).Contents (Elt F) → (⟨S128x512x256, .bf16⟩ : BufTy).Contents (Elt F)) ]
theorem part4_sub : (part4 : List (HloOp τ sig (Elt F))).Forall fun op => op.bufs ⊆ tcRefs τ sig :=
  ⟨unary_bufs_sub .., reshape_bufs_sub .., binary_bufs_sub .., reshape_bufs_sub .., nullary_bufs_sub .., unary_bufs_sub .., binary_bufs_sub .., unary_bufs_sub ..⟩
/-- It leaves the other buffers alone. -/
theorem keep4 (r : Ref sig .tc) (hr : r ∉ [main_v42, main_v43, main_v44, main_v45, main_c_5, main_call0_v0, main_v46, main_v47]) (V : Valuation τ sig (Elt F)) : after part4 V r = V r :=
  after_unwritten [main_v42, main_v43, main_v44, main_v45, main_c_5, main_call0_v0, main_v46, main_v47] rfl hr V

/-- Gathers the pages, for the values. -/
abbrev part5 : List (HloOp τ sig (Elt F)) :=
  [ nullary main_c_6 (constantI S_ 32 0#32),
    unary main_c_6 main_v48 (broadcastInDim S128x64 ![] bcast_S_S128x64 : (⟨S_, .i32⟩ : BufTy).Contents (Elt F) → (⟨S128x64, .i32⟩ : BufTy).Contents (Elt F)),
    binary main_arg1 main_v48 main_v49 (cmpi .slt : (⟨S128x64, .i32⟩ : BufTy).Contents (Elt F) → (⟨S128x64, .i32⟩ : BufTy).Contents (Elt F) → (⟨S128x64, .i1⟩ : BufTy).Contents (Elt F)),
    nullary main_c_7 (constantI S_ 32 10240#32),
    unary main_c_7 main_v50 (broadcastInDim S128x64 ![] bcast_S_S128x64 : (⟨S_, .i32⟩ : BufTy).Contents (Elt F) → (⟨S128x64, .i32⟩ : BufTy).Contents (Elt F)),
    binary main_arg1 main_v50 main_v51 (addi : (⟨S128x64, .i32⟩ : BufTy).Contents (Elt F) → (⟨S128x64, .i32⟩ : BufTy).Contents (Elt F) → (⟨S128x64, .i32⟩ : BufTy).Contents (Elt F)),
    ternary main_v49 main_v51 main_arg1 main_v52 (select : (⟨S128x64, .i1⟩ : BufTy).Contents (Elt F) → (⟨S128x64, .i32⟩ : BufTy).Contents (Elt F) → (⟨S128x64, .i32⟩ : BufTy).Contents (Elt F) → (⟨S128x64, .i32⟩ : BufTy).Contents (Elt F)),
    nullary main_c_8 (constantI S_ 32 0#32),
    unary main_c_8 main_v53 (broadcastInDim S128x64 ![] bcast_S_S128x64 : (⟨S_, .i32⟩ : BufTy).Contents (Elt F) → (⟨S128x64, .i32⟩ : BufTy).Contents (Elt F)),
    unary main_v53 main_v54 (id : (⟨S128x64, .i32⟩ : BufTy).Contents (Elt F) → (⟨S128x64, .i32⟩ : BufTy).Contents (Elt F)),
    unary main_v54 main_v55 (broadcastInDim S128x64x1 ![0, 1] bcast_S128x64_S128x64x1_0_1 : (⟨S128x64, .i32⟩ : BufTy).Contents (Elt F) → (⟨S128x64x1, .i32⟩ : BufTy).Contents (Elt F)),
    unary main_v52 main_v56 (broadcastInDim S128x64x1 ![0, 1] bcast_S128x64_S128x64x1_0_1 : (⟨S128x64, .i32⟩ : BufTy).Contents (Elt F) → (⟨S128x64x1, .i32⟩ : BufTy).Contents (Elt F)),
    binary main_v55 main_v56 main_v57 (twoCols (F := F)),
    binary main_arg0 main_v57 main_v58 ((fun x i => Host.gather gather_S2x10240x128x2x4x64_S128x64x2_S128x64x128x2x4x64_2345_01_n_n_01_2_111282464 x i) : (⟨S2x10240x128x2x4x64, .f32⟩ : BufTy).Contents (Elt F) → (⟨S128x64x2, .i32⟩ : BufTy).Contents (Elt F) → (⟨S128x64x128x2x4x64, .f32⟩ : BufTy).Contents (Elt F)) ]
theorem part5_sub : (part5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub ..⟩
/-- It leaves the other buffers alone. -/
theorem keep5 (r : Ref sig .tc) (hr : r ∉ [main_c_6, main_v48, main_v49, main_c_7, main_v50, main_v51, main_v52, main_c_8, main_v53, main_v54, main_v55, main_v56, main_v57, main_v58]) (V : Valuation τ sig (Elt F)) : after part5 V r = V r :=
  after_unwritten [main_c_6, main_v48, main_v49, main_c_7, main_v50, main_v51, main_v52, main_c_8, main_v53, main_v54, main_v55, main_v56, main_v57, main_v58] rfl hr V

/-- The values' hidden layer. -/
abbrev part6 : List (HloOp τ sig (Elt F)) :=
  [ unary main_v58 main_v59 ((extractStridedSlice S128x64x128x1x4x64 ![0, 0, 0, 1, 0, 0] · slices_S128x64x128x2x4x64_S128x64x128x1x4x64_0_0_0_1_0_0) : (⟨S128x64x128x2x4x64, .f32⟩ : BufTy).Contents (Elt F) → (⟨S128x64x128x1x4x64, .f32⟩ : BufTy).Contents (Elt F)),
    reshape main_v59 main_v60 (rfl : (.f32 : EltTy) = .f32) shapeCasts_S128x64x128x1x4x64_S128x64x128x4x64,
    reshape main_v60 main_v61 (rfl : (.f32 : EltTy) = .f32) shapeCasts_S128x64x128x4x64_S128x8192x4x64,
    unary main_arg2 main_v62 ((extractStridedSlice S1x32x64x64 ![1, 0, 0, 0] · slices_S2x32x64x64_S1x32x64x64_1_0_0_0) : (⟨S2x32x64x64, .f32⟩ : BufTy).Contents (Elt F) → (⟨S1x32x64x64, .f32⟩ : BufTy).Contents (Elt F)),
    reshape main_v62 main_v63 (rfl : (.f32 : EltTy) = .f32) shapeCasts_S1x32x64x64_S32x64x64,
    reshape main_v61 main_v64 (rfl : (.f32 : EltTy) = .f32) shapeCasts_S128x8192x4x64_S128x512x16x4x64,
    unary main_v63 main_v65 ((extractStridedSlice S16x64x64 ![0, 0, 0] · slices_S32x64x64_S16x64x64_0_0_0) : (⟨S32x64x64, .f32⟩ : BufTy).Contents (Elt F) → (⟨S16x64x64, .f32⟩ : BufTy).Contents (Elt F)),
    binary main_v64 main_v65 main_v66 ((fun l r => Host.dotGeneral dot_S128x512x16x4x64_S16x64x64_S128x512x4x64_42_10_013_2_n_n none l r) : (⟨S128x512x16x4x64, .f32⟩ : BufTy).Contents (Elt F) → (⟨S16x64x64, .f32⟩ : BufTy).Contents (Elt F) → (⟨S128x512x4x64, .f32⟩ : BufTy).Contents (Elt F)),
    unary main_v63 main_v67 ((extractStridedSlice S16x64x64 ![16, 0, 0] · slices_S32x64x64_S16x64x64_16_0_0) : (⟨S32x64x64, .f32⟩ : BufTy).Contents (Elt F) → (⟨S16x64x64, .f32⟩ : BufTy).Contents (Elt F)),
    binary main_v64 main_v67 main_v68 ((fun l r => Host.dotGeneral dot_S128x512x16x4x64_S16x64x64_S128x512x4x64_42_10_013_2_n_n none l r) : (⟨S128x512x16x4x64, .f32⟩ : BufTy).Contents (Elt F) → (⟨S16x64x64, .f32⟩ : BufTy).Contents (Elt F) → (⟨S128x512x4x64, .f32⟩ : BufTy).Contents (Elt F)),
    unary main_v66 main_v69 ((extractStridedSlice S128x511x4x64 ![0, 0, 0, 0] · slices_S128x512x4x64_S128x511x4x64_0_0_0_0) : (⟨S128x512x4x64, .f32⟩ : BufTy).Contents (Elt F) → (⟨S128x511x4x64, .f32⟩ : BufTy).Contents (Elt F)),
    unary main_v68 main_v70 ((extractStridedSlice S128x511x4x64 ![0, 1, 0, 0] · slices_S128x512x4x64_S128x511x4x64_0_1_0_0) : (⟨S128x512x4x64, .f32⟩ : BufTy).Contents (Elt F) → (⟨S128x511x4x64, .f32⟩ : BufTy).Contents (Elt F)),
    binary main_v69 main_v70 main_v71 (addf : (⟨S128x511x4x64, .f32⟩ : BufTy).Contents (Elt F) → (⟨S128x511x4x64, .f32⟩ : BufTy).Contents (Elt F) → (⟨S128x511x4x64, .f32⟩ : BufTy).Contents (Elt F)),
    unary main_arg3 main_v72 ((extractStridedSlice S1x64 ![1, 0] · slices_S2x64_S1x64_1_0) : (⟨S2x64, .f32⟩ : BufTy).Contents (Elt F) → (⟨S1x64, .f32⟩ : BufTy).Contents (Elt F)),
    reshape main_v72 main_v73 (rfl : (.f32 : EltTy) = .f32) shapeCasts_S1x64_S64,
    unary main_v73 main_v74 (broadcastInDim S1x1x1x64 ![3] bcast_S64_S1x1x1x64_3 : (⟨S64, .f32⟩ : BufTy).Contents (Elt F) → (⟨S1x1x1x64, .f32⟩ : BufTy).Contents (Elt F)),
    unary main_v74 main_v75 (broadcastInDim S128x511x4x64 ![0, 1, 2, 3] bcast_S1x1x1x64_S128x511x4x64_0_1_2_3 : (⟨S1x1x1x64, .f32⟩ : BufTy).Contents (Elt F) → (⟨S128x511x4x64, .f32⟩ : BufTy).Contents (Elt F)),
    binary main_v71 main_v75 main_v76 (addf : (⟨S128x511x4x64, .f32⟩ : BufTy).Contents (Elt F) → (⟨S128x511x4x64, .f32⟩ : BufTy).Contents (Elt F) → (⟨S128x511x4x64, .f32⟩ : BufTy).Contents (Elt F)) ]
theorem part6_sub : (part6 : List (HloOp τ sig (Elt F))).Forall fun op => op.bufs ⊆ tcRefs τ sig :=
  ⟨unary_bufs_sub .., reshape_bufs_sub .., reshape_bufs_sub .., unary_bufs_sub .., reshape_bufs_sub .., reshape_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub ..⟩
/-- It leaves the other buffers alone. -/
theorem keep6 (r : Ref sig .tc) (hr : r ∉ [main_v59, main_v60, main_v61, main_v62, main_v63, main_v64, main_v65, main_v66, main_v67, main_v68, main_v69, main_v70, main_v71, main_v72, main_v73, main_v74, main_v75, main_v76]) (V : Valuation τ sig (Elt F)) : after part6 V r = V r :=
  after_unwritten [main_v59, main_v60, main_v61, main_v62, main_v63, main_v64, main_v65, main_v66, main_v67, main_v68, main_v69, main_v70, main_v71, main_v72, main_v73, main_v74, main_v75, main_v76] rfl hr V

/-- Its activation. -/
abbrev part7 : List (HloOp τ sig (Elt F)) :=
  [ binary main_v76 main_v76 main_v77 (mulf : (⟨S128x511x4x64, .f32⟩ : BufTy).Contents (Elt F) → (⟨S128x511x4x64, .f32⟩ : BufTy).Contents (Elt F) → (⟨S128x511x4x64, .f32⟩ : BufTy).Contents (Elt F)),
    binary main_v77 main_v76 main_v78 (mulf : (⟨S128x511x4x64, .f32⟩ : BufTy).Contents (Elt F) → (⟨S128x511x4x64, .f32⟩ : BufTy).Contents (Elt F) → (⟨S128x511x4x64, .f32⟩ : BufTy).Contents (Elt F)),
    nullary main_cst_9 (constant S_ .f32 0x3D372713#32),
    unary main_cst_9 main_v79 (broadcastInDim S128x511x4x64 ![] bcast_S_S128x511x4x64 : (⟨S_, .f32⟩ : BufTy).Contents (Elt F) → (⟨S128x511x4x64, .f32⟩ : BufTy).Contents (Elt F)),
    binary main_v79 main_v78 main_v80 (mulf : (⟨S128x511x4x64, .f32⟩ : BufTy).Contents (Elt F) → (⟨S128x511x4x64, .f32⟩ : BufTy).Contents (Elt F) → (⟨S128x511x4x64, .f32⟩ : BufTy).Contents (Elt F)),
    binary main_v76 main_v80 main_v81 (addf : (⟨S128x511x4x64, .f32⟩ : BufTy).Contents (Elt F) → (⟨S128x511x4x64, .f32⟩ : BufTy).Contents (Elt F) → (⟨S128x511x4x64, .f32⟩ : BufTy).Contents (Elt F)),
    nullary main_cst_10 (constant S_ .f32 0x3F4C422A#32),
    unary main_cst_10 main_v82 (broadcastInDim S128x511x4x64 ![] bcast_S_S128x511x4x64 : (⟨S_, .f32⟩ : BufTy).Contents (Elt F) → (⟨S128x511x4x64, .f32⟩ : BufTy).Contents (Elt F)),
    binary main_v82 main_v81 main_v83 (mulf : (⟨S128x511x4x64, .f32⟩ : BufTy).Contents (Elt F) → (⟨S128x511x4x64, .f32⟩ : BufTy).Contents (Elt F) → (⟨S128x511x4x64, .f32⟩ : BufTy).Contents (Elt F)),
    unary main_v83 main_v84 (Host.tanh : (⟨S128x511x4x64, .f32⟩ : BufTy).Contents (Elt F) → (⟨S128x511x4x64, .f32⟩ : BufTy).Contents (Elt F)),
    nullary main_cst_11 (constant S_ .f32 0x3F800000#32),
    unary main_cst_11 main_v85 (broadcastInDim S128x511x4x64 ![] bcast_S_S128x511x4x64 : (⟨S_, .f32⟩ : BufTy).Contents (Elt F) → (⟨S128x511x4x64, .f32⟩ : BufTy).Contents (Elt F)),
    binary main_v85 main_v84 main_v86 (addf : (⟨S128x511x4x64, .f32⟩ : BufTy).Contents (Elt F) → (⟨S128x511x4x64, .f32⟩ : BufTy).Contents (Elt F) → (⟨S128x511x4x64, .f32⟩ : BufTy).Contents (Elt F)),
    nullary main_cst_12 (constant S_ .f32 0x3F000000#32),
    unary main_cst_12 main_v87 (broadcastInDim S128x511x4x64 ![] bcast_S_S128x511x4x64 : (⟨S_, .f32⟩ : BufTy).Contents (Elt F) → (⟨S128x511x4x64, .f32⟩ : BufTy).Contents (Elt F)),
    binary main_v87 main_v86 main_v88 (mulf : (⟨S128x511x4x64, .f32⟩ : BufTy).Contents (Elt F) → (⟨S128x511x4x64, .f32⟩ : BufTy).Contents (Elt F) → (⟨S128x511x4x64, .f32⟩ : BufTy).Contents (Elt F)),
    binary main_v76 main_v88 main_v89 (mulf : (⟨S128x511x4x64, .f32⟩ : BufTy).Contents (Elt F) → (⟨S128x511x4x64, .f32⟩ : BufTy).Contents (Elt F) → (⟨S128x511x4x64, .f32⟩ : BufTy).Contents (Elt F)) ]
theorem part7_sub : (part7 : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub ..⟩
/-- It leaves the other buffers alone. -/
theorem keep7 (r : Ref sig .tc) (hr : r ∉ [main_v77, main_v78, main_cst_9, main_v79, main_v80, main_v81, main_cst_10, main_v82, main_v83, main_v84, main_cst_11, main_v85, main_v86, main_cst_12, main_v87, main_v88, main_v89]) (V : Valuation τ sig (Elt F)) : after part7 V r = V r :=
  after_unwritten [main_v77, main_v78, main_cst_9, main_v79, main_v80, main_v81, main_cst_10, main_v82, main_v83, main_v84, main_cst_11, main_v85, main_v86, main_cst_12, main_v87, main_v88, main_v89] rfl hr V

/-- The values' second layer, padded by a row and narrowed. -/
abbrev part8 : List (HloOp τ sig (Elt F)) :=
  [ unary main_arg4 main_v90 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v90 main_v91 (rfl : (.f32 : EltTy) = .f32) shapeCasts_S1x64x64_S64x64,
    binary main_v89 main_v91 main_v92 ((fun l r => Host.dotGeneral dot_S128x511x4x64_S64x64_S128x511x4x64_3_0_012_1_n_n none l r) : (⟨S128x511x4x64, .f32⟩ : BufTy).Contents (Elt F) → (⟨S64x64, .f32⟩ : BufTy).Contents (Elt F) → (⟨S128x511x4x64, .f32⟩ : BufTy).Contents (Elt F)),
    reshape main_v92 main_v93 (rfl : (.f32 : EltTy) = .f32) shapeCasts_S128x511x4x64_S128x511x256,
    nullary main_c_13 (constantI S_ 32 0#32),
    TRef.unary (TRef.of (T := ⟨S_, .i32⟩) main_c_13) (TRef.of (T := ⟨S_, .f32⟩) main_call1_v0) (sitofp .f32),
    TRef.binary (TRef.of (T := ⟨S128x511x256, .f32⟩) main_v93) (TRef.of (T := ⟨S_, .f32⟩) main_call1_v0) (TRef.of (T := ⟨S128x512x256, .f32⟩) main_v94) (fun x v => pad S128x512x256 ![0, 0, 0] ![0, 1, 0] ![0, 0, 0] x v pads_S128x511x256_S128x512x256_000_010_000 h_S_),
    unary main_v94 main_v95 ((truncf .bf16 · bitsLt_bf16_f32) : (⟨S128x512x256, .f32⟩ : BufTy).Contents (Elt F) → (⟨S128x512x256, .bf16⟩ : BufTy).Contents (Elt F)) ]
theorem part8_sub : (part8 : List (HloOp τ sig (Elt F))).Forall fun op => op.bufs ⊆ tcRefs τ sig :=
  ⟨unary_bufs_sub .., reshape_bufs_sub .., binary_bufs_sub .., reshape_bufs_sub .., nullary_bufs_sub .., unary_bufs_sub .., binary_bufs_sub .., unary_bufs_sub ..⟩
/-- It leaves the other buffers alone. -/
theorem keep8 (r : Ref sig .tc) (hr : r ∉ [main_v90, main_v91, main_v92, main_v93, main_c_13, main_call1_v0, main_v94, main_v95]) (V : Valuation τ sig (Elt F)) : after part8 V r = V r :=
  after_unwritten [main_v90, main_v91, main_v92, main_v93, main_c_13, main_call1_v0, main_v94, main_v95] rfl hr V

/-- The last lines of a side. -/
def last (a : FVec Ideal S128x511x4x64 .f32) (V : FVec Ideal S1x64x64 .f32) : FVec Ideal S128x512x256 .bf16 :=
  truncf .bf16 (pad S128x512x256 ![0, 0, 0] ![0, 1, 0] ![0, 0, 0] (second a V)
    (sitofp .f32 (constantI S_ 32 0#32)) pads_S128x511x256_S128x512x256_000_010_000 h_S_) bitsLt_bf16_f32

/-! What each stretch leaves. -/

theorem part1_eq (V : Valuation τ sig (Elt Ideal)) : after part1 V main_v10 = gathered (V main_arg1) (V main_arg0) := by
  after_results
  rfl

theorem part2_eq (V : Valuation τ sig (Elt Ideal)) : after part2 V main_v28 = pre (extractStridedSlice S128x64x128x1x4x64 ![0, 0, 0, 0, 0, 0] (V main_v10) slices_S128x64x128x2x4x64_S128x64x128x1x4x64_0_0_0_0_0_0)
    (extractStridedSlice S1x32x64x64 ![0, 0, 0, 0] (V main_arg2) slices_S2x32x64x64_S1x32x64x64_0_0_0_0) (extractStridedSlice S1x64 ![0, 0] (V main_arg3) slices_S2x64_S1x64_0_0) := by
  after_results
  rfl

theorem part3_eq (V : Valuation τ sig (Elt Ideal)) : after part3 V main_v41 = act (V main_v28) := by
  after_results
  rfl

theorem part4_eq (V : Valuation τ sig (Elt Ideal)) : after part4 V main_v47 = last (V main_v41) (extractStridedSlice S1x64x64 ![0, 0, 0] (V main_arg4) slices_S2x64x64_S1x64x64_0_0_0) := by
  simp only [part4, TRef.binary, TRef.unary, TRef.toBuf, TRef.ofBuf, cast_eq]
  after_results
  rfl

theorem part5_eq (V : Valuation τ sig (Elt Ideal)) : after part5 V main_v58 = gathered (V main_arg1) (V main_arg0) := by
  after_results
  rfl

theorem part6_eq (V : Valuation τ sig (Elt Ideal)) : after part6 V main_v76 = pre (extractStridedSlice S128x64x128x1x4x64 ![0, 0, 0, 1, 0, 0] (V main_v58) slices_S128x64x128x2x4x64_S128x64x128x1x4x64_0_0_0_1_0_0)
    (extractStridedSlice S1x32x64x64 ![1, 0, 0, 0] (V main_arg2) slices_S2x32x64x64_S1x32x64x64_1_0_0_0) (extractStridedSlice S1x64 ![1, 0] (V main_arg3) slices_S2x64_S1x64_1_0) := by
  after_results
  rfl

theorem part7_eq (V : Valuation τ sig (Elt Ideal)) : after part7 V main_v89 = act (V main_v76) := by
  after_results
  rfl

theorem part8_eq (V : Valuation τ sig (Elt Ideal)) : after part8 V main_v95 = last (V main_v89) (extractStridedSlice S1x64x64 ![1, 0, 0] (V main_arg4) slices_S2x64x64_S1x64x64_1_0_0) := by
  simp only [part8, TRef.binary, TRef.unary, TRef.toBuf, TRef.ofBuf, cast_eq]
  after_results
  rfl

/-- The whole list. -/
abbrev ops : List (HloOp τ sig (Elt Ideal)) := part1 ++ (part2 ++ (part3 ++ (part4 ++ (part5 ++ (part6 ++ (part7 ++ part8))))))

set_option maxRecDepth 16384 in
set_option maxHeartbeats 4000000 in
theorem main_ops (c : Dev nD) : main (F := Ideal) c = seq ops := rfl
theorem no_scopedRefs : (Finset.univ.filter fun b : Ref sig .tc => b.isScoped) = ∅ := by decide
theorem no_scopedSems : (Finset.univ.filter fun sm : SemLoc sig => sm.isScoped .tc) = ∅ := by decide
theorem ops_sub : (ops : List (HloOp τ sig (Elt Ideal))).Forall fun op => op.bufs ⊆ tcRefs τ sig := by
  unfold ops
  simp only [List.forall_append]
  exact ⟨part1_sub, part2_sub, part3_sub, part4_sub, part5_sub, part6_sub, part7_sub, part8_sub⟩

theorem after_app (l k : List (HloOp τ sig (Elt Ideal))) (V : Valuation τ sig (Elt Ideal)) : after (l ++ k) V = after k (after l V) := by
  induction l generalizing V with
  | nil => rfl
  | cons op l ih => exact ih _

theorem after_ops (V : Valuation τ sig (Elt Ideal)) :
    after ops V = after part8 (after part7 (after part6 (after part5 (after part4 (after part3 (after part2 (after part1 V))))))) := by
  unfold ops
  rw [after_app, after_app, after_app, after_app, after_app, after_app, after_app]

theorem after_arg (r : Ref sig .tc) (h : r ∈ [main_arg0, main_arg1, main_arg2, main_arg3, main_arg4]) (V : Valuation τ sig (Elt Ideal)) : after ops V r = V r := by
  have k : ∀ r ∈ [main_arg0, main_arg1, main_arg2, main_arg3, main_arg4], r ∉ [main_c, main_v0, main_v1, main_c_0, main_v2, main_v3, main_v4, main_c_1, main_v5, main_v6, main_v7, main_v8, main_v9, main_v10] ∧ r ∉ [main_v11, main_v12, main_v13, main_v14, main_v15, main_v16, main_v17, main_v18, main_v19, main_v20, main_v21, main_v22, main_v23, main_v24, main_v25, main_v26, main_v27, main_v28] ∧ r ∉ [main_v29, main_v30, main_cst, main_v31, main_v32, main_v33, main_cst_2, main_v34, main_v35, main_v36, main_cst_3, main_v37, main_v38, main_cst_4, main_v39, main_v40, main_v41] ∧ r ∉ [main_v42, main_v43, main_v44, main_v45, main_c_5, main_call0_v0, main_v46, main_v47] ∧ r ∉ [main_c_6, main_v48, main_v49, main_c_7, main_v50, main_v51, main_v52, main_c_8, main_v53, main_v54, main_v55, main_v56, main_v57, main_v58] ∧ r ∉ [main_v59, main_v60, main_v61, main_v62, main_v63, main_v64, main_v65, main_v66, main_v67, main_v68, main_v69, main_v70, main_v71, main_v72, main_v73, main_v74, main_v75, main_v76] ∧ r ∉ [main_v77, main_v78, main_cst_9, main_v79, main_v80, main_v81, main_cst_10, main_v82, main_v83, main_v84, main_cst_11, main_v85, main_v86, main_cst_12, main_v87, main_v88, main_v89] ∧ r ∉ [main_v90, main_v91, main_v92, main_v93, main_c_13, main_call1_v0, main_v94, main_v95] := by decide
  obtain ⟨h1, h2, h3, h4, h5, h6, h7, h8⟩ := k r h
  rw [after_ops, keep8 r h8, keep7 r h7, keep6 r h6, keep5 r h5, keep4 r h4, keep3 r h3, keep2 r h2, keep1 r h1]

theorem after_keys (V : Valuation τ sig (Elt Ideal)) : after ops V main_v47 = keys (V main_arg0) (V main_arg2) (V main_arg3) (V main_arg4) (V main_arg1) := by
  rw [after_ops, keep8 main_v47 (by decide), keep7 main_v47 (by decide), keep6 main_v47 (by decide), keep5 main_v47 (by decide), part4_eq,
    keep3 main_arg4 (by decide), keep2 main_arg4 (by decide), keep1 main_arg4 (by decide), part3_eq, part2_eq, keep1 main_arg2 (by decide), keep1 main_arg3 (by decide), part1_eq]
  rfl

theorem after_vals (V : Valuation τ sig (Elt Ideal)) : after ops V main_v95 = vals (V main_arg0) (V main_arg2) (V main_arg3) (V main_arg4) (V main_arg1) := by
  have h0 : ∀ r ∈ [main_arg0, main_arg1, main_arg2, main_arg3, main_arg4], after part4 (after part3 (after part2 (after part1 V))) r = V r := fun r h => by
    have k : ∀ r ∈ [main_arg0, main_arg1, main_arg2, main_arg3, main_arg4], r ∉ [main_c, main_v0, main_v1, main_c_0, main_v2, main_v3, main_v4, main_c_1, main_v5, main_v6, main_v7, main_v8, main_v9, main_v10] ∧ r ∉ [main_v11, main_v12, main_v13, main_v14, main_v15, main_v16, main_v17, main_v18, main_v19, main_v20, main_v21, main_v22, main_v23, main_v24, main_v25, main_v26, main_v27, main_v28] ∧ r ∉ [main_v29, main_v30, main_cst, main_v31, main_v32, main_v33, main_cst_2, main_v34, main_v35, main_v36, main_cst_3, main_v37, main_v38, main_cst_4, main_v39, main_v40, main_v41] ∧ r ∉ [main_v42, main_v43, main_v44, main_v45, main_c_5, main_call0_v0, main_v46, main_v47] := by decide
    obtain ⟨h1, h2, h3, h4⟩ := k r h
    rw [keep4 r h4, keep3 r h3, keep2 r h2, keep1 r h1]
  rw [after_ops]
  generalize after part4 (after part3 (after part2 (after part1 V))) = U at h0 ⊢
  rw [part8_eq, keep7 main_arg4 (by decide), keep6 main_arg4 (by decide), keep5 main_arg4 (by decide), part7_eq, part6_eq, keep5 main_arg2 (by decide), keep5 main_arg3 (by decide), part5_eq,
    h0 main_arg0 (by decide), h0 main_arg1 (by decide), h0 main_arg2 (by decide), h0 main_arg3 (by decide), h0 main_arg4 (by decide)]
  rfl

/-- The reference's run: its results are the two sides, its arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v47) = keys (m ((c.tc : Thread nD τ).loc main_arg0)) (m ((c.tc : Thread nD τ).loc main_arg2))
        (m ((c.tc : Thread nD τ).loc main_arg3)) (m ((c.tc : Thread nD τ).loc main_arg4)) (m ((c.tc : Thread nD τ).loc main_arg1))
      ∧ r.2.mem ((c.tc : Thread nD τ).loc main_v95) = vals (m ((c.tc : Thread nD τ).loc main_arg0)) (m ((c.tc : Thread nD τ).loc main_arg2))
        (m ((c.tc : Thread nD τ).loc main_arg3)) (m ((c.tc : Thread nD τ).loc main_arg4)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v47).trans (after_keys _), (h c main_v95).trans (after_vals _),
      (h c main_arg0).trans (after_arg main_arg0 (by decide) _), (h c main_arg1).trans (after_arg main_arg1 (by decide) _),
      (h c main_arg2).trans (after_arg main_arg2 (by decide) _), (h c main_arg3).trans (after_arg main_arg3 (by decide) _),
      (h c main_arg4).trans (after_arg main_arg4 (by decide) _)⟩)
    (run_seq no_scopedRefs no_scopedSems defs main (fun _ => ops) main_ops (fun _ => ops_sub) m ρ)

end Cert.CompressRefIdeal.Hand

end
-- ==== Proof.Compress.Half.lean ====
/- Half of an output block at an index: the eight products are one sum over sixteen tokens, the rotated half is the next
   row's, and the last row is zero. -/
module

public import proofs.«01_k».proof.Proof.Compress.Spec
public import proofs.«01_k».proof.Proof.Compress.Rows

@[expose] public section

set_option maxRecDepth 16384

noncomputable section

namespace Cert.CompressIdeal.Hand

open Cert.CompressIdeal Cert.CompressIdeal.Gen
open Idealize.ShloMosaic Idealize.ShloMosaic.TcCoe Idealize.SL.Sem

/-- A sum over `k` indices in `m` groups of `n`. -/
theorem sum_split (m n k : ℕ) (hk : m * n = k) (f : Fin k → EReal) :
    ∑ e : Fin k, f e = ∑ i : Fin m, ∑ j : Fin n, f ⟨n * i.val + j.val, by
      have hi := i.isLt
      have hj := j.isLt
      calc n * i.val + j.val < n * i.val + n := by omega
        _ = n * (i.val + 1) := by rw [Nat.mul_add, Nat.mul_one]
        _ ≤ n * m := Nat.mul_le_mul_left n hi
        _ = k := by rw [Nat.mul_comm, hk]⟩ := by
  subst hk
  rw [← Fintype.sum_prod_type' (f := fun (i : Fin m) (j : Fin n) => f ⟨n * i.val + j.val, _⟩), ← (finProdFinEquiv (m := m) (n := n)).sum_comp f]
  refine Finset.sum_congr rfl fun p _ => congrArg f (Fin.ext ?_)
  show p.2.val + n * p.1.val = n * p.1.val + p.2.val
  omega

/-- The unit matrix's entry. -/
def eye (a b : Fin 2) : EReal := if a = b then 1 else 0

/-- Against a row of the unit matrix a sum over the other head of the pair falls away. -/
theorem sum_eye (n : ℕ) (x w : Fin 2 → Fin n → EReal) (a' : Fin 2) :
    ∑ a : Fin 2, ∑ d : Fin n, x a d * (w a d * eye a a') = ∑ d : Fin n, x a' d * w a' d := by
  rw [Finset.sum_eq_single a' (fun a _ h => Finset.sum_eq_zero fun d _ => by unfold eye; rw [if_neg h, mul_zero, mul_zero]) (fun h => absurd (Finset.mem_univ _) h)]
  exact Finset.sum_congr rfl fun d _ => by unfold eye; rw [if_pos rfl, mul_one]

/-- Element `64 a + d` of 128. -/
abbrev at2 (a : Fin 2) (d : Fin 64) : Fin 128 := ⟨64 * a.val + d.val, by omega⟩

/-- Element `128 q + l` of 256. -/
abbrev at4 (q : Fin 2) (l : Fin 128) : Fin 256 := ⟨128 * q.val + l.val, by omega⟩

section Sum
variable (X : (r : ℕ) → r < 16 → Vec Ideal S1x1x512x128 .bf16) (Wb : (j : ℕ) → j < 8 → Vec Ideal S1x1x256x256 .bf16)

/-- One of the eight products. -/
def term (j : ℕ) (n : Fin 512) (c : Fin 256) : EReal :=
  ∑ q : Fin 2, ∑ l : Fin 128, X ((2 * j + q.val) % 16) (by omega) (ix4 (0 : Fin 1) (0 : Fin 1) n l) * Wb (j % 8) (by omega) (ix4 (0 : Fin 1) (0 : Fin 1) (at4 q l) c)

/-- Two blocks of rows side by side. -/
def pair (a b : Vec Ideal S1x1x512x128 .bf16) : FVec Ideal S512x256 .bf16 :=
  concatenate S512x256 1 [⟨S512x128, shapeCast S512x128 a shapeCasts_S1x1x512x128_S512x128⟩,
        ⟨S512x128, shapeCast S512x128 b shapeCasts_S1x1x512x128_S512x128⟩] concatenates_S512x128_S512x128_S512x256_d1

theorem pair_left (a b : Vec Ideal S1x1x512x128 .bf16) (n : Fin 512) (l : Fin 128) (h) :
    pair a b (ix2 n (⟨128 * (0 : Fin 2).val + l.val, h⟩ : Fin 256)) = a (ix4 (0 : Fin 1) (0 : Fin 1) n l) := by
  unfold pair
  pointwise

theorem pair_right (a b : Vec Ideal S1x1x512x128 .bf16) (n : Fin 512) (l : Fin 128) (h) :
    pair a b (ix2 n (⟨128 * (1 : Fin 2).val + l.val, h⟩ : Fin 256)) = b (ix4 (0 : Fin 1) (0 : Fin 1) n l) := by
  unfold pair
  pointwise

theorem ySum_succ (N : ℕ) (n : Fin 512) (c : Fin 256) : ySum (F := Ideal) X Wb (N + 1) (ix2 n c) = ySum (F := Ideal) X Wb N (ix2 n c) + term X Wb N n c := by
  have h : ySum (F := Ideal) X Wb (N + 1) (ix2 n c) = ySum (F := Ideal) X Wb N (ix2 n c)
      + ∑ e : Fin 256, pair (X (2 * N % 16) (by omega)) (X ((2 * N + 1) % 16) (by omega)) (ix2 n e) * Wb (N % 8) (by omega) (ix4 (0 : Fin 1) (0 : Fin 1) e c) := by
    rw [ySum]
    show addf (ySum (F := Ideal) X Wb N) (matmul dot_S512x256_S256x256_S512x256_1_0_0_1_n_n none (pair _ _) (shapeCast S256x256 (Wb (N % 8) _) shapeCasts_S1x1x256x256_S256x256) (constant S512x256 .f32 0x00000000#32)) (ix2 n c) = _
    generalize pair (X (2 * N % 16) (by omega)) (X ((2 * N + 1) % 16) (by omega)) = p
    generalize ySum (F := Ideal) X Wb N = y
    pointwise [dot_S512x256_S256x256_S512x256_1_0_0_1_n_n]
  rw [h, sum_split 2 128 256 rfl]
  unfold term
  rw [Fin.sum_univ_two, Fin.sum_univ_two]
  refine congrArg₂ (· + ·) rfl (congrArg₂ (· + ·) ?_ ?_)
  · exact Finset.sum_congr rfl fun l _ => congrArg (· * _) (pair_left _ _ n l _)
  · exact Finset.sum_congr rfl fun l _ => congrArg (· * _) (pair_right _ _ n l _)

theorem ySum_eight (n : Fin 512) (c : Fin 256) : ySum (F := Ideal) X Wb 8 (ix2 n c) = ∑ j : Fin 8, term X Wb j.val n c := by
  have h0 : ySum (F := Ideal) X Wb 0 (ix2 n c) = 0 := by rw [ySum]; pointwise
  rw [ySum_succ, ySum_succ, ySum_succ, ySum_succ, ySum_succ, ySum_succ, ySum_succ, ySum_succ, h0, zero_add, Fin.sum_univ_eight]
  rfl

/-- The first layer's sum, where each block of weights is the same weights for both heads of the pair. -/
theorem ySum_at (t : Fin 16 → Fin 2 → Fin 64 → EReal) (w : Fin 16 → Fin 64 → EReal) (n : Fin 512) (c : Fin 256) (a' : Fin 2)
    (hX : ∀ (r : ℕ) (hr : r < 16) a d, X r hr (ix4 (0 : Fin 1) (0 : Fin 1) n (at2 a d)) = t ⟨r, hr⟩ a d)
    (hW : ∀ (j : ℕ) (hj : j < 8) (q a : Fin 2) (d : Fin 64), Wb j hj (ix4 (0 : Fin 1) (0 : Fin 1) (at4 q (at2 a d)) c) = w ⟨2 * j + q.val, by omega⟩ d * eye a a') :
    ySum (F := Ideal) X Wb 8 (ix2 n c) = ∑ r : Fin 16, ∑ d : Fin 64, t r a' d * w r d := by
  rw [ySum_eight, sum_split 8 2 16 rfl (fun r => ∑ d : Fin 64, t r a' d * w r d)]
  refine Finset.sum_congr rfl fun j _ => Finset.sum_congr rfl fun q _ => ?_
  rw [sum_split 2 64 128 rfl]
  have hr : (2 * j.val + q.val) % 16 = 2 * j.val + q.val := Nat.mod_eq_of_lt (by omega)
  have hj : j.val % 8 = j.val := Nat.mod_eq_of_lt j.isLt
  refine Eq.trans ?_ (sum_eye 64 (t ⟨2 * j.val + q.val, by omega⟩) (fun _ d => w ⟨2 * j.val + q.val, by omega⟩ d) a')
  refine Finset.sum_congr rfl fun a _ => Finset.sum_congr rfl fun d _ => ?_
  refine congrArg₂ (· * ·) ((hX _ _ a d).trans ?_) ((hW _ _ q a d).trans ?_)
  · exact congrArg (fun r => t r a d) (Fin.ext hr)
  · exact congrArg (fun r => w r d * eye a a') (Fin.ext (by show 2 * (j.val % 8) + q.val = 2 * j.val + q.val; rw [hj]))
end Sum

/-- The hidden layer at a row that has a next one. -/
theorem preAct_at (y : FVec Ideal S512x256 .f32) (b : Vec Ideal S1x1x128 .f32) (n : Fin 512) (hn : n.val < 511) (k : Fin 128) :
    preAct (F := Ideal) y b (ix2 n k) = y (ix2 n (⟨128 * (0 : Fin 2).val + k.val, by show 128 * 0 + k.val < 256; omega⟩ : Fin 256))
      + y (ix2 (⟨n.val + 1, by omega⟩ : Fin 512) (⟨128 * (1 : Fin 2).val + k.val, by show 128 * 1 + k.val < 256; omega⟩ : Fin 256)) + b (ix3 (0 : Fin 1) (0 : Fin 1) k) := by
  have h : dynamicRotate 0 511#32 none (extractStridedSlice S512x128 ![0, 128] y slices_S512x256_o0_128_S512x128) rotates_S512x128_d0 (ix2 n k)
      = extractStridedSlice S512x128 ![0, 128] y slices_S512x256_o0_128_S512x128 (ix2 (⟨n.val + 1, by omega⟩ : Fin 512) k) := by
    pointwise
    refine congrArg y (funext fun a => Fin.ext ?_)
    match a with
    | ⟨0, _⟩ => show (n.val + 512 - 511) % 512 = n.val + 1; omega
    | ⟨1, _⟩ => rfl
  have e : preAct (F := Ideal) y b (ix2 n k) = extractStridedSlice S512x128 ![0, 0] y slices_S512x256_o0_0_S512x128 (ix2 n k)
      + extractStridedSlice S512x128 ![0, 128] y slices_S512x256_o0_128_S512x128 (ix2 (⟨n.val + 1, by omega⟩ : Fin 512) k)
      + broadcastTo S512x128 (shapeCast S1x128 b shapeCasts_S1x1x128_S1x128) broadcasts_S1x128_S512x128 (ix2 n k) := by
    rw [← h]; rfl
  rw [e]
  refine congrArg₂ (· + ·) (congrArg₂ (· + ·) ?_ ?_) ?_
  · pointwise
    blk_ext
  · pointwise
    blk_ext
  · pointwise

/-- The activation. -/
theorem gate_at (p : FVec Ideal S512x128 .f32) (n : Fin 512) (k : Fin 128) :
    p (ix2 n k) * gate (F := Ideal) p (ix2 n k) = gelu (p (ix2 n k)) := by
  unfold gelu
  have e : p (ix2 n k) * (p (ix2 n k) * p (ix2 n k)) = p (ix2 n k) * p (ix2 n k) * p (ix2 n k) := (mul_assoc _ _ _).symm
  rw [← e]
  pointwise [gate]

/-- The row number compared. -/
theorem slt_row : ∀ n : Fin 512, (BitVec.ofNat 32 n.val).slt 511#32 = decide (n.val < 511) := by decide +kernel

/-- A half of an output block, at a row. -/
theorem pay2_at (p g : FVec Ideal S512x128 .f32) (V : Vec Ideal S1x128x128 .bf16) (n : Fin 512) (c : Fin 128) :
    k0_pay2 (F := Ideal) (iota .tc S512x1 32 [0] iota_S512x1_d0_w32) p g V (ix3 (0 : Fin 1) n c)
      = if n.val < 511 then ∑ k : Fin 128, p (ix2 n k) * g (ix2 n k) * V (ix3 (0 : Fin 1) k c) else 0 := by
  have h : k0_pay2 (F := Ideal) (iota .tc S512x1 32 [0] iota_S512x1_d0_w32) p g V (ix3 (0 : Fin 1) n c)
      = Scalar.select (IntOp.cmpi .slt (BitVec.ofNat 32 n.val) 511#32) (∑ k : Fin 128, p (ix2 n k) * g (ix2 n k) * V (ix3 (0 : Fin 1) k c)) 0 := by
    pointwise [k0_pay2, dot_S512x128_S128x128_S512x128_1_0_0_1_n_n]
  rw [h, show IntOp.cmpi .slt (BitVec.ofNat 32 n.val) 511#32 = BitVec.ofBool ((BitVec.ofNat 32 n.val).slt 511#32) from rfl, slt_row]
  by_cases hn : n.val < 511
  · rw [if_pos hn, decide_eq_true hn]; rfl
  · rw [if_neg hn, decide_eq_false hn]; rfl

end Cert.CompressIdeal.Hand

end
-- ==== Proof.Compress.Host.lean ====
/- The call's weights, as the host part prepares them: the two layers' weights stand block diagonal, once for each of a pair
   of heads. -/
module

public import proofs.«01_k».proof.Proof.Compress.Half
public import proofs.«01_k».proof.Proof.Compress.Dats
public import Idealize.ShloMosaic.Lib.StableHlo.Run
public import Idealize.ShloMosaic.Lib.StableHlo.RunRead

@[expose] public section

set_option maxRecDepth 16384

noncomputable section

namespace Cert.CompressIdeal.Hand

open Cert.CompressIdeal Cert.CompressIdeal.Gen
open Idealize.ShloMosaic Idealize.ShloMosaic.TcCoe Idealize.SL.Sem
open Idealize.ShloMosaic.StableHlo

/-- The 2 × 2 unit matrix as the host part makes it. -/
def eyeArr : FVec Ideal S2x2 .f32 :=
  uitofp .f32 (cmpi .eq (addi (iotaInDim S2x2 32 0) (broadcastInDim S2x2 ![] bcast_S_S2x2 (constantI S_ 32 0#32))) (iotaInDim S2x2 32 1))

theorem eyeArr_at (a b : Fin 2) : eyeArr (ix2 a b) = eye a b := by
  have h : eyeArr (ix2 a b) = (((IntOp.cmpi .eq (BitVec.ofNat 32 a.val + 0#32) (BitVec.ofNat 32 b.val)).toNat : ℝ) : EReal) := rfl
  have h1 : ∀ a b : Fin 2, (IntOp.cmpi .eq (BitVec.ofNat 32 a.val + 0#32) (BitVec.ofNat 32 b.val)).toNat = if a = b then 1 else 0 := by decide
  rw [h, h1]
  unfold eye
  split
  · simp
  · simp

/-- The cache with each page's tokens last. -/
def tokensLast (C : FVec Ideal S2x10240x128x2x4x64 .f32) : FVec Ideal S2x10240x512x128 .f32 :=
  shapeCast _ (transpose S2x10240x2x4x64x128 [0, 1, 3, 4, 5, 2] C transposes_S2x10240x128x2x4x64_S2x10240x2x4x64x128_0_1_3_4_5_2) shapeCasts_S2x10240x2x4x64x128_S2x10240x512x128

theorem tokensLast_at (C : FVec Ideal S2x10240x128x2x4x64 .f32) (z : Fin 2) (n : Fin 10240) (e : Fin 512) (t : Fin 128) (v : Fin 2) (h : Fin 4) (d : Fin 64)
    (he : e.val = 256 * v.val + 64 * h.val + d.val) : tokensLast C (ix4 z n e t) = C (ix6 z n t v h d) := by
  unfold tokensLast
  pointwise
  blk_ext

/-- The first layer's weights, block diagonal in the heads of a pair. -/
def weights1 (W : FVec Ideal S2x32x64x64 .f32) : FVec Ideal S2x8x256x256 .bf16 :=
  truncf .bf16 (shapeCast _ (mulf (broadcastInDim S2x8x2x2x64x2x2x64 ![0, 1, 2, 3, 4, 5, 6, 7] bcast_S2x8x2x1x64x2x1x64_S2x8x2x2x64x2x2x64_0_1_2_3_4_5_6_7
      (broadcastInDim S2x8x2x1x64x2x1x64 ![0, 1, 2, 4, 5, 7] bcast_S2x8x2x64x2x64_S2x8x2x1x64x2x1x64_0_1_2_4_5_7
        (transpose S2x8x2x64x2x64 [0, 2, 3, 4, 1, 5] (shapeCast S2x2x8x2x64x64 W shapeCasts_S2x32x64x64_S2x2x8x2x64x64) transposes_S2x2x8x2x64x64_S2x8x2x64x2x64_0_2_3_4_1_5)))
    (broadcastInDim S2x8x2x2x64x2x2x64 ![0, 1, 2, 3, 4, 5, 6, 7] bcast_S1x1x1x2x1x1x2x1_S2x8x2x2x64x2x2x64_0_1_2_3_4_5_6_7
      (broadcastInDim S1x1x1x2x1x1x2x1 ![3, 6] bcast_S2x2_S1x1x1x2x1x1x2x1_3_6 eyeArr))) shapeCasts_S2x8x2x2x64x2x2x64_S2x8x256x256) bitsLt_bf16_f32

theorem weights1_at (W : FVec Ideal S2x32x64x64 .f32) (v : Fin 2) (j : Fin 8) (q a s a' : Fin 2) (d g : Fin 64) (r : Fin 32)
    (hr : r.val = 16 * s.val + (2 * j.val + q.val)) :
    weights1 W (ix4 v j (at4 q (at2 a d)) (at4 s (at2 a' g))) = W (ix4 v r d g) * eye a a' := by
  rw [← eyeArr_at]
  unfold weights1
  pointwise
  refine congrArg₂ (· * ·) ?_ ?_
  · blk_ext
  · blk_ext

/-- The bias, once for each head of a pair. -/
def bias2 (B : FVec Ideal S2x64 .f32) : FVec Ideal S2x1x128 .f32 :=
  shapeCast _ (shapeCast S2x128 (broadcastInDim S1x2x2x64 ![0, 1, 2, 3] bcast_S1x2x1x64_S1x2x2x64_0_1_2_3 (shapeCast S1x2x1x64 B shapeCasts_S2x64_S1x2x1x64)) shapeCasts_S1x2x2x64_S2x128) shapeCasts_S2x128_S2x1x128

theorem bias2_at (B : FVec Ideal S2x64 .f32) (v a : Fin 2) (g : Fin 64) : bias2 B (ix3 v (0 : Fin 1) (at2 a g)) = B (ix2 v g) := by
  unfold bias2
  pointwise
  blk_ext

/-- The second layer's weights, block diagonal in the heads of a pair. -/
def weights2 (V : FVec Ideal S2x64x64 .f32) : FVec Ideal S2x128x128 .bf16 :=
  truncf .bf16 (shapeCast _ (mulf (broadcastInDim S2x2x64x2x64 ![0, 1, 2, 3, 4] bcast_S2x1x64x1x64_S2x2x64x2x64_0_1_2_3_4
      (broadcastInDim S2x1x64x1x64 ![0, 2, 4] bcast_S2x64x64_S2x1x64x1x64_0_2_4 V))
    (broadcastInDim S2x2x64x2x64 ![0, 1, 2, 3, 4] bcast_S1x2x1x2x1_S2x2x64x2x64_0_1_2_3_4
      (broadcastInDim S1x2x1x2x1 ![1, 3] bcast_S2x2_S1x2x1x2x1_1_3 eyeArr))) shapeCasts_S2x2x64x2x64_S2x128x128) bitsLt_bf16_f32

theorem weights2_at (V : FVec Ideal S2x64x64 .f32) (v a a' : Fin 2) (g o : Fin 64) :
    weights2 V (ix3 v (at2 a g) (at2 a' o)) = V (ix3 v g o) * eye a a' := by
  rw [← eyeArr_at]
  unfold weights2
  pointwise
  refine congrArg₂ (· * ·) ?_ ?_
  · blk_ext
  · blk_ext

variable (m : (ℓ : Loc nD τ sig) → Buf (Elt Ideal) ℓ)

/-! What the call's arrays hold when it starts. -/

theorem hv1_eq (c : Dev nD) : hv1 m c = tokensLast (m ((c : Thread nD τ).loc main_arg0)) := by
  unfold tokensLast
  show StableHlo.after hostOps0 (fun b => m (c, b)) main_v1 = _
  after_results
  rfl

theorem hvW_eq (c : Dev nD) : hvW m c = weights1 (m ((c : Thread nD τ).loc main_arg2)) := by
  unfold weights1 eyeArr
  show StableHlo.after hostOps0 (fun b => m (c, b)) main_v26 = _
  after_results
  rfl

theorem hvB_eq (c : Dev nD) : hvB m c = bias2 (m ((c : Thread nD τ).loc main_arg3)) := by
  unfold bias2
  show StableHlo.after hostOps0 (fun b => m (c, b)) main_v19 = _
  after_results
  rfl

theorem hvV_eq (c : Dev nD) : hvV m c = weights2 (m ((c : Thread nD τ).loc main_arg4)) := by
  unfold weights2 eyeArr
  show StableHlo.after hostOps0 (fun b => m (c, b)) main_v27 = _
  after_results
  rfl

end Cert.CompressIdeal.Hand

end
-- ==== Proof.Compress.Value.lean ====
/- The call's two outputs are the compressed keys and values: what a sequence's last grid point stores, and the whole arrays
   after the run. -/
module

public import proofs.«01_k».proof.Proof.Compress.Host
public import Idealize.ShloMosaic.Lib.Claim

@[expose] public section

set_option maxRecDepth 16384

noncomputable section

namespace Cert.CompressIdeal.Hand

open Cert.CompressIdeal Cert.CompressIdeal.Gen
open Idealize.ShloMosaic Idealize.ShloMosaic.TcCoe Idealize.SL.Sem
open Idealize.ShloMosaic.Pipeline (Dat)

variable (T : Tables) (m : (ℓ : Loc nD τ sig) → Buf (Elt Ideal) ℓ)

/-- The arguments. -/
abbrev cacheOf (c : Dev nD) : FVec Ideal S2x10240x128x2x4x64 .f32 := m ((c : Thread nD τ).loc main_arg0)
abbrev w1Of (c : Dev nD) : FVec Ideal S2x32x64x64 .f32 := m ((c : Thread nD τ).loc main_arg2)
abbrev b1Of (c : Dev nD) : FVec Ideal S2x64 .f32 := m ((c : Thread nD τ).loc main_arg3)
abbrev w2Of (c : Dev nD) : FVec Ideal S2x64x64 .f32 := m ((c : Thread nD τ).loc main_arg4)

/-- Head `a` of pair `p`. -/
abbrev headOf (p a : Fin 2) : Fin 4 := ⟨2 * p.val + a.val, by omega⟩

/-- A row of sixteen tokens, at one of them. -/
theorem row_at (c : Dev nD) (v p : Fin 2) (b : Fin 128) (n : Fin 512) (r : ℕ) (hr : r < 16) (a : Fin 2) (d : Fin 64) (hk : 2 * v.val + p.val < 4) :
    rowX (want T (hv1 m c) b) r (2 * v.val + p.val) hr hk (ix4 (0 : Fin 1) (0 : Fin 1) n (at2 a d))
      = token T (cacheOf m c) v b n ⟨r, hr⟩ (headOf p a) d := by
  refine Eq.trans (b := hv1 m c (ix4 (0 : Fin 2) (page T b ⟨n.val / 8, by omega⟩) (⟨128 * (2 * v.val + p.val) + (64 * a.val + d.val), by omega⟩ : Fin 512)
    (⟨16 * (n.val % 8) + r, by omega⟩ : Fin 128))) rfl ?_
  rw [hv1_eq]
  exact tokensLast_at _ _ _ _ _ v (headOf p a) d
    (by show 128 * (2 * v.val + p.val) + (64 * a.val + d.val) = 256 * v.val + 64 * (2 * p.val + a.val) + d.val; omega)

/-- The first layer before its bias, at half `s` of its weights. -/
theorem first_at (c : Dev nD) (v p s : Fin 2) (b : Fin 128) (n : Fin 512) (a : Fin 2) (g : Fin 64) :
    ySum (F := Ideal) (fun r hr => rowX (want T (hv1 m c) b) r (2 * v.val + p.val) hr (by omega)) (fun j hj => blkW (hvW m c) v.val j v.isLt hj) 8
        (ix2 n (at4 s (at2 a g)))
      = proj T (cacheOf m c) (w1Of m c) v s b n (headOf p a) g :=
  ySum_at _ _ (fun r a d => token T (cacheOf m c) v b n r (headOf p a) d) (fun r d => w1Of m c (ix4 v (⟨16 * s.val + r.val, by omega⟩ : Fin 32) d g)) n
    (at4 s (at2 a g)) a (fun r hr a d => row_at T m c v p b n r hr a d _)
    (fun j hj q a' d => (congrFun (hvW_eq m c) _).trans (weights1_at (w1Of m c) v ⟨j, hj⟩ q a' s a d g _ rfl))

/-- The hidden layer. -/
theorem hidden_at (c : Dev nD) (v p : Fin 2) (b : Fin 128) (n : Fin 512) (hn : n.val < 511) (a : Fin 2) (g : Fin 64) :
    preAct (F := Ideal) (ySum (F := Ideal) (fun r hr => rowX (want T (hv1 m c) b) r (2 * v.val + p.val) hr (by omega)) (fun j hj => blkW (hvW m c) v.val j v.isLt hj) 8)
        (blkB (hvB m c) v.val v.isLt) (ix2 n (at2 a g))
      = hid T (cacheOf m c) (w1Of m c) (b1Of m c) v b ⟨n.val, hn⟩ (headOf p a) g := by
  refine (preAct_at _ _ n hn (at2 a g)).trans ?_
  unfold hid
  refine congrArg₂ (· + ·) (congrArg₂ (· + ·) ?_ ?_) ?_
  · exact first_at T m c v p 0 b n a g
  · exact first_at T m c v p 1 b ⟨n.val + 1, by omega⟩ a g
  · exact (congrFun (hvB_eq m c) _).trans (bias2_at (b1Of m c) v a g)

/-- A half of an output block. -/
theorem half_at (c : Dev nD) (v p : Fin 2) (b : Fin 128) (n : Fin 512) (a : Fin 2) (o : Fin 64) :
    halfOf (hvW m c) (hvB m c) (hvV m c) (want T (hv1 m c) b) v.val p.val v.isLt p.isLt (ix3 (0 : Fin 1) n (at2 a o))
      = outAt T (cacheOf m c) (w1Of m c) (b1Of m c) (w2Of m c) v b n (headOf p a) o := by
  unfold halfOf half
  refine (pay2_at _ _ _ n (at2 a o)).trans ?_
  unfold outAt
  by_cases hn : n.val < 511
  · rw [if_pos hn, dif_pos hn, sum_split 2 64 128 rfl]
    refine Eq.trans ?_ (sum_eye 64 (fun a g => gelu (hid T (cacheOf m c) (w1Of m c) (b1Of m c) v b ⟨n.val, hn⟩ (headOf p a) g)) (fun _ g => w2Of m c (ix3 v g o)) a)
    refine Finset.sum_congr rfl fun a' _ => Finset.sum_congr rfl fun g _ => congrArg₂ (· * ·) ?_ ?_
    · exact (gate_at _ n (at2 a' g)).trans (congrArg gelu (hidden_at T m c v p b n hn a' g))
    · exact (congrFun (hvV_eq m c) _).trans (weights2_at (w2Of m c) v a' a g o)
  · rw [if_neg hn, dif_neg hn]

/-- An output block. -/
theorem out_at (c : Dev nD) (v : Fin 2) (b : Fin 128) (n : Fin 512) (e : Fin 256) :
    outOf T m c v.val v.isLt b (ix3 (0 : Fin 1) n e) = compressed T (cacheOf m c) (w1Of m c) (b1Of m c) (w2Of m c) v (ix3 b n e) := by
  show outOf T m c v.val v.isLt b (ix3 (0 : Fin 1) n e)
    = outAt T (cacheOf m c) (w1Of m c) (b1Of m c) (w2Of m c) v b n (⟨e.val / 64, by omega⟩ : Fin 4) (⟨e.val % 64, by omega⟩ : Fin 64)
  unfold outOf outBlk
  by_cases h : e.val < 128
  · refine (dif_pos h).trans ?_
    have e1 : (⟨e.val, h⟩ : Fin 128) = at2 (⟨e.val / 64, by omega⟩ : Fin 2) (⟨e.val % 64, by omega⟩ : Fin 64) :=
      Fin.ext (by show e.val = 64 * (e.val / 64) + e.val % 64; omega)
    refine (congrArg (fun x => halfOf (hvW m c) (hvB m c) (hvV m c) (want T (hv1 m c) b) v.val 0 v.isLt (by decide) (ix3 (0 : Fin 1) n x)) e1).trans ?_
    refine (half_at T m c v 0 b n _ _).trans (congrArg (fun h => outAt T (cacheOf m c) (w1Of m c) (b1Of m c) (w2Of m c) v b n h _) (Fin.ext ?_))
    show 2 * 0 + e.val / 64 = e.val / 64
    omega
  · refine (dif_neg h).trans ?_
    have e1 : (⟨e.val - 128, by omega⟩ : Fin 128) = at2 (⟨e.val / 64 - 2, by omega⟩ : Fin 2) (⟨e.val % 64, by omega⟩ : Fin 64) :=
      Fin.ext (by show e.val - 128 = 64 * (e.val / 64 - 2) + e.val % 64; omega)
    refine (congrArg (fun x => halfOf (hvW m c) (hvB m c) (hvV m c) (want T (hv1 m c) b) v.val 1 v.isLt (by decide) (ix3 (0 : Fin 1) n x)) e1).trans ?_
    refine (half_at T m c v 1 b n _ _).trans (congrArg (fun h => outAt T (cacheOf m c) (w1Of m c) (b1Of m c) (w2Of m c) v b n h _) (Fin.ext ?_))
    show 2 * 1 + (e.val / 64 - 2) = e.val / 64
    omega

/-! The two outputs' windows: a block is one sequence. -/

theorem tr19_eq (i : grid0.Coords) : cc0_transform_19 i = ![(i 0).val, 0, 0] := by
  have h : ∀ b : Fin 128, (BitVec.ofNat 32 b.val).toNat = b.val := by decide
  funext a
  match a with
  | ⟨0, _⟩ => exact h (i 0)
  | ⟨1, _⟩ => rfl
  | ⟨2, _⟩ => rfl

theorem tr20_eq (i : grid0.Coords) : cc0_transform_20 i = ![(i 0).val, 0, 0] := by
  have h : ∀ b : Fin 128, (BitVec.ofNat 32 b.val).toNat = b.val := by decide
  funext a
  match a with
  | ⟨0, _⟩ => exact h (i 0)
  | ⟨1, _⟩ => rfl
  | ⟨2, _⟩ => rfl

/-- A sequence's block in the whole array. -/
theorem block_emb {o : Fin 3 → ℕ} (b : Fin 128) (ho : o = ![b.val, 0, 0]) (h : ∀ a, (o a + 1) * S1x512x256.size a ≤ S128x512x256.size a)
    (n : Fin 512) (e : Fin 256) :
    (Rect.block (s := S128x512x256) S1x512x256.size o h).emb (ix3 (0 : Fin 1) n e) = ix3 b n e := by
  subst ho
  refine funext fun a => Fin.ext ?_
  match a with
  | ⟨0, _⟩ => show b.val * 1 + 1 * 0 = b.val; omega
  | ⟨1, _⟩ => show 0 * 512 + 1 * n.val = n.val; omega
  | ⟨2, _⟩ => show 0 * 256 + 1 * e.val = e.val; omega

/-- A table of zeros: the outputs' windows are the same at any table. -/
def zeroTable : Tables := ⟨fun _ => 0#32, fun _ => by decide⟩

theorem win19_eq : (cfgA Ideal T).win (19 : Fin 21) = (cfgA Ideal zeroTable).win (19 : Fin 21) := rfl
theorem win20_eq : (cfgA Ideal T).win (20 : Fin 21) = (cfgA Ideal zeroTable).win (20 : Fin 21) := rfl
theorem win19_covers : ((cfgA Ideal zeroTable).win (19 : Fin 21)).Covers := by decide +kernel
theorem win20_covers : ((cfgA Ideal zeroTable).win (20 : Fin 21)).Covers := by decide +kernel

/-- The keys after the run. -/
theorem final_keys (c : Dev nD) :
    (dats T m 0 c).arrAt (19 : Fin 21) (cfgA Ideal T).N = compressed T (cacheOf m c) (w1Of m c) (b1Of m c) (w2Of m c) 0 := by
  refine (dats T m 0 c).arrAt_eq_of_covers (19 : Fin 21) _ (by rw [win19_eq]; exact win19_covers) fun t _ y => ?_
  obtain ⟨n, e, rfl⟩ : ∃ (n : Fin 512) (e : Fin 256), y = ix3 (0 : Fin 1) n e :=
    ⟨y 1, y 2, funext fun a => by match a with | ⟨0, _⟩ => exact Subsingleton.elim (α := Fin 1) _ _ | ⟨1, _⟩ => rfl | ⟨2, _⟩ => rfl⟩
  have h := block_emb (crd T t 0) (tr19_eq (grid0.coords t)) (Facts₀.hinb0_19 (grid0.coords t)) n e
  refine (out_at T m c 0 (crd T t 0) n e).trans ?_
  exact congrArg (compressed T (cacheOf m c) (w1Of m c) (b1Of m c) (w2Of m c) 0) h.symm

/-- The values after the run. -/
theorem final_vals (c : Dev nD) :
    (dats T m 0 c).arrAt (20 : Fin 21) (cfgA Ideal T).N = compressed T (cacheOf m c) (w1Of m c) (b1Of m c) (w2Of m c) 1 := by
  refine (dats T m 0 c).arrAt_eq_of_covers (20 : Fin 21) _ (by rw [win20_eq]; exact win20_covers) fun t _ y => ?_
  obtain ⟨n, e, rfl⟩ : ∃ (n : Fin 512) (e : Fin 256), y = ix3 (0 : Fin 1) n e :=
    ⟨y 1, y 2, funext fun a => by match a with | ⟨0, _⟩ => exact Subsingleton.elim (α := Fin 1) _ _ | ⟨1, _⟩ => rfl | ⟨2, _⟩ => rfl⟩
  have h := block_emb (crd T t 0) (tr20_eq (grid0.coords t)) (Facts₀.hinb0_20 (grid0.coords t)) n e
  refine (out_at T m c 1 (crd T t 0) n e).trans ?_
  exact congrArg (compressed T (cacheOf m c) (w1Of m c) (b1Of m c) (w2Of m c) 1) h.symm

end Cert.CompressIdeal.Hand

end
-- ==== Proof.lean ====
/- The proof of the certificate. -/
module

public import proofs.«01_k».proof.Proof.Gen.NsaInRefIdeal.Run
public import proofs.«01_k».proof.Proof.NsaIn.Tail
public import proofs.«01_k».proof.Proof.SwaIn.Tail
public import proofs.«01_k».proof.Proof.OutLn.Array
public import proofs.«01_k».proof.Proof.Experts.Frame
public import proofs.«01_k».proof.Proof.Experts.Value
public import proofs.«01_k».proof.Proof.Compress.Frame
public import proofs.«01_k».proof.Proof.Compress.RefRun
public import proofs.«01_k».proof.Proof.Compress.Value
public import proofs.«01_k».proof.Defs
public import proofs.«01_k».proof.Proof.Gen.NsaIn
public import proofs.«01_k».proof.Proof.Gen.NsaIn.Skeleton
public import proofs.«01_k».proof.Proof.Gen.NsaIn.Launch
public import proofs.«01_k».proof.Proof.Gen.NsaIn.Points
public import proofs.«01_k».proof.Proof.Gen.NsaIn.Frame
public import proofs.«01_k».proof.Proof.Gen.NsaInIdeal
public import proofs.«01_k».proof.Proof.Gen.NsaInIdeal.Skeleton
public import proofs.«01_k».proof.Proof.Gen.NsaInIdeal.Launch
public import proofs.«01_k».proof.Proof.Gen.NsaInIdeal.Points
public import proofs.«01_k».proof.Proof.Gen.NsaInIdeal.Frame
public import proofs.«01_k».proof.Proof.Gen.NsaInRefIdeal
public import proofs.«01_k».proof.Proof.Gen.SwaIn
public import proofs.«01_k».proof.Proof.Gen.SwaIn.Skeleton
public import proofs.«01_k».proof.Proof.Gen.SwaIn.Launch
public import proofs.«01_k».proof.Proof.Gen.SwaIn.Points
public import proofs.«01_k».proof.Proof.Gen.SwaIn.Frame
public import proofs.«01_k».proof.Proof.Gen.SwaInIdeal
public import proofs.«01_k».proof.Proof.Gen.SwaInIdeal.Skeleton
public import proofs.«01_k».proof.Proof.Gen.SwaInIdeal.Launch
public import proofs.«01_k».proof.Proof.Gen.SwaInIdeal.Points
public import proofs.«01_k».proof.Proof.Gen.SwaInIdeal.Frame
public import proofs.«01_k».proof.Proof.Gen.SwaInRefIdeal
public import proofs.«01_k».proof.Proof.Gen.SwaInRefIdeal.Run
public import proofs.«01_k».proof.Proof.Gen.OutLn
public import proofs.«01_k».proof.Proof.Gen.OutLn.Skeleton
public import proofs.«01_k».proof.Proof.Gen.OutLn.Launch
public import proofs.«01_k».proof.Proof.Gen.OutLn.Points
public import proofs.«01_k».proof.Proof.Gen.OutLn.Frame
public import proofs.«01_k».proof.Proof.Gen.OutLnIdeal
public import proofs.«01_k».proof.Proof.Gen.OutLnIdeal.Skeleton
public import proofs.«01_k».proof.Proof.Gen.OutLnIdeal.Launch
public import proofs.«01_k».proof.Proof.Gen.OutLnIdeal.Points
public import proofs.«01_k».proof.Proof.Gen.OutLnIdeal.Frame
public import proofs.«01_k».proof.Proof.Gen.OutLnRefIdeal
public import proofs.«01_k».proof.Proof.Gen.OutLnRefIdeal.Run
public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.Compress
public import proofs.«01_k».proof.Proof.Gen.CompressIdeal
public import proofs.«01_k».proof.Proof.Gen.CompressIdeal.Skeleton
public import proofs.«01_k».proof.Proof.Gen.CompressIdeal.Launch
public import proofs.«01_k».proof.Proof.Gen.CompressRefIdeal
public import Idealize.ShloMosaic.Lib.Quiescent
public import Idealize.ShloMosaic.Adequacy
public import Idealize.ShloMosaic.Init

@[expose] public section

noncomputable section

namespace Cert.Proof

open Idealize.ShloMosaic Idealize.SL.Sem Cert.NsaIn

open Cert.NsaInIdeal.Val in
/-- The projection of an NSA layer's input, over the reals. -/
theorem nsaIn : Cert.algebraic_NsaInIdeal_NsaInRefIdeal (hNsaInIdeal := Cert.NsaInIdeal.Gen.facts)
    (hNsaInRefIdeal := Cert.NsaInRefIdeal.Gen.facts) := by
  pair_intro
  · run_from Cert.NsaInIdeal.Gen.run_main m g & Cert.NsaInIdeal.Gen.unchanged m g
  · run_from Cert.NsaInRefIdeal.Value.run m' g'
    · exact (tail16 m c).symm
    · exact (tail17 m c).symm
    · exact (tail18 m c).symm
    · exact (tail19 m c).symm
    · exact (tail20 m c).symm
    · exact (tail22 m c).symm
    · exact (tail23 m c).symm
    · exact (tail25 m c).symm
    · exact (tail27 m c).symm
    · obtain ⟨_, h1, h2, h3, h4⟩ := hagree c
      exact (congr (congr (congr (congrArg refWin h4) h1) h2) h3).trans (tail31 m c).symm

/-- The reference of the projection is host operations alone: it owns no semaphore and writes no argument. -/
theorem nsaInRef_frame : Cert.quiescent_NsaInRefIdeal (hNsaInRefIdeal := Cert.NsaInRefIdeal.Gen.facts) := fun m ρ _ =>
  θ_run_mono (Cert.NsaInRefIdeal.Value.run m ρ) fun r h =>
    ⟨fun c => (h c).2.2.2.2.2.2.2.2.2.2, sem_eq_zero_of_no_sems rfl r.2⟩

open Cert.SwaInIdeal.Val in
/-- The projection of an SWA layer's input, over the reals. -/
theorem swaIn : Cert.algebraic_SwaInIdeal_SwaInRefIdeal (hSwaInIdeal := Cert.SwaInIdeal.Gen.facts)
    (hSwaInRefIdeal := Cert.SwaInRefIdeal.Gen.facts) := by
  pair_intro
  · run_from Cert.SwaInIdeal.Gen.run_main m g & Cert.SwaInIdeal.Gen.unchanged m g
  · run_from Cert.SwaInRefIdeal.Value.run m' g'
    · exact (tail20 m c).symm
    · exact (tail11 m c).symm
    · exact (tail12 m c).symm
    · exact (tail21 m c).symm
    · exact (tail22 m c).symm
    · obtain ⟨_, _, h2, _⟩ := hagree c
      exact (congrArg refKeepP (congrArg (refP _) h2)).trans (tail29 m c).symm
    · obtain ⟨_, h1, h2, h3⟩ := hagree c
      exact (congr (congrArg refWin h3) (congr (congrArg refS h1) h2)).trans (tail31 m c).symm

/-- The reference of that projection is host operations alone: it owns no semaphore and writes no argument. -/
theorem swaInRef_frame : Cert.quiescent_SwaInRefIdeal (hSwaInRefIdeal := Cert.SwaInRefIdeal.Gen.facts) := fun m ρ _ =>
  θ_run_mono (Cert.SwaInRefIdeal.Value.run m ρ) fun r h =>
    ⟨fun c => (h c).2.2.2.2.2.2.2, sem_eq_zero_of_no_sems rfl r.2⟩

open Cert.OutLnIdeal.Val in
/-- The output projection with the residual and the layer norm, over the reals. -/
theorem outLn : Cert.algebraic_OutLnIdeal_OutLnRefIdeal (hOutLnIdeal := Cert.OutLnIdeal.Gen.facts)
    (hOutLnRefIdeal := Cert.OutLnRefIdeal.Gen.facts) := by
  pair_intro
  · run_from Cert.OutLnIdeal.Gen.run_main m g & Cert.OutLnIdeal.Gen.unchanged m g
  · run_from Cert.OutLnRefIdeal.Value.run m' g'
    exact (final m c).symm

/-- Its reference is host operations alone. -/
theorem outLnRef_frame : Cert.quiescent_OutLnRefIdeal (hOutLnRefIdeal := Cert.OutLnRefIdeal.Gen.facts) := fun m ρ _ =>
  θ_run_mono (Cert.OutLnRefIdeal.Value.run m ρ) fun r h => ⟨fun c => (h c).2, sem_eq_zero_of_no_sems rfl r.2⟩

open Cert.ExpertsIdeal.Hand in
/-- The experts' layer, over the reals. -/
theorem experts : Cert.algebraic_ExpertsIdeal_ExpertsRefIdeal (hExpertsIdeal := Cert.ExpertsIdeal.Gen.facts)
    (hExpertsRefIdeal := Cert.ExpertsRefIdeal.Gen.facts) (hPre_experts_in_range := preFacts) := by
  intro m g m' g' hp hagree
  have hlt := fun i => experts_lt _ _ _ _ _ _ (hp 0) i
  refine ⟨fun c => goal (tables m hlt) m c, ?_, ?_⟩
  · exact θ_run_mono (run_main (tables m hlt) m g (tables_hold m hlt)) fun r h c =>
      ⟨(h.1 c).1.trans (final (tables m hlt) m g c), (h.1 c).2⟩
  · refine θ_run_mono (Cert.ExpertsRefIdeal.Value.run m' g') fun r h c => ⟨(h c).1.trans ?_, (h c).2⟩
    obtain ⟨h0, h1, h2, h3, h4, h5⟩ := hagree c
    obtain rfl : c = 0 := Subsingleton.elim _ _
    refine Eq.trans ?_ (ref_eq (tables m hlt) _ _ _ _)
    show refTerm _ _ _ _ _ _ = _
    exact congr (congr (congr (congr (congr (congrArg refTerm h1) h2) h0) h3) h4) h5

/-- Its reference is host operations alone. -/
theorem expertsRef_frame : Cert.quiescent_ExpertsRefIdeal (hExpertsRefIdeal := Cert.ExpertsRefIdeal.Gen.facts)
    (hPre_experts_in_range := Cert.ExpertsIdeal.Hand.preFacts) := fun m ρ _ =>
  θ_run_mono (Cert.ExpertsRefIdeal.Value.run m ρ) fun r h => ⟨fun c => (h c).2, sem_eq_zero_of_no_sems rfl r.2⟩

open Cert.CompressIdeal.Hand in
/-- The compression of the cached keys and values, over the reals. -/
theorem compress : Cert.algebraic_CompressIdeal_CompressRefIdeal (hCompressIdeal := Cert.CompressIdeal.Gen.facts)
    (hCompressRefIdeal := Cert.CompressRefIdeal.Gen.facts) (hPre_pages_in_range := preFacts) := by
  intro m g m' g' hp hagree
  have hlt := fun i => pages_lt _ _ _ _ _ (hp 0) i
  refine ⟨fun c => compressed (table m hlt) (cacheOf m c) (w1Of m c) (b1Of m c) (w2Of m c) 0,
    fun c => compressed (table m hlt) (cacheOf m c) (w1Of m c) (b1Of m c) (w2Of m c) 1, ?_, ?_⟩
  · exact θ_run_mono (run_main (table m hlt) m g (table_holds m hlt)) fun r h c =>
      ⟨((h.1 c).1 (19 : Fin 21)).trans (final_keys (table m hlt) m c), ((h.1 c).1 (20 : Fin 21)).trans (final_vals (table m hlt) m c),
        post_args (table m hlt) m r h.1 c⟩
  · refine θ_run_mono (Cert.CompressRefIdeal.Hand.ref_run m' g') fun r h c => ⟨(h c).1.trans ?_, (h c).2.1.trans ?_, (h c).2.2⟩
    · obtain ⟨h0, h1, h2, h3, h4⟩ := hagree c
      obtain rfl : c = 0 := Subsingleton.elim _ _
      exact (congr (congr (congr (congr (congrArg keys h0) h2) h3) h4) h1).trans (keys_eq (table m hlt) _ _ _ _)
    · obtain ⟨h0, h1, h2, h3, h4⟩ := hagree c
      obtain rfl : c = 0 := Subsingleton.elim _ _
      exact (congr (congr (congr (congr (congrArg vals h0) h2) h3) h4) h1).trans (vals_eq (table m hlt) _ _ _ _)

/-- Its reference is host operations alone. -/
theorem compressRef_frame : Cert.quiescent_CompressRefIdeal (hCompressRefIdeal := Cert.CompressRefIdeal.Gen.facts)
    (hPre_pages_in_range := Cert.CompressIdeal.Hand.preFacts) := fun m ρ _ =>
  θ_run_mono (Cert.CompressRefIdeal.Hand.ref_run m ρ) fun r h => ⟨fun c => (h c).2.2, sem_eq_zero_of_no_sems rfl r.2⟩

theorem claim : Cert.Claim := ⟨Cert.NsaIn.Gen.facts, Cert.NsaInIdeal.Gen.facts, Cert.NsaInRefIdeal.Gen.facts,
  Cert.SwaIn.Gen.facts, Cert.SwaInIdeal.Gen.facts, Cert.SwaInRefIdeal.Gen.facts,
  Cert.OutLn.Gen.facts, Cert.OutLnIdeal.Gen.facts, Cert.OutLnRefIdeal.Gen.facts,
  Cert.Experts.Gen.facts, Cert.ExpertsIdeal.Gen.facts, Cert.ExpertsRefIdeal.Gen.facts,
  Cert.Compress.Gen.facts, Cert.CompressIdeal.Gen.facts, Cert.CompressRefIdeal.Gen.facts,
  Cert.ExpertsIdeal.Hand.preFacts, Cert.CompressIdeal.Hand.preFacts,
  fun m ρ _ => Cert.NsaIn.Gen.frame m ρ, fun m ρ _ => Cert.NsaInIdeal.Gen.frame m ρ, nsaInRef_frame,
  fun m ρ _ => Cert.SwaIn.Gen.frame m ρ, fun m ρ _ => Cert.SwaInIdeal.Gen.frame m ρ, swaInRef_frame,
  fun m ρ _ => Cert.OutLn.Gen.frame m ρ, fun m ρ _ => Cert.OutLnIdeal.Gen.frame m ρ, outLnRef_frame,
  experts_frame, expertsIdeal_frame, expertsRef_frame,
  compress_frame, compressIdeal_frame, compressRef_frame,
  trivial, nsaIn, trivial, swaIn, trivial, outLn, trivial, experts, trivial, compress⟩

end Cert.Proof

end
